-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  IdealRules.named_const.Statement Cert.Kernel3Ideal.κ "qk_scale" .f32 0x3E38AA3B#32 (((8 * (Real.log 2))⁻¹ : ℝ) : EReal)
  ∧ IdealRules.named_const.Statement Cert.Kernel3Ideal.κ "neg_log2e" .f32 0xBFB8AA3B#32 ((-((Real.log 2)⁻¹) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v41_0)) (v1 : (c : Dev Cert.Kernel3Ideal.nD) → Buf (Elt Ideal) ((c.tc : Thread Cert.Kernel3Ideal.nD Cert.Kernel3Ideal.τ).loc Cert.Kernel3Ideal.main_v41_1)) (v2 : (c : Dev Cert.Kernel3Ideal.nD) → Buf (Elt Ideal) ((c.tc : Thread Cert.Kernel3Ideal.nD Cert.Kernel3Ideal.τ).loc Cert.Kernel3Ideal.main_v41_2)) (v3 : (c : Dev Cert.Kernel3Ideal.nD) → Buf (Elt Ideal) ((c.tc : Thread Cert.Kernel3Ideal.nD Cert.Kernel3Ideal.τ).loc Cert.Kernel3Ideal.main_v41_3)) (v4 : (c : Dev Cert.Kernel3Ideal.nD) → Buf (Elt Ideal) ((c.tc : Thread Cert.Kernel3Ideal.nD Cert.Kernel3Ideal.τ).loc Cert.Kernel3Ideal.main_v41_4)) (v5 : (c : Dev Cert.Kernel3Ideal.nD) → Buf (Elt Ideal) ((c.tc : Thread Cert.Kernel3Ideal.nD Cert.Kernel3Ideal.τ).loc Cert.Kernel3Ideal.main_v41_5)) (v6 : (c : Dev Cert.Kernel3Ideal.nD) → Buf (Elt Ideal) ((c.tc : Thread Cert.Kernel3Ideal.nD Cert.Kernel3Ideal.τ).loc Cert.Kernel3Ideal.main_v41_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v41_0) = v0 c
          ∧ r.2.mem ((c.tc : Thread Cert.Kernel3Ideal.nD Cert.Kernel3Ideal.τ).loc Cert.Kernel3Ideal.main_v41_1) = v1 c
          ∧ r.2.mem ((c.tc : Thread Cert.Kernel3Ideal.nD Cert.Kernel3Ideal.τ).loc Cert.Kernel3Ideal.main_v41_2) = v2 c
          ∧ r.2.mem ((c.tc : Thread Cert.Kernel3Ideal.nD Cert.Kernel3Ideal.τ).loc Cert.Kernel3Ideal.main_v41_3) = v3 c
          ∧ r.2.mem ((c.tc : Thread Cert.Kernel3Ideal.nD Cert.Kernel3Ideal.τ).loc Cert.Kernel3Ideal.main_v41_4) = v4 c
          ∧ r.2.mem ((c.tc : Thread Cert.Kernel3Ideal.nD Cert.Kernel3Ideal.τ).loc Cert.Kernel3Ideal.main_v41_5) = v5 c
          ∧ r.2.mem ((c.tc : Thread Cert.Kernel3Ideal.nD Cert.Kernel3Ideal.τ).loc Cert.Kernel3Ideal.main_v41_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_v88) = v1 c
          ∧ r.2.mem ((c.tc : Thread Cert.Reference3Ideal.nD Cert.Reference3Ideal.τ).loc Cert.Reference3Ideal.main_v89) = v2 c
          ∧ r.2.mem ((c.tc : Thread Cert.Reference3Ideal.nD Cert.Reference3Ideal.τ).loc Cert.Reference3Ideal.main_v94) = v3 c
          ∧ r.2.mem ((c.tc : Thread Cert.Reference3Ideal.nD Cert.Reference3Ideal.τ).loc Cert.Reference3Ideal.main_v116) = v4 c
          ∧ r.2.mem ((c.tc : Thread Cert.Reference3Ideal.nD Cert.Reference3Ideal.τ).loc Cert.Reference3Ideal.main_v134) = v5 c
          ∧ r.2.mem ((c.tc : Thread Cert.Reference3Ideal.nD Cert.Reference3Ideal.τ).loc Cert.Reference3Ideal.main_v135) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x2048x512 : Shape := ⟨3, ![8, 2048, 512]⟩
abbrev S8x8x2048 : Shape := ⟨3, ![8, 8, 2048]⟩
abbrev S4x64 : Shape := ⟨2, ![4, 64]⟩
abbrev S128 : Shape := ⟨1, ![128]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x8x2048 : S_.BroadcastsInDim S8x8x2048 (![] : Fin 0 → Fin S8x8x2048.rank)
  reducesTo_S8x8x2048_S_d0_1_2 : S8x8x2048.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S8x2048x512 .f32) (main_arg5 : FVec F S8x2048x512 .f32) (main_arg6 : FVec F S8x2048x512 .f32) (main_arg7 : FVec F S4x64 .f32) (main_v3 : IVec S_ 1) (main_v7 : IVec S_ 1) (main_v11 : IVec S_ 1) (main_v15 : IVec S_ 1) : IVec S_ 1 :=
  let main_v16 : FVec F S8x2048x512 .f32 := Host.absf main_arg4
  let main_cst_6 : FVec F S_ .f32 := constant S_ .f32 0x7F800000#32
  let main_v17 : FVec F S8x2048x512 .f32 := broadcastInDim S8x2048x512 ![] bcast_S_S8x2048x512 main_cst_6
  let main_v18 : IVec S8x2048x512 1 := cmpf .olt main_v16 main_v17
  let main_c_7 : IVec S_ 1 := constantI S_ 1 1#1
  let main_v19 : IVec S_ 1 := (fun x v => Host.reduce IntOp.andi x v reducesTo_S8x2048x512_S_d0_1_2 h_S_) main_v18 main_c_7
  let main_v20 : FVec F S8x2048x512 .f32 := Host.absf main_arg5
  let main_cst_8 : FVec F S_ .f32 := constant S_ .f32 0x7F800000#32
  let main_v21 : FVec F S8x2048x512 .f32 := broadcastInDim S8x2048x512 ![] bcast_S_S8x2048x512 main_cst_8
  let main_v22 : IVec S8x2048x512 1 := cmpf .olt main_v20 main_v21
  let main_c_9 : IVec S_ 1 := constantI S_ 1 1#1
  let main_v23 : IVec S_ 1 := (fun x v => Host.reduce IntOp.andi x v reducesTo_S8x2048x512_S_d0_1_2 h_S_) main_v22 main_c_9
  let main_v24 : FVec F S8x2048x512 .f32 := Host.absf main_arg6
  let main_cst_10 : FVec F S_ .f32 := constant S_ .f32 0x7F800000#32
  let main_v25 : FVec F S8x2048x512 .f32 := broadcastInDim S8x2048x512 ![] bcast_S_S8x2048x512 main_cst_10
  let main_v26 : IVec S8x2048x512 1 := cmpf .olt main_v24 main_v25
  let main_c_11 : IVec S_ 1 := constantI S_ 1 1#1
  let main_v27 : IVec S_ 1 := (fun x v => Host.reduce IntOp.andi x v reducesTo_S8x2048x512_S_d0_1_2 h_S_) main_v26 main_c_11
  let main_v28 : FVec F S4x64 .f32 := Host.absf main_arg7
  let main_cst_12 : FVec F S_ .f32 := constant S_ .f32 0x7F800000#32
  let main_v29 : FVec F S4x64 .f32 := broadcastInDim S4x64 ![] bcast_S_S4x64 main_cst_12
  let main_v30 : IVec S4x64 1 := cmpf .olt main_v28 main_v29
  let main_c_13 : IVec S_ 1 := constantI S_ 1 1#1
  let main_v31 : IVec S_ 1 := (fun x v => Host.reduce IntOp.andi x v reducesTo_S4x64_S_d0_1 h_S_) main_v30 main_c_13
  fn_part2 (F := F) main_v3 main_v7 main_v11 main_v15 main_v19 main_v23 main_v27 main_v31

def fn {F : FTy → Type} [FloatOps F] (main_arg0 : FVec F S8x2048x512 .f32) (main_arg1 : FVec F S8x2048x512 .f32) (main_arg2 : FVec F S8x2048x512 .f32) (main_arg3 : FVec F S8x8x2048 .f32) (main_arg4 : FVec F S8x2048x512 .f32) (main_arg5 : FVec F S8x2048x512 .f32) (main_arg6 : FVec F S8x2048x512 .f32) (main_arg7 : FVec F S4x64 .f32) (main_arg8 : FVec F S128 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : FVec F S8x2048x512 .f32 := Host.absf main_arg2
  let main_cst_2 : FVec F S_ .f32 := constant S_ .f32 0x7F800000#32
  let main_v9 : FVec F S8x2048x512 .f32 := broadcastInDim S8x2048x512 ![] bcast_S_S8x2048x512 main_cst_2
  let main_v10 : IVec S8x2048x512 1 := cmpf .olt main_v8 main_v9
  let main_c_3 : IVec S_ 1 := constantI S_ 1 1#1
  let main_v11 : IVec S_ 1 := (fun x v => Host.reduce IntOp.andi x v reducesTo_S8x2048x512_S_d0_1_2 h_S_) main_v10 main_c_3
  let main_v12 : FVec F S8x8x2048 .f32 := Host.absf main_arg3
  let main_cst_4 : FVec F S_ .f32 := constant S_ .f32 0x7F800000#32
  let main_v13 : FVec F S8x8x2048 .f32 := broadcastInDim S8x8x2048 ![] bcast_S_S8x8x2048 main_cst_4
  let main_v14 : IVec S8x8x2048 1 := cmpf .olt main_v12 main_v13
  let main_c_5 : IVec S_ 1 := constantI S_ 1 1#1
  let main_v15 : IVec S_ 1 := (fun x v => Host.reduce IntOp.andi x v reducesTo_S8x8x2048_S_d0_1_2 h_S_) main_v14 main_c_5
  fn_part1 (F := F) main_arg4 main_arg5 main_arg6 main_arg7 main_v3 main_v7 main_v11 main_v15
-- ==== Pre_finite2.lean ====
abbrev S8x2048x512 : Shape := ⟨3, ![8, 2048, 512]⟩
abbrev S8x2048x1024 : Shape := ⟨3, ![8, 2048, 1024]⟩
abbrev S2x8x6144 : Shape := ⟨3, ![2, 8, 6144]⟩
abbrev S2x1024 : Shape := ⟨2, ![2, 1024]⟩
abbrev S2x1024x1024 : Shape := ⟨3, ![2, 1024, 1024]⟩
abbrev S2x1024x2816 : Shape := ⟨3, ![2, 1024, 2816]⟩
abbrev S2x2816x1024 : Shape := ⟨3, ![2, 2816, 1024]⟩
abbrev S_ : Shape := ⟨0, ![]⟩

class Facts : Prop where
  bitsLt_bf16_f32 : FTy.bits .bf16 < FTy.bits .f32
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S2x8x6144 : S_.BroadcastsInDim S2x8x6144 (![] : Fin 0 → Fin S2x8x6144.rank)
  reducesTo_S2x8x6144_S_d0_1_2 : S2x8x6144.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S2x1024x1024 : S_.BroadcastsInDim S2x1024x1024 (![] : Fin 0 → Fin S2x1024x1024.rank)
  reducesTo_S2x1024x1024_S_d0_1_2 : S2x1024x1024.ReducesTo [0, 1, 2] S_
  bcast_S_S2x1024x2816 : S_.BroadcastsInDim S2x1024x2816 (![] : Fin 0 → Fin S2x1024x2816.rank)
  reducesTo_S2x1024x2816_S_d0_1_2 : S2x1024x2816.ReducesTo [0, 1, 2] S_
  bcast_S_S2x2816x1024 : S_.BroadcastsInDim S2x2816x1024 (![] : Fin 0 → Fin S2x2816x1024.rank)
  reducesTo_S2x2816x1024_S_d0_1_2 : S2x2816x1024.ReducesTo [0, 1, 2] S_

variable [Facts]

def fn_part2 {F : FTy → Type} [FloatOps F] (main_arg8 : FVec F S2x2816x1024 .f32) (main_v4 : IVec S_ 1) (main_v9 : IVec S_ 1) (main_v13 : IVec S_ 1) (main_v17 : IVec S_ 1) (main_v21 : IVec S_ 1) (main_v25 : IVec S_ 1) (main_v29 : IVec S_ 1) (main_v32 : IVec S2x1024x2816 1) : IVec S_ 1 :=
  let main_c_13 : IVec S_ 1 := constantI S_ 1 1#1
  let main_v33 : IVec S_ 1 := (fun x v => Host.reduce IntOp.andi x v reducesTo_S2x1024x2816_S_d0_1_2 h_S_) main_v32 main_c_13
  let main_v34 : FVec F S2x2816x1024 .f32 := Host.absf main_arg8
  let main_cst_14 : FVec F S_ .f32 := constant S_ .f32 0x7F800000#32
  let main_v35 : FVec F S2x2816x1024 .f32 := broadcastInDim S2x2816x1024 ![] bcast_S_S2x2816x1024 main_cst_14
  let main_v36 : IVec S2x2816x1024 1 := cmpf .olt main_v34 main_v35
  let main_c_15 : IVec S_ 1 := constantI S_ 1 1#1
  let main_v37 : IVec S_ 1 := (fun x v => Host.reduce IntOp.andi x v reducesTo_S2x2816x1024_S_d0_1_2 h_S_) main_v36 main_c_15
  let main_v38 : IVec S_ 1 := andi main_v4 main_v9
  let main_v39 : IVec S_ 1 := andi main_v38 main_v13
  let main_v40 : IVec S_ 1 := andi main_v39 main_v17
  let main_v41 : IVec S_ 1 := andi main_v40 main_v21
  let main_v42 : IVec S_ 1 := andi main_v41 main_v25
  let main_v43 : IVec S_ 1 := andi main_v42 main_v29
  let main_v44 : IVec S_ 1 := andi main_v43 main_v33
  let main_v45 : IVec S_ 1 := andi main_v44 main_v37
  main_v45

def fn_part1 {F : FTy → Type} [FloatOps F] (main_arg4 : FVec F S2x1024 .f32) (main_arg5 : FVec F S2x1024x1024 .f32) (main_arg6 : FVec F S2x1024x2816 .f32) (main_arg7 : FVec F S2x1024x2816 .f32) (main_arg8 : FVec F S2x2816x1024 .f32) (main_v4 : IVec S_ 1) (main_v9 : IVec S_ 1) (main_v13 : IVec S_ 1) (main_v16 : IVec S2x8x6144 1) : IVec S_ 1 :=
  let main_c_5 : IVec S_ 1 := constantI S_ 1 1#1
  let main_v17 : IVec S_ 1 := (fun x v => Host.reduce IntOp.andi x v reducesTo_S2x8x6144_S_d0_1_2 h_S_) main_v16 main_c_5
  let main_v18 : FVec F S2x1024 .f32 := Host.absf main_arg4
  let main_cst_6 : FVec F S_ .f32 := constant S_ .f32 0x7F800000#32
  let main_v19 : FVec F S2x1024 .f32 := broadcastInDim S2x1024 ![] bcast_S_S2x1024 main_cst_6
  let main_v20 : IVec S2x1024 1 := cmpf .olt main_v18 main_v19
  let main_c_7 : IVec S_ 1 := constantI S_ 1 1#1
  let main_v21 : IVec S_ 1 := (fun x v => Host.reduce IntOp.andi x v reducesTo_S2x1024_S_d0_1 h_S_) main_v20 main_c_7
  let main_v22 : FVec F S2x1024x1024 .f32 := Host.absf main_arg5
  let main_cst_8 : FVec F S_ .f32 := constant S_ .f32 0x7F800000#32
  let main_v23 : FVec F S2x1024x1024 .f32 := broadcastInDim S2x1024x1024 ![] bcast_S_S2x1024x1024 main_cst_8
  let main_v24 : IVec S2x1024x1024 1 := cmpf .olt main_v22 main_v23
  let main_c_9 : IVec S_ 1 := constantI S_ 1 1#1
  let main_v25 : IVec S_ 1 := (fun x v => Host.reduce IntOp.andi x v reducesTo_S2x1024x1024_S_d0_1_2 h_S_) main_v24 main_c_9
  let main_v26 : FVec F S2x1024x2816 .f32 := Host.absf main_arg6
  let main_cst_10 : FVec F S_ .f32 := constant S_ .f32 0x7F800000#32
  let main_v27 : FVec F S2x1024x2816 .f32 := broadcastInDim S2x1024x2816 ![] bcast_S_S2x1024x2816 main_cst_10
  let main_v28 : IVec S2x1024x2816 1 := cmpf .olt main_v26 main_v27
  let main_c_11 : IVec S_ 1 := constantI S_ 1 1#1
  let main_v29 : IVec S_ 1 := (fun x v => Host.reduce IntOp.andi x v reducesTo_S2x1024x2816_S_d0_1_2 h_S_) main_v28 main_c_11
  let main_v30 : FVec F S2x1024x2816 .f32 := Host.absf main_arg7
  let main_cst_12 : FVec F S_ .f32 := constant S_ .f32 0x7F800000#32
  let main_v31 : FVec F S2x1024x2816 .f32 := broadcastInDim S2x1024x2816 ![] bcast_S_S2x1024x2816 main_cst_12
  let main_v32 : IVec S2x1024x2816 1 := cmpf .olt main_v30 main_v31
  fn_part2 (F := F) main_arg8 main_v4 main_v9 main_v13 main_v17 main_v21 main_v25 main_v29 main_v32

def fn {F : FTy → Type} [FloatOps F] (main_arg0 : FVec F S8x2048x512 .bf16) (main_arg1 : FVec F S8x2048x512 .bf16) (main_arg2 : FVec F S8x2048x1024 .f32) (main_arg3 : FVec F S2x8x6144 .f32) (main_arg4 : FVec F S2x1024 .f32) (main_arg5 : FVec F S2x1024x1024 .f32) (main_arg6 : FVec F S2x1024x2816 .f32) (main_arg7 : FVec F S2x1024x2816 .f32) (main_arg8 : FVec F S2x2816x1024 .f32) : IVec S_ 1 :=
  let main_v0 : FVec F S8x2048x512 .f32 := (extf .f32 · bitsLt_bf16_f32) main_arg0
  let main_v1 : FVec F S8x2048x512 .f32 := Host.absf main_v0
  let main_cst : FVec F S_ .f32 := constant S_ .f32 0x7F800000#32
  let main_v2 : FVec F S8x2048x512 .f32 := broadcastInDim S8x2048x512 ![] bcast_S_S8x2048x512 main_cst
  let main_v3 : IVec S8x2048x512 1 := cmpf .olt main_v1 main_v2
  let main_c : IVec S_ 1 := constantI S_ 1 1#1
  let main_v4 : IVec S_ 1 := (fun x v => Host.reduce IntOp.andi x v reducesTo_S8x2048x512_S_d0_1_2 h_S_) main_v3 main_c
  let main_v5 : FVec F S8x2048x512 .f32 := (extf .f32 · bitsLt_bf16_f32) main_arg1
  let main_v6 : FVec F S8x2048x512 .f32 := Host.absf main_v5
  let main_cst_0 : FVec F S_ .f32 := constant S_ .f32 0x7F800000#32
  let main_v7 : FVec F S8x2048x512 .f32 := broadcastInDim S8x2048x512 ![] bcast_S_S8x2048x512 main_cst_0
  let main_v8 : IVec S8x2048x512 1 := cmpf .olt main_v6 main_v7
  let main_c_1 : IVec S_ 1 := constantI S_ 1 1#1
  let main_v9 : IVec S_ 1 := (fun x v => Host.reduce IntOp.andi x v reducesTo_S8x2048x512_S_d0_1_2 h_S_) main_v8 main_c_1
  let main_v10 : FVec F S8x2048x1024 .f32 := Host.absf main_arg2
  let main_cst_2 : FVec F S_ .f32 := constant S_ .f32 0x7F800000#32
  let main_v11 : FVec F S8x2048x1024 .f32 := broadcastInDim S8x2048x1024 ![] bcast_S_S8x2048x1024 main_cst_2
  let main_v12 : IVec S8x2048x1024 1 := cmpf .olt main_v10 main_v11
  let main_c_3 : IVec S_ 1 := constantI S_ 1 1#1
  let main_v13 : IVec S_ 1 := (fun x v => Host.reduce IntOp.andi x v reducesTo_S8x2048x1024_S_d0_1_2 h_S_) main_v12 main_c_3
  let main_v14 : FVec F S2x8x6144 .f32 := Host.absf main_arg3
  let main_cst_4 : FVec F S_ .f32 := constant S_ .f32 0x7F800000#32
  let main_v15 : FVec F S2x8x6144 .f32 := broadcastInDim S2x8x6144 ![] bcast_S_S2x8x6144 main_cst_4
  let main_v16 : IVec S2x8x6144 1 := cmpf .olt main_v14 main_v15
  fn_part1 (F := F) main_arg4 main_arg5 main_arg6 main_arg7 main_arg8 main_v4 main_v9 main_v13 main_v16
-- ==== Kernel.lean ====
abbrev S8x2048x512 : Shape := ⟨3, ![8, 2048, 512]⟩
abbrev S8x8x2048 : Shape := ⟨3, ![8, 8, 2048]⟩
abbrev S4x64 : Shape := ⟨2, ![4, 64]⟩
abbrev S128 : Shape := ⟨1, ![128]⟩
abbrev S_ : Shape := ⟨0, ![]⟩
abbrev S1x128 : Shape := ⟨2, ![1, 128]⟩
abbrev S1x2048x128 : Shape := ⟨3, ![1, 2048, 128]⟩
abbrev S1x8x2048 : Shape := ⟨3, ![1, 8, 2048]⟩
abbrev S1x512x128 : Shape := ⟨3, ![1, 512, 128]⟩
abbrev S512x128 : Shape := ⟨2, ![512, 128]⟩
abbrev S512x1 : Shape := ⟨2, ![512, 1]⟩
abbrev S1x256x128 : Shape := ⟨3, ![1, 256, 128]⟩
abbrev S256x128 : Shape := ⟨2, ![256, 128]⟩
abbrev S256x256 : Shape := ⟨2, ![256, 256]⟩
abbrev S1024x128 : Shape := ⟨2, ![1024, 128]⟩
abbrev S1024x256 : Shape := ⟨2, ![1024, 256]⟩
abbrev S1x1x256 : Shape := ⟨3, ![1, 1, 256]⟩
abbrev S1x256 : Shape := ⟨2, ![1, 256]⟩
abbrev S512x256 : Shape := ⟨2, ![512, 256]⟩
abbrev S512 : Shape := ⟨1, ![512]⟩
abbrev S256x1 : Shape := ⟨2, ![256, 1]⟩
abbrev S256 : Shape := ⟨1, ![256]⟩
abbrev S1024x512 : Shape := ⟨2, ![1024, 512]⟩
abbrev S1x1x512 : Shape := ⟨3, ![1, 1, 512]⟩
abbrev S1x512 : Shape := ⟨2, ![1, 512]⟩
abbrev S512x512 : Shape := ⟨2, ![512, 512]⟩
abbrev S1x1 : Shape := ⟨2, ![1, 1]⟩
abbrev S1x64 : Shape := ⟨2, ![1, 64]⟩
abbrev S1 : Shape := ⟨1, ![1]⟩

abbrev nBuf : Space → Nat
  | .hbm => 35
  | .vmem => 20
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x8x2048, .f32⟩
  | .hbm, ⟨4, _⟩ => ⟨S8x2048x512, .f32⟩
  | .hbm, ⟨5, _⟩ => ⟨S8x2048x512, .f32⟩
  | .hbm, ⟨6, _⟩ => ⟨S8x2048x512, .f32⟩
  | .hbm, ⟨7, _⟩ => ⟨S4x64, .f32⟩
  | .hbm, ⟨8, _⟩ => ⟨S128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x8x2048, .f32⟩
  | .hbm, ⟨16, _⟩ => ⟨S8x8x2048, .f32⟩
  | .hbm, ⟨17, _⟩ => ⟨S_, .f32⟩
  | .hbm, ⟨18, _⟩ => ⟨S8x8x2048, .f32⟩
  | .hbm, ⟨19, _⟩ => ⟨S8x8x2048, .f32⟩
  | .hbm, ⟨20, _⟩ => ⟨S_, .f32⟩
  | .hbm, ⟨21, _⟩ => ⟨S8x2048x512, .f32⟩
  | .hbm, ⟨22, _⟩ => ⟨S8x2048x512, .f32⟩
  | .hbm, ⟨23, _⟩ => ⟨S8x2048x512, .bf16⟩
  | .hbm, ⟨24, _⟩ => ⟨S8x2048x512, .bf16⟩
  | .hbm, ⟨25, _⟩ => ⟨S8x2048x512, .bf16⟩
  | .hbm, ⟨26, _⟩ => ⟨S_, .f32⟩
  | .hbm, ⟨27, _⟩ => ⟨S8x2048x512, .f32⟩
  | .hbm, ⟨28, _⟩ => ⟨S8x2048x512, .f32⟩
  | .hbm, ⟨29, _⟩ => ⟨S8x2048x512, .bf16⟩
  | .hbm, ⟨30, _⟩ => ⟨S8x2048x512, .bf16⟩
  | .hbm, ⟨31, _⟩ => ⟨S8x2048x512, .bf16⟩
  | .hbm, ⟨32, _⟩ => ⟨S1x128, .f32⟩
  | .hbm, ⟨33, _⟩ => ⟨S8x2048x512, .bf16⟩
  | .hbm, ⟨34, _⟩ => ⟨S8x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x8x2048, .f32⟩
  | .local _ .vmem, ⟨7, _⟩ => ⟨S1x8x2048, .f32⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S4x64, .f32⟩
  | .local _ .vmem, ⟨15, _⟩ => ⟨S1x128, .f32⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_call0_call0_cst : Ref sig .tc := ⟨.hbm, 13, rfl⟩
abbrev main_call0_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 4], ![false, false]⟩

def k0_off1 (i : grid0.Coords) (c0_i32 : BitVec 32) : Fin 3 → Nat :=
  let c0_11 : Index := 0#32
  let c2_i32 : BitVec 32 := 2#32
  let arg1 : BitVec 32 := BitVec.ofNat 32 (i 1).val
  let v17 : BitVec 32 := Scalar.muli c2_i32 arg1
  let v18 : BitVec 32 := Scalar.addi v17 c0_i32
  let v19 : Index := Scalar.indexCast v18
  let c0_12 : Index := 0#32
  ![0, v19.toNat, 0]
def k0_off2 (i : grid0.Coords) (c0_i32_28 : BitVec 32) : Fin 3 → Nat :=
  let c0_29 : Index := 0#32
  let c2_i32_27 : BitVec 32 := 2#32
  let arg1 : BitVec 32 := BitVec.ofNat 32 (i 1).val
  let v76 : BitVec 32 := Scalar.muli c2_i32_27 arg1
  let v77 : BitVec 32 := Scalar.addi v76 c0_i32_28
  let v78 : Index := Scalar.indexCast v77
  let c256_30 : Index := 256#32
  ![0, v78.toNat, 256]
def k0_off3 (i : grid0.Coords) (c0_i32_56 : BitVec 32) : Fin 3 → Nat :=
  let c0_57 : Index := 0#32
  let c2_i32_55 : BitVec 32 := 2#32
  let arg1 : BitVec 32 := BitVec.ofNat 32 (i 1).val
  let v165 : BitVec 32 := Scalar.muli c2_i32_55 arg1
  let v166 : BitVec 32 := Scalar.addi v165 c0_i32_56
  let v167 : Index := Scalar.indexCast v166
  let c0_58 : Index := 0#32
  ![0, v167.toNat, 0]
def k0_off4 (i : grid0.Coords) (c0_i32_74 : BitVec 32) : Fin 3 → Nat :=
  let c0_75 : Index := 0#32
  let c2_i32_73 : BitVec 32 := 2#32
  let arg1 : BitVec 32 := BitVec.ofNat 32 (i 1).val
  let v206 : BitVec 32 := Scalar.muli c2_i32_73 arg1
  let v207 : BitVec 32 := Scalar.addi v206 c0_i32_74
  let v208 : Index := Scalar.indexCast v207
  let c512_76 : Index := 512#32
  ![0, v208.toNat, 512]
def k0_off5 (i : grid0.Coords) (c0_i32_93 : BitVec 32) : Fin 3 → Nat :=
  let c0_94 : Index := 0#32
  let c2_i32_92 : BitVec 32 := 2#32
  let arg1 : BitVec 32 := BitVec.ofNat 32 (i 1).val
  let v275 : BitVec 32 := Scalar.muli c2_i32_92 arg1
  let v276 : BitVec 32 := Scalar.addi v275 c0_i32_93
  let v277 : Index := Scalar.indexCast v276
  let c768_95 : Index := 768#32
  ![0, v277.toNat, 768]
def k0_off6 (i : grid0.Coords) (c0_i32_139 : BitVec 32) : Fin 3 → Nat :=
  let c0_140 : Index := 0#32
  let c2_i32_138 : BitVec 32 := 2#32
  let arg1 : BitVec 32 := BitVec.ofNat 32 (i 1).val
  let v405 : BitVec 32 := Scalar.muli c2_i32_138 arg1
  let v406 : BitVec 32 := Scalar.addi v405 c0_i32_139
  let v407 : Index := Scalar.indexCast v406
  let c512_141 : Index := 512#32
  ![0, v407.toNat, 512]
def k0_off7 (i : grid0.Coords) (c0_i32_157 : BitVec 32) : Fin 3 → Nat :=
  let c0_158 : Index := 0#32
  let c2_i32_156 : BitVec 32 := 2#32
  let arg1 : BitVec 32 := BitVec.ofNat 32 (i 1).val
  let v456 : BitVec 32 := Scalar.muli c2_i32_156 arg1
  let v457 : BitVec 32 := Scalar.addi v456 c0_i32_157
  let v458 : Index := Scalar.indexCast v457
  let c1024_159 : Index := 1024#32
  ![0, v458.toNat, 1024]
def k0_off8 (i : grid0.Coords) (c0_i32_176 : BitVec 32) : Fin 3 → Nat :=
  let c0_177 : Index := 0#32
  let c2_i32_175 : BitVec 32 := 2#32
  let arg1 : BitVec 32 := BitVec.ofNat 32 (i 1).val
  let v525 : BitVec 32 := Scalar.muli c2_i32_175 arg1
  let v526 : BitVec 32 := Scalar.addi v525 c0_i32_176
  let v527 : Index := Scalar.indexCast v526
  let c1280_178 : Index := 1280#32
  ![0, v527.toNat, 1280]
def k0_off9 (i : grid0.Coords) (c0_i32_240 : BitVec 32) : Fin 3 → Nat :=
  let c0_241 : Index := 0#32
  let c2_i32_239 : BitVec 32 := 2#32
  let arg1 : BitVec 32 := BitVec.ofNat 32 (i 1).val
  let v706 : BitVec 32 := Scalar.muli c2_i32_239 arg1
  let v707 : BitVec 32 := Scalar.addi v706 c0_i32_240
  let v708 : Index := Scalar.indexCast v707
  let c1024_242 : Index := 1024#32
  ![0, v708.toNat, 1024]
def k0_off10 (i : grid0.Coords) (c0_i32_258 : BitVec 32) : Fin 3 → Nat :=
  let c0_259 : Index := 0#32
  let c2_i32_257 : BitVec 32 := 2#32
  let arg1 : BitVec 32 := BitVec.ofNat 32 (i 1).val
  let v757 : BitVec 32 := Scalar.muli c2_i32_257 arg1
  let v758 : BitVec 32 := Scalar.addi v757 c0_i32_258
  let v759 : Index := Scalar.indexCast v758
  let c1536_260 : Index := 1536#32
  ![0, v759.toNat, 1536]
def k0_off11 (i : grid0.Coords) (c0_i32_277 : BitVec 32) : Fin 3 → Nat :=
  let c0_278 : Index := 0#32
  let c2_i32_276 : BitVec 32 := 2#32
  let arg1 : BitVec 32 := BitVec.ofNat 32 (i 1).val
  let v826 : BitVec 32 := Scalar.muli c2_i32_276 arg1
  let v827 : BitVec 32 := Scalar.addi v826 c0_i32_277
  let v828 : Index := Scalar.indexCast v827
  let c1792_279 : Index := 1792#32
  ![0, v828.toNat, 1792]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x2048x512 : Shape := ⟨3, ![8, 2048, 512]⟩
abbrev S8x8x2048 : Shape := ⟨3, ![8, 8, 2048]⟩
abbrev S4x64 : Shape := ⟨2, ![4, 64]⟩
abbrev S128 : Shape := ⟨1, ![128]⟩
abbrev S8x2048x8x64 : Shape := ⟨4, ![8, 2048, 8, 64]⟩
abbrev S8x8x2048x64 : Shape := ⟨4, ![8, 8, 2048, 64]⟩
abbrev S_ : Shape := ⟨0, ![]⟩
abbrev S2048 : Shape := ⟨1, ![2048]⟩
abbrev S8x8x2048x2048 : Shape := ⟨4, ![8, 8, 2048, 2048]⟩
abbrev S8x8x2048x1 : Shape := ⟨4, ![8, 8, 2048, 1]⟩
abbrev S8x8x1x2048 : Shape := ⟨4, ![8, 8, 1, 2048]⟩
abbrev S1x2048 : Shape := ⟨2, ![1, 2048]⟩
abbrev S2048x1 : Shape := ⟨2, ![2048, 1]⟩
abbrev S2048x2048 : Shape := ⟨2, ![2048, 2048]⟩
abbrev S4 : Shape := ⟨1, ![4]⟩
abbrev S8x2048x4x2x64 : Shape := ⟨5, ![8, 2048, 4, 2, 64]⟩
abbrev S8x4x2x2048x64 : Shape := ⟨5, ![8, 4, 2, 2048, 64]⟩
abbrev S1x64 : Shape := ⟨2, ![1, 64]⟩
abbrev S64 : Shape := ⟨1, ![64]⟩
abbrev S8x4x1x2048x64 : Shape := ⟨5, ![8, 4, 1, 2048, 64]⟩
abbrev S8x4x2048x64 : Shape := ⟨4, ![8, 4, 2048, 64]⟩
abbrev S8x2048x4x128 : Shape := ⟨4, ![8, 2048, 4, 128]⟩
abbrev S8x4x2048x128 : Shape := ⟨4, ![8, 4, 2048, 128]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S8x4x2048x2048 : Shape := ⟨4, ![8, 4, 2048, 2048]⟩
abbrev S1x4x2048x2048 : Shape := ⟨4, ![1, 4, 2048, 2048]⟩
abbrev S8x4x2048 : Shape := ⟨3, ![8, 4, 2048]⟩
abbrev S8x4x2048x1 : Shape := ⟨4, ![8, 4, 2048, 1]⟩
abbrev S1x1x1x128 : Shape := ⟨4, ![1, 1, 1, 128]⟩

abbrev nBuf : Space → Nat
  | .hbm => 197
  | .vmem => 0
  | .smem => 0
  | _ => 0

abbrev hbmTy0_0 (i : Nat) : BufTy := match i % 128 with
  | 0 => ⟨S8x2048x512, .f32⟩
  | 1 => ⟨S8x2048x512, .f32⟩
  | 2 => ⟨S8x2048x512, .f32⟩
  | 3 => ⟨S8x8x2048, .f32⟩
  | 4 => ⟨S8x2048x512, .f32⟩
  | 5 => ⟨S8x2048x512, .f32⟩
  | 6 => ⟨S8x2048x512, .f32⟩
  | 7 => ⟨S4x64, .f32⟩
  | 8 => ⟨S128, .f32⟩
  | 9 => ⟨S8x2048x8x64, .f32⟩
  | 10 => ⟨S8x8x2048x64, .f32⟩
  | 11 => ⟨S8x2048x8x64, .f32⟩
  | 12 => ⟨S8x8x2048x64, .f32⟩
  | 13 => ⟨S8x2048x8x64, .f32⟩
  | 14 => ⟨S8x8x2048x64, .f32⟩
  | 15 => ⟨S_, .f32⟩
  | 16 => ⟨S_, .f32⟩
  | 17 => ⟨S8x8x2048, .f32⟩
  | 18 => ⟨S2048, .i32⟩
  | 19 => ⟨S8x8x2048x2048, .f32⟩
  | 20 => ⟨S_, .f32⟩
  | 21 => ⟨S8x8x2048x2048, .f32⟩
  | 22 => ⟨S8x8x2048x2048, .f32⟩
  | 23 => ⟨S8x8x2048x1, .f32⟩
  | 24 => ⟨S8x8x2048x2048, .f32⟩
  | 25 => ⟨S8x8x2048x2048, .f32⟩
  | 26 => ⟨S8x8x1x2048, .f32⟩
  | 27 => ⟨S8x8x2048x2048, .f32⟩
  | 28 => ⟨S8x8x2048x2048, .f32⟩
  | 29 => ⟨S1x2048, .i32⟩
  | 30 => ⟨S2048x1, .i32⟩
  | 31 => ⟨S2048x2048, .i32⟩
  | 32 => ⟨S2048x2048, .i32⟩
  | 33 => ⟨S2048x2048, .i1⟩
  | 34 => ⟨S_, .f32⟩
  | 35 => ⟨S_, .f32⟩
  | 36 => ⟨S8x8x2048x2048, .i1⟩
  | 37 => ⟨S8x8x2048x2048, .f32⟩
  | 38 => ⟨S8x8x2048x2048, .f32⟩
  | 39 => ⟨S_, .f32⟩
  | 40 => ⟨S8x8x2048, .f32⟩
  | 41 => ⟨S_, .f32⟩
  | 42 => ⟨S8x8x2048, .f32⟩
  | 43 => ⟨S8x8x2048, .f32⟩
  | 44 => ⟨S8x8x2048x1, .f32⟩
  | 45 => ⟨S8x8x2048x2048, .f32⟩
  | 46 => ⟨S8x8x2048x2048, .f32⟩
  | 47 => ⟨S8x8x2048x2048, .f32⟩
  | 48 => ⟨S_, .f32⟩
  | 49 => ⟨S8x8x2048, .f32⟩
  | 50 => ⟨S8x8x2048x1, .f32⟩
  | 51 => ⟨S8x8x2048x2048, .f32⟩
  | 52 => ⟨S8x8x2048x2048, .f32⟩
  | 53 => ⟨S8x8x2048x64, .f32⟩
  | 54 => ⟨S4, .f32⟩
  | 55 => ⟨S_, .f32⟩
  | 56 => ⟨S4, .f32⟩
  | 57 => ⟨S4, .f32⟩
  | 58 => ⟨S_, .f32⟩
  | 59 => ⟨S4, .f32⟩
  | 60 => ⟨S4, .f32⟩
  | 61 => ⟨S_, .f32⟩
  | 62 => ⟨S4, .f32⟩
  | 63 => ⟨S4, .f32⟩
  | 64 => ⟨S_, .f32⟩
  | 65 => ⟨S4, .f32⟩
  | 66 => ⟨S4, .f32⟩
  | 67 => ⟨S8x2048x4x2x64, .f32⟩
  | 68 => ⟨S8x4x2x2048x64, .f32⟩
  | 69 => ⟨S8x2048x4x2x64, .f32⟩
  | 70 => ⟨S8x4x2x2048x64, .f32⟩
  | 71 => ⟨S1x64, .f32⟩
  | 72 => ⟨S64, .f32⟩
  | 73 => ⟨S1x64, .f32⟩
  | 74 => ⟨S64, .f32⟩
  | 75 => ⟨S64, .f32⟩
  | 76 => ⟨S_, .f32⟩
  | 77 => ⟨S_, .f32⟩
  | 78 => ⟨S_, .f32⟩
  | 79 => ⟨S1x64, .f32⟩
  | 80 => ⟨S64, .f32⟩
  | 81 => ⟨S1x64, .f32⟩
  | 82 => ⟨S64, .f32⟩
  | 83 => ⟨S64, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S8x4x1x2048x64, .f32⟩
  | 91 => ⟨S8x4x2048x64, .f32⟩
  | 92 => ⟨S8x4x1x2048x64, .f32⟩
  | 93 => ⟨S8x4x2048x64, .f32⟩
  | 94 => ⟨S8x4x1x2048x64, .f32⟩
  | 95 => ⟨S8x4x2048x64, .f32⟩
  | 96 => ⟨S8x4x1x2048x64, .f32⟩
  | 97 => ⟨S8x4x2048x64, .f32⟩
  | 98 => ⟨S8x2048x4x128, .f32⟩
  | 99 => ⟨S8x4x2048x128, .f32⟩
  | 100 => ⟨S2048, .i32⟩
  | 101 => ⟨S2048x1, .i32⟩
  | 102 => ⟨S1x2048, .i32⟩
  | 103 => ⟨S2048x2048, .i32⟩
  | 104 => ⟨S2048x2048, .i32⟩
  | 105 => ⟨S2048x2048, .i32⟩
  | 106 => ⟨S2048x2048, .f32⟩
  | 107 => ⟨S4x1x1, .f32⟩
  | 108 => ⟨S4x1x1, .f32⟩
  | 109 => ⟨S1x2048x2048, .f32⟩
  | 110 => ⟨S4x2048x2048, .f32⟩
  | 111 => ⟨S4x2048x2048, .f32⟩
  | 112 => ⟨S4x2048x2048, .f32⟩
  | 113 => ⟨S_, .f32⟩
  | 114 => ⟨S2048x2048, .f32⟩
  | 115 => ⟨S2048x2048, .i1⟩
  | 116 => ⟨S8x4x2048x2048, .f32⟩
  | 117 => ⟨S_, .f32⟩
  | 118 => ⟨S8x4x2048x2048, .f32⟩
  | 119 => ⟨S8x4x2048x2048, .f32⟩
  | 120 => ⟨S1x4x2048x2048, .f32⟩
  | 121 => ⟨S8x4x2048x2048, .f32⟩
  | 122 => ⟨S8x4x2048x2048, .f32⟩
  | 123 => ⟨S8x4x2048x2048, .f32⟩
  | 124 => ⟨S_, .f32⟩
  | 125 => ⟨S8x4x2048x2048, .f32⟩
  | 126 => ⟨S8x4x2048x2048, .f32⟩
  | 127 => ⟨S1x4x2048x2048, .f32⟩
  | _ => ⟨S8x2048x512, .f32⟩

abbrev hbmTy0_1 (i : Nat) : BufTy := match i % 128 with
  | 0 => ⟨S8x4x2048x2048, .f32⟩
  | 1 => ⟨S8x4x2048x2048, .f32⟩
  | 2 => ⟨S_, .f32⟩
  | 3 => ⟨S_, .f32⟩
  | 4 => ⟨S8x4x2048x2048, .i1⟩
  | 5 => ⟨S8x4x2048x2048, .f32⟩
  | 6 => ⟨S8x4x2048x2048, .f32⟩
  | 7 => ⟨S_, .f32⟩
  | 8 => ⟨S8x4x2048, .f32⟩
  | 9 => ⟨S_, .f32⟩
  | 10 => ⟨S8x4x2048, .f32⟩
  | 11 => ⟨S8x4x2048, .f32⟩
  | 12 => ⟨S8x4x2048x1, .f32⟩
  | 13 => ⟨S8x4x2048x2048, .f32⟩
  | 14 => ⟨S8x4x2048x2048, .f32⟩
  | 15 => ⟨S8x4x2048x2048, .f32⟩
  | 16 => ⟨S_, .f32⟩
  | 17 => ⟨S8x4x2048, .f32⟩
  | 18 => ⟨S8x4x2048x1, .f32⟩
  | 19 => ⟨S8x4x2048x2048, .f32⟩
  | 20 => ⟨S8x4x2048x2048, .f32⟩
  | 21 => ⟨S_, .f32⟩
  | 22 => ⟨S_, .f32⟩
  | 23 => ⟨S8x4x2048x2048, .i1⟩
  | 24 => ⟨S8x4x2048x2048, .f32⟩
  | 25 => ⟨S8x4x2048x2048, .f32⟩
  | 26 => ⟨S_, .f32⟩
  | 27 => ⟨S8x4x2048, .f32⟩
  | 28 => ⟨S_, .f32⟩
  | 29 => ⟨S8x4x2048, .f32⟩
  | 30 => ⟨S8x4x2048, .f32⟩
  | 31 => ⟨S8x4x2048x1, .f32⟩
  | 32 => ⟨S8x4x2048x2048, .f32⟩
  | 33 => ⟨S8x4x2048x2048, .f32⟩
  | 34 => ⟨S8x4x2048x2048, .f32⟩
  | 35 => ⟨S_, .f32⟩
  | 36 => ⟨S8x4x2048, .f32⟩
  | 37 => ⟨S8x4x2048x1, .f32⟩
  | 38 => ⟨S8x4x2048x2048, .f32⟩
  | 39 => ⟨S8x4x2048x2048, .f32⟩
  | 40 => ⟨S8x4x2048x2048, .f32⟩
  | 41 => ⟨S8x4x2048x2048, .f32⟩
  | 42 => ⟨S8x4x2048x2048, .f32⟩
  | 43 => ⟨S8x4x2048x128, .f32⟩
  | 44 => ⟨S8x4x2048x128, .f32⟩
  | 45 => ⟨S_, .f32⟩
  | 46 => ⟨S8x4x2048, .f32⟩
  | 47 => ⟨S8x4x2048x1, .f32⟩
  | 48 => ⟨S_, .f32⟩
  | 49 => ⟨S8x4x2048x1, .f32⟩
  | 50 => ⟨S8x4x2048x1, .f32⟩
  | 51 => ⟨S_, .f32⟩
  | 52 => ⟨S8x4x2048x1, .f32⟩
  | 53 => ⟨S8x4x2048x1, .f32⟩
  | 54 => ⟨S8x4x2048x1, .f32⟩
  | 55 => ⟨S8x4x2048x128, .f32⟩
  | 56 => ⟨S8x4x2048x128, .f32⟩
  | 57 => ⟨S1x1x1x128, .f32⟩
  | 58 => ⟨S8x4x2048x128, .f32⟩
  | 59 => ⟨S8x4x2048x128, .f32⟩
  | 60 => ⟨S_, .f32⟩
  | 61 => ⟨S8x4x2048x128, .f32⟩
  | 62 => ⟨S8x4x2048x128, .f32⟩
  | 63 => ⟨S8x2048x8x64, .f32⟩
  | 64 => ⟨S8x2048x512, .f32⟩
  | 65 => ⟨S8x2048x512, .bf16⟩
  | 66 => ⟨S8x2048x4x128, .f32⟩
  | 67 => ⟨S8x2048x512, .f32⟩
  | 68 => ⟨S8x2048x512, .bf16⟩
  | _ => ⟨S8x2048x512, .f32⟩

abbrev hbmTy (i : Nat) : BufTy := match i / 128 with
  | 0 => hbmTy0_0 i
  | 1 => hbmTy0_1 i
  | _ => ⟨S8x2048x512, .f32⟩

abbrev bufTy : (tb : Table) → Fin (tcTables nBuf tb) → BufTy
  | .hbm, ⟨i, _⟩ => hbmTy i
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_call0_cst : Ref sig .tc := ⟨.hbm, 15, rfl⟩
abbrev main_call0_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_9 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_10 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_11 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_12 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_13 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_14 : Ref sig .tc := ⟨.hbm, 130, rfl⟩
abbrev main_call2_v0 : Ref sig .tc := ⟨.hbm, 131, rfl⟩
abbrev main_call2_v1 : Ref sig .tc := ⟨.hbm, 132, rfl⟩
abbrev main_call2_v2 : Ref sig .tc := ⟨.hbm, 133, rfl⟩
abbrev main_v101 : Ref sig .tc := ⟨.hbm, 134, rfl⟩
abbrev main_cst_15 : Ref sig .tc := ⟨.hbm, 135, rfl⟩
abbrev main_v102 : Ref sig .tc := ⟨.hbm, 136, rfl⟩
abbrev main_cst_16 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_17 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_18 : Ref sig .tc := ⟨.hbm, 149, rfl⟩
abbrev main_call3_v0 : Ref sig .tc := ⟨.hbm, 150, rfl⟩
abbrev main_call3_v1 : Ref sig .tc := ⟨.hbm, 151, rfl⟩
abbrev main_call3_v2 : Ref sig .tc := ⟨.hbm, 152, rfl⟩
abbrev main_v113 : Ref sig .tc := ⟨.hbm, 153, rfl⟩
abbrev main_cst_19 : Ref sig .tc := ⟨.hbm, 154, rfl⟩
abbrev main_v114 : Ref sig .tc := ⟨.hbm, 155, rfl⟩
abbrev main_cst_20 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_21 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_22 : Ref sig .tc := ⟨.hbm, 173, rfl⟩
abbrev main_v130 : Ref sig .tc := ⟨.hbm, 174, rfl⟩
abbrev main_v131 : Ref sig .tc := ⟨.hbm, 175, rfl⟩
abbrev main_cst_23 : Ref sig .tc := ⟨.hbm, 176, rfl⟩
abbrev main_v132 : Ref sig .tc := ⟨.hbm, 177, rfl⟩
abbrev main_v133 : Ref sig .tc := ⟨.hbm, 178, rfl⟩
abbrev main_cst_24 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_cst_25 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩

abbrev nD : Nat := 1
abbrev τ : Topo := Topo.v7x

variable {F : FTy → Type} [FloatOps F]
-- ==== Kernel2.lean ====
abbrev S8x2048x512 : Shape := ⟨3, ![8, 2048, 512]⟩
abbrev S8x2048x1024 : Shape := ⟨3, ![8, 2048, 1024]⟩
abbrev S2x8x6144 : Shape := ⟨3, ![2, 8, 6144]⟩
abbrev S2x1024 : Shape := ⟨2, ![2, 1024]⟩
abbrev S2x1024x1024 : Shape := ⟨3, ![2, 1024, 1024]⟩
abbrev S2x1024x2816 : Shape := ⟨3, ![2, 1024, 2816]⟩
abbrev S2x2816x1024 : Shape := ⟨3, ![2, 2816, 1024]⟩
abbrev S2x8x6x1x1024 : Shape := ⟨5, ![2, 8, 6, 1, 1024]⟩
abbrev S2x1x1024 : Shape := ⟨3, ![2, 1, 1024]⟩
abbrev S1x1024x512 : Shape := ⟨3, ![1, 1024, 512]⟩
abbrev S1x1024x1024 : Shape := ⟨3, ![1, 1024, 1024]⟩
abbrev S1x1x1x1x1024 : Shape := ⟨5, ![1, 1, 1, 1, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x512x512 : Shape := ⟨3, ![1, 512, 512]⟩
abbrev S512x512 : Shape := ⟨2, ![512, 512]⟩
abbrev S1x512x1024 : Shape := ⟨3, ![1, 512, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩
abbrev S1x1024x768 : Shape := ⟨3, ![1, 1024, 768]⟩
abbrev S1024x768 : Shape := ⟨2, ![1024, 768]⟩
abbrev S1x768x1024 : Shape := ⟨3, ![1, 768, 1024]⟩
abbrev S768x1024 : Shape := ⟨2, ![768, 1024]⟩

abbrev nBuf : Space → Nat
  | .hbm => 16
  | .vmem => 21
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .f32⟩
  | .hbm, ⟨3, _⟩ => ⟨S2x8x6144, .f32⟩
  | .hbm, ⟨4, _⟩ => ⟨S2x1024, .f32⟩
  | .hbm, ⟨5, _⟩ => ⟨S2x1024x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S2x1024x1024, .bf16⟩
  | .hbm, ⟨10, _⟩ => ⟨S2x1024x2816, .bf16⟩
  | .hbm, ⟨11, _⟩ => ⟨S2x1024x2816, .bf16⟩
  | .hbm, ⟨12, _⟩ => ⟨S2x2816x1024, .bf16⟩
  | .hbm, ⟨13, _⟩ => ⟨S2x8x6x1x1024, .f32⟩
  | .hbm, ⟨14, _⟩ => ⟨S2x1x1024, .f32⟩
  | .hbm, ⟨15, _⟩ => ⟨S8x2048x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1x1024, .f32⟩
  | .local _ .vmem, ⟨10, _⟩ => ⟨S1x1x1x1x1024, .f32⟩
  | .local _ .vmem, ⟨11, _⟩ => ⟨S1x1x1x1x1024, .f32⟩
  | .local _ .vmem, ⟨12, _⟩ => ⟨S1x1x1x1x1024, .f32⟩
  | .local _ .vmem, ⟨13, _⟩ => ⟨S1x1x1x1x1024, .f32⟩
  | .local _ .vmem, ⟨14, _⟩ => ⟨S1x1x1x1x1024, .f32⟩
  | .local _ .vmem, ⟨15, _⟩ => ⟨S1x1x1x1x1024, .f32⟩
  | .local _ .vmem, ⟨16, _⟩ => ⟨S1x1024x2816, .bf16⟩
  | .local _ .vmem, ⟨17, _⟩ => ⟨S1x1024x2816, .bf16⟩
  | .local _ .vmem, ⟨18, _⟩ => ⟨S1x2816x1024, .bf16⟩
  | .local _ .vmem, ⟨19, _⟩ => ⟨S1x1024x1024, .f32⟩
  | .local _ .vmem, ⟨20, _⟩ => ⟨S1x1024x1024, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, arg0.toNat, c2_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, arg0.toNat, c3_i32.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c1_i32 : BitVec 32 := 1#32
  let c4_i32 : BitVec 32 := 4#32
  let c0_i32 : BitVec 32 := 0#32
  let c0_i32_0 : BitVec 32 := 0#32
  let c0_i32_1 : BitVec 32 := 0#32
  ![c1_i32.toNat, arg0.toNat, c4_i32.toNat, c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c1_i32 : BitVec 32 := 1#32
  let c5_i32 : BitVec 32 := 5#32
  let c0_i32 : BitVec 32 := 0#32
  let c0_i32_0 : BitVec 32 := 0#32
  let c0_i32_1 : BitVec 32 := 0#32
  ![c1_i32.toNat, arg0.toNat, c5_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S8x2048x512 : Shape := ⟨3, ![8, 2048, 512]⟩
abbrev S8x2048x1024 : Shape := ⟨3, ![8, 2048, 1024]⟩
abbrev S2x8x6144 : Shape := ⟨3, ![2, 8, 6144]⟩
abbrev S2x1024 : Shape := ⟨2, ![2, 1024]⟩
abbrev S2x1024x1024 : Shape := ⟨3, ![2, 1024, 1024]⟩
abbrev S2x1024x2816 : Shape := ⟨3, ![2, 1024, 2816]⟩
abbrev S2x2816x1024 : Shape := ⟨3, ![2, 2816, 1024]⟩
abbrev S1x8x6144 : Shape := ⟨3, ![1, 8, 6144]⟩
abbrev S8x6144 : Shape := ⟨2, ![8, 6144]⟩
abbrev S8x1024 : Shape := ⟨2, ![8, 1024]⟩
abbrev S8x1x1024 : Shape := ⟨3, ![8, 1, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S8x2048x2816 : Shape := ⟨3, ![8, 2048, 2816]⟩
abbrev S1x2816x1024 : Shape := ⟨3, ![1, 2816, 1024]⟩
abbrev S2816x1024 : Shape := ⟨2, ![2816, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .f32⟩
  | .hbm, ⟨3, _⟩ => ⟨S2x8x6144, .f32⟩
  | .hbm, ⟨4, _⟩ => ⟨S2x1024, .f32⟩
  | .hbm, ⟨5, _⟩ => ⟨S2x1024x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S1x8x6144, .f32⟩
  | .hbm, ⟨10, _⟩ => ⟨S8x6144, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x2048x512, .f32⟩
  | .hbm, ⟨18, _⟩ => ⟨S8x2048x512, .f32⟩
  | .hbm, ⟨19, _⟩ => ⟨S8x2048x1024, .f32⟩
  | .hbm, ⟨20, _⟩ => ⟨S8x1x1024, .f32⟩
  | .hbm, ⟨21, _⟩ => ⟨S1x1024x1024, .f32⟩
  | .hbm, ⟨22, _⟩ => ⟨S1024x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S1x1024, .f32⟩
  | .hbm, ⟨28, _⟩ => ⟨S1024, .f32⟩
  | .hbm, ⟨29, _⟩ => ⟨S8x2048x1024, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x1024, .f32⟩
  | .hbm, ⟨41, _⟩ => ⟨S8x2048x1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | .hbm, ⟨45, _⟩ => ⟨S8x1x1024, .f32⟩
  | .hbm, ⟨46, _⟩ => ⟨S_, .f32⟩
  | .hbm, ⟨47, _⟩ => ⟨S8x1x1024, .f32⟩
  | .hbm, ⟨48, _⟩ => ⟨S8x1x1024, .f32⟩
  | .hbm, ⟨49, _⟩ => ⟨S8x2048x1024, .f32⟩
  | .hbm, ⟨50, _⟩ => ⟨S8x2048x1024, .f32⟩
  | .hbm, ⟨51, _⟩ => ⟨S8x1x1024, .f32⟩
  | .hbm, ⟨52, _⟩ => ⟨S8x2048x1024, .f32⟩
  | .hbm, ⟨53, _⟩ => ⟨S8x2048x1024, .f32⟩
  | .hbm, ⟨54, _⟩ => ⟨S1x1024x2816, .f32⟩
  | .hbm, ⟨55, _⟩ => ⟨S1024x2816, .f32⟩
  | .hbm, ⟨56, _⟩ => ⟨S8x2048x2816, .f32⟩
  | .hbm, ⟨57, _⟩ => ⟨S8x2048x2816, .f32⟩
  | .hbm, ⟨58, _⟩ => ⟨S8x2048x2816, .f32⟩
  | .hbm, ⟨59, _⟩ => ⟨S_, .f32⟩
  | .hbm, ⟨60, _⟩ => ⟨S8x2048x2816, .f32⟩
  | .hbm, ⟨61, _⟩ => ⟨S8x2048x2816, .f32⟩
  | .hbm, ⟨62, _⟩ => ⟨S_, .f32⟩
  | .hbm, ⟨63, _⟩ => ⟨S8x2048x2816, .f32⟩
  | .hbm, ⟨64, _⟩ => ⟨S8x2048x2816, .f32⟩
  | .hbm, ⟨65, _⟩ => ⟨S8x2048x2816, .f32⟩
  | .hbm, ⟨66, _⟩ => ⟨S1x1024x2816, .f32⟩
  | .hbm, ⟨67, _⟩ => ⟨S1024x2816, .f32⟩
  | .hbm, ⟨68, _⟩ => ⟨S8x2048x2816, .f32⟩
  | .hbm, ⟨69, _⟩ => ⟨S8x2048x2816, .f32⟩
  | .hbm, ⟨70, _⟩ => ⟨S1x2816x1024, .f32⟩
  | .hbm, ⟨71, _⟩ => ⟨S2816x1024, .f32⟩
  | .hbm, ⟨72, _⟩ => ⟨S8x2048x1024, .f32⟩
  | .hbm, ⟨73, _⟩ => ⟨S8x1x1024, .f32⟩
  | .hbm, ⟨74, _⟩ => ⟨S8x2048x1024, .f32⟩
  | .hbm, ⟨75, _⟩ => ⟨S8x2048x1024, .f32⟩
  | .hbm, ⟨76, _⟩ => ⟨S8x2048x1024, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Kernel3.lean ====
abbrev S8x2048x1024 : Shape := ⟨3, ![8, 2048, 1024]⟩
abbrev S2x8x6144 : Shape := ⟨3, ![2, 8, 6144]⟩
abbrev S2x1024 : Shape := ⟨2, ![2, 1024]⟩
abbrev S2x1024x3080 : Shape := ⟨3, ![2, 1024, 3080]⟩
abbrev S2x8 : Shape := ⟨2, ![2, 8]⟩
abbrev S2x2x64 : Shape := ⟨3, ![2, 2, 64]⟩
abbrev S2x1024x1536 : Shape := ⟨3, ![2, 1024, 1536]⟩
abbrev S_ : Shape := ⟨0, ![]⟩
abbrev S2x16x1024 : Shape := ⟨3, ![2, 16, 1024]⟩
abbrev S2x1024x8 : Shape := ⟨3, ![2, 1024, 8]⟩
abbrev S2x8x1024 : Shape := ⟨3, ![2, 8, 1024]⟩
abbrev S1 : Shape := ⟨1, ![1]⟩
abbrev S2x16x1 : Shape := ⟨3, ![2, 16, 1]⟩
abbrev S2 : Shape := ⟨1, ![2]⟩
abbrev S2x1x1024 : Shape := ⟨3, ![2, 1, 1024]⟩
abbrev S2x8x6x1x1024 : Shape := ⟨5, ![2, 8, 6, 1, 1024]⟩
abbrev S1x1x64 : Shape := ⟨3, ![1, 1, 64]⟩
abbrev S64 : Shape := ⟨1, ![64]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S8x2048x512 : Shape := ⟨3, ![8, 2048, 512]⟩
abbrev S8x8x2048 : Shape := ⟨3, ![8, 8, 2048]⟩
abbrev S1x1024x1024 : Shape := ⟨3, ![1, 1024, 1024]⟩
abbrev S1x1x1024 : Shape := ⟨3, ![1, 1, 1024]⟩
abbrev S1x1x1x1x1024 : Shape := ⟨5, ![1, 1, 1, 1, 1024]⟩
abbrev S1x1024x1536 : Shape := ⟨3, ![1, 1024, 1536]⟩
abbrev S1x16x1024 : Shape := ⟨3, ![1, 16, 1024]⟩
abbrev S1x16x1 : Shape := ⟨3, ![1, 16, 1]⟩
abbrev S1x1024x512 : Shape := ⟨3, ![1, 1024, 512]⟩
abbrev S1x8x1024 : Shape := ⟨3, ![1, 8, 1024]⟩
abbrev S16x128 : Shape := ⟨2, ![16, 128]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩
abbrev S1024x512 : Shape := ⟨2, ![1024, 512]⟩
abbrev S1024x128 : Shape := ⟨2, ![1024, 128]⟩
abbrev S1x128 : Shape := ⟨2, ![1, 128]⟩
abbrev S16x1024 : Shape := ⟨2, ![16, 1024]⟩
abbrev S16x1 : Shape := ⟨2, ![16, 1]⟩
abbrev S256x256 : Shape := ⟨2, ![256, 256]⟩
abbrev S16x256 : Shape := ⟨2, ![16, 256]⟩
abbrev S64x256 : Shape := ⟨2, ![64, 256]⟩
abbrev S192x256 : Shape := ⟨2, ![192, 256]⟩
abbrev S64x1 : Shape := ⟨2, ![64, 1]⟩
abbrev S8x256 : Shape := ⟨2, ![8, 256]⟩
abbrev S1x8x256 : Shape := ⟨3, ![1, 8, 256]⟩

abbrev nBuf : Space → Nat
  | .hbm => 60
  | .vmem => 30
  | .smem => 0
  | _ => 0

abbrev bufTy : (tb : Table) → Fin (tcTables nBuf tb) → BufTy
  | .hbm, ⟨0, _⟩ => ⟨S8x2048x1024, .f32⟩
  | .hbm, ⟨1, _⟩ => ⟨S2x8x6144, .f32⟩
  | .hbm, ⟨2, _⟩ => ⟨S2x1024, .f32⟩
  | .hbm, ⟨3, _⟩ => ⟨S2x1024x3080, .f32⟩
  | .hbm, ⟨4, _⟩ => ⟨S2x8, .f32⟩
  | .hbm, ⟨5, _⟩ => ⟨S2x2x64, .f32⟩
  | .hbm, ⟨6, _⟩ => ⟨S2x2x64, .f32⟩
  | .hbm, ⟨7, _⟩ => ⟨S2x1024x1536, .f32⟩
  | .hbm, ⟨8, _⟩ => ⟨S2x1024x1536, .bf16⟩
  | .hbm, ⟨9, _⟩ => ⟨S2x1024x1536, .f32⟩
  | .hbm, ⟨10, _⟩ => ⟨S2x1024x1536, .bf16⟩
  | .hbm, ⟨11, _⟩ => ⟨S_, .bf16⟩
  | .hbm, ⟨12, _⟩ => ⟨S2x16x1024, .bf16⟩
  | .hbm, ⟨13, _⟩ => ⟨S2x1024x8, .f32⟩
  | .hbm, ⟨14, _⟩ => ⟨S2x8x1024, .f32⟩
  | .hbm, ⟨15, _⟩ => ⟨S2x8x1024, .bf16⟩
  | .hbm, ⟨16, _⟩ => ⟨S_, .i32⟩
  | .hbm, ⟨17, _⟩ => ⟨S1, .i32⟩
  | .hbm, ⟨18, _⟩ => ⟨S2x16x1024, .bf16⟩
  | .hbm, ⟨19, _⟩ => ⟨S_, .f32⟩
  | .hbm, ⟨20, _⟩ => ⟨S2x16x1, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S2x16x1, .f32⟩
  | .hbm, ⟨27, _⟩ => ⟨S2x1x1024, .f32⟩
  | .hbm, ⟨28, _⟩ => ⟨S2x8x6x1x1024, .f32⟩
  | .hbm, ⟨29, _⟩ => ⟨S1x1x64, .f32⟩
  | .hbm, ⟨30, _⟩ => ⟨S64, .f32⟩
  | .hbm, ⟨31, _⟩ => ⟨S1x64, .f32⟩
  | .hbm, ⟨32, _⟩ => ⟨S8x64, .f32⟩
  | .hbm, ⟨33, _⟩ => ⟨S512, .f32⟩
  | .hbm, ⟨34, _⟩ => ⟨S1x512, .f32⟩
  | .hbm, ⟨35, _⟩ => ⟨S1x1x64, .f32⟩
  | .hbm, ⟨36, _⟩ => ⟨S64, .f32⟩
  | .hbm, ⟨37, _⟩ => ⟨S1x64, .f32⟩
  | .hbm, ⟨38, _⟩ => ⟨S8x64, .f32⟩
  | .hbm, ⟨39, _⟩ => ⟨S512, .f32⟩
  | .hbm, ⟨40, _⟩ => ⟨S1x512, .f32⟩
  | .hbm, ⟨41, _⟩ => ⟨S1x1x64, .f32⟩
  | .hbm, ⟨42, _⟩ => ⟨S64, .f32⟩
  | .hbm, ⟨43, _⟩ => ⟨S1x64, .f32⟩
  | .hbm, ⟨44, _⟩ => ⟨S8x64, .f32⟩
  | .hbm, ⟨45, _⟩ => ⟨S512, .f32⟩
  | .hbm, ⟨46, _⟩ => ⟨S1x512, .f32⟩
  | .hbm, ⟨47, _⟩ => ⟨S1x1x64, .f32⟩
  | .hbm, ⟨48, _⟩ => ⟨S64, .f32⟩
  | .hbm, ⟨49, _⟩ => ⟨S1x64, .f32⟩
  | .hbm, ⟨50, _⟩ => ⟨S8x64, .f32⟩
  | .hbm, ⟨51, _⟩ => ⟨S512, .f32⟩
  | .hbm, ⟨52, _⟩ => ⟨S1x512, .f32⟩
  | .hbm, ⟨53, _⟩ => ⟨S8x2048x512, .bf16⟩
  | .hbm, ⟨54, _⟩ => ⟨S8x2048x512, .bf16⟩
  | .hbm, ⟨55, _⟩ => ⟨S8x2048x512, .bf16⟩
  | .hbm, ⟨56, _⟩ => ⟨S8x8x2048, .f32⟩
  | .hbm, ⟨57, _⟩ => ⟨S8x2048x512, .bf16⟩
  | .hbm, ⟨58, _⟩ => ⟨S8x2048x512, .bf16⟩
  | .hbm, ⟨59, _⟩ => ⟨S8x2048x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1024x1536, .bf16⟩
  | .local _ .vmem, ⟨8, _⟩ => ⟨S1x16x1024, .bf16⟩
  | .local _ .vmem, ⟨9, _⟩ => ⟨S1x1024x1536, .bf16⟩
  | .local _ .vmem, ⟨10, _⟩ => ⟨S1x16x1, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x8x1024, .f32⟩
  | .local _ .vmem, ⟨22, _⟩ => ⟨S1x8x1024, .f32⟩
  | .local _ .vmem, ⟨23, _⟩ => ⟨S1x1024x512, .bf16⟩
  | .local _ .vmem, ⟨24, _⟩ => ⟨S1x1024x512, .bf16⟩
  | .local _ .vmem, ⟨25, _⟩ => ⟨S1x1024x512, .bf16⟩
  | .local _ .vmem, ⟨26, _⟩ => ⟨S1x1024x512, .bf16⟩
  | .local _ .vmem, ⟨27, _⟩ => ⟨S1x1024x512, .bf16⟩
  | .local _ .vmem, ⟨28, _⟩ => ⟨S1x1024x512, .bf16⟩
  | .local _ .vmem, ⟨29, _⟩ => ⟨S16x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41_0 : Ref sig .tc := ⟨.hbm, 53, rfl⟩
abbrev main_v41_1 : Ref sig .tc := ⟨.hbm, 54, rfl⟩
abbrev main_v41_2 : Ref sig .tc := ⟨.hbm, 55, rfl⟩
abbrev main_v41_3 : Ref sig .tc := ⟨.hbm, 56, rfl⟩
abbrev main_v41_4 : Ref sig .tc := ⟨.hbm, 57, rfl⟩
abbrev main_v41_5 : Ref sig .tc := ⟨.hbm, 58, rfl⟩
abbrev main_v41_6 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, arg0.toNat, c1_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Kernel3Ideal.lean ====
variable {F : FTy → Type} [FloatOps F] [Named F]
def κ : String → Option EReal := fun
  | "neg_log2e" => some ((-((Real.log 2)⁻¹) : ℝ) : EReal)
  | "qk_scale" => some (((8 * (Real.log 2))⁻¹ : ℝ) : EReal)
  | _ => none
-- ==== Reference3Ideal.lean ====
abbrev S8x2048x1024 : Shape := ⟨3, ![8, 2048, 1024]⟩
abbrev S2x8x6144 : Shape := ⟨3, ![2, 8, 6144]⟩
abbrev S2x1024 : Shape := ⟨2, ![2, 1024]⟩
abbrev S2x1024x3080 : Shape := ⟨3, ![2, 1024, 3080]⟩
abbrev S2x8 : Shape := ⟨2, ![2, 8]⟩
abbrev S2x2x64 : Shape := ⟨3, ![2, 2, 64]⟩
abbrev S1x8x6144 : Shape := ⟨3, ![1, 8, 6144]⟩
abbrev S8x6144 : Shape := ⟨2, ![8, 6144]⟩
abbrev S8x1024 : Shape := ⟨2, ![8, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S1x1024x3080 : Shape := ⟨3, ![1, 1024, 3080]⟩
abbrev S1024x3080 : Shape := ⟨2, ![1024, 3080]⟩
abbrev S8x2048x3080 : Shape := ⟨3, ![8, 2048, 3080]⟩
abbrev S8x2048x512 : Shape := ⟨3, ![8, 2048, 512]⟩
abbrev S8x2048x8 : Shape := ⟨3, ![8, 2048, 8]⟩
abbrev S1x8 : Shape := ⟨2, ![1, 8]⟩
abbrev S8 : Shape := ⟨1, ![8]⟩
abbrev S1x1x8 : Shape := ⟨3, ![1, 1, 8]⟩
abbrev S8x8x2048 : Shape := ⟨3, ![8, 8, 2048]⟩
abbrev S1x1x64 : Shape := ⟨3, ![1, 1, 64]⟩
abbrev S64 : Shape := ⟨1, ![64]⟩
abbrev S8x2048x8x64 : Shape := ⟨4, ![8, 2048, 8, 64]⟩
abbrev S8x2048x8x1 : Shape := ⟨4, ![8, 2048, 8, 1]⟩
abbrev S1x1x1x64 : Shape := ⟨4, ![1, 1, 1, 64]⟩

abbrev nBuf : Space → Nat
  | .hbm => 179
  | .vmem => 0
  | .smem => 0
  | _ => 0

abbrev hbmTy0_0 (i : Nat) : BufTy := match i % 128 with
  | 0 => ⟨S8x2048x1024, .f32⟩
  | 1 => ⟨S2x8x6144, .f32⟩
  | 2 => ⟨S2x1024, .f32⟩
  | 3 => ⟨S2x1024x3080, .f32⟩
  | 4 => ⟨S2x8, .f32⟩
  | 5 => ⟨S2x2x64, .f32⟩
  | 6 => ⟨S2x2x64, .f32⟩
  | 7 => ⟨S1x8x6144, .f32⟩
  | 8 => ⟨S8x6144, .f32⟩
  | 9 => ⟨S8x1024, .f32⟩
  | 10 => ⟨S8x1024, .f32⟩
  | 11 => ⟨S8x1024, .f32⟩
  | 12 => ⟨S8x1024, .f32⟩
  | 13 => ⟨S8x1024, .f32⟩
  | 14 => ⟨S8x1024, .f32⟩
  | 15 => ⟨S1x1024, .f32⟩
  | 16 => ⟨S1024, .f32⟩
  | 17 => ⟨S8x2048x1024, .f32⟩
  | 18 => ⟨S_, .f32⟩
  | 19 => ⟨S8x2048, .f32⟩
  | 20 => ⟨S8x2048x1, .f32⟩
  | 21 => ⟨S_, .f32⟩
  | 22 => ⟨S8x2048x1, .f32⟩
  | 23 => ⟨S8x2048x1, .f32⟩
  | 24 => ⟨S_, .f32⟩
  | 25 => ⟨S8x2048x1, .f32⟩
  | 26 => ⟨S8x2048x1, .f32⟩
  | 27 => ⟨S8x2048x1, .f32⟩
  | 28 => ⟨S8x2048x1024, .f32⟩
  | 29 => ⟨S8x2048x1024, .f32⟩
  | 30 => ⟨S1x1x1024, .f32⟩
  | 31 => ⟨S8x2048x1024, .f32⟩
  | 32 => ⟨S8x2048x1024, .f32⟩
  | 33 => ⟨S8x1x1024, .f32⟩
  | 34 => ⟨S_, .f32⟩
  | 35 => ⟨S8x1x1024, .f32⟩
  | 36 => ⟨S8x1x1024, .f32⟩
  | 37 => ⟨S8x2048x1024, .f32⟩
  | 38 => ⟨S8x2048x1024, .f32⟩
  | 39 => ⟨S8x1x1024, .f32⟩
  | 40 => ⟨S8x2048x1024, .f32⟩
  | 41 => ⟨S8x2048x1024, .f32⟩
  | 42 => ⟨S1x1024x3080, .f32⟩
  | 43 => ⟨S1024x3080, .f32⟩
  | 44 => ⟨S8x2048x3080, .f32⟩
  | 45 => ⟨S8x2048x512, .f32⟩
  | 46 => ⟨S8x2048x512, .f32⟩
  | 47 => ⟨S8x2048x512, .f32⟩
  | 48 => ⟨S8x2048x8, .f32⟩
  | 49 => ⟨S8x2048x512, .f32⟩
  | 50 => ⟨S8x2048x512, .f32⟩
  | 51 => ⟨S8x2048x512, .f32⟩
  | 52 => ⟨S1x8, .f32⟩
  | 53 => ⟨S8, .f32⟩
  | 54 => ⟨S1x1x8, .f32⟩
  | 55 => ⟨S8x2048x8, .f32⟩
  | 56 => ⟨S8x2048x8, .f32⟩
  | 57 => ⟨S8x2048x8, .f32⟩
  | 58 => ⟨S_, .f32⟩
  | 59 => ⟨S8x2048x8, .f32⟩
  | 60 => ⟨S8x2048x8, .f32⟩
  | 61 => ⟨S8x2048x8, .f32⟩
  | 62 => ⟨S8x2048x8, .f32⟩
  | 63 => ⟨S8x2048x8, .i1⟩
  | 64 => ⟨S8x2048x8, .f32⟩
  | 65 => ⟨S8x2048x8, .f32⟩
  | 66 => ⟨S8x2048x8, .f32⟩
  | 67 => ⟨S8x2048x8, .f32⟩
  | 68 => ⟨S8x2048x8, .f32⟩
  | 69 => ⟨S8x2048x8, .f32⟩
  | 70 => ⟨S8x2048x8, .f32⟩
  | 71 => ⟨S8x2048x8, .f32⟩
  | 72 => ⟨S8x2048x8, .f32⟩
  | 73 => ⟨S8x8x2048, .f32⟩
  | 74 => ⟨S_, .f32⟩
  | 75 => ⟨S_, .f32⟩
  | 76 => ⟨S1x1x64, .f32⟩
  | 77 => ⟨S64, .f32⟩
  | 78 => ⟨S8x2048x8x64, .f32⟩
  | 79 => ⟨S8x2048x8x64, .f32⟩
  | 80 => ⟨S_, .f32⟩
  | 81 => ⟨S8x2048x8, .f32⟩
  | 82 => ⟨S8x2048x8x1, .f32⟩
  | 83 => ⟨S_, .f32⟩
  | 84 => ⟨S8x2048x8x1, .f32⟩
  | 85 => ⟨S8x2048x8x1, .f32⟩
  | 86 => ⟨S_, .f32⟩
  | 87 => ⟨S8x2048x8x1, .f32⟩
  | 88 => ⟨S8x2048x8x1, .f32⟩
  | 89 => ⟨S8x2048x8x1, .f32⟩
  | 90 => ⟨S8x2048x8x64, .f32⟩
  | 91 => ⟨S8x2048x8x64, .f32⟩
  | 92 => ⟨S1x1x1x64, .f32⟩
  | 93 => ⟨S8x2048x8x64, .f32⟩
  | 94 => ⟨S8x2048x8x64, .f32⟩
  | 95 => ⟨S8x2048x512, .f32⟩
  | 96 => ⟨S_, .f32⟩
  | 97 => ⟨S_, .f32⟩
  | 98 => ⟨S_, .f32⟩
  | 99 => ⟨S8x2048x512, .f32⟩
  | 100 => ⟨S8x2048x512, .f32⟩
  | 101 => ⟨S8x2048x512, .bf16⟩
  | 102 => ⟨S1x1x64, .f32⟩
  | 103 => ⟨S64, .f32⟩
  | 104 => ⟨S8x2048x8x64, .f32⟩
  | 105 => ⟨S8x2048x8x64, .f32⟩
  | 106 => ⟨S_, .f32⟩
  | 107 => ⟨S8x2048x8, .f32⟩
  | 108 => ⟨S8x2048x8x1, .f32⟩
  | 109 => ⟨S_, .f32⟩
  | 110 => ⟨S8x2048x8x1, .f32⟩
  | 111 => ⟨S8x2048x8x1, .f32⟩
  | 112 => ⟨S_, .f32⟩
  | 113 => ⟨S8x2048x8x1, .f32⟩
  | 114 => ⟨S8x2048x8x1, .f32⟩
  | 115 => ⟨S8x2048x8x1, .f32⟩
  | 116 => ⟨S8x2048x8x64, .f32⟩
  | 117 => ⟨S8x2048x8x64, .f32⟩
  | 118 => ⟨S1x1x1x64, .f32⟩
  | 119 => ⟨S8x2048x8x64, .f32⟩
  | 120 => ⟨S8x2048x8x64, .f32⟩
  | 121 => ⟨S8x2048x512, .f32⟩
  | 122 => ⟨S8x2048x512, .bf16⟩
  | 123 => ⟨S8x2048x512, .bf16⟩
  | 124 => ⟨S_, .f32⟩
  | 125 => ⟨S_, .f32⟩
  | 126 => ⟨S8x8x2048, .f32⟩
  | 127 => ⟨S8x8x2048, .f32⟩
  | _ => ⟨S8x2048x1024, .f32⟩

abbrev hbmTy0_1 (i : Nat) : BufTy := match i % 128 with
  | 0 => ⟨S_, .f32⟩
  | 1 => ⟨S8x8x2048, .f32⟩
  | 2 => ⟨S8x8x2048, .f32⟩
  | 3 => ⟨S1x1x64, .f32⟩
  | 4 => ⟨S64, .f32⟩
  | 5 => ⟨S8x2048x8x64, .f32⟩
  | 6 => ⟨S8x2048x8x64, .f32⟩
  | 7 => ⟨S_, .f32⟩
  | 8 => ⟨S8x2048x8, .f32⟩
  | 9 => ⟨S8x2048x8x1, .f32⟩
  | 10 => ⟨S_, .f32⟩
  | 11 => ⟨S8x2048x8x1, .f32⟩
  | 12 => ⟨S8x2048x8x1, .f32⟩
  | 13 => ⟨S_, .f32⟩
  | 14 => ⟨S8x2048x8x1, .f32⟩
  | 15 => ⟨S8x2048x8x1, .f32⟩
  | 16 => ⟨S8x2048x8x1, .f32⟩
  | 17 => ⟨S8x2048x8x64, .f32⟩
  | 18 => ⟨S8x2048x8x64, .f32⟩
  | 19 => ⟨S1x1x1x64, .f32⟩
  | 20 => ⟨S8x2048x8x64, .f32⟩
  | 21 => ⟨S8x2048x8x64, .f32⟩
  | 22 => ⟨S8x2048x512, .f32⟩
  | 23 => ⟨S_, .f32⟩
  | 24 => ⟨S_, .f32⟩
  | 25 => ⟨S_, .f32⟩
  | 26 => ⟨S8x2048x512, .f32⟩
  | 27 => ⟨S8x2048x512, .f32⟩
  | 28 => ⟨S8x2048x512, .bf16⟩
  | 29 => ⟨S1x1x64, .f32⟩
  | 30 => ⟨S64, .f32⟩
  | 31 => ⟨S8x2048x8x64, .f32⟩
  | 32 => ⟨S8x2048x8x64, .f32⟩
  | 33 => ⟨S_, .f32⟩
  | 34 => ⟨S8x2048x8, .f32⟩
  | 35 => ⟨S8x2048x8x1, .f32⟩
  | 36 => ⟨S_, .f32⟩
  | 37 => ⟨S8x2048x8x1, .f32⟩
  | 38 => ⟨S8x2048x8x1, .f32⟩
  | 39 => ⟨S_, .f32⟩
  | 40 => ⟨S8x2048x8x1, .f32⟩
  | 41 => ⟨S8x2048x8x1, .f32⟩
  | 42 => ⟨S8x2048x8x1, .f32⟩
  | 43 => ⟨S8x2048x8x64, .f32⟩
  | 44 => ⟨S8x2048x8x64, .f32⟩
  | 45 => ⟨S1x1x1x64, .f32⟩
  | 46 => ⟨S8x2048x8x64, .f32⟩
  | 47 => ⟨S8x2048x8x64, .f32⟩
  | 48 => ⟨S8x2048x512, .f32⟩
  | 49 => ⟨S8x2048x512, .bf16⟩
  | 50 => ⟨S8x2048x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_call0_v0 : Ref sig .tc := ⟨.hbm, 57, rfl⟩
abbrev main_call0_call0_cst : Ref sig .tc := ⟨.hbm, 58, rfl⟩
abbrev main_call0_call0_v0 : Ref sig .tc := ⟨.hbm, 59, rfl⟩
abbrev main_call0_call0_v1 : Ref sig .tc := ⟨.hbm, 60, rfl⟩
abbrev main_call0_call0_v2 : Ref sig .tc := ⟨.hbm, 61, rfl⟩
abbrev main_call0_call0_v3 : Ref sig .tc := ⟨.hbm, 62, rfl⟩
abbrev main_call0_call0_v4 : Ref sig .tc := ⟨.hbm, 63, rfl⟩
abbrev main_call0_call0_v5 : Ref sig .tc := ⟨.hbm, 64, rfl⟩
abbrev main_call0_call0_v6 : Ref sig .tc := ⟨.hbm, 65, rfl⟩
abbrev main_call0_call0_v7 : Ref sig .tc := ⟨.hbm, 66, rfl⟩
abbrev main_call0_call0_v8 : Ref sig .tc := ⟨.hbm, 67, rfl⟩
abbrev main_call0_call0_v9 : Ref sig .tc := ⟨.hbm, 68, rfl⟩
abbrev main_call0_call0_v10 : Ref sig .tc := ⟨.hbm, 69, rfl⟩
abbrev main_call0_call0_v11 : Ref sig .tc := ⟨.hbm, 70, rfl⟩
abbrev main_call0_v1 : Ref sig .tc := ⟨.hbm, 71, rfl⟩
abbrev main_v46 : Ref sig .tc := ⟨.hbm, 72, rfl⟩
abbrev main_v47 : Ref sig .tc := ⟨.hbm, 73, rfl⟩
abbrev main_cst_3 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_4 : Ref sig .tc := ⟨.hbm, 80, rfl⟩
abbrev main_v53 : Ref sig .tc := ⟨.hbm, 81, rfl⟩
abbrev main_v54 : Ref sig .tc := ⟨.hbm, 82, rfl⟩
abbrev main_cst_5 : Ref sig .tc := ⟨.hbm, 83, rfl⟩
abbrev main_v55 : Ref sig .tc := ⟨.hbm, 84, rfl⟩
abbrev main_v56 : Ref sig .tc := ⟨.hbm, 85, rfl⟩
abbrev main_cst_6 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_7 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_8 : Ref sig .tc := ⟨.hbm, 106, rfl⟩
abbrev main_v75 : Ref sig .tc := ⟨.hbm, 107, rfl⟩
abbrev main_v76 : Ref sig .tc := ⟨.hbm, 108, rfl⟩
abbrev main_cst_9 : Ref sig .tc := ⟨.hbm, 109, rfl⟩
abbrev main_v77 : Ref sig .tc := ⟨.hbm, 110, rfl⟩
abbrev main_v78 : Ref sig .tc := ⟨.hbm, 111, rfl⟩
abbrev main_cst_10 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_call1_call0_cst : Ref sig .tc := ⟨.hbm, 124, rfl⟩
abbrev main_call1_call0_v0 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_11 : Ref sig .tc := ⟨.hbm, 135, rfl⟩
abbrev main_v99 : Ref sig .tc := ⟨.hbm, 136, rfl⟩
abbrev main_v100 : Ref sig .tc := ⟨.hbm, 137, rfl⟩
abbrev main_cst_12 : Ref sig .tc := ⟨.hbm, 138, rfl⟩
abbrev main_v101 : Ref sig .tc := ⟨.hbm, 139, rfl⟩
abbrev main_v102 : Ref sig .tc := ⟨.hbm, 140, rfl⟩
abbrev main_cst_13 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_14 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_15 : Ref sig .tc := ⟨.hbm, 161, rfl⟩
abbrev main_v121 : Ref sig .tc := ⟨.hbm, 162, rfl⟩
abbrev main_v122 : Ref sig .tc := ⟨.hbm, 163, rfl⟩
abbrev main_cst_16 : Ref sig .tc := ⟨.hbm, 164, rfl⟩
abbrev main_v123 : Ref sig .tc := ⟨.hbm, 165, rfl⟩
abbrev main_v124 : Ref sig .tc := ⟨.hbm, 166, rfl⟩
abbrev main_cst_17 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩

abbrev nD : Nat := 1
abbrev τ : Topo := Topo.v7x

variable {F : FTy → Type} [FloatOps F]
-- ==== Kernel4.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x8x6144, .f32⟩
  | .hbm, ⟨29, _⟩ => ⟨S1x8x6144, .f32⟩
  | .hbm, ⟨30, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.Online.lean ====
/- One step of the online softmax for one row, in the extended reals: with real scores (and `⊥` for a masked key) the running
   maximum stays real, and the running sums stay the plain sums scaled by a power of two that cancels in the quotient. -/
module

public import Idealize.ShloMosaic.Lib.Pointwise

@[expose] public section

noncomputable section

namespace Cert.Attn

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The row's running maximum is a real `μ`, and its sums are `E` scaled by `2 ^ (-μ)`. -/
def Inv {n : ℕ} (m : EReal) (a : Fin n → EReal) (E : Fin n → ℝ) : Prop :=
  ∃ μ : ℝ, m = (μ : EReal) ∧ ∀ l, a l = (((2 : ℝ) ^ (-μ) * E l : ℝ) : EReal)

variable {w n : ℕ} (vis : Fin w → Prop) [DecidablePred vis] (s : Fin w → ℝ) (V : Fin w → Fin n → ℝ)

/-- A key's score as the step sees it. -/
def seen (j : Fin w) : EReal := if vis j then (s j : EReal) else ⊥

/-- What the step adds to the sums. -/
def gain (l : Fin n) : ℝ := ∑ j, if vis j then (2 : ℝ) ^ s j * V j l else 0

theorem exp2_real (r : ℝ) : Ideal.exp2 (r : EReal) = (((2 : ℝ) ^ r : ℝ) : EReal) := rfl

theorem seen_exp2 (μ : ℝ) (j : Fin w) :
    Ideal.exp2 (seen vis s j - (μ : EReal)) = ((if vis j then (2 : ℝ) ^ (s j - μ) else 0 : ℝ) : EReal) := by
  unfold seen
  split
  · rw [← EReal.coe_sub, exp2_real]
  · simp

theorem sum_seen (μ : ℝ) (l : Fin n) :
    ∑ j, Ideal.exp2 (seen vis s j - (μ : EReal)) * (V j l : EReal) = (((2 : ℝ) ^ (-μ) * gain vis s V l : ℝ) : EReal) := by
  simp only [seen_exp2, ← EReal.coe_mul, ← coe_sum]
  congr 1
  rw [gain, Finset.mul_sum]
  refine Finset.sum_congr rfl fun j _ => ?_
  split
  · rw [sub_eq_add_neg, Real.rpow_add two_pos]; ring
  · simp

theorem fold_lt_top : Finset.univ.fold max ⊥ (seen vis s) < ⊤ := by
  rw [Finset.fold_max_lt]
  refine ⟨bot_lt_top, fun j _ => ?_⟩
  unfold seen
  split
  · exact EReal.coe_lt_top _
  · exact bot_lt_top

/-- A step with no step before it, some key being visible. -/
theorem first (h : ∃ j, vis j) :
    Inv (max ⊥ (Finset.univ.fold max ⊥ (seen vis s)))
      (fun l => ∑ j, Ideal.exp2 (seen vis s j - max ⊥ (Finset.univ.fold max ⊥ (seen vis s))) * (V j l : EReal))
      (gain vis s V) := by
  have hb : Finset.univ.fold max ⊥ (seen vis s) ≠ ⊥ := by
    obtain ⟨j, hj⟩ := h
    have : seen vis s j ≤ Finset.univ.fold max ⊥ (seen vis s) := by
      rw [Finset.le_fold_max]; exact Or.inr ⟨j, Finset.mem_univ j, le_rfl⟩
    intro e
    rw [e, le_bot_iff, seen, if_pos hj] at this
    exact EReal.coe_ne_bot _ this
  obtain ⟨μ, hμ⟩ : ∃ μ : ℝ, Finset.univ.fold max ⊥ (seen vis s) = (μ : EReal) :=
    ⟨_, (EReal.coe_toReal (fold_lt_top vis s).ne hb).symm⟩
  rw [max_eq_right bot_le, hμ]
  exact ⟨μ, rfl, fun l => sum_seen vis s V μ l⟩

/-- A later step. -/
theorem next {m : EReal} {a : Fin n → EReal} {E : Fin n → ℝ} (h : Inv m a E) :
    Inv (max m (Finset.univ.fold max ⊥ (seen vis s)))
      (fun l => a l * Ideal.exp2 (m - max m (Finset.univ.fold max ⊥ (seen vis s)))
        + ∑ j, Ideal.exp2 (seen vis s j - max m (Finset.univ.fold max ⊥ (seen vis s))) * (V j l : EReal))
      (fun l => E l + gain vis s V l) := by
  obtain ⟨μ, rfl, ha⟩ := h
  obtain ⟨ν, hν⟩ : ∃ ν : ℝ, max (μ : EReal) (Finset.univ.fold max ⊥ (seen vis s)) = (ν : EReal) :=
    ⟨_, (EReal.coe_toReal (max_lt (EReal.coe_lt_top μ) (fold_lt_top vis s)).ne
      (lt_of_lt_of_le (EReal.bot_lt_coe μ) (le_max_left _ _)).ne').symm⟩
  rw [hν]
  refine ⟨ν, rfl, fun l => ?_⟩
  simp only
  rw [sum_seen, ha, ← EReal.coe_sub, exp2_real, ← EReal.coe_mul, ← EReal.coe_add]
  congr 1
  rw [sub_eq_add_neg, Real.rpow_add two_pos]
  have : (2 : ℝ) ^ (-μ) * (2 : ℝ) ^ μ = 1 := by rw [← Real.rpow_add two_pos]; simp
  linear_combination (E l * (2 : ℝ) ^ (-ν)) * this

end Cert.Attn
-- ==== Proof.Spec.lean ====
/- What the attention call computes, over the reals: the causal softmax mean, and the softmax of one row in the
   extended reals. -/
module

public import Idealize.ShloMosaic.Lib.Pointwise
public import proofs.«01_k».proof.Proof.Online

@[expose] public section

noncomputable section

namespace Cert.Attn

open Idealize.ShloMosaic Idealize.ShloMosaic.Pointwise

/-- The softmax weight of key `k` among the first `n`. -/
def weight (S : ℕ → ℝ) (n k : ℕ) : ℝ := if k < n then Real.exp (S k) / ∑ j ∈ Finset.range n, Real.exp (S j) else 0

/-- The softmax mean of the first `n` keys' values. -/
def softmean (S V : ℕ → ℝ) (n : ℕ) : ℝ :=
  (∑ k ∈ Finset.range n, Real.exp (S k) * V k) / ∑ k ∈ Finset.range n, Real.exp (S k)

/-- Weights in base two, of logits shifted by a constant. -/
theorem softmean_two (s S V : ℕ → ℝ) (C : ℝ) (n : ℕ) (h : ∀ k < n, s k * Real.log 2 = S k - C) :
    (∑ k ∈ Finset.range n, (2 : ℝ) ^ s k * V k) / (∑ k ∈ Finset.range n, (2 : ℝ) ^ s k) = softmean S V n := by
  have e : ∀ k < n, (2 : ℝ) ^ s k = Real.exp (-C) * Real.exp (S k) := fun k hk => by
    rw [Real.rpow_def_of_pos two_pos, mul_comm, h k hk, ← Real.exp_add]; congr 1; ring
  rw [Finset.sum_congr rfl fun k hk => by rw [e k (Finset.mem_range.mp hk), mul_assoc],
    Finset.sum_congr (g := fun k => Real.exp (-C) * Real.exp (S k)) rfl fun k hk => e k (Finset.mem_range.mp hk),
    ← Finset.mul_sum, ← Finset.mul_sum, mul_div_mul_left _ _ (Real.exp_pos _).ne']
  rfl

theorem sum_weight (S V : ℕ → ℝ) (n : ℕ) (hn : n ≤ 2048) :
    ∑ k : Fin 2048, weight S n k.val * V k.val = softmean S V n := by
  rw [Fin.sum_univ_eq_sum_range (fun k => weight S n k * V k) 2048, softmean, Finset.sum_div]
  rw [← Finset.sum_subset (Finset.range_subset_range.mpr hn)]
  · exact Finset.sum_congr rfl fun k hk => by rw [weight, if_pos (Finset.mem_range.mp hk)]; ring
  · intro k _ hk
    rw [weight, if_neg (by simpa using hk), zero_mul]

/-- The largest of a row's logits, of which one is real and none infinite above, is real. -/
theorem fold_max_real {ι : Type*} [Fintype ι] (x : ι → EReal) (i : ι) (hi : x i ≠ ⊥) (hx : ∀ j, x j ≠ ⊤) :
    ∃ μ : ℝ, Finset.univ.fold max ⊥ x = (μ : EReal) := by
  have h1 : Finset.univ.fold max ⊥ x ≠ ⊤ := by
    have : Finset.univ.fold max ⊥ x < ⊤ := by
      rw [Finset.fold_max_lt]; exact ⟨bot_lt_top, fun j _ => lt_top_iff_ne_top.mpr (hx j)⟩
    exact this.ne
  have h2 : Finset.univ.fold max ⊥ x ≠ ⊥ := by
    have : ⊥ < Finset.univ.fold max ⊥ x := by
      rw [Finset.lt_fold_max]; exact Or.inr ⟨i, Finset.mem_univ _, bot_lt_iff_ne_bot.mpr hi⟩
    exact this.ne'
  exact ⟨_, (EReal.coe_toReal h1 h2).symm⟩

/-- The softmax of a causally masked row is its weights. -/
theorem softmax_row (x : Fin 2048 → EReal) (S : ℕ → ℝ) (R : Fin 2048)
    (hx : ∀ k : Fin 2048, x k = if k.val ≤ R.val then (S k.val : EReal) else ⊥) (M : EReal)
    (hM : M = Finset.univ.fold max ⊥ x) (k : Fin 2048) :
    Ideal.div (Ideal.exp (x k - M)) (∑ j : Fin 2048, Ideal.exp (x j - M)) = (weight S (R.val + 1) k.val : EReal) := by
  obtain ⟨μ, hμ⟩ := fold_max_real x R (by rw [hx, if_pos le_rfl]; exact EReal.coe_ne_bot _)
    (fun j => by rw [hx]; split <;> simp)
  rw [hM, hμ]
  have e : ∀ j : Fin 2048, Ideal.exp (x j - (μ : EReal))
      = ((if j.val < R.val + 1 then Real.exp (S j.val - μ) else 0 : ℝ) : EReal) := fun j => by
    rw [hx]
    by_cases h : j.val ≤ R.val
    · rw [if_pos h, if_pos (Nat.lt_succ_of_le h), ← EReal.coe_sub]; rfl
    · rw [if_neg h, if_neg (by omega), EReal.bot_sub]; rfl
  have hs : (∑ j : Fin 2048, if j.val < R.val + 1 then Real.exp (S j.val - μ) else 0)
      = Real.exp (-μ) * ∑ j ∈ Finset.range (R.val + 1), Real.exp (S j) := by
    rw [Fin.sum_univ_eq_sum_range (fun j => if j < R.val + 1 then Real.exp (S j - μ) else 0) 2048,
      ← Finset.sum_subset (Finset.range_subset_range.mpr (show R.val + 1 ≤ 2048 by omega)) fun j _ hj => if_neg (by simpa using hj),
      Finset.mul_sum]
    exact Finset.sum_congr rfl fun j hj => by
      rw [if_pos (Finset.mem_range.mp hj), ← Real.exp_add]; congr 1; ring
  have hp : 0 < ∑ j ∈ Finset.range (R.val + 1), Real.exp (S j) :=
    Finset.sum_pos (fun _ _ => Real.exp_pos _) ⟨0, by simp⟩
  rw [Finset.sum_congr rfl fun j _ => e j, ← coe_sum, e, hs,
    Ideal.div_coe (mul_pos (Real.exp_pos _) hp).ne', ← EReal.coe_mul, weight]
  congr 1
  split
  · rw [sub_eq_add_neg, Real.exp_add]; field_simp
  · ring

/-! ## The arrays as reals -/

/-- An array of three axes as real numbers, rows and columns by number. -/
def arr {B N M : ℕ} [NeZero N] [NeZero M] (A : (⟨3, ![B, N, M]⟩ : Shape).Idx → EReal) (b : Fin B) (k c : ℕ) : ℝ :=
  (A (ix3 b (Fin.ofNat N k) (Fin.ofNat M c))).toReal

/-- Every entry of an array is a real number. -/
def Real3 {s : Shape} (A : s.Idx → EReal) : Prop := ∀ i, A i ≠ ⊤ ∧ A i ≠ ⊥

theorem arr_eq {B N M : ℕ} [NeZero N] [NeZero M] {A : (⟨3, ![B, N, M]⟩ : Shape).Idx → EReal} (h : Real3 A) (b : Fin B)
    (k : Fin N) (c : Fin M) (K C : ℕ) (hk : k.val = K) (hc : c.val = C) : A (ix3 b k c) = (arr A b K C : EReal) := by
  subst hk hc
  rw [arr, show Fin.ofNat N k.val = k from Fin.ext (Nat.mod_eq_of_lt k.isLt),
    show Fin.ofNat M c.val = c from Fin.ext (Nat.mod_eq_of_lt c.isLt), EReal.coe_toReal (h _).1 (h _).2]

/-- The sum of the first `k + 1` log gates. -/
def cum (F : Fin 8 → ℕ → ℕ → ℝ) (b : Fin 8) (h k : ℕ) : ℝ := ∑ j ∈ Finset.range (k + 1), F b h j

/-- The forgetting head's logit. -/
def foxLogit (q k : Fin 8 → ℕ → ℕ → ℝ) (F : Fin 8 → ℕ → ℕ → ℝ) (b : Fin 8) (h R j : ℕ) : ℝ :=
  (∑ l : Fin 64, q b R (64 * h + l.val) * k b j (64 * h + l.val)) / 8 + cum F b h R - cum F b h j

/-- The forgetting heads' result. -/
def foxSpec (q k v : Fin 8 → ℕ → ℕ → ℝ) (F : Fin 8 → ℕ → ℕ → ℝ) (b : Fin 8) (R c : ℕ) : ℝ :=
  softmean (foxLogit q k F b (c / 64) R) (fun j => v b j c) (R + 1)

/-- The slope of a differential head. -/
def alibi (h : ℕ) : ℝ := (2 : ℝ) ^ (-2 * ((h : ℝ) + 1))

/-- The logit of one of a differential head's two softmaxes. -/
def diffLogit (q k : Fin 8 → ℕ → ℕ → ℝ) (b : Fin 8) (h e R j : ℕ) : ℝ :=
  (∑ l : Fin 64, q b R (128 * h + 64 * e + l.val) * k b j (128 * h + 64 * e + l.val)) / 8
    + -alibi h * ((R : ℝ) - (j : ℝ))

/-- The differential heads' mix of two softmaxes. -/
def mixSpec (lam : ℝ) (q k v : Fin 8 → ℕ → ℕ → ℝ) (b : Fin 8) (h R c : ℕ) : ℝ :=
  softmean (diffLogit q k b h 0 R) (fun j => v b j c) (R + 1)
    - lam * softmean (diffLogit q k b h 1 R) (fun j => v b j c) (R + 1)

/-- A row's norm, times the gain and the differential heads' factor. -/
def normRow (o : Fin 128 → EReal) (g : EReal) (l : Fin 128) : EReal :=
  o l * Ideal.rsqrt (Ideal.div (∑ k : Fin 128, o k * o k) (Ideal.ofBits .f32 0x43000000#32)
    + Ideal.ofBits .f32 0x358637BD#32) * g * Ideal.ofBits .f32 0x3F4CCCCD#32

end Cert.Attn
-- ==== Proof.Cumsum.lean ====
/- The running sum along the last axis, read at an index. -/
module

public import proofs.«01_k».proof.Proof.Spec

@[expose] public section

set_option maxRecDepth 16384

noncomputable section

namespace Cert.Attn

open Idealize.ShloMosaic Idealize.ShloMosaic.Pointwise

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A window of one row of 2048 positions is its positions. -/
def lastAxis : (⟨3, ![1, 1, 2048]⟩ : Shape).Idx ≃ Fin 2048 where
  toFun w := w 2
  invFun j := ix3 0 0 j
  left_inv w := by
    funext a
    match a with
    | ⟨0, _⟩ => exact Subsingleton.elim (α := Fin 1) _ _
    | ⟨1, _⟩ => exact Subsingleton.elim (α := Fin 1) _ _
    | ⟨2, _⟩ => rfl
  right_inv j := rfl

theorem cumsum_apply (x : (⟨3, ![8, 8, 2048]⟩ : Shape).Idx → EReal) (init : FVec Ideal ⟨0, ![]⟩ .f32) (hi : ∀ i, init i = (0 : EReal))
    (h : (⟨3, ![8, 8, 2048]⟩ : Shape).ReduceWindows (![1, 1, 2048] : Fin 3 → ℕ) ![1, 1, 1] ![0, 0, 2047] ![0, 0, 0] ⟨3, ![8, 8, 2048]⟩)
    (hu : 0 < (⟨0, ![]⟩ : Shape).numel) (hx : Real3 x) (b e : Fin 8) (k : Fin 2048) :
    Host.reduceWindowAdd (F := Ideal) (φ := .f32) ![1, 1, 2048] ![1, 1, 1] ![0, 0, 2047] ![0, 0, 0] x init h hu (ix3 b e k)
      = (cum (arr x) b e.val k.val : EReal) := by
  rw [Host.reduceWindowAdd, Ideal.hostReduceWindowAdd_def, hi, Ideal.hostReduceWindowAdd, Host.reduceWindow]
  dsimp only
  rw [foldl_add, zero_add, ← Fin.sum_univ_def]
  have e1 : ∀ (w' : (⟨3, ![1, 1, 2048]⟩ : Shape).Idx) (w : Fin 2048), w' = lastAxis.symm w → (if hin : ∀ a : Fin 3, (![0, 0, 2047] : Fin 3 → ℕ) a ≤ (ix3 b e k (a.cast h.1.symm)).val * (![1, 1, 1] : Fin 3 → ℕ) a + (w' a).val
      ∧ (ix3 b e k (a.cast h.1.symm)).val * (![1, 1, 1] : Fin 3 → ℕ) a + (w' a).val - (![0, 0, 2047] : Fin 3 → ℕ) a < (⟨3, ![8, 8, 2048]⟩ : Shape).size a
    then x (fun a => ⟨_, (hin a).2⟩) else (0 : EReal)) = ((if 2047 ≤ k.val + w.val then arr x b e.val (k.val + w.val - 2047) else 0 : ℝ) : EReal) := by
    rintro w' w rfl
    by_cases hw : 2047 ≤ k.val + w.val
    · rw [if_pos hw, dif_pos]
      · rw [← arr_eq hx b e ⟨k.val + w.val - 2047, by omega⟩ _ _ rfl rfl]
        refine congrArg x (funext fun a => Fin.ext ?_)
        match a with
        | ⟨0, _⟩ => show b.val * 1 + 0 - 0 = b.val; omega
        | ⟨1, _⟩ => show e.val * 1 + 0 - 0 = e.val; omega
        | ⟨2, _⟩ => show k.val * 1 + w.val - 2047 = k.val + w.val - 2047; omega
      · intro a
        match a with
        | ⟨0, _⟩ => show 0 ≤ b.val * 1 + 0 ∧ b.val * 1 + 0 - 0 < 8; omega
        | ⟨1, _⟩ => show 0 ≤ e.val * 1 + 0 ∧ e.val * 1 + 0 - 0 < 8; omega
        | ⟨2, _⟩ => show 2047 ≤ k.val * 1 + w.val ∧ k.val * 1 + w.val - 2047 < 2048; omega
    · rw [if_neg hw, dif_neg]
      · rfl
      · intro hin
        have h2 : 2047 ≤ k.val * 1 + w.val := (hin 2).1
        omega
  refine (Equiv.sum_comp (lastAxis.symm.trans ((⟨3, ![1, 1, 2048]⟩ : Shape).rowMajor)) _).symm.trans ?_
  refine (Finset.sum_congr rfl fun w _ => by convert e1 _ w (Equiv.symm_apply_apply (⟨3, ![1, 1, 2048]⟩ : Shape).rowMajor _); all_goals rfl).trans ?_
  rw [← coe_sum,
    Fin.sum_univ_eq_sum_range (fun w => if 2047 ≤ k.val + w then arr x b e.val (k.val + w - 2047) else 0) 2048, cum]
  congr 1
  rw [← Finset.sum_filter]
  refine Finset.sum_nbij' (fun w => k.val + w - 2047) (fun j => j + 2047 - k.val) ?_ ?_ ?_ ?_ ?_ <;> intro j hj <;>
    simp only [Finset.mem_filter, Finset.mem_range] at hj ⊢ <;> omega

end Cert.Attn
-- ==== Proof.Host.lean ====
/- The kernel's operands, read at an index. -/
module

public import proofs.«01_k».proof.Proof.Cumsum
public import proofs.«01_k».proof.Proof.Gen.KernelIdeal.Value
public import Idealize.ShloMosaic.Lib.StableHlo.ReadAt

@[expose] public section

set_option maxRecDepth 16384

noncomputable section

namespace Cert.Attn

open Idealize.ShloMosaic Idealize.ShloMosaic.TcCoe Idealize.ShloMosaic.Tactic Idealize.ShloMosaic.Pointwise Idealize.SL.Sem
open Cert.KernelIdeal Cert.KernelIdeal.Gen Cert.KernelIdeal.Facts

variable (m : (ℓ : Loc nD τ sig) → Buf (Elt Ideal) ℓ) (c : Dev nD)

/-- The argument arrays. -/
abbrev kArg0 : Vec Ideal S8x2048x512 .f32 := m ((c : Thread nD τ).loc main_arg0)
abbrev kArg1 : Vec Ideal S8x2048x512 .f32 := m ((c : Thread nD τ).loc main_arg1)
abbrev kArg2 : Vec Ideal S8x2048x512 .f32 := m ((c : Thread nD τ).loc main_arg2)
abbrev kArg3 : Vec Ideal S8x8x2048 .f32 := m ((c : Thread nD τ).loc main_arg3)
abbrev kArg4 : Vec Ideal S8x2048x512 .f32 := m ((c : Thread nD τ).loc main_arg4)
abbrev kArg5 : Vec Ideal S8x2048x512 .f32 := m ((c : Thread nD τ).loc main_arg5)
abbrev kArg6 : Vec Ideal S8x2048x512 .f32 := m ((c : Thread nD τ).loc main_arg6)
abbrev kArg7 : Vec Ideal S4x64 .f32 := m ((c : Thread nD τ).loc main_arg7)
abbrev kArg8 : Vec Ideal S128 .f32 := m ((c : Thread nD τ).loc main_arg8)

/-- The divisor of the queries. -/
def qkDiv : EReal := Ideal.log (Ideal.ofBits .f32 0x40000000#32) * Ideal.ofBits .f32 0x41000000#32

theorem V10 (b : Fin 8) (r : Fin 2048) (k : Fin 512) : (V m c main_v10 : Vec Ideal S8x2048x512 .bf16) (ix3 b r k) = Ideal.div (kArg0 m c (ix3 b r k)) qkDiv := by
  unfold V
  after_reads_at
  rfl

theorem V11 (b : Fin 8) (r : Fin 2048) (k : Fin 512) : (V m c main_v11 : Vec Ideal S8x2048x512 .bf16) (ix3 b r k) = kArg1 m c (ix3 b r k) := by
  unfold V
  after_reads_at
theorem V12 (b : Fin 8) (r : Fin 2048) (k : Fin 512) : (V m c main_v12 : Vec Ideal S8x2048x512 .bf16) (ix3 b r k) = kArg2 m c (ix3 b r k) := by
  unfold V
  after_reads_at
theorem V16 (b : Fin 8) (r : Fin 2048) (k : Fin 512) : (V m c main_v16 : Vec Ideal S8x2048x512 .bf16) (ix3 b r k) = Ideal.div (kArg4 m c (ix3 b r k)) qkDiv := by
  unfold V
  after_reads_at
  rfl
theorem V17 (b : Fin 8) (r : Fin 2048) (k : Fin 512) : (V m c main_v17 : Vec Ideal S8x2048x512 .bf16) (ix3 b r k) = kArg5 m c (ix3 b r k) := by
  unfold V
  after_reads_at
theorem V18 (b : Fin 8) (r : Fin 2048) (k : Fin 512) : (V m c main_v18 : Vec Ideal S8x2048x512 .bf16) (ix3 b r k) = kArg6 m c (ix3 b r k) := by
  unfold V
  after_reads_at
theorem V19 (k : Fin 128) : (V m c main_v19 : Vec Ideal S1x128 .f32) (ix2 0 k) = kArg8 m c (ix1 k) := by
  unfold V
  after_reads_at
theorem V6 (b e : Fin 8) (k : Fin 2048) (h : Real3 (kArg3 m c)) :
    (V m c main_v6 : Vec Ideal S8x8x2048 .f32) (ix3 b e k)
      = Ideal.div (-(cum (arr (kArg3 m c)) b e.val k.val : EReal)) (Ideal.log (Ideal.ofBits .f32 0x40000000#32)) := by
  rw [← cumsum_apply (kArg3 m c) (broadcastInDim S_ ![] bcast_S_S_ (constant S_ .f32 0x00000000#32)) (fun _ => (by simp [Ideal.ofBits, Ideal.ieee] : Ideal.ofBits .f32 0x00000000#32 = 0)) reduceWindows_S8x8x2048_S8x8x2048_w1s1p0_0_w1s1p0_0_w2048s1p2047_0 h_S_ h b e k]
  unfold V
  after_reads_at
  rfl

end Cert.Attn
-- ==== Proof.Steps.lean ====
/- The attention kernel's inner loop as functions of vectors: one function per kind of step of the online
   softmax, for a query tile of 512 rows and two heads that share their keys. The four query tiles of either
   half of the kernel are compositions of these. -/
module

public import proofs.«01_k».proof.Proof.Gen.KernelIdeal.Skeleton

@[expose] public section

noncomputable section

namespace Cert.Attn

open Idealize.ShloMosaic Idealize.SL.Sem Cert.KernelIdeal Cert.KernelIdeal.Gen Cert.KernelIdeal.Facts

variable {F : FTy → Type} [FloatOps F] [Named F]

/-! ## The queries, the values beside ones, the bias rows -/

/-- Which of the 128 lanes are in the first half. -/
def loMask : IVec S512x128 1 :=
  cmpi .slt (iota .tc S512x128 32 [1] iota_S512x128_d1_w32) (broadcast S512x128 64#32)

def zeroQ : FVec F S512x128 .bf16 := broadcast S512x128 (Scalar.ofBits .bf16 0x0000#16)

/-- The query tile with its second half of lanes zeroed. -/
def qLo (q : Vec F S1x512x128 .bf16) : FVec F S512x128 .bf16 :=
  select loMask (shapeCast S512x128 q shapeCasts_S1x512x128_S512x128) zeroQ

/-- The query tile with its first half of lanes zeroed. -/
def qHi (q : Vec F S1x512x128 .bf16) : FVec F S512x128 .bf16 :=
  select loMask zeroQ (shapeCast S512x128 q shapeCasts_S1x512x128_S512x128)

/-- No key seen yet: the running maximum. -/
def mInit : FVec F S512x1 .f32 := broadcast S512x1 (Named.named κ "mask" 0xF149F2CA#32)

/-- 512 value rows beside 128 columns of ones. -/
def vOnesW (v : Vec F S1x512x128 .bf16) : FVec F S512x256 .bf16 :=
  concatenate S512x256 1 [⟨S512x128, shapeCast S512x128 v shapeCasts_S1x512x128_S512x128⟩,
    ⟨S512x128, broadcast S512x128 (Scalar.ofBits .bf16 0x3F80#16)⟩] concatenates_S512x128_S512x128_S512x256_d1

/-- 256 value rows beside 128 columns of ones. -/
def vOnesN (v : Vec F S1x256x128 .bf16) : FVec F S256x256 .bf16 :=
  concatenate S256x256 1 [⟨S256x128, shapeCast S256x128 v shapeCasts_S1x256x128_S256x128⟩,
    ⟨S256x128, broadcast S256x128 (Scalar.ofBits .bf16 0x3F80#16)⟩] concatenates_S256x128_S256x128_S256x256_d1

/-- A loaded bias row of 512 keys. -/
def rowW (b : Vec F S1x1x512 .f32) : FVec F S1x512 .f32 := shapeCast S1x512 b shapeCasts_S1x1x512_S1x512
/-- A loaded bias row of 256 keys. -/
def rowN (b : Vec F S1x1x256 .f32) : FVec F S1x256 .f32 := shapeCast S1x256 b shapeCasts_S1x1x256_S1x256

/-- The slope's bias row of the 512 keys from `start` on. -/
def slopeW (slope : FVec F S1x1 .f32) (start : BitVec 32) : FVec F S1x512 .f32 :=
  mulf (broadcastTo S1x512 (mulf (broadcast S1x1 (Named.named κ "log2e" 0x3FB8AA3B#32)) slope) broadcasts_S1x1_S1x512)
    (sitofp .f32 (addi (broadcast S1x512 start) (iota .tc S1x512 32 [1] iota_S1x512_d1_w32)))
/-- The slope's bias row of the 256 keys from `start` on. -/
def slopeN (slope : FVec F S1x1 .f32) (start : BitVec 32) : FVec F S1x256 .f32 :=
  mulf (broadcastTo S1x256 (mulf (broadcast S1x1 (Named.named κ "log2e" 0x3FB8AA3B#32)) slope) broadcasts_S1x1_S1x256)
    (sitofp .f32 (addi (broadcast S1x256 start) (iota .tc S1x256 32 [1] iota_S1x256_d1_w32)))

/-! ## A step over 512 keys, all of them before the tile -/

/-- The scores of both heads against 512 keys. -/
def scoreW (q0 q1 : FVec F S512x128 .bf16) (k : Vec F S1x512x128 .bf16) : FVec F S1024x512 .f32 :=
  matmul dot_S1024x128_S512x128_S1024x512_1_1_0_0_n_n none
    (concatenate S1024x128 0 [⟨S512x128, q0⟩, ⟨S512x128, q1⟩] concatenates_S512x128_S512x128_S1024x128_d0)
    (shapeCast S512x128 k shapeCasts_S1x512x128_S512x128) (constant S1024x512 .f32 0x00000000#32)

def logitW0 (s : FVec F S1024x512 .f32) (b : FVec F S1x512 .f32) : FVec F S512x512 .f32 :=
  addf (extractStridedSlice S512x512 ![0, 0] s slices_S1024x512_o0_0_S512x512) (broadcastTo S512x512 b broadcasts_S1x512_S512x512)
def logitW1 (s : FVec F S1024x512 .f32) (b : FVec F S1x512 .f32) : FVec F S512x512 .f32 :=
  addf (extractStridedSlice S512x512 ![512, 0] s slices_S1024x512_o512_0_S512x512) (broadcastTo S512x512 b broadcasts_S1x512_S512x512)

def maxW (m : FVec F S512x1 .f32) (x : FVec F S512x512 .f32) : FVec F S512x1 .f32 :=
  maximumf m (shapeCast S512x1 (multiReduction .maximumf [1] S512 x 0xFF800000#32 reduces_S512x512_S512 (.inl rfl) rfl) shapeCasts_S512_S512x1)

def weightW (x : FVec F S512x512 .f32) (m : FVec F S512x1 .f32) : FVec F S512x512 .bf16 :=
  truncf .bf16 (exp2 (subf x (broadcastTo S512x512 m broadcasts_S512x1_S512x512))) bitsLt_bf16_f32

def sumW (p0 p1 : FVec F S512x512 .bf16) (v : FVec F S512x256 .bf16) : FVec F S1024x256 .f32 :=
  matmul dot_S1024x512_S512x256_S1024x256_1_0_0_1_n_n none
    (concatenate S1024x512 0 [⟨S512x512, p0⟩, ⟨S512x512, p1⟩] concatenates_S512x512_S512x512_S1024x512_d0)
    v (constant S1024x256 .f32 0x00000000#32)

def half0 (pv : FVec F S1024x256 .f32) : FVec F S512x256 .f32 := extractStridedSlice S512x256 ![0, 0] pv slices_S1024x256_o0_0_S512x256
def half1 (pv : FVec F S1024x256 .f32) : FVec F S512x256 .f32 := extractStridedSlice S512x256 ![512, 0] pv slices_S1024x256_o512_0_S512x256

/-- The old sums, rescaled from the old maximum to the new one, and the step's. -/
def accum (a : FVec F S512x256 .f32) (m m' : FVec F S512x1 .f32) (pv : FVec F S512x256 .f32) : FVec F S512x256 .f32 :=
  addf (mulf a (broadcastTo S512x256 (exp2 (subf m m')) broadcasts_S512x1_S512x256)) pv

/-- The running maxima and sums of the two heads. -/
structure St (F : FTy → Type) [FloatOps F] where
  m0 : FVec F S512x1 .f32
  m1 : FVec F S512x1 .f32
  a0 : FVec F S512x256 .f32
  a1 : FVec F S512x256 .f32

/-- The first step, over 512 keys. -/
def firstW (q0 q1 : FVec F S512x128 .bf16) (k v : Vec F S1x512x128 .bf16) (b0 b1 : FVec F S1x512 .f32) : St F :=
  let s := scoreW q0 q1 k
  let x0 := logitW0 s b0
  let x1 := logitW1 s b1
  let m0 := maxW mInit x0
  let m1 := maxW mInit x1
  let pv := sumW (weightW x0 m0) (weightW x1 m1) (vOnesW v)
  ⟨m0, m1, half0 pv, half1 pv⟩

/-- A later step, over 512 keys. -/
def nextW (q0 q1 : FVec F S512x128 .bf16) (t : St F) (k v : Vec F S1x512x128 .bf16) (b0 b1 : FVec F S1x512 .f32) : St F :=
  let s := scoreW q0 q1 k
  let x0 := logitW0 s b0
  let x1 := logitW1 s b1
  let m0 := maxW t.m0 x0
  let m1 := maxW t.m1 x1
  let pv := sumW (weightW x0 m0) (weightW x1 m1) (vOnesW v)
  ⟨m0, m1, accum t.a0 t.m0 m0 (half0 pv), accum t.a1 t.m1 m1 (half1 pv)⟩

/-! ## The step over the tile's first 256 keys -/

def causal (x : FVec F S256x256 .f32) : FVec F S256x256 .f32 :=
  select (cmpi .sle (iota .tc S256x256 32 [1] iota_S256x256_d1_w32) (iota .tc S256x256 32 [0] iota_S256x256_d0_w32)) x
    (broadcast S256x256 (Named.named κ "mask" 0xF149F2CA#32))

def scoreN (q0 q1 : FVec F S512x128 .bf16) (k : Vec F S1x256x128 .bf16) : FVec F S1024x256 .f32 :=
  matmul dot_S1024x128_S256x128_S1024x256_1_1_0_0_n_n none
    (concatenate S1024x128 0 [⟨S512x128, q0⟩, ⟨S512x128, q1⟩] concatenates_S512x128_S512x128_S1024x128_d0)
    (shapeCast S256x128 k shapeCasts_S1x256x128_S256x128) (constant S1024x256 .f32 0x00000000#32)

/-- The first 256 rows see a triangle of the keys, the last 256 all of them. -/
def tri (x : FVec F S512x256 .f32) : FVec F S512x256 .f32 :=
  concatenate S512x256 0 [⟨S256x256, causal (extractStridedSlice S256x256 ![0, 0] x slices_S512x256_o0_0_S256x256)⟩,
    ⟨S256x256, extractStridedSlice S256x256 ![256, 0] x slices_S512x256_o256_0_S256x256⟩] concatenates_S256x256_S256x256_S512x256_d0

def logitN0 (s : FVec F S1024x256 .f32) (b : FVec F S1x256 .f32) : FVec F S512x256 .f32 :=
  tri (addf (half0 s) (broadcastTo S512x256 b broadcasts_S1x256_S512x256))
def logitN1 (s : FVec F S1024x256 .f32) (b : FVec F S1x256 .f32) : FVec F S512x256 .f32 :=
  tri (addf (half1 s) (broadcastTo S512x256 b broadcasts_S1x256_S512x256))

def maxN (m : FVec F S512x1 .f32) (x : FVec F S512x256 .f32) : FVec F S512x1 .f32 :=
  maximumf m (shapeCast S512x1 (multiReduction .maximumf [1] S512 x 0xFF800000#32 reduces_S512x256_S512 (.inl rfl) rfl) shapeCasts_S512_S512x1)

def weightN (x : FVec F S512x256 .f32) (m : FVec F S512x1 .f32) : FVec F S512x256 .bf16 :=
  truncf .bf16 (exp2 (subf x (broadcastTo S512x256 m broadcasts_S512x1_S512x256))) bitsLt_bf16_f32

def sumN (p0 p1 : FVec F S512x256 .bf16) (v : FVec F S256x256 .bf16) : FVec F S1024x256 .f32 :=
  matmul dot_S1024x256_S256x256_S1024x256_1_0_0_1_n_n none
    (concatenate S1024x256 0 [⟨S512x256, p0⟩, ⟨S512x256, p1⟩] concatenates_S512x256_S512x256_S1024x256_d0)
    v (constant S1024x256 .f32 0x00000000#32)

/-- The same where no step came before (the first tile). -/
def firstN (q0 q1 : FVec F S512x128 .bf16) (k v : Vec F S1x256x128 .bf16) (b0 b1 : FVec F S1x256 .f32) : St F :=
  let s := scoreN q0 q1 k
  let x0 := logitN0 s b0
  let x1 := logitN1 s b1
  let m0 := maxN mInit x0
  let m1 := maxN mInit x1
  let pv := sumN (weightN x0 m0) (weightN x1 m1) (vOnesN v)
  ⟨m0, m1, half0 pv, half1 pv⟩

def nextN (q0 q1 : FVec F S512x128 .bf16) (t : St F) (k v : Vec F S1x256x128 .bf16) (b0 b1 : FVec F S1x256 .f32) : St F :=
  let s := scoreN q0 q1 k
  let x0 := logitN0 s b0
  let x1 := logitN1 s b1
  let m0 := maxN t.m0 x0
  let m1 := maxN t.m1 x1
  let pv := sumN (weightN x0 m0) (weightN x1 m1) (vOnesN v)
  ⟨m0, m1, accum t.a0 t.m0 m0 (half0 pv), accum t.a1 t.m1 m1 (half1 pv)⟩

/-! ## The step of the tile's last 256 rows over its last 256 keys -/

def botQ (q : FVec F S512x128 .bf16) : FVec F S256x128 .bf16 := extractStridedSlice S256x128 ![256, 0] q slices_S512x128_o256_0_S256x128
def botM (m : FVec F S512x1 .f32) : FVec F S256x1 .f32 := extractStridedSlice S256x1 ![256, 0] m slices_S512x1_o256_0_S256x1
def top (a : FVec F S512x256 .f32) : FVec F S256x256 .f32 := extractStridedSlice S256x256 ![0, 0] a slices_S512x256_o0_0_S256x256
def bot (a : FVec F S512x256 .f32) : FVec F S256x256 .f32 := extractStridedSlice S256x256 ![256, 0] a slices_S512x256_o256_0_S256x256

def scoreL (q0 q1 : FVec F S512x128 .bf16) (k : Vec F S1x256x128 .bf16) : FVec F S512x256 .f32 :=
  matmul dot_S512x128_S256x128_S512x256_1_1_0_0_n_n none
    (concatenate S512x128 0 [⟨S256x128, botQ q0⟩, ⟨S256x128, botQ q1⟩] concatenates_S256x128_S256x128_S512x128_d0)
    (shapeCast S256x128 k shapeCasts_S1x256x128_S256x128) (constant S512x256 .f32 0x00000000#32)

def logitL0 (s : FVec F S512x256 .f32) (b : FVec F S1x256 .f32) : FVec F S256x256 .f32 :=
  causal (addf (top s) (broadcastTo S256x256 b broadcasts_S1x256_S256x256))
def logitL1 (s : FVec F S512x256 .f32) (b : FVec F S1x256 .f32) : FVec F S256x256 .f32 :=
  causal (addf (bot s) (broadcastTo S256x256 b broadcasts_S1x256_S256x256))

def maxL (m : FVec F S256x1 .f32) (x : FVec F S256x256 .f32) : FVec F S256x1 .f32 :=
  maximumf m (shapeCast S256x1 (multiReduction .maximumf [1] S256 x 0xFF800000#32 reduces_S256x256_S256 (.inl rfl) rfl) shapeCasts_S256_S256x1)

def weightL (x : FVec F S256x256 .f32) (m : FVec F S256x1 .f32) : FVec F S256x256 .bf16 :=
  truncf .bf16 (exp2 (subf x (broadcastTo S256x256 m broadcasts_S256x1_S256x256))) bitsLt_bf16_f32

def sumL (p0 p1 : FVec F S256x256 .bf16) (v : FVec F S256x256 .bf16) : FVec F S512x256 .f32 :=
  matmul dot_S512x256_S256x256_S512x256_1_0_0_1_n_n none
    (concatenate S512x256 0 [⟨S256x256, p0⟩, ⟨S256x256, p1⟩] concatenates_S256x256_S256x256_S512x256_d0)
    v (constant S512x256 .f32 0x00000000#32)

def accumL (a : FVec F S512x256 .f32) (m m' : FVec F S256x1 .f32) (pv : FVec F S256x256 .f32) : FVec F S512x256 .f32 :=
  concatenate S512x256 0 [⟨S256x256, top a⟩,
    ⟨S256x256, addf (mulf (bot a) (broadcastTo S256x256 (exp2 (subf m m')) broadcasts_S256x1_S256x256)) pv⟩]
    concatenates_S256x256_S256x256_S512x256_d0

/-- The sums of the two heads after the last step. -/
structure Sums (F : FTy → Type) [FloatOps F] where
  a0 : FVec F S512x256 .f32
  a1 : FVec F S512x256 .f32

def last (q0 q1 : FVec F S512x128 .bf16) (t : St F) (k v : Vec F S1x256x128 .bf16) (b0 b1 : FVec F S1x256 .f32) : Sums F :=
  let s := scoreL q0 q1 k
  let x0 := logitL0 s b0
  let x1 := logitL1 s b1
  let m0 := maxL (botM t.m0) x0
  let m1 := maxL (botM t.m1) x1
  let pv := sumL (weightL x0 m0) (weightL x1 m1) (vOnesN v)
  ⟨accumL t.a0 (botM t.m0) m0 (top pv), accumL t.a1 (botM t.m1) m1 (bot pv)⟩

/-! ## A tile's steps in turn -/

/-- What a query tile loads: its queries; keys, values and bias rows of the full steps before it, of its first 256 keys, and
   of its last 256. -/
structure Loads (F : FTy → Type) [FloatOps F] where
  q : Vec F S1x512x128 .bf16
  kW : ℕ → Vec F S1x512x128 .bf16
  vW : ℕ → Vec F S1x512x128 .bf16
  bW0 : ℕ → FVec F S1x512 .f32
  bW1 : ℕ → FVec F S1x512 .f32
  kN : Vec F S1x256x128 .bf16
  vN : Vec F S1x256x128 .bf16
  bN0 : FVec F S1x256 .f32
  bN1 : FVec F S1x256 .f32
  kL : Vec F S1x256x128 .bf16
  vL : Vec F S1x256x128 .bf16
  bL0 : FVec F S1x256 .f32
  bL1 : FVec F S1x256 .f32

/-- The state after `n + 1` full steps. -/
def full (L : Loads F) : ℕ → St F
  | 0 => firstW (qLo L.q) (qHi L.q) (L.kW 0) (L.vW 0) (L.bW0 0) (L.bW1 0)
  | n + 1 => nextW (qLo L.q) (qHi L.q) (full L n) (L.kW (n + 1)) (L.vW (n + 1)) (L.bW0 (n + 1)) (L.bW1 (n + 1))

/-- The state of tile `t` before its last step. -/
def diag (L : Loads F) : ℕ → St F
  | 0 => firstN (qLo L.q) (qHi L.q) L.kN L.vN L.bN0 L.bN1
  | n + 1 => nextN (qLo L.q) (qHi L.q) (full L n) L.kN L.vN L.bN0 L.bN1

/-- The sums of tile `t`. -/
def tile (L : Loads F) (t : ℕ) : Sums F := last (qLo L.q) (qHi L.q) (diag L t) L.kL L.vL L.bL0 L.bL1

/-! ## What a tile stores -/

def numer (a : FVec F S512x256 .f32) : FVec F S512x128 .f32 := extractStridedSlice S512x128 ![0, 0] a slices_S512x256_o0_0_S512x128
def denom (a : FVec F S512x256 .f32) : FVec F S512x128 .f32 := extractStridedSlice S512x128 ![0, 128] a slices_S512x256_o0_128_S512x128

/-- The forgetting half: each half of the lanes from its own head. -/
def foxOut (t : Sums F) : FVec F S1x512x128 .bf16 :=
  shapeCast S1x512x128 (truncf .bf16 (divf (select loMask (numer t.a0) (numer t.a1)) (select loMask (denom t.a0) (denom t.a1)))
    bitsLt_bf16_f32) shapeCasts_S512x128_S1x512x128

/-- The differential half's combination of its two softmaxes. -/
def diffMix (lam : FVec F S1x1 .f32) (t : Sums F) : FVec F S512x128 .f32 :=
  subf (divf (numer t.a0) (denom t.a0)) (mulf (broadcastTo S512x128 lam broadcasts_S1x1_S512x128) (divf (numer t.a1) (denom t.a1)))

/-- The root mean square norm of its rows, with the gain and the fixed factor. -/
def diffNorm (o : FVec F S512x128 .f32) (g : Vec F S1x128 .f32) : FVec F S1x512x128 .bf16 :=
  shapeCast S1x512x128 (truncf .bf16
    (mulf (mulf (mulf o (broadcastTo S512x128 (rsqrt (addf (divf
        (shapeCast S512x1 (multiReduction .add [1] S512 (mulf o o) 0x00000000#32 reduces_S512x128_S512 (.inl rfl) rfl) shapeCasts_S512_S512x1)
        (broadcast S512x1 (Scalar.ofBits .f32 0x43000000#32))) (broadcast S512x1 (Scalar.ofBits .f32 0x358637BD#32))))
        broadcasts_S512x1_S512x128))
      (broadcastTo S512x128 (shapeCast S1x128 g shapeCasts_S1x128_S1x128) broadcasts_S1x128_S512x128))
      (broadcast S512x128 (Scalar.ofBits .f32 0x3F4CCCCD#32)))
    bitsLt_bf16_f32) shapeCasts_S512x128_S1x512x128

end Cert.Attn
-- ==== Proof.Tiles.lean ====
/- What the kernel stores at a grid point, tile by tile, in the steps' terms: the four tiles of the forgetting half, the
   four of the differential half. -/
module

public import proofs.«01_k».proof.Proof.Steps
public import Idealize.ShloMosaic.Lib.Pipeline.ValueKit
public import proofs.«01_k».proof.Proof.Gen.KernelIdeal.Frame.RunA
import all proofs.«01_k».proof.Proof.Gen.KernelIdeal.Frame.RunA

@[expose] public section

set_option maxRecDepth 16384

noncomputable section

namespace Cert.Attn

open Idealize.ShloMosaic Idealize.ShloMosaic.TcCoe Idealize.ShloMosaic.Tactic Idealize.SL.Sem Cert.KernelIdeal Cert.KernelIdeal.Gen Cert.KernelIdeal.Facts

variable {F : FTy → Type} [FloatOps F] [Named F]

/-- 512 rows of a block from row `o` on. -/
def ldW (a : Memref sig .tc .vmem S1x2048x128 .bf16) (h : a.IsWhole) (x : Vec F S1x2048x128 .bf16) (o : ℕ)
    (inb : ∀ d, (![0, o, 0] : Fin 3 → ℕ) d + S1x512x128.size d ≤ S1x2048x128.size d) : Vec F S1x512x128 .bf16 :=
  View.readAt (Elt F) a.view (Rect.unit (s := S1x2048x128) ![0, o, 0] S1x512x128.size inb).toLoadRect (h.unread x)

/-- 256 rows of a block from row `o` on. -/
def ldN (a : Memref sig .tc .vmem S1x2048x128 .bf16) (h : a.IsWhole) (x : Vec F S1x2048x128 .bf16) (o : ℕ)
    (inb : ∀ d, (![0, o, 0] : Fin 3 → ℕ) d + S1x256x128.size d ≤ S1x2048x128.size d) : Vec F S1x256x128 .bf16 :=
  View.readAt (Elt F) a.view (Rect.unit (s := S1x2048x128) ![0, o, 0] S1x256x128.size inb).toLoadRect (h.unread x)

/-- A bias row's 512 entries at an offset. -/
def ldBW (a : Memref sig .tc .vmem S1x8x2048 .f32) (h : a.IsWhole) (x : Vec F S1x8x2048 .f32) (off : Fin 3 → ℕ)
    (inb : ∀ d, off d + S1x1x512.size d ≤ S1x8x2048.size d) : Vec F S1x1x512 .f32 :=
  View.readAt (Elt F) a.view (Rect.unit (s := S1x8x2048) off S1x1x512.size inb).toLoadRect (h.unread x)

/-- A bias row's 256 entries at an offset. -/
def ldBN (a : Memref sig .tc .vmem S1x8x2048 .f32) (h : a.IsWhole) (x : Vec F S1x8x2048 .f32) (off : Fin 3 → ℕ)
    (inb : ∀ d, off d + S1x1x256.size d ≤ S1x8x2048.size d) : Vec F S1x1x256 .f32 :=
  View.readAt (Elt F) a.view (Rect.unit (s := S1x8x2048) off S1x1x256.size inb).toLoadRect (h.unread x)

/-- The differential head's slope, from its number. -/
def slope (h : BitVec 32) : FVec F S1x1 .f32 :=
  exp2 (mulf (broadcast S1x1 (Scalar.ofBits .f32 0xC0000000#32)) (sitofp .f32 (addi (broadcast S1x1 h) (broadcast S1x1 1#32))))

/-- The weight of the differential head's second softmax. -/
def lam (v : Vec F S4x64 .f32) : FVec F S1x1 .f32 :=
  addf (subf
      (exp (shapeCast S1x1 (multiReduction .add [1] S1 (mulf (extractStridedSlice S1x64 ![0, 0] v slices_S4x64_o0_0_S1x64)
        (extractStridedSlice S1x64 ![1, 0] v slices_S4x64_o1_0_S1x64)) 0x00000000#32 reduces_S1x64_S1 (.inl rfl) rfl) shapeCasts_S1_S1x1))
      (exp (shapeCast S1x1 (multiReduction .add [1] S1 (mulf (extractStridedSlice S1x64 ![2, 0] v slices_S4x64_o2_0_S1x64)
        (extractStridedSlice S1x64 ![3, 0] v slices_S4x64_o3_0_S1x64)) 0x00000000#32 reduces_S1x64_S1 (.inl rfl) rfl) shapeCasts_S1_S1x1)))
    (broadcast S1x1 (Scalar.ofBits .f32 0x3E4CCCCD#32))

/-- The lambda vectors and the norm's gain, as loaded. -/
def ldLam (a : Memref sig .tc .vmem S4x64 .f32) (h : a.IsWhole) (x : Vec F S4x64 .f32) : Vec F S4x64 .f32 :=
  View.readAt (Elt F) a.view (Rect.unit (s := S4x64) ![0, 0] S4x64.size inb_S4x64_S4x64_0_0).toLoadRect (h.unread x)
def ldGain (a : Memref sig .tc .vmem S1x128 .f32) (h : a.IsWhole) (x : Vec F S1x128 .f32) : Vec F S1x128 .f32 :=
  View.readAt (Elt F) a.view (Rect.unit (s := S1x128) ![0, 0] S1x128.size inb_S1x128_S1x128_0_0).toLoadRect (h.unread x)

/-- The loads of tile 0, forgetting half. -/
def foxL0 (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8x2048 .f32) (harg5 : arg5.IsWhole)
    (x0 x1 x2 : Vec F S1x2048x128 .bf16) (x3 : Vec F S1x8x2048 .f32) : Loads F :=
  { q := ldW arg2 harg2 x0 0 inb_S1x2048x128_S1x512x128_0_0_0
    kW := fun _ => broadcast S1x512x128 (Scalar.ofBits .bf16 0x0000#16)
    vW := fun _ => broadcast S1x512x128 (Scalar.ofBits .bf16 0x0000#16)
    bW0 := fun _ => broadcast S1x512 (Scalar.ofBits .f32 0x00000000#32)
    bW1 := fun _ => broadcast S1x512 (Scalar.ofBits .f32 0x00000000#32)
    kN := ldN arg3 harg3 x1 0 inb_S1x2048x128_S1x256x128_0_0_0
    vN := ldN arg4 harg4 x2 0 inb_S1x2048x128_S1x256x128_0_0_0
    bN0 := rowN (ldBN arg5 harg5 x3 (k0_off1 i 0#32) (Gen.k0_off1_inb i 0))
    bN1 := rowN (ldBN arg5 harg5 x3 (k0_off1 i 1#32) (Gen.k0_off1_inb i 1))
    kL := ldN arg3 harg3 x1 256 inb_S1x2048x128_S1x256x128_0_256_0
    vL := ldN arg4 harg4 x2 256 inb_S1x2048x128_S1x256x128_0_256_0
    bL0 := rowN (ldBN arg5 harg5 x3 (k0_off2 i 0#32) (Gen.k0_off2_inb i 0))
    bL1 := rowN (ldBN arg5 harg5 x3 (k0_off2 i 1#32) (Gen.k0_off2_inb i 1)) }

/-- The loads of tile 1, forgetting half. -/
def foxL1 (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8x2048 .f32) (harg5 : arg5.IsWhole)
    (x0 x1 x2 : Vec F S1x2048x128 .bf16) (x3 : Vec F S1x8x2048 .f32) : Loads F :=
  { q := ldW arg2 harg2 x0 512 inb_S1x2048x128_S1x512x128_0_512_0
    kW := fun _ => ldW arg3 harg3 x1 0 inb_S1x2048x128_S1x512x128_0_0_0
    vW := fun _ => ldW arg4 harg4 x2 0 inb_S1x2048x128_S1x512x128_0_0_0
    bW0 := fun _ => rowW (ldBW arg5 harg5 x3 (k0_off3 i 0#32) (Gen.k0_off3_inb i 0))
    bW1 := fun _ => rowW (ldBW arg5 harg5 x3 (k0_off3 i 1#32) (Gen.k0_off3_inb i 1))
    kN := ldN arg3 harg3 x1 512 inb_S1x2048x128_S1x256x128_0_512_0
    vN := ldN arg4 harg4 x2 512 inb_S1x2048x128_S1x256x128_0_512_0
    bN0 := rowN (ldBN arg5 harg5 x3 (k0_off4 i 0#32) (Gen.k0_off4_inb i 0))
    bN1 := rowN (ldBN arg5 harg5 x3 (k0_off4 i 1#32) (Gen.k0_off4_inb i 1))
    kL := ldN arg3 harg3 x1 768 inb_S1x2048x128_S1x256x128_0_768_0
    vL := ldN arg4 harg4 x2 768 inb_S1x2048x128_S1x256x128_0_768_0
    bL0 := rowN (ldBN arg5 harg5 x3 (k0_off5 i 0#32) (Gen.k0_off5_inb i 0))
    bL1 := rowN (ldBN arg5 harg5 x3 (k0_off5 i 1#32) (Gen.k0_off5_inb i 1)) }

/-- The loads of tile 2, forgetting half. -/
def foxL2 (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8x2048 .f32) (harg5 : arg5.IsWhole)
    (x0 x1 x2 : Vec F S1x2048x128 .bf16) (x3 : Vec F S1x8x2048 .f32) : Loads F :=
  { q := ldW arg2 harg2 x0 1024 inb_S1x2048x128_S1x512x128_0_1024_0
    kW := fun n => match n with
    | 0 => ldW arg3 harg3 x1 0 inb_S1x2048x128_S1x512x128_0_0_0
    | _ => ldW arg3 harg3 x1 512 inb_S1x2048x128_S1x512x128_0_512_0
    vW := fun n => match n with
    | 0 => ldW arg4 harg4 x2 0 inb_S1x2048x128_S1x512x128_0_0_0
    | _ => ldW arg4 harg4 x2 512 inb_S1x2048x128_S1x512x128_0_512_0
    bW0 := fun n => match n with
    | 0 => rowW (ldBW arg5 harg5 x3 (k0_off3 i 0#32) (Gen.k0_off3_inb i 0))
    | _ => rowW (ldBW arg5 harg5 x3 (k0_off6 i 0#32) (Gen.k0_off6_inb i 0))
    bW1 := fun n => match n with
    | 0 => rowW (ldBW arg5 harg5 x3 (k0_off3 i 1#32) (Gen.k0_off3_inb i 1))
    | _ => rowW (ldBW arg5 harg5 x3 (k0_off6 i 1#32) (Gen.k0_off6_inb i 1))
    kN := ldN arg3 harg3 x1 1024 inb_S1x2048x128_S1x256x128_0_1024_0
    vN := ldN arg4 harg4 x2 1024 inb_S1x2048x128_S1x256x128_0_1024_0
    bN0 := rowN (ldBN arg5 harg5 x3 (k0_off7 i 0#32) (Gen.k0_off7_inb i 0))
    bN1 := rowN (ldBN arg5 harg5 x3 (k0_off7 i 1#32) (Gen.k0_off7_inb i 1))
    kL := ldN arg3 harg3 x1 1280 inb_S1x2048x128_S1x256x128_0_1280_0
    vL := ldN arg4 harg4 x2 1280 inb_S1x2048x128_S1x256x128_0_1280_0
    bL0 := rowN (ldBN arg5 harg5 x3 (k0_off8 i 0#32) (Gen.k0_off8_inb i 0))
    bL1 := rowN (ldBN arg5 harg5 x3 (k0_off8 i 1#32) (Gen.k0_off8_inb i 1)) }

/-- The loads of tile 3, forgetting half. -/
def foxL3 (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8x2048 .f32) (harg5 : arg5.IsWhole)
    (x0 x1 x2 : Vec F S1x2048x128 .bf16) (x3 : Vec F S1x8x2048 .f32) : Loads F :=
  { q := ldW arg2 harg2 x0 1536 inb_S1x2048x128_S1x512x128_0_1536_0
    kW := fun n => match n with
    | 0 => ldW arg3 harg3 x1 0 inb_S1x2048x128_S1x512x128_0_0_0
    | 1 => ldW arg3 harg3 x1 512 inb_S1x2048x128_S1x512x128_0_512_0
    | _ => ldW arg3 harg3 x1 1024 inb_S1x2048x128_S1x512x128_0_1024_0
    vW := fun n => match n with
    | 0 => ldW arg4 harg4 x2 0 inb_S1x2048x128_S1x512x128_0_0_0
    | 1 => ldW arg4 harg4 x2 512 inb_S1x2048x128_S1x512x128_0_512_0
    | _ => ldW arg4 harg4 x2 1024 inb_S1x2048x128_S1x512x128_0_1024_0
    bW0 := fun n => match n with
    | 0 => rowW (ldBW arg5 harg5 x3 (k0_off3 i 0#32) (Gen.k0_off3_inb i 0))
    | 1 => rowW (ldBW arg5 harg5 x3 (k0_off6 i 0#32) (Gen.k0_off6_inb i 0))
    | _ => rowW (ldBW arg5 harg5 x3 (k0_off9 i 0#32) (Gen.k0_off9_inb i 0))
    bW1 := fun n => match n with
    | 0 => rowW (ldBW arg5 harg5 x3 (k0_off3 i 1#32) (Gen.k0_off3_inb i 1))
    | 1 => rowW (ldBW arg5 harg5 x3 (k0_off6 i 1#32) (Gen.k0_off6_inb i 1))
    | _ => rowW (ldBW arg5 harg5 x3 (k0_off9 i 1#32) (Gen.k0_off9_inb i 1))
    kN := ldN arg3 harg3 x1 1536 inb_S1x2048x128_S1x256x128_0_1536_0
    vN := ldN arg4 harg4 x2 1536 inb_S1x2048x128_S1x256x128_0_1536_0
    bN0 := rowN (ldBN arg5 harg5 x3 (k0_off10 i 0#32) (Gen.k0_off10_inb i 0))
    bN1 := rowN (ldBN arg5 harg5 x3 (k0_off10 i 1#32) (Gen.k0_off10_inb i 1))
    kL := ldN arg3 harg3 x1 1792 inb_S1x2048x128_S1x256x128_0_1792_0
    vL := ldN arg4 harg4 x2 1792 inb_S1x2048x128_S1x256x128_0_1792_0
    bL0 := rowN (ldBN arg5 harg5 x3 (k0_off11 i 0#32) (Gen.k0_off11_inb i 0))
    bL1 := rowN (ldBN arg5 harg5 x3 (k0_off11 i 1#32) (Gen.k0_off11_inb i 1)) }

/-- The loads of tile 0, differential half. -/
def diffL0 (i : grid0.Coords) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole)
    (x4 x5 x6 : Vec F S1x2048x128 .bf16) : Loads F :=
  { q := ldW arg6 harg6 x4 0 inb_S1x2048x128_S1x512x128_0_0_0
    kW := fun _ => broadcast S1x512x128 (Scalar.ofBits .bf16 0x0000#16)
    vW := fun _ => broadcast S1x512x128 (Scalar.ofBits .bf16 0x0000#16)
    bW0 := fun _ => broadcast S1x512 (Scalar.ofBits .f32 0x00000000#32)
    bW1 := fun _ => broadcast S1x512 (Scalar.ofBits .f32 0x00000000#32)
    kN := ldN arg7 harg7 x5 0 inb_S1x2048x128_S1x256x128_0_0_0
    vN := ldN arg8 harg8 x6 0 inb_S1x2048x128_S1x256x128_0_0_0
    bN0 := slopeN (slope (BitVec.ofNat 32 (i 1).val)) 0#32
    bN1 := slopeN (slope (BitVec.ofNat 32 (i 1).val)) 0#32
    kL := ldN arg7 harg7 x5 256 inb_S1x2048x128_S1x256x128_0_256_0
    vL := ldN arg8 harg8 x6 256 inb_S1x2048x128_S1x256x128_0_256_0
    bL0 := slopeN (slope (BitVec.ofNat 32 (i 1).val)) 256#32
    bL1 := slopeN (slope (BitVec.ofNat 32 (i 1).val)) 256#32 }

/-- The loads of tile 1, differential half. -/
def diffL1 (i : grid0.Coords) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole)
    (x4 x5 x6 : Vec F S1x2048x128 .bf16) : Loads F :=
  { q := ldW arg6 harg6 x4 512 inb_S1x2048x128_S1x512x128_0_512_0
    kW := fun _ => ldW arg7 harg7 x5 0 inb_S1x2048x128_S1x512x128_0_0_0
    vW := fun _ => ldW arg8 harg8 x6 0 inb_S1x2048x128_S1x512x128_0_0_0
    bW0 := fun _ => slopeW (slope (BitVec.ofNat 32 (i 1).val)) 0#32
    bW1 := fun _ => slopeW (slope (BitVec.ofNat 32 (i 1).val)) 0#32
    kN := ldN arg7 harg7 x5 512 inb_S1x2048x128_S1x256x128_0_512_0
    vN := ldN arg8 harg8 x6 512 inb_S1x2048x128_S1x256x128_0_512_0
    bN0 := slopeN (slope (BitVec.ofNat 32 (i 1).val)) 512#32
    bN1 := slopeN (slope (BitVec.ofNat 32 (i 1).val)) 512#32
    kL := ldN arg7 harg7 x5 768 inb_S1x2048x128_S1x256x128_0_768_0
    vL := ldN arg8 harg8 x6 768 inb_S1x2048x128_S1x256x128_0_768_0
    bL0 := slopeN (slope (BitVec.ofNat 32 (i 1).val)) 768#32
    bL1 := slopeN (slope (BitVec.ofNat 32 (i 1).val)) 768#32 }

/-- The loads of tile 2, differential half. -/
def diffL2 (i : grid0.Coords) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole)
    (x4 x5 x6 : Vec F S1x2048x128 .bf16) : Loads F :=
  { q := ldW arg6 harg6 x4 1024 inb_S1x2048x128_S1x512x128_0_1024_0
    kW := fun n => match n with
    | 0 => ldW arg7 harg7 x5 0 inb_S1x2048x128_S1x512x128_0_0_0
    | _ => ldW arg7 harg7 x5 512 inb_S1x2048x128_S1x512x128_0_512_0
    vW := fun n => match n with
    | 0 => ldW arg8 harg8 x6 0 inb_S1x2048x128_S1x512x128_0_0_0
    | _ => ldW arg8 harg8 x6 512 inb_S1x2048x128_S1x512x128_0_512_0
    bW0 := fun n => match n with
    | 0 => slopeW (slope (BitVec.ofNat 32 (i 1).val)) 0#32
    | _ => slopeW (slope (BitVec.ofNat 32 (i 1).val)) 512#32
    bW1 := fun n => match n with
    | 0 => slopeW (slope (BitVec.ofNat 32 (i 1).val)) 0#32
    | _ => slopeW (slope (BitVec.ofNat 32 (i 1).val)) 512#32
    kN := ldN arg7 harg7 x5 1024 inb_S1x2048x128_S1x256x128_0_1024_0
    vN := ldN arg8 harg8 x6 1024 inb_S1x2048x128_S1x256x128_0_1024_0
    bN0 := slopeN (slope (BitVec.ofNat 32 (i 1).val)) 1024#32
    bN1 := slopeN (slope (BitVec.ofNat 32 (i 1).val)) 1024#32
    kL := ldN arg7 harg7 x5 1280 inb_S1x2048x128_S1x256x128_0_1280_0
    vL := ldN arg8 harg8 x6 1280 inb_S1x2048x128_S1x256x128_0_1280_0
    bL0 := slopeN (slope (BitVec.ofNat 32 (i 1).val)) 1280#32
    bL1 := slopeN (slope (BitVec.ofNat 32 (i 1).val)) 1280#32 }

/-- The loads of tile 3, differential half. -/
def diffL3 (i : grid0.Coords) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole)
    (x4 x5 x6 : Vec F S1x2048x128 .bf16) : Loads F :=
  { q := ldW arg6 harg6 x4 1536 inb_S1x2048x128_S1x512x128_0_1536_0
    kW := fun n => match n with
    | 0 => ldW arg7 harg7 x5 0 inb_S1x2048x128_S1x512x128_0_0_0
    | 1 => ldW arg7 harg7 x5 512 inb_S1x2048x128_S1x512x128_0_512_0
    | _ => ldW arg7 harg7 x5 1024 inb_S1x2048x128_S1x512x128_0_1024_0
    vW := fun n => match n with
    | 0 => ldW arg8 harg8 x6 0 inb_S1x2048x128_S1x512x128_0_0_0
    | 1 => ldW arg8 harg8 x6 512 inb_S1x2048x128_S1x512x128_0_512_0
    | _ => ldW arg8 harg8 x6 1024 inb_S1x2048x128_S1x512x128_0_1024_0
    bW0 := fun n => match n with
    | 0 => slopeW (slope (BitVec.ofNat 32 (i 1).val)) 0#32
    | 1 => slopeW (slope (BitVec.ofNat 32 (i 1).val)) 512#32
    | _ => slopeW (slope (BitVec.ofNat 32 (i 1).val)) 1024#32
    bW1 := fun n => match n with
    | 0 => slopeW (slope (BitVec.ofNat 32 (i 1).val)) 0#32
    | 1 => slopeW (slope (BitVec.ofNat 32 (i 1).val)) 512#32
    | _ => slopeW (slope (BitVec.ofNat 32 (i 1).val)) 1024#32
    kN := ldN arg7 harg7 x5 1536 inb_S1x2048x128_S1x256x128_0_1536_0
    vN := ldN arg8 harg8 x6 1536 inb_S1x2048x128_S1x256x128_0_1536_0
    bN0 := slopeN (slope (BitVec.ofNat 32 (i 1).val)) 1536#32
    bN1 := slopeN (slope (BitVec.ofNat 32 (i 1).val)) 1536#32
    kL := ldN arg7 harg7 x5 1792 inb_S1x2048x128_S1x256x128_0_1792_0
    vL := ldN arg8 harg8 x6 1792 inb_S1x2048x128_S1x256x128_0_1792_0
    bL0 := slopeN (slope (BitVec.ofNat 32 (i 1).val)) 1792#32
    bL1 := slopeN (slope (BitVec.ofNat 32 (i 1).val)) 1792#32 }

theorem pieces9 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8x2048 .f32) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S4x64 .f32) (harg9 : arg9.IsWhole) (arg10 : Memref sig .tc .vmem S1x128 .f32) (harg10 : arg10.IsWhole) (arg11 : Memref sig .tc .vmem S1x2048x128 .bf16) (harg11 : arg11.IsWhole) (arg12 : Memref sig .tc .vmem S1x2048x128 .bf16) (harg12 : arg12.IsWhole)
    (x0 x1 x2 : Vec F S1x2048x128 .bf16) (x3 : Vec F S1x8x2048 .f32) (x4 x5 x6 : Vec F S1x2048x128 .bf16) (x7 : Vec F S4x64 .f32) (x8 : Vec F S1x128 .f32) :
    (kernelRun0_A c i arg2 harg2 arg3 harg3 arg4 harg4 arg5 harg5 arg6 harg6 arg7 harg7 arg8 harg8 arg9 harg9 arg10 harg10 arg11 harg11 arg12 harg12 x0 x1 x2 x3 x4 x5 x6 x7 x8).1 =
      [⟨Rect.unit ![0, 1536, 0] S1x512x128.size inb_S1x2048x128_S1x512x128_0_1536_0, foxOut (tile (foxL3 i arg2 harg2 arg3 harg3 arg4 harg4 arg5 harg5 x0 x1 x2 x3) 3)⟩,
       ⟨Rect.unit ![0, 1024, 0] S1x512x128.size inb_S1x2048x128_S1x512x128_0_1024_0, foxOut (tile (foxL2 i arg2 harg2 arg3 harg3 arg4 harg4 arg5 harg5 x0 x1 x2 x3) 2)⟩,
       ⟨Rect.unit ![0, 512, 0] S1x512x128.size inb_S1x2048x128_S1x512x128_0_512_0, foxOut (tile (foxL1 i arg2 harg2 arg3 harg3 arg4 harg4 arg5 harg5 x0 x1 x2 x3) 1)⟩,
       ⟨Rect.unit ![0, 0, 0] S1x512x128.size inb_S1x2048x128_S1x512x128_0_0_0, foxOut (tile (foxL0 i arg2 harg2 arg3 harg3 arg4 harg4 arg5 harg5 x0 x1 x2 x3) 0)⟩] := by
  sl_kernel_rfl

theorem pieces10 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8x2048 .f32) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S4x64 .f32) (harg9 : arg9.IsWhole) (arg10 : Memref sig .tc .vmem S1x128 .f32) (harg10 : arg10.IsWhole) (arg11 : Memref sig .tc .vmem S1x2048x128 .bf16) (harg11 : arg11.IsWhole) (arg12 : Memref sig .tc .vmem S1x2048x128 .bf16) (harg12 : arg12.IsWhole)
    (x0 x1 x2 : Vec F S1x2048x128 .bf16) (x3 : Vec F S1x8x2048 .f32) (x4 x5 x6 : Vec F S1x2048x128 .bf16) (x7 : Vec F S4x64 .f32) (x8 : Vec F S1x128 .f32) :
    (kernelRun0_A c i arg2 harg2 arg3 harg3 arg4 harg4 arg5 harg5 arg6 harg6 arg7 harg7 arg8 harg8 arg9 harg9 arg10 harg10 arg11 harg11 arg12 harg12 x0 x1 x2 x3 x4 x5 x6 x7 x8).2.1 =
      [⟨Rect.unit ![0, 1536, 0] S1x512x128.size inb_S1x2048x128_S1x512x128_0_1536_0, diffNorm (diffMix (lam (ldLam arg9 harg9 x7)) (tile (diffL3 i arg6 harg6 arg7 harg7 arg8 harg8 x4 x5 x6) 3)) (ldGain arg10 harg10 x8)⟩,
       ⟨Rect.unit ![0, 1024, 0] S1x512x128.size inb_S1x2048x128_S1x512x128_0_1024_0, diffNorm (diffMix (lam (ldLam arg9 harg9 x7)) (tile (diffL2 i arg6 harg6 arg7 harg7 arg8 harg8 x4 x5 x6) 2)) (ldGain arg10 harg10 x8)⟩,
       ⟨Rect.unit ![0, 512, 0] S1x512x128.size inb_S1x2048x128_S1x512x128_0_512_0, diffNorm (diffMix (lam (ldLam arg9 harg9 x7)) (tile (diffL1 i arg6 harg6 arg7 harg7 arg8 harg8 x4 x5 x6) 1)) (ldGain arg10 harg10 x8)⟩,
       ⟨Rect.unit ![0, 0, 0] S1x512x128.size inb_S1x2048x128_S1x512x128_0_0_0, diffNorm (diffMix (lam (ldLam arg9 harg9 x7)) (tile (diffL0 i arg6 harg6 arg7 harg7 arg8 harg8 x4 x5 x6) 0)) (ldGain arg10 harg10 x8)⟩] := by
  sl_kernel_rfl

end Cert.Attn
-- ==== Proof.Rows.lean ====
/- The steps of the online softmax read at an index, in the extended reals. -/
module

public import proofs.«01_k».proof.Proof.Steps
public import Idealize.ShloMosaic.Lib.Pointwise
public import Idealize.ShloMosaic.Lib.WordCmp

@[expose] public section

set_option maxRecDepth 16384

noncomputable section

namespace Cert.Attn

open Idealize.ShloMosaic Idealize.ShloMosaic.Pointwise Idealize.SL.Sem Cert.KernelIdeal Cert.KernelIdeal.Gen Cert.KernelIdeal.Facts

theorem exp2_eq {φ : FTy} (x : Ideal φ) : FloatOps.exp2 x = Ideal.exp2 x := rfl

theorem negInf : Ideal.ofBits .f32 0xFF800000#32 = ⊥ := by simp [Ideal.ofBits, Ideal.ieee]

theorem mask_eq : (Named.named κ "mask" 0xF149F2CA#32 : Ideal .f32) = ⊥ := rfl

variable (q0 q1 : FVec Ideal S512x128 .bf16)

theorem loMask_apply (r : Fin 512) (l : Fin 128) : loMask (ix2 r l) = BitVec.ofBool (decide (l.val < 64)) := by
  pointwise [loMask]
  exact WordCmp.cmpi_slt_ofNat (by omega) (by omega)

theorem qLo_apply (q : Vec Ideal S1x512x128 .bf16) (r : Fin 512) (l : Fin 128) :
    qLo q (ix2 r l) = if l.val < 64 then q (ix3 0 r l) else 0 := by
  pointwise [qLo, zeroQ]
  rw [loMask_apply, WordCmp.select_ofBool]; simp

theorem qHi_apply (q : Vec Ideal S1x512x128 .bf16) (r : Fin 512) (l : Fin 128) :
    qHi q (ix2 r l) = if l.val < 64 then 0 else q (ix3 0 r l) := by
  pointwise [qHi, zeroQ]
  rw [loMask_apply, WordCmp.select_ofBool]; simp

theorem mInit_apply (r : Fin 512) : mInit (F := Ideal) (ix2 r 0) = ⊥ := rfl

/-! ## 512 keys -/

theorem vOnesW_apply (v : Vec Ideal S1x512x128 .bf16) (j : Fin 512) (l : Fin 256) :
    vOnesW v (ix2 j l) = if h : l.val < 128 then v (ix3 0 j ⟨l, h⟩) else 1 := by
  pointwise [vOnesW]

theorem logitW0_apply (k : Vec Ideal S1x512x128 .bf16) (b : FVec Ideal S1x512 .f32) (r : Fin 512) (j : Fin 512) :
    logitW0 (scoreW q0 q1 k) b (ix2 r j) = ∑ l : Fin 128, q0 (ix2 r l) * k (ix3 0 j l) + b (ix2 0 j) := by
  pointwise [logitW0, scoreW]

theorem logitW1_apply (k : Vec Ideal S1x512x128 .bf16) (b : FVec Ideal S1x512 .f32) (r : Fin 512) (j : Fin 512) :
    logitW1 (scoreW q0 q1 k) b (ix2 r j) = ∑ l : Fin 128, q1 (ix2 r l) * k (ix3 0 j l) + b (ix2 0 j) := by
  pointwise [logitW1, scoreW]

theorem maxW_apply (m : FVec Ideal S512x1 .f32) (x : FVec Ideal S512x512 .f32) (r : Fin 512) :
    maxW m x (ix2 r 0) = max (m (ix2 r 0)) (Finset.univ.fold max ⊥ fun j : Fin 512 => x (ix2 r j)) := by
  pointwise [maxW, negInf]

theorem weightW_apply (m : FVec Ideal S512x1 .f32) (x : FVec Ideal S512x512 .f32) (r j : Fin 512) :
    weightW x m (ix2 r j) = Ideal.exp2 (x (ix2 r j) - m (ix2 r 0)) := by
  pointwise [weightW, exp2_eq]

theorem sumW0_apply (p0 p1 : FVec Ideal S512x512 .bf16) (v : FVec Ideal S512x256 .bf16) (r : Fin 512) (l : Fin 256) :
    half0 (sumW p0 p1 v) (ix2 r l) = ∑ j : Fin 512, p0 (ix2 r j) * v (ix2 j l) := by
  pointwise [half0, sumW]

theorem sumW1_apply (p0 p1 : FVec Ideal S512x512 .bf16) (v : FVec Ideal S512x256 .bf16) (r : Fin 512) (l : Fin 256) :
    half1 (sumW p0 p1 v) (ix2 r l) = ∑ j : Fin 512, p1 (ix2 r j) * v (ix2 j l) := by
  pointwise [half1, sumW]

theorem accum_apply (a : FVec Ideal S512x256 .f32) (m m' : FVec Ideal S512x1 .f32) (p : FVec Ideal S512x256 .f32) (r : Fin 512) (l : Fin 256) :
    accum a m m' p (ix2 r l) = a (ix2 r l) * Ideal.exp2 (m (ix2 r 0) - m' (ix2 r 0)) + p (ix2 r l) := by
  pointwise [accum, exp2_eq]

/-! ## The tile's first 256 keys -/

theorem vOnesN_apply (v : Vec Ideal S1x256x128 .bf16) (j : Fin 256) (l : Fin 256) :
    vOnesN v (ix2 j l) = if h : l.val < 128 then v (ix3 0 j ⟨l, h⟩) else 1 := by
  pointwise [vOnesN]

theorem causal_apply (x : FVec Ideal S256x256 .f32) (r j : Fin 256) :
    causal x (ix2 r j) = if j.val ≤ r.val then x (ix2 r j) else ⊥ := by
  pointwise [causal, mask_eq]
  rw [WordCmp.cmpi_sle_ofNat (by omega) (by omega), WordCmp.select_ofBool]; simp

theorem tri_apply (x : FVec Ideal S512x256 .f32) (r : Fin 512) (j : Fin 256) :
    tri x (ix2 r j) = if j.val ≤ r.val then x (ix2 r j) else ⊥ := by
  pointwise [tri]
  split
  · rw [causal_apply]; pointwise
  · have hj : j.val ≤ r.val := by omega
    rw [if_pos hj]
    exact congrArg (fun k : Fin 512 => x (ix2 k j)) (Fin.ext (by simp only; omega))

theorem logitN0_apply (k : Vec Ideal S1x256x128 .bf16) (b : FVec Ideal S1x256 .f32) (r : Fin 512) (j : Fin 256) :
    logitN0 (scoreN q0 q1 k) b (ix2 r j)
      = if j.val ≤ r.val then ∑ l : Fin 128, q0 (ix2 r l) * k (ix3 0 j l) + b (ix2 0 j) else ⊥ := by
  rw [logitN0, tri_apply]; pointwise [half0, scoreN]

theorem logitN1_apply (k : Vec Ideal S1x256x128 .bf16) (b : FVec Ideal S1x256 .f32) (r : Fin 512) (j : Fin 256) :
    logitN1 (scoreN q0 q1 k) b (ix2 r j)
      = if j.val ≤ r.val then ∑ l : Fin 128, q1 (ix2 r l) * k (ix3 0 j l) + b (ix2 0 j) else ⊥ := by
  rw [logitN1, tri_apply]; pointwise [half1, scoreN]

theorem maxN_apply (m : FVec Ideal S512x1 .f32) (x : FVec Ideal S512x256 .f32) (r : Fin 512) :
    maxN m x (ix2 r 0) = max (m (ix2 r 0)) (Finset.univ.fold max ⊥ fun j : Fin 256 => x (ix2 r j)) := by
  pointwise [maxN, negInf]

theorem weightN_apply (m : FVec Ideal S512x1 .f32) (x : FVec Ideal S512x256 .f32) (r : Fin 512) (j : Fin 256) :
    weightN x m (ix2 r j) = Ideal.exp2 (x (ix2 r j) - m (ix2 r 0)) := by
  pointwise [weightN, exp2_eq]

theorem sumN0_apply (p0 p1 : FVec Ideal S512x256 .bf16) (v : FVec Ideal S256x256 .bf16) (r : Fin 512) (l : Fin 256) :
    half0 (sumN p0 p1 v) (ix2 r l) = ∑ j : Fin 256, p0 (ix2 r j) * v (ix2 j l) := by
  pointwise [half0, sumN]

theorem sumN1_apply (p0 p1 : FVec Ideal S512x256 .bf16) (v : FVec Ideal S256x256 .bf16) (r : Fin 512) (l : Fin 256) :
    half1 (sumN p0 p1 v) (ix2 r l) = ∑ j : Fin 256, p1 (ix2 r j) * v (ix2 j l) := by
  pointwise [half1, sumN]

/-! ## The tile's last 256 keys, for its last 256 rows -/

/-- The row of the tile behind a row of its last half. -/
def low (r : Fin 256) : Fin 512 := ⟨256 + r.val, by omega⟩

theorem logitL0_apply (k : Vec Ideal S1x256x128 .bf16) (b : FVec Ideal S1x256 .f32) (r j : Fin 256) :
    logitL0 (scoreL q0 q1 k) b (ix2 r j)
      = if j.val ≤ r.val then ∑ l : Fin 128, q0 (ix2 (low r) l) * k (ix3 0 j l) + b (ix2 0 j) else ⊥ := by
  rw [logitL0, causal_apply]; pointwise [top, scoreL, botQ, low]

theorem logitL1_apply (k : Vec Ideal S1x256x128 .bf16) (b : FVec Ideal S1x256 .f32) (r j : Fin 256) :
    logitL1 (scoreL q0 q1 k) b (ix2 r j)
      = if j.val ≤ r.val then ∑ l : Fin 128, q1 (ix2 (low r) l) * k (ix3 0 j l) + b (ix2 0 j) else ⊥ := by
  rw [logitL1, causal_apply]; pointwise [bot, scoreL, botQ, low]

theorem maxL_apply (m : FVec Ideal S512x1 .f32) (x : FVec Ideal S256x256 .f32) (r : Fin 256) :
    maxL (botM m) x (ix2 r 0) = max (m (ix2 (low r) 0)) (Finset.univ.fold max ⊥ fun j : Fin 256 => x (ix2 r j)) := by
  pointwise [maxL, botM, negInf, low]

theorem weightL_apply (m : FVec Ideal S256x1 .f32) (x : FVec Ideal S256x256 .f32) (r j : Fin 256) :
    weightL x m (ix2 r j) = Ideal.exp2 (x (ix2 r j) - m (ix2 r 0)) := by
  pointwise [weightL, exp2_eq]

theorem sumL0_apply (p0 p1 : FVec Ideal S256x256 .bf16) (v : FVec Ideal S256x256 .bf16) (r l : Fin 256) :
    top (sumL p0 p1 v) (ix2 r l) = ∑ j : Fin 256, p0 (ix2 r j) * v (ix2 j l) := by
  pointwise [top, sumL]

theorem sumL1_apply (p0 p1 : FVec Ideal S256x256 .bf16) (v : FVec Ideal S256x256 .bf16) (r l : Fin 256) :
    bot (sumL p0 p1 v) (ix2 r l) = ∑ j : Fin 256, p1 (ix2 r j) * v (ix2 j l) := by
  pointwise [bot, sumL]

theorem accumL_top (a : FVec Ideal S512x256 .f32) (m m' : FVec Ideal S256x1 .f32) (p : FVec Ideal S256x256 .f32) (r : Fin 512)
    (l : Fin 256) (h : r.val < 256) : accumL a m m' p (ix2 r l) = a (ix2 r l) := by
  pointwise [accumL, top]
  rw [dif_pos h]

theorem accumL_bot (a : FVec Ideal S512x256 .f32) (m : FVec Ideal S512x1 .f32) (m' : FVec Ideal S256x1 .f32) (p : FVec Ideal S256x256 .f32)
    (r l : Fin 256) : accumL a (botM m) m' p (ix2 (low r) l)
      = a (ix2 (low r) l) * Ideal.exp2 (m (ix2 (low r) 0) - m' (ix2 r 0)) + p (ix2 r l) := by
  pointwise [accumL, bot, botM, exp2_eq, low]

end Cert.Attn
-- ==== Proof.Sweep.lean ====
/- A whole tile: after its steps, each row's sums over the keys it may see, up to a common factor. -/
module

public import proofs.«01_k».proof.Proof.Rows
public import proofs.«01_k».proof.Proof.Online

@[expose] public section

set_option maxRecDepth 16384

noncomputable section

namespace Cert.Attn

open Idealize.ShloMosaic Idealize.ShloMosaic.Pointwise Idealize.SL.Sem Cert.KernelIdeal Cert.KernelIdeal.Gen Cert.KernelIdeal.Facts

/-! ## The steps at a row -/

section Steps

variable {visW : Fin 512 → Prop} [DecidablePred visW] {sW : Fin 512 → ℝ} {vW : Fin 512 → Fin 256 → ℝ} in
theorem stepW_first {r : Fin 512} {x : FVec Ideal S512x512 .f32} {v : FVec Ideal S512x256 .bf16} {a : Fin 256 → EReal}
    (hx : ∀ j, x (ix2 r j) = seen visW sW j) (hv : ∀ j l, v (ix2 j l) = (vW j l : EReal))
    (ha : ∀ l, a l = ∑ j : Fin 512, weightW x (maxW mInit x) (ix2 r j) * v (ix2 j l)) (h : ∃ j, visW j) :
    Inv (maxW mInit x (ix2 r 0)) a (gain visW sW vW) := by
  have hm : maxW mInit x (ix2 r 0) = max ⊥ (Finset.univ.fold max ⊥ (seen visW sW)) := by
    rw [maxW_apply, mInit_apply, funext hx]
  obtain rfl : a = _ := funext ha
  simp only [weightW_apply, hx, hv, hm]
  exact first visW sW vW h

variable {visW : Fin 512 → Prop} [DecidablePred visW] {sW : Fin 512 → ℝ} {vW : Fin 512 → Fin 256 → ℝ} in
theorem stepW_next {r : Fin 512} {x : FVec Ideal S512x512 .f32} {v : FVec Ideal S512x256 .bf16} {a : FVec Ideal S512x256 .f32}
    {m : FVec Ideal S512x1 .f32} {E : Fin 256 → ℝ} {p : FVec Ideal S512x256 .f32}
    (hx : ∀ j, x (ix2 r j) = seen visW sW j) (hv : ∀ j l, v (ix2 j l) = (vW j l : EReal))
    (hp : ∀ l, p (ix2 r l) = ∑ j : Fin 512, weightW x (maxW m x) (ix2 r j) * v (ix2 j l))
    (h : Inv (m (ix2 r 0)) (fun l : Fin 256 => a (ix2 r l)) E) :
    Inv (maxW m x (ix2 r 0)) (fun l : Fin 256 => accum a m (maxW m x) p (ix2 r l)) (fun l => E l + gain visW sW vW l) := by
  have hm : maxW m x (ix2 r 0) = max (m (ix2 r 0)) (Finset.univ.fold max ⊥ (seen visW sW)) := by
    rw [maxW_apply, funext hx]
  simp only [accum_apply, hp, weightW_apply, hx, hv, hm]
  exact next visW sW vW h

variable {visN : Fin 256 → Prop} [DecidablePred visN] {sN : Fin 256 → ℝ} {vN : Fin 256 → Fin 256 → ℝ} in
theorem stepN_first {r : Fin 512} {x : FVec Ideal S512x256 .f32} {v : FVec Ideal S256x256 .bf16} {a : Fin 256 → EReal}
    (hx : ∀ j, x (ix2 r j) = seen visN sN j) (hv : ∀ j l, v (ix2 j l) = (vN j l : EReal))
    (ha : ∀ l, a l = ∑ j : Fin 256, weightN x (maxN mInit x) (ix2 r j) * v (ix2 j l)) (h : ∃ j, visN j) :
    Inv (maxN mInit x (ix2 r 0)) a (gain visN sN vN) := by
  have hm : maxN mInit x (ix2 r 0) = max ⊥ (Finset.univ.fold max ⊥ (seen visN sN)) := by
    rw [maxN_apply, mInit_apply, funext hx]
  obtain rfl : a = _ := funext ha
  simp only [weightN_apply, hx, hv, hm]
  exact first visN sN vN h

variable {visN : Fin 256 → Prop} [DecidablePred visN] {sN : Fin 256 → ℝ} {vN : Fin 256 → Fin 256 → ℝ} in
theorem stepN_next {r : Fin 512} {x : FVec Ideal S512x256 .f32} {v : FVec Ideal S256x256 .bf16} {a : FVec Ideal S512x256 .f32}
    {m : FVec Ideal S512x1 .f32} {E : Fin 256 → ℝ} {p : FVec Ideal S512x256 .f32}
    (hx : ∀ j, x (ix2 r j) = seen visN sN j) (hv : ∀ j l, v (ix2 j l) = (vN j l : EReal))
    (hp : ∀ l, p (ix2 r l) = ∑ j : Fin 256, weightN x (maxN m x) (ix2 r j) * v (ix2 j l))
    (h : Inv (m (ix2 r 0)) (fun l : Fin 256 => a (ix2 r l)) E) :
    Inv (maxN m x (ix2 r 0)) (fun l : Fin 256 => accum a m (maxN m x) p (ix2 r l)) (fun l => E l + gain visN sN vN l) := by
  have hm : maxN m x (ix2 r 0) = max (m (ix2 r 0)) (Finset.univ.fold max ⊥ (seen visN sN)) := by
    rw [maxN_apply, funext hx]
  simp only [accum_apply, hp, weightN_apply, hx, hv, hm]
  exact next visN sN vN h

variable {visL : Fin 256 → Prop} [DecidablePred visL] {sL : Fin 256 → ℝ} {vL : Fin 256 → Fin 256 → ℝ} in
theorem stepL_next {r : Fin 256} {x : FVec Ideal S256x256 .f32} {v : FVec Ideal S256x256 .bf16} {a : FVec Ideal S512x256 .f32}
    {m : FVec Ideal S512x1 .f32} {E : Fin 256 → ℝ} {p : FVec Ideal S256x256 .f32}
    (hx : ∀ j, x (ix2 r j) = seen visL sL j) (hv : ∀ j l, v (ix2 j l) = (vL j l : EReal))
    (hp : ∀ l, p (ix2 r l) = ∑ j : Fin 256, weightL x (maxL (botM m) x) (ix2 r j) * v (ix2 j l))
    (h : Inv (m (ix2 (low r) 0)) (fun l : Fin 256 => a (ix2 (low r) l)) E) :
    ∃ μ, Inv μ (fun l : Fin 256 => accumL a (botM m) (maxL (botM m) x) p (ix2 (low r) l)) (fun l => E l + gain visL sL vL l) := by
  have hm : maxL (botM m) x (ix2 r 0) = max (m (ix2 (low r) 0)) (Finset.univ.fold max ⊥ (seen visL sL)) := by
    rw [maxL_apply, funext hx]
  refine ⟨max (m (ix2 (low r) 0)) (Finset.univ.fold max ⊥ (seen visL sL)), ?_⟩
  simp only [accumL_bot, hp, weightL_apply, hx, hv, hm]
  exact next visL sL vL h

end Steps

/-! ## The sums -/

/-- A key's value row beside ones. -/
def withOnes (V : ℕ → Fin 128 → ℝ) (k : ℕ) (l : Fin 256) : ℝ := if h : l.val < 128 then V k ⟨l.val, h⟩ else 1

/-- The sums over the first `n` keys, with weight `2 ^ s k`. -/
def upTo (s : ℕ → ℝ) (V : ℕ → Fin 128 → ℝ) (n : ℕ) (l : Fin 256) : ℝ := ∑ k ∈ Finset.range n, (2 : ℝ) ^ s k * withOnes V k l

theorem gain_causal (s : ℕ → ℝ) (V : ℕ → Fin 128 → ℝ) (n w r : ℕ) (l : Fin 256) :
    upTo s V n l + gain (fun j : Fin w => j.val ≤ r) (fun j => s (n + j.val)) (fun j => withOnes V (n + j.val)) l
      = upTo s V (n + min w (r + 1)) l := by
  rw [upTo, upTo, Finset.sum_range_add]
  congr 1
  rw [gain, Fin.sum_univ_eq_sum_range (fun j => if j ≤ r then (2 : ℝ) ^ s (n + j) * withOnes V (n + j) l else 0), ← Finset.sum_filter]
  congr 1
  ext j
  simp only [Finset.mem_filter, Finset.mem_range]
  omega

theorem gain_all (s : ℕ → ℝ) (V : ℕ → Fin 128 → ℝ) (n w : ℕ) (l : Fin 256) :
    upTo s V n l + gain (fun _ : Fin w => True) (fun j => s (n + j.val)) (fun j => withOnes V (n + j.val)) l = upTo s V (n + w) l := by
  have h := gain_causal s V n w w l
  rw [min_eq_left (Nat.le_succ w)] at h
  rw [← h, gain, gain]
  congr 1
  exact Finset.sum_congr rfl fun j _ => by rw [if_pos trivial, if_pos j.isLt.le]

/-- What tile `t`'s loads hold: queries, and for each key its row, its value row and its two heads' biases. -/
structure Reals (L : Loads Ideal) (t : ℕ) (Q : Fin 512 → Fin 128 → ℝ) (K V : ℕ → Fin 128 → ℝ) (B0 B1 : ℕ → ℝ) : Prop where
  q : ∀ (r : Fin 512) (l : Fin 128), L.q (ix3 0 r l) = (Q r l : EReal)
  kW : ∀ n < t, ∀ (j : Fin 512) (l : Fin 128), L.kW n (ix3 0 j l) = (K (512 * n + j.val) l : EReal)
  vW : ∀ n < t, ∀ (j : Fin 512) (l : Fin 128), L.vW n (ix3 0 j l) = (V (512 * n + j.val) l : EReal)
  bW0 : ∀ n < t, ∀ j : Fin 512, L.bW0 n (ix2 0 j) = (B0 (512 * n + j.val) : EReal)
  bW1 : ∀ n < t, ∀ j : Fin 512, L.bW1 n (ix2 0 j) = (B1 (512 * n + j.val) : EReal)
  kN : ∀ (j : Fin 256) (l : Fin 128), L.kN (ix3 0 j l) = (K (512 * t + j.val) l : EReal)
  vN : ∀ (j : Fin 256) (l : Fin 128), L.vN (ix3 0 j l) = (V (512 * t + j.val) l : EReal)
  bN0 : ∀ j : Fin 256, L.bN0 (ix2 0 j) = (B0 (512 * t + j.val) : EReal)
  bN1 : ∀ j : Fin 256, L.bN1 (ix2 0 j) = (B1 (512 * t + j.val) : EReal)
  kL : ∀ (j : Fin 256) (l : Fin 128), L.kL (ix3 0 j l) = (K (512 * t + 256 + j.val) l : EReal)
  vL : ∀ (j : Fin 256) (l : Fin 128), L.vL (ix3 0 j l) = (V (512 * t + 256 + j.val) l : EReal)
  bL0 : ∀ j : Fin 256, L.bL0 (ix2 0 j) = (B0 (512 * t + 256 + j.val) : EReal)
  bL1 : ∀ j : Fin 256, L.bL1 (ix2 0 j) = (B1 (512 * t + 256 + j.val) : EReal)

/-- A query's score against key `k`: the first head's, over the first 64 lanes. -/
def score0 (Q : Fin 512 → Fin 128 → ℝ) (K : ℕ → Fin 128 → ℝ) (B : ℕ → ℝ) (r : Fin 512) (k : ℕ) : ℝ :=
  ∑ l : Fin 128, (if l.val < 64 then Q r l else 0) * K k l + B k
/-- The second head's, over the last 64 lanes. -/
def score1 (Q : Fin 512 → Fin 128 → ℝ) (K : ℕ → Fin 128 → ℝ) (B : ℕ → ℝ) (r : Fin 512) (k : ℕ) : ℝ :=
  ∑ l : Fin 128, (if l.val < 64 then 0 else Q r l) * K k l + B k

section Tile

variable {L : Loads Ideal} {t : ℕ} {Q : Fin 512 → Fin 128 → ℝ} {K V : ℕ → Fin 128 → ℝ} {B0 B1 : ℕ → ℝ} (h : Reals L t Q K V B0 B1)
include h

theorem qLo_real (r : Fin 512) (l : Fin 128) : qLo L.q (ix2 r l) = ((if l.val < 64 then Q r l else 0 : ℝ) : EReal) := by
  rw [qLo_apply, h.q]; split <;> simp

theorem qHi_real (r : Fin 512) (l : Fin 128) : qHi L.q (ix2 r l) = ((if l.val < 64 then 0 else Q r l : ℝ) : EReal) := by
  rw [qHi_apply, h.q]; split <;> simp

theorem vW_real {n : ℕ} (hn : n < t) (j : Fin 512) (l : Fin 256) : vOnesW (L.vW n) (ix2 j l) = (withOnes V (512 * n + j.val) l : EReal) := by
  rw [vOnesW_apply, withOnes]; split
  · rw [h.vW n hn]
  · simp
theorem vN_real (j : Fin 256) (l : Fin 256) : vOnesN L.vN (ix2 j l) = (withOnes V (512 * t + j.val) l : EReal) := by
  rw [vOnesN_apply, withOnes]; split
  · rw [h.vN]
  · simp
theorem vL_real (j : Fin 256) (l : Fin 256) : vOnesN L.vL (ix2 j l) = (withOnes V (512 * t + 256 + j.val) l : EReal) := by
  rw [vOnesN_apply, withOnes]; split
  · rw [h.vL]
  · simp

theorem logitW0_real {n : ℕ} (hn : n < t) (r j : Fin 512) :
    logitW0 (scoreW (qLo L.q) (qHi L.q) (L.kW n)) (L.bW0 n) (ix2 r j)
      = seen (fun _ => True) (fun j : Fin 512 => score0 Q K B0 r (512 * n + j.val)) j := by
  rw [logitW0_apply, seen, if_pos trivial, h.bW0 n hn, score0, EReal.coe_add, coe_sum]
  simp only [qLo_real h, h.kW n hn, EReal.coe_mul]

theorem logitN0_real (r : Fin 512) (j : Fin 256) :
    logitN0 (scoreN (qLo L.q) (qHi L.q) L.kN) L.bN0 (ix2 r j)
      = seen (fun j : Fin 256 => j.val ≤ r.val) (fun j : Fin 256 => score0 Q K B0 r (512 * t + j.val)) j := by
  rw [logitN0_apply, seen, h.bN0, score0, EReal.coe_add, coe_sum]
  simp only [qLo_real h, h.kN, EReal.coe_mul]

theorem logitL0_real (r j : Fin 256) :
    logitL0 (scoreL (qLo L.q) (qHi L.q) L.kL) L.bL0 (ix2 r j)
      = seen (fun j : Fin 256 => j.val ≤ r.val) (fun j : Fin 256 => score0 Q K B0 (low r) (512 * t + 256 + j.val)) j := by
  rw [logitL0_apply, seen, h.bL0, score0, EReal.coe_add, coe_sum]
  simp only [qLo_real h, h.kL, EReal.coe_mul]

theorem logitW1_real {n : ℕ} (hn : n < t) (r j : Fin 512) :
    logitW1 (scoreW (qLo L.q) (qHi L.q) (L.kW n)) (L.bW1 n) (ix2 r j)
      = seen (fun _ => True) (fun j : Fin 512 => score1 Q K B1 r (512 * n + j.val)) j := by
  rw [logitW1_apply, seen, if_pos trivial, h.bW1 n hn, score1, EReal.coe_add, coe_sum]
  simp only [qHi_real h, h.kW n hn, EReal.coe_mul]

theorem logitN1_real (r : Fin 512) (j : Fin 256) :
    logitN1 (scoreN (qLo L.q) (qHi L.q) L.kN) L.bN1 (ix2 r j)
      = seen (fun j : Fin 256 => j.val ≤ r.val) (fun j : Fin 256 => score1 Q K B1 r (512 * t + j.val)) j := by
  rw [logitN1_apply, seen, h.bN1, score1, EReal.coe_add, coe_sum]
  simp only [qHi_real h, h.kN, EReal.coe_mul]

theorem logitL1_real (r j : Fin 256) :
    logitL1 (scoreL (qLo L.q) (qHi L.q) L.kL) L.bL1 (ix2 r j)
      = seen (fun j : Fin 256 => j.val ≤ r.val) (fun j : Fin 256 => score1 Q K B1 (low r) (512 * t + 256 + j.val)) j := by
  rw [logitL1_apply, seen, h.bL1, score1, EReal.coe_add, coe_sum]
  simp only [qHi_real h, h.kL, EReal.coe_mul]

theorem full0 (r : Fin 512) : ∀ n < t,
    Inv ((full L n).m0 (ix2 r 0)) (fun l : Fin 256 => (full L n).a0 (ix2 r l)) (upTo (score0 Q K B0 r) V (512 * (n + 1))) := by
  intro n
  induction n with
  | zero =>
    intro hn
    have e := stepW_first (r := r) (a := fun l => (full L 0).a0 (ix2 r l)) (logitW0_real h hn r) (vW_real h hn) (fun l => sumW0_apply _ _ _ r l) ⟨0, trivial⟩
    have g := fun l => gain_all (score0 Q K B0 r) V (512 * 0) 512 l
    simp only [upTo, Nat.mul_zero, Finset.range_zero, Finset.sum_empty, zero_add] at g
    simp only [Nat.mul_zero, zero_add] at e
    rw [funext g] at e
    exact e
  | succ n ih =>
    intro hn
    have e : Inv ((full L (n + 1)).m0 (ix2 r 0)) (fun l : Fin 256 => (full L (n + 1)).a0 (ix2 r l)) _ :=
      stepW_next (r := r) (logitW0_real h hn r) (vW_real h hn) (fun l => sumW0_apply _ _ _ r l) (ih (by omega))
    rw [funext fun l => gain_all (score0 Q K B0 r) V (512 * (n + 1)) 512 l] at e
    exact e

theorem diag0 (r : Fin 512) :
    Inv ((diag L t).m0 (ix2 r 0)) (fun l : Fin 256 => (diag L t).a0 (ix2 r l))
      (upTo (score0 Q K B0 r) V (512 * t + min 256 (r.val + 1))) := by
  cases t with
  | zero =>
    have e := stepN_first (r := r) (a := fun l => (diag L 0).a0 (ix2 r l)) (logitN0_real h r) (vN_real h) (fun l => sumN0_apply _ _ _ r l) ⟨0, Nat.zero_le _⟩
    have g := fun l => gain_causal (score0 Q K B0 r) V (512 * 0) 256 r.val l
    simp only [upTo, Nat.mul_zero, Finset.range_zero, Finset.sum_empty, zero_add] at g
    simp only [Nat.mul_zero, zero_add] at e
    rw [funext g] at e
    rw [Nat.mul_zero, zero_add]
    exact e
  | succ t =>
    have e : Inv ((diag L (t + 1)).m0 (ix2 r 0)) (fun l : Fin 256 => (diag L (t + 1)).a0 (ix2 r l)) _ :=
      stepN_next (r := r) (logitN0_real h r) (vN_real h) (fun l => sumN0_apply _ _ _ r l) (full0 h r t (by omega))
    rw [funext fun l => gain_causal (score0 Q K B0 r) V (512 * (t + 1)) 256 r.val l] at e
    exact e

/-- The first head's sums (the second's likewise) after tile `t`'s last step, up to a common factor: over the keys up to the row's own. -/
theorem tile0 (r : Fin 512) :
    ∃ μ : ℝ, ∀ l : Fin 256, (tile L t).a0 (ix2 r l)
      = (((2 : ℝ) ^ (-μ) * upTo (score0 Q K B0 r) V (512 * t + r.val + 1) l : ℝ) : EReal) := by
  by_cases hr : r.val < 256
  · obtain ⟨μ, -, e⟩ := diag0 h r
    refine ⟨μ, fun l => ?_⟩
    rw [show min 256 (r.val + 1) = r.val + 1 by omega] at e
    exact (accumL_top _ _ _ _ r l hr).trans (e l)
  · obtain ⟨r', rfl⟩ : ∃ r' : Fin 256, r = low r' := ⟨⟨r.val - 256, by omega⟩, Fin.ext (by simp only [low]; omega)⟩
    have d := diag0 h (low r')
    rw [show min 256 ((low r').val + 1) = 256 by simp only [low]; omega] at d
    obtain ⟨m, μ, -, e⟩ : ∃ m, Inv m (fun l : Fin 256 => (tile L t).a0 (ix2 (low r') l)) _ :=
      stepL_next (r := r') (logitL0_real h r') (vL_real h) (fun l => sumL0_apply _ _ _ r' l) d
    refine ⟨μ, fun l => ?_⟩
    have g := gain_causal (score0 Q K B0 (low r')) V (512 * t + 256) 256 r'.val l
    rw [show 512 * t + 256 + min 256 (r'.val + 1) = 512 * t + (low r').val + 1 by simp only [low]; omega] at g
    rw [← g]
    exact e l

theorem full1 (r : Fin 512) : ∀ n < t,
    Inv ((full L n).m1 (ix2 r 0)) (fun l : Fin 256 => (full L n).a1 (ix2 r l)) (upTo (score1 Q K B1 r) V (512 * (n + 1))) := by
  intro n
  induction n with
  | zero =>
    intro hn
    have e := stepW_first (r := r) (a := fun l => (full L 0).a1 (ix2 r l)) (logitW1_real h hn r) (vW_real h hn) (fun l => sumW1_apply _ _ _ r l) ⟨0, trivial⟩
    have g := fun l => gain_all (score1 Q K B1 r) V (512 * 0) 512 l
    simp only [upTo, Nat.mul_zero, Finset.range_zero, Finset.sum_empty, zero_add] at g
    simp only [Nat.mul_zero, zero_add] at e
    rw [funext g] at e
    exact e
  | succ n ih =>
    intro hn
    have e : Inv ((full L (n + 1)).m1 (ix2 r 0)) (fun l : Fin 256 => (full L (n + 1)).a1 (ix2 r l)) _ :=
      stepW_next (r := r) (logitW1_real h hn r) (vW_real h hn) (fun l => sumW1_apply _ _ _ r l) (ih (by omega))
    rw [funext fun l => gain_all (score1 Q K B1 r) V (512 * (n + 1)) 512 l] at e
    exact e

theorem diag1 (r : Fin 512) :
    Inv ((diag L t).m1 (ix2 r 0)) (fun l : Fin 256 => (diag L t).a1 (ix2 r l))
      (upTo (score1 Q K B1 r) V (512 * t + min 256 (r.val + 1))) := by
  cases t with
  | zero =>
    have e := stepN_first (r := r) (a := fun l => (diag L 0).a1 (ix2 r l)) (logitN1_real h r) (vN_real h) (fun l => sumN1_apply _ _ _ r l) ⟨0, Nat.zero_le _⟩
    have g := fun l => gain_causal (score1 Q K B1 r) V (512 * 0) 256 r.val l
    simp only [upTo, Nat.mul_zero, Finset.range_zero, Finset.sum_empty, zero_add] at g
    simp only [Nat.mul_zero, zero_add] at e
    rw [funext g] at e
    rw [Nat.mul_zero, zero_add]
    exact e
  | succ t =>
    have e : Inv ((diag L (t + 1)).m1 (ix2 r 0)) (fun l : Fin 256 => (diag L (t + 1)).a1 (ix2 r l)) _ :=
      stepN_next (r := r) (logitN1_real h r) (vN_real h) (fun l => sumN1_apply _ _ _ r l) (full1 h r t (by omega))
    rw [funext fun l => gain_causal (score1 Q K B1 r) V (512 * (t + 1)) 256 r.val l] at e
    exact e

/-- The first head's sums (the second's likewise) after tile `t`'s last step, up to a common factor: over the keys up to the row's own. -/
theorem tile1 (r : Fin 512) :
    ∃ μ : ℝ, ∀ l : Fin 256, (tile L t).a1 (ix2 r l)
      = (((2 : ℝ) ^ (-μ) * upTo (score1 Q K B1 r) V (512 * t + r.val + 1) l : ℝ) : EReal) := by
  by_cases hr : r.val < 256
  · obtain ⟨μ, -, e⟩ := diag1 h r
    refine ⟨μ, fun l => ?_⟩
    rw [show min 256 (r.val + 1) = r.val + 1 by omega] at e
    exact (accumL_top _ _ _ _ r l hr).trans (e l)
  · obtain ⟨r', rfl⟩ : ∃ r' : Fin 256, r = low r' := ⟨⟨r.val - 256, by omega⟩, Fin.ext (by simp only [low]; omega)⟩
    have d := diag1 h (low r')
    rw [show min 256 ((low r').val + 1) = 256 by simp only [low]; omega] at d
    obtain ⟨m, μ, -, e⟩ : ∃ m, Inv m (fun l : Fin 256 => (tile L t).a1 (ix2 (low r') l)) _ :=
      stepL_next (r := r') (logitL1_real h r') (vL_real h) (fun l => sumL1_apply _ _ _ r' l) d
    refine ⟨μ, fun l => ?_⟩
    have g := gain_causal (score1 Q K B1 (low r')) V (512 * t + 256) 256 r'.val l
    rw [show 512 * t + 256 + min 256 (r'.val + 1) = 512 * t + (low r').val + 1 by simp only [low]; omega] at g
    rw [← g]
    exact e l

end Tile

end Cert.Attn
-- ==== Proof.Blocks.lean ====
/- What the kernel leaves in its two output blocks at a grid point, as plain quotients of sums. -/
module

public import proofs.«01_k».proof.Proof.Tiles
public import proofs.«01_k».proof.Proof.Sweep
public import proofs.«01_k».proof.Proof.Gen.KernelIdeal.Value

@[expose] public section

set_option maxRecDepth 16384

noncomputable section

namespace Cert.Attn

open Idealize.ShloMosaic Idealize.ShloMosaic.TcCoe Idealize.ShloMosaic.Tactic Idealize.ShloMosaic.Pointwise Idealize.SL.Sem
open Cert.KernelIdeal Cert.KernelIdeal.Gen Cert.KernelIdeal.Facts

/-! ## The quotient -/

/-- The weighted mean of the first `n` keys' values, with weights `2 ^ s k`. -/
def mean (s : ℕ → ℝ) (V : ℕ → Fin 128 → ℝ) (n : ℕ) (l : Fin 128) : ℝ :=
  (∑ k ∈ Finset.range n, (2 : ℝ) ^ s k * V k l) / ∑ k ∈ Finset.range n, (2 : ℝ) ^ s k

/-- A lane of the values' half of the sums. -/
def lane (l : Fin 128) : Fin 256 := ⟨l.val, by omega⟩
/-- A lane of the ones' half. -/
def oneLane (l : Fin 128) : Fin 256 := ⟨128 + l.val, by omega⟩

theorem upTo_lane (s : ℕ → ℝ) (V : ℕ → Fin 128 → ℝ) (n : ℕ) (l : Fin 128) :
    upTo s V n (lane l) = ∑ k ∈ Finset.range n, (2 : ℝ) ^ s k * V k l :=
  Finset.sum_congr rfl fun k _ => by rw [withOnes, dif_pos (show (lane l).val < 128 from l.isLt)]; rfl

theorem upTo_one (s : ℕ → ℝ) (V : ℕ → Fin 128 → ℝ) (n : ℕ) (l : Fin 128) :
    upTo s V n (oneLane l) = ∑ k ∈ Finset.range n, (2 : ℝ) ^ s k :=
  Finset.sum_congr rfl fun k _ => by
    rw [withOnes, dif_neg (show ¬(oneLane l).val < 128 by simp only [oneLane]; omega), mul_one]

/-- The common factor cancels. -/
theorem div_upTo (μ : ℝ) (s : ℕ → ℝ) (V : ℕ → Fin 128 → ℝ) (n : ℕ) (hn : 0 < n) (l : Fin 128) :
    Ideal.div (((2 : ℝ) ^ (-μ) * upTo s V n (lane l) : ℝ) : EReal) (((2 : ℝ) ^ (-μ) * upTo s V n (oneLane l) : ℝ) : EReal)
      = (mean s V n l : EReal) := by
  have h2 : (0 : ℝ) < (2 : ℝ) ^ (-μ) := Real.rpow_pos_of_pos two_pos _
  have hs : 0 < ∑ k ∈ Finset.range n, (2 : ℝ) ^ s k :=
    Finset.sum_pos (fun k _ => Real.rpow_pos_of_pos two_pos _) ⟨0, Finset.mem_range.mpr hn⟩
  rw [upTo_lane, upTo_one, Ideal.div_coe (mul_pos h2 hs).ne', ← EReal.coe_mul, mul_one_div, mul_div_mul_left _ _ h2.ne']
  rfl

theorem numer_apply (a : FVec Ideal S512x256 .f32) (r : Fin 512) (l : Fin 128) : numer a (ix2 r l) = a (ix2 r (lane l)) := by
  pointwise [numer, lane]
theorem denom_apply (a : FVec Ideal S512x256 .f32) (r : Fin 512) (l : Fin 128) : denom a (ix2 r l) = a (ix2 r (oneLane l)) := by
  pointwise [denom, oneLane]

section Tile

variable {L : Loads Ideal} {t : ℕ} {Q : Fin 512 → Fin 128 → ℝ} {K V : ℕ → Fin 128 → ℝ} {B0 B1 : ℕ → ℝ} (h : Reals L t Q K V B0 B1)
include h

theorem div0 (r : Fin 512) (l : Fin 128) :
    Ideal.div (numer (tile L t).a0 (ix2 r l)) (denom (tile L t).a0 (ix2 r l))
      = (mean (score0 Q K B0 r) V (512 * t + r.val + 1) l : EReal) := by
  obtain ⟨μ, e⟩ := tile0 h r
  rw [numer_apply, denom_apply, e, e, div_upTo _ _ _ _ (Nat.succ_pos _)]

theorem div1 (r : Fin 512) (l : Fin 128) :
    Ideal.div (numer (tile L t).a1 (ix2 r l)) (denom (tile L t).a1 (ix2 r l))
      = (mean (score1 Q K B1 r) V (512 * t + r.val + 1) l : EReal) := by
  obtain ⟨μ, e⟩ := tile1 h r
  rw [numer_apply, denom_apply, e, e, div_upTo _ _ _ _ (Nat.succ_pos _)]

theorem foxOut_apply (r : Fin 512) (l : Fin 128) :
    foxOut (tile L t) (ix3 0 r l)
      = ((if l.val < 64 then mean (score0 Q K B0 r) V (512 * t + r.val + 1) l
          else mean (score1 Q K B1 r) V (512 * t + r.val + 1) l : ℝ) : EReal) := by
  pointwise [foxOut]
  rw [loMask_apply, WordCmp.select_ofBool, WordCmp.select_ofBool]
  by_cases hl : l.val < 64
  · simp only [hl, decide_true, if_true]; exact div0 h r l
  · simp only [hl, decide_false, if_false]; exact div1 h r l

theorem diffMix_apply (lam : FVec Ideal S1x1 .f32) (r : Fin 512) (l : Fin 128) :
    diffMix lam (tile L t) (ix2 r l)
      = (mean (score0 Q K B0 r) V (512 * t + r.val + 1) l : EReal)
        - lam (ix2 0 0) * (mean (score1 Q K B1 r) V (512 * t + r.val + 1) l : EReal) := by
  rw [← div0 h, ← div1 h]
  pointwise [diffMix]

end Tile

/-- The norm of a row. -/
theorem diffNorm_apply (o : FVec Ideal S512x128 .f32) (g : Vec Ideal S1x128 .f32) (r : Fin 512) (l : Fin 128) :
    diffNorm o g (ix3 0 r l)
      = o (ix2 r l) * Ideal.rsqrt (Ideal.div (∑ k : Fin 128, o (ix2 r k) * o (ix2 r k)) (Ideal.ofBits .f32 0x43000000#32)
          + Ideal.ofBits .f32 0x358637BD#32) * g (ix2 0 l) * Ideal.ofBits .f32 0x3F4CCCCD#32 := by
  pointwise [diffNorm]

/-! ## The loads -/

theorem ldW_apply (a : Memref sig .tc .vmem S1x2048x128 .bf16) (h : a.IsWhole) (x : Vec Ideal S1x2048x128 .bf16) (o : ℕ) (inb)
    (r : Fin 512) (l : Fin 128) (ho : o + r.val < 2048) : ldW a h x o inb (ix3 0 r l) = x (ix3 0 ⟨o + r.val, ho⟩ l) := by
  rw [ldW, View.readAt_eq_ld, Memref.IsWhole.read_unread]
  refine View.ld_unit_apply_of _ _ _ _ _ _ fun d => ?_
  fin_cases d <;> simp [ix3]

theorem ldN_apply (a : Memref sig .tc .vmem S1x2048x128 .bf16) (h : a.IsWhole) (x : Vec Ideal S1x2048x128 .bf16) (o : ℕ) (inb)
    (r : Fin 256) (l : Fin 128) (ho : o + r.val < 2048) : ldN a h x o inb (ix3 0 r l) = x (ix3 0 ⟨o + r.val, ho⟩ l) := by
  rw [ldN, View.readAt_eq_ld, Memref.IsWhole.read_unread]
  refine View.ld_unit_apply_of _ _ _ _ _ _ fun d => ?_
  fin_cases d <;> simp [ix3]

theorem rowW_apply (a : Memref sig .tc .vmem S1x8x2048 .f32) (h : a.IsWhole) (x : Vec Ideal S1x8x2048 .f32) (off : Fin 3 → ℕ) (inb)
    (e : Fin 8) (o : ℕ) (hoff : off = ![0, e.val, o]) (j : Fin 512) (ho : o + j.val < 2048) :
    rowW (ldBW a h x off inb) (ix2 0 j)
      = x (ix3 0 e ⟨o + j.val, ho⟩) := by
  subst hoff
  rw [ldBW, View.readAt_eq_ld, Memref.IsWhole.read_unread]
  pointwise [rowW]

theorem rowN_apply (a : Memref sig .tc .vmem S1x8x2048 .f32) (h : a.IsWhole) (x : Vec Ideal S1x8x2048 .f32) (off : Fin 3 → ℕ) (inb)
    (e : Fin 8) (o : ℕ) (hoff : off = ![0, e.val, o]) (j : Fin 256) (ho : o + j.val < 2048) :
    rowN (ldBN a h x off inb) (ix2 0 j)
      = x (ix3 0 e ⟨o + j.val, ho⟩) := by
  subst hoff
  rw [ldBN, View.readAt_eq_ld, Memref.IsWhole.read_unread]
  pointwise [rowN]

/-- The slope of the differential head `h`, in units of the base 2 logarithm. -/
def slopeR (h : ℕ) : ℝ := (Real.log 2)⁻¹ * (2 : ℝ) ^ (-2 * ((h : ℝ) + 1))

theorem neg_two : Ideal.ofBits .f32 0xC0000000#32 = ((-2 : ℝ) : EReal) := by
  simp [Ideal.ofBits, Ideal.ieee, -EReal.coe_neg]; norm_num

theorem log2e_eq : (Named.named κ "log2e" 0x3FB8AA3B#32 : Ideal .f32) = (((Real.log 2)⁻¹ : ℝ) : EReal) := rfl

theorem toInt_ofNat {n : ℕ} (hn : n < 2 ^ 31) : ((BitVec.ofNat 32 n).toInt : ℝ) = (n : ℝ) := by
  have : (BitVec.ofNat 32 n).toInt = (n : ℤ) := by
    rw [BitVec.toInt_ofNat']; rw [Int.bmod_def]; omega
  rw [this]; simp

theorem sitofp_add (a b : ℕ) (h : a + b < 2 ^ 31) :
    FloatOps.sitofp (F := Ideal) .f32 (IntOp.addi (BitVec.ofNat 32 a) (BitVec.ofNat 32 b)) = (((a + b : ℕ) : ℝ) : EReal) := by
  rw [show IntOp.addi (BitVec.ofNat 32 a) (BitVec.ofNat 32 b) = BitVec.ofNat 32 (a + b) from (BitVec.ofNat_add ..).symm]
  exact congrArg (fun r : ℝ => (r : EReal)) (toInt_ofNat h)

theorem slope_apply (h : ℕ) (hh : h < 4) :
    slope (F := Ideal) (BitVec.ofNat 32 h) (ix2 0 0) = (((2 : ℝ) ^ (-2 * ((h : ℝ) + 1)) : ℝ) : EReal) := by
  pointwise [slope, exp2_eq, neg_two]
  rw [← exp2_real, EReal.coe_mul]
  congr 3
  exact (sitofp_add h 1 (by omega)).trans (by push_cast; rfl)

theorem slopeW_apply (h : ℕ) (hh : h < 4) (o : ℕ) (ho : o < 2048) (j : Fin 512) (N : ℕ) (hN : N = o + j.val) :
    slopeW (F := Ideal) (slope (BitVec.ofNat 32 h)) (BitVec.ofNat 32 o) (ix2 0 j) = ((slopeR h * (N : ℝ) : ℝ) : EReal) := by
  pointwise [slopeW, log2e_eq]
  rw [slope_apply h hh, sitofp_add o j.val (by omega), ← EReal.coe_mul, ← EReal.coe_mul, hN]
  rfl

theorem slopeN_apply (h : ℕ) (hh : h < 4) (o : ℕ) (ho : o < 2048) (j : Fin 256) (N : ℕ) (hN : N = o + j.val) :
    slopeN (F := Ideal) (slope (BitVec.ofNat 32 h)) (BitVec.ofNat 32 o) (ix2 0 j) = ((slopeR h * (N : ℝ) : ℝ) : EReal) := by
  pointwise [slopeN, log2e_eq]
  rw [slope_apply h hh, sitofp_add o j.val (by omega), ← EReal.coe_mul, ← EReal.coe_mul, hN]
  rfl

/-- The weight of the second softmax. -/
def lamE (v : Vec Ideal S4x64 .f32) : EReal :=
  Ideal.exp (∑ l : Fin 64, v (ix2 0 l) * v (ix2 1 l)) - Ideal.exp (∑ l : Fin 64, v (ix2 2 l) * v (ix2 3 l)) + Ideal.ofBits .f32 0x3E4CCCCD#32

theorem lam_apply (v : Vec Ideal S4x64 .f32) : lam v (ix2 0 0) = lamE v := by
  pointwise [lam, lamE]

theorem ldLam_eq (a : Memref sig .tc .vmem S4x64 .f32) (h : a.IsWhole) (x : Vec Ideal S4x64 .f32) : ldLam a h x = x := by
  rw [ldLam, View.readAt_eq_ld, Memref.IsWhole.read_unread]
  funext j; idx_vars j
  pointwise

theorem ldGain_eq (a : Memref sig .tc .vmem S1x128 .f32) (h : a.IsWhole) (x : Vec Ideal S1x128 .f32) : ldGain a h x = x := by
  rw [ldGain, View.readAt_eq_ld, Memref.IsWhole.read_unread]
  funext j; idx_vars j
  pointwise
  rw [Subsingleton.elim j0 0]

attribute [local irreducible] ldW ldN ldBW ldBN rowW rowN

/-! ## A tile's loads as reals -/

/-- A block's rows as reals. -/
def Rows (x : Vec Ideal S1x2048x128 .bf16) (X : ℕ → Fin 128 → ℝ) : Prop := ∀ (R : Fin 2048) (l : Fin 128), x (ix3 0 R l) = (X R.val l : EReal)

theorem lt_four (i : grid0.Coords) : (i 1).val < 4 := (i 1).isLt

/-- The row of the fox biases behind a grid point's head `e`. -/
def row (i : grid0.Coords) (e : Fin 2) : Fin 8 := ⟨2 * (i 1).val + e.val, by have h : (i 1).val < 4 := (i 1).isLt; omega⟩

theorem off1_0 (i : grid0.Coords) : k0_off1 i 0#32 = ![0, (row i 0).val, 0] := k0_off1_eq i 0
theorem off1_1 (i : grid0.Coords) : k0_off1 i 1#32 = ![0, (row i 1).val, 0] := k0_off1_eq i 1
theorem off2_0 (i : grid0.Coords) : k0_off2 i 0#32 = ![0, (row i 0).val, 256] := k0_off2_eq i 0
theorem off2_1 (i : grid0.Coords) : k0_off2 i 1#32 = ![0, (row i 1).val, 256] := k0_off2_eq i 1
theorem off3_0 (i : grid0.Coords) : k0_off3 i 0#32 = ![0, (row i 0).val, 0] := k0_off3_eq i 0
theorem off3_1 (i : grid0.Coords) : k0_off3 i 1#32 = ![0, (row i 1).val, 0] := k0_off3_eq i 1
theorem off4_0 (i : grid0.Coords) : k0_off4 i 0#32 = ![0, (row i 0).val, 512] := k0_off4_eq i 0
theorem off4_1 (i : grid0.Coords) : k0_off4 i 1#32 = ![0, (row i 1).val, 512] := k0_off4_eq i 1
theorem off5_0 (i : grid0.Coords) : k0_off5 i 0#32 = ![0, (row i 0).val, 768] := k0_off5_eq i 0
theorem off5_1 (i : grid0.Coords) : k0_off5 i 1#32 = ![0, (row i 1).val, 768] := k0_off5_eq i 1
theorem off6_0 (i : grid0.Coords) : k0_off6 i 0#32 = ![0, (row i 0).val, 512] := k0_off6_eq i 0
theorem off6_1 (i : grid0.Coords) : k0_off6 i 1#32 = ![0, (row i 1).val, 512] := k0_off6_eq i 1
theorem off7_0 (i : grid0.Coords) : k0_off7 i 0#32 = ![0, (row i 0).val, 1024] := k0_off7_eq i 0
theorem off7_1 (i : grid0.Coords) : k0_off7 i 1#32 = ![0, (row i 1).val, 1024] := k0_off7_eq i 1
theorem off8_0 (i : grid0.Coords) : k0_off8 i 0#32 = ![0, (row i 0).val, 1280] := k0_off8_eq i 0
theorem off8_1 (i : grid0.Coords) : k0_off8 i 1#32 = ![0, (row i 1).val, 1280] := k0_off8_eq i 1
theorem off9_0 (i : grid0.Coords) : k0_off9 i 0#32 = ![0, (row i 0).val, 1024] := k0_off9_eq i 0
theorem off9_1 (i : grid0.Coords) : k0_off9 i 1#32 = ![0, (row i 1).val, 1024] := k0_off9_eq i 1
theorem off10_0 (i : grid0.Coords) : k0_off10 i 0#32 = ![0, (row i 0).val, 1536] := k0_off10_eq i 0
theorem off10_1 (i : grid0.Coords) : k0_off10 i 1#32 = ![0, (row i 1).val, 1536] := k0_off10_eq i 1
theorem off11_0 (i : grid0.Coords) : k0_off11 i 0#32 = ![0, (row i 0).val, 1792] := k0_off11_eq i 0
theorem off11_1 (i : grid0.Coords) : k0_off11 i 1#32 = ![0, (row i 1).val, 1792] := k0_off11_eq i 1

set_option maxHeartbeats 4000000 in
theorem foxL0_reals (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8x2048 .f32) (harg5 : arg5.IsWhole)
    {x0 x1 x2 : Vec Ideal S1x2048x128 .bf16} {x3 : Vec Ideal S1x8x2048 .f32} {Q K V : ℕ → Fin 128 → ℝ} {B0 B1 : ℕ → ℝ} (hq : Rows x0 Q) (hk : Rows x1 K) (hv : Rows x2 V)
    (hb0 : ∀ k : Fin 2048, x3 (ix3 0 (row i 0) k) = (B0 k.val : EReal)) (hb1 : ∀ k : Fin 2048, x3 (ix3 0 (row i 1) k) = (B1 k.val : EReal)) :
    Reals (foxL0 i arg2 harg2 arg3 harg3 arg4 harg4 arg5 harg5 x0 x1 x2 x3) 0 (fun r => Q (0 + r.val)) K V B0 B1 := by
    unfold foxL0
    constructor
    · exact fun i l => (ldW_apply _ _ _ 0 _ i l (by omega)).trans (hq ⟨0 + i.val, by omega⟩ l)
    · exact fun n hn => absurd hn (Nat.not_lt_zero n)
    · exact fun n hn => absurd hn (Nat.not_lt_zero n)
    · exact fun n hn => absurd hn (Nat.not_lt_zero n)
    · exact fun n hn => absurd hn (Nat.not_lt_zero n)
    · exact fun i l => (ldN_apply _ _ _ 0 _ i l (by omega)).trans (hk ⟨0 + i.val, by omega⟩ l)
    · exact fun i l => (ldN_apply _ _ _ 0 _ i l (by omega)).trans (hv ⟨0 + i.val, by omega⟩ l)
    · exact fun j => (rowN_apply _ _ _ _ _ (row i 0) 0 (off1_0 i) j (by omega)).trans (hb0 ⟨0 + j.val, by omega⟩)
    · exact fun j => (rowN_apply _ _ _ _ _ (row i 1) 0 (off1_1 i) j (by omega)).trans (hb1 ⟨0 + j.val, by omega⟩)
    · exact fun i l => (ldN_apply _ _ _ 256 _ i l (by omega)).trans (hk ⟨256 + i.val, by omega⟩ l)
    · exact fun i l => (ldN_apply _ _ _ 256 _ i l (by omega)).trans (hv ⟨256 + i.val, by omega⟩ l)
    · exact fun j => (rowN_apply _ _ _ _ _ (row i 0) 256 (off2_0 i) j (by omega)).trans (hb0 ⟨256 + j.val, by omega⟩)
    · exact fun j => (rowN_apply _ _ _ _ _ (row i 1) 256 (off2_1 i) j (by omega)).trans (hb1 ⟨256 + j.val, by omega⟩)

set_option maxHeartbeats 2000000 in
theorem diffL0_reals (i : grid0.Coords) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole)
    {x4 x5 x6 : Vec Ideal S1x2048x128 .bf16} {Q K V : ℕ → Fin 128 → ℝ} (hq : Rows x4 Q) (hk : Rows x5 K) (hv : Rows x6 V) :
    Reals (diffL0 i arg6 harg6 arg7 harg7 arg8 harg8 x4 x5 x6) 0 (fun r => Q (0 + r.val)) K V
      (fun k => slopeR (i 1).val * (k : ℝ)) (fun k => slopeR (i 1).val * (k : ℝ)) := by
    unfold diffL0
    constructor
    · exact fun i l => (ldW_apply _ _ _ 0 _ i l (by omega)).trans (hq ⟨0 + i.val, by omega⟩ l)
    · exact fun n hn => absurd hn (Nat.not_lt_zero n)
    · exact fun n hn => absurd hn (Nat.not_lt_zero n)
    · exact fun n hn => absurd hn (Nat.not_lt_zero n)
    · exact fun n hn => absurd hn (Nat.not_lt_zero n)
    · exact fun i l => (ldN_apply _ _ _ 0 _ i l (by omega)).trans (hk ⟨0 + i.val, by omega⟩ l)
    · exact fun i l => (ldN_apply _ _ _ 0 _ i l (by omega)).trans (hv ⟨0 + i.val, by omega⟩ l)
    · exact fun j => by exact slopeN_apply (i 1).val (lt_four i) 0 (by omega) j _ (by omega)
    · exact fun j => by exact slopeN_apply (i 1).val (lt_four i) 0 (by omega) j _ (by omega)
    · exact fun i l => (ldN_apply _ _ _ 256 _ i l (by omega)).trans (hk ⟨256 + i.val, by omega⟩ l)
    · exact fun i l => (ldN_apply _ _ _ 256 _ i l (by omega)).trans (hv ⟨256 + i.val, by omega⟩ l)
    · exact fun j => by exact slopeN_apply (i 1).val (lt_four i) 256 (by omega) j _ (by omega)
    · exact fun j => by exact slopeN_apply (i 1).val (lt_four i) 256 (by omega) j _ (by omega)

set_option maxHeartbeats 4000000 in
theorem foxL1_reals (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8x2048 .f32) (harg5 : arg5.IsWhole)
    {x0 x1 x2 : Vec Ideal S1x2048x128 .bf16} {x3 : Vec Ideal S1x8x2048 .f32} {Q K V : ℕ → Fin 128 → ℝ} {B0 B1 : ℕ → ℝ} (hq : Rows x0 Q) (hk : Rows x1 K) (hv : Rows x2 V)
    (hb0 : ∀ k : Fin 2048, x3 (ix3 0 (row i 0) k) = (B0 k.val : EReal)) (hb1 : ∀ k : Fin 2048, x3 (ix3 0 (row i 1) k) = (B1 k.val : EReal)) :
    Reals (foxL1 i arg2 harg2 arg3 harg3 arg4 harg4 arg5 harg5 x0 x1 x2 x3) 1 (fun r => Q (512 + r.val)) K V B0 B1 := by
    unfold foxL1
    constructor
    · exact fun i l => (ldW_apply _ _ _ 512 _ i l (by omega)).trans (hq ⟨512 + i.val, by omega⟩ l)
    · exact fun n hn => match n, hn with
      | 0, _ => fun i l => (ldW_apply _ _ _ 0 _ i l (by omega)).trans (hk ⟨0 + i.val, by omega⟩ l)
      | n + 1, hn => absurd hn (by omega)
    · exact fun n hn => match n, hn with
      | 0, _ => fun i l => (ldW_apply _ _ _ 0 _ i l (by omega)).trans (hv ⟨0 + i.val, by omega⟩ l)
      | n + 1, hn => absurd hn (by omega)
    · exact fun n hn => match n, hn with
      | 0, _ => fun j => (rowW_apply _ _ _ _ _ (row i 0) 0 (off3_0 i) j (by omega)).trans (hb0 ⟨0 + j.val, by omega⟩)
      | n + 1, hn => absurd hn (by omega)
    · exact fun n hn => match n, hn with
      | 0, _ => fun j => (rowW_apply _ _ _ _ _ (row i 1) 0 (off3_1 i) j (by omega)).trans (hb1 ⟨0 + j.val, by omega⟩)
      | n + 1, hn => absurd hn (by omega)
    · exact fun i l => (ldN_apply _ _ _ 512 _ i l (by omega)).trans (hk ⟨512 + i.val, by omega⟩ l)
    · exact fun i l => (ldN_apply _ _ _ 512 _ i l (by omega)).trans (hv ⟨512 + i.val, by omega⟩ l)
    · exact fun j => (rowN_apply _ _ _ _ _ (row i 0) 512 (off4_0 i) j (by omega)).trans (hb0 ⟨512 + j.val, by omega⟩)
    · exact fun j => (rowN_apply _ _ _ _ _ (row i 1) 512 (off4_1 i) j (by omega)).trans (hb1 ⟨512 + j.val, by omega⟩)
    · exact fun i l => (ldN_apply _ _ _ 768 _ i l (by omega)).trans (hk ⟨768 + i.val, by omega⟩ l)
    · exact fun i l => (ldN_apply _ _ _ 768 _ i l (by omega)).trans (hv ⟨768 + i.val, by omega⟩ l)
    · exact fun j => (rowN_apply _ _ _ _ _ (row i 0) 768 (off5_0 i) j (by omega)).trans (hb0 ⟨768 + j.val, by omega⟩)
    · exact fun j => (rowN_apply _ _ _ _ _ (row i 1) 768 (off5_1 i) j (by omega)).trans (hb1 ⟨768 + j.val, by omega⟩)

set_option maxHeartbeats 2000000 in
theorem diffL1_reals (i : grid0.Coords) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole)
    {x4 x5 x6 : Vec Ideal S1x2048x128 .bf16} {Q K V : ℕ → Fin 128 → ℝ} (hq : Rows x4 Q) (hk : Rows x5 K) (hv : Rows x6 V) :
    Reals (diffL1 i arg6 harg6 arg7 harg7 arg8 harg8 x4 x5 x6) 1 (fun r => Q (512 + r.val)) K V
      (fun k => slopeR (i 1).val * (k : ℝ)) (fun k => slopeR (i 1).val * (k : ℝ)) := by
    unfold diffL1
    constructor
    · exact fun i l => (ldW_apply _ _ _ 512 _ i l (by omega)).trans (hq ⟨512 + i.val, by omega⟩ l)
    · exact fun n hn => match n, hn with
      | 0, _ => fun i l => (ldW_apply _ _ _ 0 _ i l (by omega)).trans (hk ⟨0 + i.val, by omega⟩ l)
      | n + 1, hn => absurd hn (by omega)
    · exact fun n hn => match n, hn with
      | 0, _ => fun i l => (ldW_apply _ _ _ 0 _ i l (by omega)).trans (hv ⟨0 + i.val, by omega⟩ l)
      | n + 1, hn => absurd hn (by omega)
    · exact fun n hn => match n, hn with
      | 0, _ => fun j => by exact slopeW_apply (i 1).val (lt_four i) 0 (by omega) j _ (by omega)
      | n + 1, hn => absurd hn (by omega)
    · exact fun n hn => match n, hn with
      | 0, _ => fun j => by exact slopeW_apply (i 1).val (lt_four i) 0 (by omega) j _ (by omega)
      | n + 1, hn => absurd hn (by omega)
    · exact fun i l => (ldN_apply _ _ _ 512 _ i l (by omega)).trans (hk ⟨512 + i.val, by omega⟩ l)
    · exact fun i l => (ldN_apply _ _ _ 512 _ i l (by omega)).trans (hv ⟨512 + i.val, by omega⟩ l)
    · exact fun j => by exact slopeN_apply (i 1).val (lt_four i) 512 (by omega) j _ (by omega)
    · exact fun j => by exact slopeN_apply (i 1).val (lt_four i) 512 (by omega) j _ (by omega)
    · exact fun i l => (ldN_apply _ _ _ 768 _ i l (by omega)).trans (hk ⟨768 + i.val, by omega⟩ l)
    · exact fun i l => (ldN_apply _ _ _ 768 _ i l (by omega)).trans (hv ⟨768 + i.val, by omega⟩ l)
    · exact fun j => by exact slopeN_apply (i 1).val (lt_four i) 768 (by omega) j _ (by omega)
    · exact fun j => by exact slopeN_apply (i 1).val (lt_four i) 768 (by omega) j _ (by omega)

set_option maxHeartbeats 4000000 in
theorem foxL2_reals (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8x2048 .f32) (harg5 : arg5.IsWhole)
    {x0 x1 x2 : Vec Ideal S1x2048x128 .bf16} {x3 : Vec Ideal S1x8x2048 .f32} {Q K V : ℕ → Fin 128 → ℝ} {B0 B1 : ℕ → ℝ} (hq : Rows x0 Q) (hk : Rows x1 K) (hv : Rows x2 V)
    (hb0 : ∀ k : Fin 2048, x3 (ix3 0 (row i 0) k) = (B0 k.val : EReal)) (hb1 : ∀ k : Fin 2048, x3 (ix3 0 (row i 1) k) = (B1 k.val : EReal)) :
    Reals (foxL2 i arg2 harg2 arg3 harg3 arg4 harg4 arg5 harg5 x0 x1 x2 x3) 2 (fun r => Q (1024 + r.val)) K V B0 B1 := by
    unfold foxL2
    constructor
    · exact fun i l => (ldW_apply _ _ _ 1024 _ i l (by omega)).trans (hq ⟨1024 + i.val, by omega⟩ l)
    · exact fun n hn => match n, hn with
      | 0, _ => fun i l => (ldW_apply _ _ _ 0 _ i l (by omega)).trans (hk ⟨0 + i.val, by omega⟩ l)
      | 1, _ => fun i l => (ldW_apply _ _ _ 512 _ i l (by omega)).trans (hk ⟨512 + i.val, by omega⟩ l)
      | n + 2, hn => absurd hn (by omega)
    · exact fun n hn => match n, hn with
      | 0, _ => fun i l => (ldW_apply _ _ _ 0 _ i l (by omega)).trans (hv ⟨0 + i.val, by omega⟩ l)
      | 1, _ => fun i l => (ldW_apply _ _ _ 512 _ i l (by omega)).trans (hv ⟨512 + i.val, by omega⟩ l)
      | n + 2, hn => absurd hn (by omega)
    · exact fun n hn => match n, hn with
      | 0, _ => fun j => (rowW_apply _ _ _ _ _ (row i 0) 0 (off3_0 i) j (by omega)).trans (hb0 ⟨0 + j.val, by omega⟩)
      | 1, _ => fun j => (rowW_apply _ _ _ _ _ (row i 0) 512 (off6_0 i) j (by omega)).trans (hb0 ⟨512 + j.val, by omega⟩)
      | n + 2, hn => absurd hn (by omega)
    · exact fun n hn => match n, hn with
      | 0, _ => fun j => (rowW_apply _ _ _ _ _ (row i 1) 0 (off3_1 i) j (by omega)).trans (hb1 ⟨0 + j.val, by omega⟩)
      | 1, _ => fun j => (rowW_apply _ _ _ _ _ (row i 1) 512 (off6_1 i) j (by omega)).trans (hb1 ⟨512 + j.val, by omega⟩)
      | n + 2, hn => absurd hn (by omega)
    · exact fun i l => (ldN_apply _ _ _ 1024 _ i l (by omega)).trans (hk ⟨1024 + i.val, by omega⟩ l)
    · exact fun i l => (ldN_apply _ _ _ 1024 _ i l (by omega)).trans (hv ⟨1024 + i.val, by omega⟩ l)
    · exact fun j => (rowN_apply _ _ _ _ _ (row i 0) 1024 (off7_0 i) j (by omega)).trans (hb0 ⟨1024 + j.val, by omega⟩)
    · exact fun j => (rowN_apply _ _ _ _ _ (row i 1) 1024 (off7_1 i) j (by omega)).trans (hb1 ⟨1024 + j.val, by omega⟩)
    · exact fun i l => (ldN_apply _ _ _ 1280 _ i l (by omega)).trans (hk ⟨1280 + i.val, by omega⟩ l)
    · exact fun i l => (ldN_apply _ _ _ 1280 _ i l (by omega)).trans (hv ⟨1280 + i.val, by omega⟩ l)
    · exact fun j => (rowN_apply _ _ _ _ _ (row i 0) 1280 (off8_0 i) j (by omega)).trans (hb0 ⟨1280 + j.val, by omega⟩)
    · exact fun j => (rowN_apply _ _ _ _ _ (row i 1) 1280 (off8_1 i) j (by omega)).trans (hb1 ⟨1280 + j.val, by omega⟩)

set_option maxHeartbeats 2000000 in
theorem diffL2_reals (i : grid0.Coords) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole)
    {x4 x5 x6 : Vec Ideal S1x2048x128 .bf16} {Q K V : ℕ → Fin 128 → ℝ} (hq : Rows x4 Q) (hk : Rows x5 K) (hv : Rows x6 V) :
    Reals (diffL2 i arg6 harg6 arg7 harg7 arg8 harg8 x4 x5 x6) 2 (fun r => Q (1024 + r.val)) K V
      (fun k => slopeR (i 1).val * (k : ℝ)) (fun k => slopeR (i 1).val * (k : ℝ)) := by
    unfold diffL2
    constructor
    · exact fun i l => (ldW_apply _ _ _ 1024 _ i l (by omega)).trans (hq ⟨1024 + i.val, by omega⟩ l)
    · exact fun n hn => match n, hn with
      | 0, _ => fun i l => (ldW_apply _ _ _ 0 _ i l (by omega)).trans (hk ⟨0 + i.val, by omega⟩ l)
      | 1, _ => fun i l => (ldW_apply _ _ _ 512 _ i l (by omega)).trans (hk ⟨512 + i.val, by omega⟩ l)
      | n + 2, hn => absurd hn (by omega)
    · exact fun n hn => match n, hn with
      | 0, _ => fun i l => (ldW_apply _ _ _ 0 _ i l (by omega)).trans (hv ⟨0 + i.val, by omega⟩ l)
      | 1, _ => fun i l => (ldW_apply _ _ _ 512 _ i l (by omega)).trans (hv ⟨512 + i.val, by omega⟩ l)
      | n + 2, hn => absurd hn (by omega)
    · exact fun n hn => match n, hn with
      | 0, _ => fun j => by exact slopeW_apply (i 1).val (lt_four i) 0 (by omega) j _ (by omega)
      | 1, _ => fun j => by exact slopeW_apply (i 1).val (lt_four i) 512 (by omega) j _ (by omega)
      | n + 2, hn => absurd hn (by omega)
    · exact fun n hn => match n, hn with
      | 0, _ => fun j => by exact slopeW_apply (i 1).val (lt_four i) 0 (by omega) j _ (by omega)
      | 1, _ => fun j => by exact slopeW_apply (i 1).val (lt_four i) 512 (by omega) j _ (by omega)
      | n + 2, hn => absurd hn (by omega)
    · exact fun i l => (ldN_apply _ _ _ 1024 _ i l (by omega)).trans (hk ⟨1024 + i.val, by omega⟩ l)
    · exact fun i l => (ldN_apply _ _ _ 1024 _ i l (by omega)).trans (hv ⟨1024 + i.val, by omega⟩ l)
    · exact fun j => by exact slopeN_apply (i 1).val (lt_four i) 1024 (by omega) j _ (by omega)
    · exact fun j => by exact slopeN_apply (i 1).val (lt_four i) 1024 (by omega) j _ (by omega)
    · exact fun i l => (ldN_apply _ _ _ 1280 _ i l (by omega)).trans (hk ⟨1280 + i.val, by omega⟩ l)
    · exact fun i l => (ldN_apply _ _ _ 1280 _ i l (by omega)).trans (hv ⟨1280 + i.val, by omega⟩ l)
    · exact fun j => by exact slopeN_apply (i 1).val (lt_four i) 1280 (by omega) j _ (by omega)
    · exact fun j => by exact slopeN_apply (i 1).val (lt_four i) 1280 (by omega) j _ (by omega)

set_option maxHeartbeats 4000000 in
theorem foxL3_reals (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8x2048 .f32) (harg5 : arg5.IsWhole)
    {x0 x1 x2 : Vec Ideal S1x2048x128 .bf16} {x3 : Vec Ideal S1x8x2048 .f32} {Q K V : ℕ → Fin 128 → ℝ} {B0 B1 : ℕ → ℝ} (hq : Rows x0 Q) (hk : Rows x1 K) (hv : Rows x2 V)
    (hb0 : ∀ k : Fin 2048, x3 (ix3 0 (row i 0) k) = (B0 k.val : EReal)) (hb1 : ∀ k : Fin 2048, x3 (ix3 0 (row i 1) k) = (B1 k.val : EReal)) :
    Reals (foxL3 i arg2 harg2 arg3 harg3 arg4 harg4 arg5 harg5 x0 x1 x2 x3) 3 (fun r => Q (1536 + r.val)) K V B0 B1 := by
    unfold foxL3
    constructor
    · exact fun i l => (ldW_apply _ _ _ 1536 _ i l (by omega)).trans (hq ⟨1536 + i.val, by omega⟩ l)
    · exact fun n hn => match n, hn with
      | 0, _ => fun i l => (ldW_apply _ _ _ 0 _ i l (by omega)).trans (hk ⟨0 + i.val, by omega⟩ l)
      | 1, _ => fun i l => (ldW_apply _ _ _ 512 _ i l (by omega)).trans (hk ⟨512 + i.val, by omega⟩ l)
      | 2, _ => fun i l => (ldW_apply _ _ _ 1024 _ i l (by omega)).trans (hk ⟨1024 + i.val, by omega⟩ l)
      | n + 3, hn => absurd hn (by omega)
    · exact fun n hn => match n, hn with
      | 0, _ => fun i l => (ldW_apply _ _ _ 0 _ i l (by omega)).trans (hv ⟨0 + i.val, by omega⟩ l)
      | 1, _ => fun i l => (ldW_apply _ _ _ 512 _ i l (by omega)).trans (hv ⟨512 + i.val, by omega⟩ l)
      | 2, _ => fun i l => (ldW_apply _ _ _ 1024 _ i l (by omega)).trans (hv ⟨1024 + i.val, by omega⟩ l)
      | n + 3, hn => absurd hn (by omega)
    · exact fun n hn => match n, hn with
      | 0, _ => fun j => (rowW_apply _ _ _ _ _ (row i 0) 0 (off3_0 i) j (by omega)).trans (hb0 ⟨0 + j.val, by omega⟩)
      | 1, _ => fun j => (rowW_apply _ _ _ _ _ (row i 0) 512 (off6_0 i) j (by omega)).trans (hb0 ⟨512 + j.val, by omega⟩)
      | 2, _ => fun j => (rowW_apply _ _ _ _ _ (row i 0) 1024 (off9_0 i) j (by omega)).trans (hb0 ⟨1024 + j.val, by omega⟩)
      | n + 3, hn => absurd hn (by omega)
    · exact fun n hn => match n, hn with
      | 0, _ => fun j => (rowW_apply _ _ _ _ _ (row i 1) 0 (off3_1 i) j (by omega)).trans (hb1 ⟨0 + j.val, by omega⟩)
      | 1, _ => fun j => (rowW_apply _ _ _ _ _ (row i 1) 512 (off6_1 i) j (by omega)).trans (hb1 ⟨512 + j.val, by omega⟩)
      | 2, _ => fun j => (rowW_apply _ _ _ _ _ (row i 1) 1024 (off9_1 i) j (by omega)).trans (hb1 ⟨1024 + j.val, by omega⟩)
      | n + 3, hn => absurd hn (by omega)
    · exact fun i l => (ldN_apply _ _ _ 1536 _ i l (by omega)).trans (hk ⟨1536 + i.val, by omega⟩ l)
    · exact fun i l => (ldN_apply _ _ _ 1536 _ i l (by omega)).trans (hv ⟨1536 + i.val, by omega⟩ l)
    · exact fun j => (rowN_apply _ _ _ _ _ (row i 0) 1536 (off10_0 i) j (by omega)).trans (hb0 ⟨1536 + j.val, by omega⟩)
    · exact fun j => (rowN_apply _ _ _ _ _ (row i 1) 1536 (off10_1 i) j (by omega)).trans (hb1 ⟨1536 + j.val, by omega⟩)
    · exact fun i l => (ldN_apply _ _ _ 1792 _ i l (by omega)).trans (hk ⟨1792 + i.val, by omega⟩ l)
    · exact fun i l => (ldN_apply _ _ _ 1792 _ i l (by omega)).trans (hv ⟨1792 + i.val, by omega⟩ l)
    · exact fun j => (rowN_apply _ _ _ _ _ (row i 0) 1792 (off11_0 i) j (by omega)).trans (hb0 ⟨1792 + j.val, by omega⟩)
    · exact fun j => (rowN_apply _ _ _ _ _ (row i 1) 1792 (off11_1 i) j (by omega)).trans (hb1 ⟨1792 + j.val, by omega⟩)

set_option maxHeartbeats 2000000 in
theorem diffL3_reals (i : grid0.Coords) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole)
    {x4 x5 x6 : Vec Ideal S1x2048x128 .bf16} {Q K V : ℕ → Fin 128 → ℝ} (hq : Rows x4 Q) (hk : Rows x5 K) (hv : Rows x6 V) :
    Reals (diffL3 i arg6 harg6 arg7 harg7 arg8 harg8 x4 x5 x6) 3 (fun r => Q (1536 + r.val)) K V
      (fun k => slopeR (i 1).val * (k : ℝ)) (fun k => slopeR (i 1).val * (k : ℝ)) := by
    unfold diffL3
    constructor
    · exact fun i l => (ldW_apply _ _ _ 1536 _ i l (by omega)).trans (hq ⟨1536 + i.val, by omega⟩ l)
    · exact fun n hn => match n, hn with
      | 0, _ => fun i l => (ldW_apply _ _ _ 0 _ i l (by omega)).trans (hk ⟨0 + i.val, by omega⟩ l)
      | 1, _ => fun i l => (ldW_apply _ _ _ 512 _ i l (by omega)).trans (hk ⟨512 + i.val, by omega⟩ l)
      | 2, _ => fun i l => (ldW_apply _ _ _ 1024 _ i l (by omega)).trans (hk ⟨1024 + i.val, by omega⟩ l)
      | n + 3, hn => absurd hn (by omega)
    · exact fun n hn => match n, hn with
      | 0, _ => fun i l => (ldW_apply _ _ _ 0 _ i l (by omega)).trans (hv ⟨0 + i.val, by omega⟩ l)
      | 1, _ => fun i l => (ldW_apply _ _ _ 512 _ i l (by omega)).trans (hv ⟨512 + i.val, by omega⟩ l)
      | 2, _ => fun i l => (ldW_apply _ _ _ 1024 _ i l (by omega)).trans (hv ⟨1024 + i.val, by omega⟩ l)
      | n + 3, hn => absurd hn (by omega)
    · exact fun n hn => match n, hn with
      | 0, _ => fun j => by exact slopeW_apply (i 1).val (lt_four i) 0 (by omega) j _ (by omega)
      | 1, _ => fun j => by exact slopeW_apply (i 1).val (lt_four i) 512 (by omega) j _ (by omega)
      | 2, _ => fun j => by exact slopeW_apply (i 1).val (lt_four i) 1024 (by omega) j _ (by omega)
      | n + 3, hn => absurd hn (by omega)
    · exact fun n hn => match n, hn with
      | 0, _ => fun j => by exact slopeW_apply (i 1).val (lt_four i) 0 (by omega) j _ (by omega)
      | 1, _ => fun j => by exact slopeW_apply (i 1).val (lt_four i) 512 (by omega) j _ (by omega)
      | 2, _ => fun j => by exact slopeW_apply (i 1).val (lt_four i) 1024 (by omega) j _ (by omega)
      | n + 3, hn => absurd hn (by omega)
    · exact fun i l => (ldN_apply _ _ _ 1536 _ i l (by omega)).trans (hk ⟨1536 + i.val, by omega⟩ l)
    · exact fun i l => (ldN_apply _ _ _ 1536 _ i l (by omega)).trans (hv ⟨1536 + i.val, by omega⟩ l)
    · exact fun j => by exact slopeN_apply (i 1).val (lt_four i) 1536 (by omega) j _ (by omega)
    · exact fun j => by exact slopeN_apply (i 1).val (lt_four i) 1536 (by omega) j _ (by omega)
    · exact fun i l => (ldN_apply _ _ _ 1792 _ i l (by omega)).trans (hk ⟨1792 + i.val, by omega⟩ l)
    · exact fun i l => (ldN_apply _ _ _ 1792 _ i l (by omega)).trans (hv ⟨1792 + i.val, by omega⟩ l)
    · exact fun j => by exact slopeN_apply (i 1).val (lt_four i) 1792 (by omega) j _ (by omega)
    · exact fun j => by exact slopeN_apply (i 1).val (lt_four i) 1792 (by omega) j _ (by omega)

end Cert.Attn
-- ==== Proof.Out.lean ====
/- The two output blocks of a grid point, read at an index. -/
module

public import proofs.«01_k».proof.Proof.Blocks
public import proofs.«01_k».proof.Proof.Spec
public import Idealize.ShloMosaic.Lib.Pipeline.ValueKit

@[expose] public section

set_option maxRecDepth 16384

noncomputable section

namespace Cert.Attn

open Idealize.ShloMosaic Idealize.ShloMosaic.TcCoe Idealize.ShloMosaic.Tactic Idealize.ShloMosaic.Pointwise Idealize.SL.Sem
open Cert.KernelIdeal Cert.KernelIdeal.Gen Cert.KernelIdeal.Facts
open Idealize.ShloMosaic.View

/-- The logit of row `R` and key `k` in the kernel's base two: a masked dot product of 128 lanes, and the key's bias. -/
def two0 (Q K : ℕ → Fin 128 → ℝ) (B : ℕ → ℝ) (R k : ℕ) : ℝ := ∑ l : Fin 128, (if l.val < 64 then Q R l else 0) * K k l + B k
/-- The same with the upper half of the lanes. -/
def two1 (Q K : ℕ → Fin 128 → ℝ) (B : ℕ → ℝ) (R k : ℕ) : ℝ := ∑ l : Fin 128, (if l.val < 64 then 0 else Q R l) * K k l + B k

/-- A tile of 512 rows, at offset `o`, of a block whose value at an index is known there. -/
theorem tileAt (o : ℕ) (y : S1x2048x128.Idx) (w : Vec Ideal S1x512x128 .bf16) (v : EReal)
    (h : ∀ (r : Fin 512) (l : Fin 128), (y 1).val = o + r.val → (y 2) = l → w (ix3 0 r l) = v) :
    TileAt (Val := Elt Ideal) (S := S1x2048x128) (e := .bf16) y ![0, o, 0] S1x512x128.size w v := by
  intro x hx
  have e0 : x = ix3 (x 0) (x 1) (x 2) := by funext a; fin_cases a <;> rfl
  have z : (x 0 : Fin 1) = (0 : Fin 1) := Subsingleton.elim (α := Fin 1) _ _
  rw [e0, z]
  refine h (x 1) (x 2) (hx 1) (Fin.ext ?_)
  simpa using hx 2

theorem fox_at (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8x2048 .f32) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S4x64 .f32) (harg9 : arg9.IsWhole) (arg10 : Memref sig .tc .vmem S1x128 .f32) (harg10 : arg10.IsWhole) (arg11 : Memref sig .tc .vmem S1x2048x128 .bf16) (harg11 : arg11.IsWhole) (arg12 : Memref sig .tc .vmem S1x2048x128 .bf16) (harg12 : arg12.IsWhole)
    (x0 x1 x2 : Vec Ideal S1x2048x128 .bf16) (x3 : Vec Ideal S1x8x2048 .f32) (x4 x5 x6 : Vec Ideal S1x2048x128 .bf16) (x7 : Vec Ideal S4x64 .f32) (x8 : Vec Ideal S1x128 .f32) {Q K V : ℕ → Fin 128 → ℝ} {B0 B1 : ℕ → ℝ} (hq : Rows x0 Q) (hk : Rows x1 K) (hv : Rows x2 V)
    (hb0 : ∀ k : Fin 2048, x3 (ix3 0 (row i 0) k) = (B0 k.val : EReal)) (hb1 : ∀ k : Fin 2048, x3 (ix3 0 (row i 1) k) = (B1 k.val : EReal))
    (y : S1x2048x128.Idx) :
    out0_A_9 c i arg2 harg2 arg3 harg3 arg4 harg4 arg5 harg5 arg6 harg6 arg7 harg7 arg8 harg8 arg9 harg9 arg10 harg10 arg11 harg11 arg12 harg12 x0 x1 x2 x3 x4 x5 x6 x7 x8 y
      = ((if (y 2).val < 64 then mean (two0 Q K B0 (y 1).val) V ((y 1).val + 1) (y 2)
          else mean (two1 Q K B1 (y 1).val) V ((y 1).val + 1) (y 2) : ℝ) : EReal) := by
  unfold out0_A_9
  rw [read_writes_junk_eq_canon]
  refine canon_eq_of_allAt _ y _ (cover0_A_9 c i arg2 harg2 arg3 harg3 arg4 harg4 arg5 harg5 arg6 harg6 arg7 harg7 arg8 harg8 arg9 harg9 arg10 harg10 arg11 harg11 arg12 harg12 x0 x1 x2 x3 x4 x5 x6 x7 x8 y) ?_
  rw [pieces9]
  refine allAt_cons_unit _ _ _ _ _ (tileAt 1536 y _ _ fun r l h1 h2 => ?_) ?_
  · rw [foxOut_apply (foxL3_reals i arg2 harg2 arg3 harg3 arg4 harg4 arg5 harg5 hq hk hv hb0 hb1), h1, h2]; rfl
  refine allAt_cons_unit _ _ _ _ _ (tileAt 1024 y _ _ fun r l h1 h2 => ?_) ?_
  · rw [foxOut_apply (foxL2_reals i arg2 harg2 arg3 harg3 arg4 harg4 arg5 harg5 hq hk hv hb0 hb1), h1, h2]; rfl
  refine allAt_cons_unit _ _ _ _ _ (tileAt 512 y _ _ fun r l h1 h2 => ?_) ?_
  · rw [foxOut_apply (foxL1_reals i arg2 harg2 arg3 harg3 arg4 harg4 arg5 harg5 hq hk hv hb0 hb1), h1, h2]; rfl
  refine allAt_cons_unit _ _ _ _ _ (tileAt 0 y _ _ fun r l h1 h2 => ?_) ?_
  · rw [foxOut_apply (foxL0_reals i arg2 harg2 arg3 harg3 arg4 harg4 arg5 harg5 hq hk hv hb0 hb1), h1, h2]; rfl
  exact allAt_nil _ _

theorem diff_at (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x8x2048 .f32) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S4x64 .f32) (harg9 : arg9.IsWhole) (arg10 : Memref sig .tc .vmem S1x128 .f32) (harg10 : arg10.IsWhole) (arg11 : Memref sig .tc .vmem S1x2048x128 .bf16) (harg11 : arg11.IsWhole) (arg12 : Memref sig .tc .vmem S1x2048x128 .bf16) (harg12 : arg12.IsWhole)
    (x0 x1 x2 : Vec Ideal S1x2048x128 .bf16) (x3 : Vec Ideal S1x8x2048 .f32) (x4 x5 x6 : Vec Ideal S1x2048x128 .bf16) (x7 : Vec Ideal S4x64 .f32) (x8 : Vec Ideal S1x128 .f32) {Q K V : ℕ → Fin 128 → ℝ} (hq : Rows x4 Q) (hk : Rows x5 K) (hv : Rows x6 V) {lam : ℝ} (hl : lamE x7 = (lam : EReal))
    (y : S1x2048x128.Idx) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 x8 y
      = normRow (fun l => ((mean (two0 Q K (fun k => slopeR (i 1).val * (k : ℝ)) (y 1).val) V ((y 1).val + 1) l
          - lam * mean (two1 Q K (fun k => slopeR (i 1).val * (k : ℝ)) (y 1).val) V ((y 1).val + 1) l : ℝ) : EReal))
          (x8 (ix2 0 (y 2))) (y 2) := by
  unfold out0_A_10
  rw [read_writes_junk_eq_canon]
  refine canon_eq_of_allAt _ y _ (cover0_A_10 c i arg2 harg2 arg3 harg3 arg4 harg4 arg5 harg5 arg6 harg6 arg7 harg7 arg8 harg8 arg9 harg9 arg10 harg10 arg11 harg11 arg12 harg12 x0 x1 x2 x3 x4 x5 x6 x7 x8 y) ?_
  rw [pieces10]
  refine allAt_cons_unit _ _ _ _ _ (tileAt 1536 y _ _ fun r l h1 h2 => ?_) ?_
  · rw [diffNorm_apply, h1, h2]
    simp only [diffMix_apply (diffL3_reals i arg6 harg6 arg7 harg7 arg8 harg8 hq hk hv), ldLam_eq, ldGain_eq, lam_apply, hl, ← EReal.coe_mul, ← EReal.coe_sub]
    rfl
  refine allAt_cons_unit _ _ _ _ _ (tileAt 1024 y _ _ fun r l h1 h2 => ?_) ?_
  · rw [diffNorm_apply, h1, h2]
    simp only [diffMix_apply (diffL2_reals i arg6 harg6 arg7 harg7 arg8 harg8 hq hk hv), ldLam_eq, ldGain_eq, lam_apply, hl, ← EReal.coe_mul, ← EReal.coe_sub]
    rfl
  refine allAt_cons_unit _ _ _ _ _ (tileAt 512 y _ _ fun r l h1 h2 => ?_) ?_
  · rw [diffNorm_apply, h1, h2]
    simp only [diffMix_apply (diffL1_reals i arg6 harg6 arg7 harg7 arg8 harg8 hq hk hv), ldLam_eq, ldGain_eq, lam_apply, hl, ← EReal.coe_mul, ← EReal.coe_sub]
    rfl
  refine allAt_cons_unit _ _ _ _ _ (tileAt 0 y _ _ fun r l h1 h2 => ?_) ?_
  · rw [diffNorm_apply, h1, h2]
    simp only [diffMix_apply (diffL0_reals i arg6 harg6 arg7 harg7 arg8 harg8 hq hk hv), ldLam_eq, ldGain_eq, lam_apply, hl, ← EReal.coe_mul, ← EReal.coe_sub]
    rfl
  exact allAt_nil _ _

end Cert.Attn
-- ==== Proof.Kernel.lean ====
/- The kernel's two result arrays after the run. -/
module

public import proofs.«01_k».proof.Proof.Host
public import proofs.«01_k».proof.Proof.Out

@[expose] public section

set_option maxRecDepth 16384

noncomputable section

namespace Cert.Attn

open Idealize.ShloMosaic Idealize.ShloMosaic.TcCoe Idealize.ShloMosaic.Tactic Idealize.ShloMosaic.Pointwise Idealize.SL.Sem
open Cert.KernelIdeal Cert.KernelIdeal.Gen Cert.KernelIdeal.Facts

variable (m : (ℓ : Loc nD τ sig) → Buf (Elt Ideal) ℓ) (c : Dev nD)

/-- The batch element and the group of heads of a grid point. -/
abbrev pb (t : Fin cfg0.N) : Fin 8 := grid0.coords t 0
abbrev ph (t : Fin cfg0.N) : Fin 4 := grid0.coords t 1

theorem idx0 : ∀ t : Fin cfg0.N, win0_0.index t = ![(pb t).val, 0, (ph t).val] := by decide +kernel
theorem idx1 : ∀ t : Fin cfg0.N, win0_1.index t = ![(pb t).val, 0, (ph t).val] := by decide +kernel
theorem idx2 : ∀ t : Fin cfg0.N, win0_2.index t = ![(pb t).val, 0, (ph t).val] := by decide +kernel
theorem idx3 : ∀ t : Fin cfg0.N, win0_3.index t = ![(pb t).val, 0, 0] := by decide +kernel
theorem idx4 : ∀ t : Fin cfg0.N, win0_4.index t = ![(pb t).val, 0, (ph t).val] := by decide +kernel
theorem idx5 : ∀ t : Fin cfg0.N, win0_5.index t = ![(pb t).val, 0, (ph t).val] := by decide +kernel
theorem idx6 : ∀ t : Fin cfg0.N, win0_6.index t = ![(pb t).val, 0, (ph t).val] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![(pb t).val, 0, (ph t).val] := by decide +kernel
theorem idx10 : ∀ t : Fin cfg0.N, win0_10.index t = ![(pb t).val, 0, (ph t).val] := by decide +kernel

/-- A column of a group of heads. -/
def col (h : Fin 4) (l : Fin 128) : Fin 512 := ⟨128 * h.val + l.val, by omega⟩

theorem blk0 (t : Fin cfg0.N) (R : Fin 2048) (l : Fin 128) :
    (iblk m c 0 t : Vec Ideal S1x2048x128 .bf16) (ix3 0 R l) = (V m c main_v10 : Vec Ideal S8x2048x512 .bf16) (ix3 (pb t) R (col (ph t) l)) := by
  blk_ext [iblk, col, idx0 t]
theorem blk1 (t : Fin cfg0.N) (R : Fin 2048) (l : Fin 128) :
    (iblk m c 1 t : Vec Ideal S1x2048x128 .bf16) (ix3 0 R l) = (V m c main_v11 : Vec Ideal S8x2048x512 .bf16) (ix3 (pb t) R (col (ph t) l)) := by
  blk_ext [iblk, col, idx1 t]
theorem blk2 (t : Fin cfg0.N) (R : Fin 2048) (l : Fin 128) :
    (iblk m c 2 t : Vec Ideal S1x2048x128 .bf16) (ix3 0 R l) = (V m c main_v12 : Vec Ideal S8x2048x512 .bf16) (ix3 (pb t) R (col (ph t) l)) := by
  blk_ext [iblk, col, idx2 t]
theorem blk4 (t : Fin cfg0.N) (R : Fin 2048) (l : Fin 128) :
    (iblk m c 4 t : Vec Ideal S1x2048x128 .bf16) (ix3 0 R l) = (V m c main_v16 : Vec Ideal S8x2048x512 .bf16) (ix3 (pb t) R (col (ph t) l)) := by
  blk_ext [iblk, col, idx4 t]
theorem blk5 (t : Fin cfg0.N) (R : Fin 2048) (l : Fin 128) :
    (iblk m c 5 t : Vec Ideal S1x2048x128 .bf16) (ix3 0 R l) = (V m c main_v17 : Vec Ideal S8x2048x512 .bf16) (ix3 (pb t) R (col (ph t) l)) := by
  blk_ext [iblk, col, idx5 t]
theorem blk6 (t : Fin cfg0.N) (R : Fin 2048) (l : Fin 128) :
    (iblk m c 6 t : Vec Ideal S1x2048x128 .bf16) (ix3 0 R l) = (V m c main_v18 : Vec Ideal S8x2048x512 .bf16) (ix3 (pb t) R (col (ph t) l)) := by
  blk_ext [iblk, col, idx6 t]
theorem blk3 (t : Fin cfg0.N) (e : Fin 8) (k : Fin 2048) :
    (iblk m c 3 t : Vec Ideal S1x8x2048 .f32) (ix3 0 e k) = (V m c main_v6 : Vec Ideal S8x8x2048 .f32) (ix3 (pb t) e k) := by
  blk_ext [iblk, idx3 t]
theorem blk7 (t : Fin cfg0.N) : (iblk m c 7 t : Vec Ideal S4x64 .f32) = kArg7 m c := by
  funext j; idx_vars j
  refine Eq.trans ?_ (congrFun (V_main_arg7 m c) (ix2 j0 j1))
  blk_ext [iblk, idx7 t]
theorem blk8 (t : Fin cfg0.N) (l : Fin 128) : (iblk m c 8 t : Vec Ideal S1x128 .f32) (ix2 0 l) = (V m c main_v19 : Vec Ideal S1x128 .f32) (ix2 0 l) := by
  blk_ext [iblk, idx8 t]

/-! ## The operands as reals -/

theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee, ← EReal.coe_mul]; norm_num
  rw [e, Ideal.log_coe]
  norm_num

theorem log_two_pos : 0 < Real.log 2 := Real.log_pos one_lt_two

theorem qkDiv_eq : qkDiv = ((Real.log 2 * 8 : ℝ) : EReal) := by
  have e : Ideal.ofBits .f32 0x41000000#32 = ((8 : ℝ) : EReal) := by
    simp [Ideal.ofBits, Ideal.ieee, ← EReal.coe_mul]; norm_num
  rw [qkDiv, log_two, e, ← EReal.coe_mul]

theorem div_real (x y : ℝ) (h : y ≠ 0) : Ideal.div (x : EReal) (y : EReal) = ((x / y : ℝ) : EReal) := by
  rw [Ideal.div_coe h, ← EReal.coe_mul, mul_one_div]

/-! ## The logits -/

theorem sum_lo (f : Fin 128 → ℝ) : ∑ l : Fin 128, (if l.val < 64 then f l else 0) = ∑ l : Fin 64, f ⟨l.val, by omega⟩ := by
  rw [show (∑ l : Fin 128, (if l.val < 64 then f l else 0)) = ∑ l : Fin (64 + 64), (if l.val < 64 then f l else 0) from rfl, Fin.sum_univ_add]
  rw [Finset.sum_eq_zero (s := Finset.univ) (f := fun i : Fin 64 => if (Fin.natAdd 64 i).val < 64 then f (Fin.natAdd 64 i) else 0)
    (fun i _ => if_neg (by simp)), add_zero]
  exact Finset.sum_congr rfl fun l _ => if_pos l.isLt

theorem sum_hi (f : Fin 128 → ℝ) : ∑ l : Fin 128, (if l.val < 64 then 0 else f l) = ∑ l : Fin 64, f ⟨64 + l.val, by omega⟩ := by
  rw [show (∑ l : Fin 128, (if l.val < 64 then 0 else f l)) = ∑ l : Fin (64 + 64), (if l.val < 64 then 0 else f l) from rfl, Fin.sum_univ_add]
  rw [Finset.sum_eq_zero (s := Finset.univ) (f := fun i : Fin 64 => if (Fin.castAdd 64 i).val < 64 then 0 else f (Fin.castAdd 64 i))
    (fun i _ => if_pos i.isLt), zero_add]
  exact Finset.sum_congr rfl fun l _ => if_neg (by simp)

/-- The scaled queries of a group of heads. -/
def qOf (q : ℕ → ℕ → ℝ) (h : ℕ) (k : ℕ) (l : Fin 128) : ℝ := q k (128 * h + l.val) / (Real.log 2 * 8)
/-- The keys or values of a group of heads. -/
def kOf (q : ℕ → ℕ → ℝ) (h : ℕ) (k : ℕ) (l : Fin 128) : ℝ := q k (128 * h + l.val)

theorem two0_log (q k : ℕ → ℕ → ℝ) (B : ℕ → ℝ) (h R j : ℕ) :
    two0 (qOf q h) (kOf k h) B R j * Real.log 2
      = (∑ l : Fin 64, q R (128 * h + l.val) * k j (128 * h + l.val)) / 8 + B j * Real.log 2 := by
  have hl := log_two_pos.ne'
  rw [two0, Finset.sum_congr rfl fun l _ => ite_mul _ _ _ _]
  simp only [zero_mul]
  rw [sum_lo fun l => qOf q h R l * kOf k h j l, add_mul, Finset.sum_mul, Finset.sum_div]
  congr 1
  exact Finset.sum_congr rfl fun l _ => by rw [qOf, kOf]; field_simp

theorem two1_log (q k : ℕ → ℕ → ℝ) (B : ℕ → ℝ) (h R j : ℕ) :
    two1 (qOf q h) (kOf k h) B R j * Real.log 2
      = (∑ l : Fin 64, q R (128 * h + 64 + l.val) * k j (128 * h + 64 + l.val)) / 8 + B j * Real.log 2 := by
  have hl := log_two_pos.ne'
  rw [two1, Finset.sum_congr rfl fun l _ => ite_mul _ _ _ _]
  simp only [zero_mul]
  rw [sum_hi fun l => qOf q h R l * kOf k h j l, add_mul, Finset.sum_mul, Finset.sum_div]
  congr 1
  exact Finset.sum_congr rfl fun l _ => by rw [qOf, kOf, Nat.add_assoc]; field_simp

variable (q k v F : Fin 8 → ℕ → ℕ → ℝ) (b : Fin 8) (h : ℕ)

/-- The bias of a forgetting head. -/
def biasOf (e j : ℕ) : ℝ := -cum F b e j / Real.log 2

theorem fox_mean0 (R : ℕ) (l : Fin 128) (hl : l.val < 64) :
    mean (two0 (qOf (q b) h) (kOf (k b) h) (biasOf F b (2 * h)) R) (kOf (v b) h) (R + 1) l = foxSpec q k v F b R (128 * h + l.val) := by
  have hc : (128 * h + l.val) / 64 = 2 * h := by omega
  rw [foxSpec, hc]
  refine softmean_two _ _ _ (cum F b (2 * h) R) _ fun j _ => ?_
  rw [two0_log, foxLogit, biasOf, div_mul_cancel₀ _ log_two_pos.ne', show 64 * (2 * h) = 128 * h by ring]
  ring

theorem fox_mean1 (R : ℕ) (l : Fin 128) (hl : ¬ l.val < 64) :
    mean (two1 (qOf (q b) h) (kOf (k b) h) (biasOf F b (2 * h + 1)) R) (kOf (v b) h) (R + 1) l = foxSpec q k v F b R (128 * h + l.val) := by
  have hc : (128 * h + l.val) / 64 = 2 * h + 1 := by omega
  rw [foxSpec, hc]
  refine softmean_two _ _ _ (cum F b (2 * h + 1) R) _ fun j _ => ?_
  rw [two1_log, foxLogit, biasOf, div_mul_cancel₀ _ log_two_pos.ne', show 64 * (2 * h + 1) = 128 * h + 64 by ring]
  ring

theorem slopeR_log (j : ℕ) : slopeR h * (j : ℝ) * Real.log 2 = alibi h * (j : ℝ) := by
  have hl := log_two_pos.ne'
  rw [slopeR, alibi]; field_simp

theorem diff_mean (lam : ℝ) (R : ℕ) (l : Fin 128) :
    mean (two0 (qOf (q b) h) (kOf (k b) h) (fun j => slopeR h * (j : ℝ)) R) (kOf (v b) h) (R + 1) l
      - lam * mean (two1 (qOf (q b) h) (kOf (k b) h) (fun j => slopeR h * (j : ℝ)) R) (kOf (v b) h) (R + 1) l
      = mixSpec lam q k v b h R (128 * h + l.val) := by
  rw [mixSpec]
  congr 1
  · refine softmean_two _ _ _ (-alibi h * R) _ fun j _ => ?_
    rw [two0_log, slopeR_log, diffLogit]; simp only [Nat.mul_zero, Nat.add_zero]; ring
  · congr 1
    refine softmean_two _ _ _ (-alibi h * R) _ fun j _ => ?_
    rw [two1_log, slopeR_log, diffLogit]; simp only [Nat.mul_one]; ring

/-! ## The result arrays -/

theorem rowsQ {t : Fin cfg0.N} {x : Vec Ideal S1x2048x128 .bf16} {A : Vec Ideal S8x2048x512 .f32} (hA : Real3 A)
    (hx : ∀ (R : Fin 2048) (l : Fin 128), x (ix3 0 R l) = Ideal.div (A (ix3 (pb t) R (col (ph t) l))) qkDiv) :
    Rows x (qOf (arr A (pb t)) (ph t).val) := fun R l => by
  rw [hx, arr_eq hA _ _ _ R.val (128 * (ph t).val + l.val) rfl rfl, qkDiv_eq, div_real _ _ (mul_pos log_two_pos (by norm_num)).ne']
  rfl

theorem rowsK {t : Fin cfg0.N} {x : Vec Ideal S1x2048x128 .bf16} {A : Vec Ideal S8x2048x512 .f32} (hA : Real3 A)
    (hx : ∀ (R : Fin 2048) (l : Fin 128), x (ix3 0 R l) = A (ix3 (pb t) R (col (ph t) l))) :
    Rows x (kOf (arr A (pb t)) (ph t).val) := fun R l => by
  rw [hx, arr_eq hA _ _ _ R.val (128 * (ph t).val + l.val) rfl rfl]
  rfl

theorem bias_real (h3 : Real3 (kArg3 m c)) (t : Fin cfg0.N) (e : Fin 8) (j : Fin 2048) :
    (iblk m c 3 t : Vec Ideal S1x8x2048 .f32) (ix3 0 e j) = (biasOf (arr (kArg3 m c)) (pb t) e.val j.val : EReal) := by
  rw [blk3, V6 m c _ _ _ h3, log_two, ← EReal.coe_neg, div_real _ _ log_two_pos.ne']
  rfl

/-- The forgetting heads' result array. -/
def foxArr (A0 A1 A2 : Vec Ideal S8x2048x512 .f32) (A3 : Vec Ideal S8x8x2048 .f32) : Vec Ideal S8x2048x512 .bf16 := fun i =>
  (foxSpec (arr A0) (arr A1) (arr A2) (arr A3) (i 0) (i 1).val (i 2).val : EReal)

/-- The differential heads' result array. -/
def diffArr (lam : ℝ) (A4 A5 A6 : Vec Ideal S8x2048x512 .f32) (A8 : Vec Ideal S128 .f32) : Vec Ideal S8x2048x512 .bf16 := fun i =>
  normRow (fun l => (mixSpec lam (arr A4) (arr A5) (arr A6) (i 0) ((i 2).val / 128) (i 1).val (128 * ((i 2).val / 128) + l.val) : EReal))
    (A8 (ix1 (Fin.ofNat 128 (i 2).val))) (Fin.ofNat 128 (i 2).val)

section
variable {m c}

theorem rows0 (h : Real3 (kArg0 m c)) (t : Fin cfg0.N) :
    Rows (iblk m c 0 t : Vec Ideal S1x2048x128 .bf16) (qOf (arr (kArg0 m c) (pb t)) (ph t).val) :=
  rowsQ h fun R l => (blk0 m c t R l).trans (V10 m c _ _ _)
theorem rows1 (h : Real3 (kArg1 m c)) (t : Fin cfg0.N) :
    Rows (iblk m c 1 t : Vec Ideal S1x2048x128 .bf16) (kOf (arr (kArg1 m c) (pb t)) (ph t).val) :=
  rowsK h fun R l => (blk1 m c t R l).trans (V11 m c _ _ _)
theorem rows2 (h : Real3 (kArg2 m c)) (t : Fin cfg0.N) :
    Rows (iblk m c 2 t : Vec Ideal S1x2048x128 .bf16) (kOf (arr (kArg2 m c) (pb t)) (ph t).val) :=
  rowsK h fun R l => (blk2 m c t R l).trans (V12 m c _ _ _)
theorem rows4 (h : Real3 (kArg4 m c)) (t : Fin cfg0.N) :
    Rows (iblk m c 4 t : Vec Ideal S1x2048x128 .bf16) (qOf (arr (kArg4 m c) (pb t)) (ph t).val) :=
  rowsQ h fun R l => (blk4 m c t R l).trans (V16 m c _ _ _)
theorem rows5 (h : Real3 (kArg5 m c)) (t : Fin cfg0.N) :
    Rows (iblk m c 5 t : Vec Ideal S1x2048x128 .bf16) (kOf (arr (kArg5 m c) (pb t)) (ph t).val) :=
  rowsK h fun R l => (blk5 m c t R l).trans (V17 m c _ _ _)
theorem rows6 (h : Real3 (kArg6 m c)) (t : Fin cfg0.N) :
    Rows (iblk m c 6 t : Vec Ideal S1x2048x128 .bf16) (kOf (arr (kArg6 m c) (pb t)) (ph t).val) :=
  rowsK h fun R l => (blk6 m c t R l).trans (V18 m c _ _ _)

/-- What a grid point leaves in its two result blocks. -/
theorem outs_fst (t : Fin cfg0.N) : (outsAt0 m c t).1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) := by simp only [outsAt0]
theorem outs_snd (t : Fin cfg0.N) : (outsAt0 m c t).2 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) := by simp only [outsAt0]

theorem outs9 (h0 : Real3 (kArg0 m c)) (h1 : Real3 (kArg1 m c)) (h2 : Real3 (kArg2 m c)) (h3 : Real3 (kArg3 m c))
    (t : Fin cfg0.N) (y : S1x2048x128.Idx) :
    (outsAt0 m c t).1 y = (foxSpec (arr (kArg0 m c)) (arr (kArg1 m c)) (arr (kArg2 m c)) (arr (kArg3 m c)) (pb t) (y 1).val
      (128 * (ph t).val + (y 2).val) : EReal) := by
  rw [outs_fst, fox_at c (grid0.coords t) _ _ _ _ _ _ _ _ _ _ _ _ _ _ _ _ _ _ _ _ _ _ _ _ _ _ _ _ _ _ _ (rows0 h0 t) (rows1 h1 t) (rows2 h2 t)
    (fun j => bias_real m c h3 t (row (grid0.coords t) 0) j) (fun j => bias_real m c h3 t (row (grid0.coords t) 1) j) y]
  congr 1
  split
  · next hl => exact fox_mean0 _ _ _ _ _ _ _ _ hl
  · next hl => exact fox_mean1 _ _ _ _ _ _ _ _ hl

theorem outs10 {lam : ℝ} (hl : lamE (kArg7 m c) = (lam : EReal)) (h4 : Real3 (kArg4 m c)) (h5 : Real3 (kArg5 m c)) (h6 : Real3 (kArg6 m c))
    (t : Fin cfg0.N) (y : S1x2048x128.Idx) :
    (outsAt0 m c t).2 y = normRow (fun l => (mixSpec lam (arr (kArg4 m c)) (arr (kArg5 m c)) (arr (kArg6 m c)) (pb t) (ph t).val (y 1).val
      (128 * (ph t).val + l.val) : EReal)) (kArg8 m c (ix1 (y 2))) (y 2) := by
  have hl' : lamE (iblk m c 7 t : Vec Ideal S4x64 .f32) = (lam : EReal) := (congrArg lamE (blk7 m c t)).trans hl
  rw [outs_snd, diff_at c (grid0.coords t) _ _ _ _ _ _ _ _ _ _ _ _ _ _ _ _ _ _ _ _ _ _ _ _ _ _ _ _ _ _ _ (rows4 h4 t) (rows5 h5 t) (rows6 h6 t) hl' y]
  refine (congrArg (fun g => normRow _ g (y 2)) ((blk8 m c t (y 2)).trans (V19 m c (y 2)))).trans ?_
  refine congrArg (fun o => normRow o _ (y 2)) (funext fun l => ?_)
  exact congrArg Real.toEReal (diff_mean _ _ _ _ _ _ _ _)

theorem emb9 (t : Fin cfg0.N) (y : ((cfg0.win 9).xblock (cfg0.grid.coords t)).Idx) :
    ((cfg0.win 9).blk t).view.emb y = (ix3 (pb t) (y 1 : Fin 2048) (col (ph t) (y 2)) : S8x2048x512.Idx) := by
  blk_ext [col, idx9 t]
theorem emb10 (t : Fin cfg0.N) (y : ((cfg0.win 10).xblock (cfg0.grid.coords t)).Idx) :
    ((cfg0.win 10).blk t).view.emb y = (ix3 (pb t) (y 1 : Fin 2048) (col (ph t) (y 2)) : S8x2048x512.Idx) := by
  blk_ext [col, idx10 t]

theorem fox_arr (h0 : Real3 (kArg0 m c)) (h1 : Real3 (kArg1 m c)) (h2 : Real3 (kArg2 m c)) (h3 : Real3 (kArg3 m c)) :
    (dats m 0 c).arrAt 9 cfg0.N = foxArr (kArg0 m c) (kArg1 m c) (kArg2 m c) (kArg3 m c) := by
  refine (dats m 0 c).arrAt_eq_of_covers 9 _ (by decide +kernel) fun t hf y => ?_
  rw [emb9]
  refine (cast_eq _ _).trans ?_
  rw [after0_9]
  exact outs9 h0 h1 h2 h3 t y

theorem diff_arr {lam : ℝ} (hl : lamE (kArg7 m c) = (lam : EReal)) (h4 : Real3 (kArg4 m c)) (h5 : Real3 (kArg5 m c)) (h6 : Real3 (kArg6 m c)) :
    (dats m 0 c).arrAt 10 cfg0.N = diffArr lam (kArg4 m c) (kArg5 m c) (kArg6 m c) (kArg8 m c) := by
  refine (dats m 0 c).arrAt_eq_of_covers 10 _ (by decide +kernel) fun t hf y => ?_
  rw [emb10]
  refine (cast_eq _ _).trans ?_
  rw [after0_10]
  refine (outs10 hl h4 h5 h6 t y).trans ?_
  have hy : (y 2).val < 128 := (y 2).isLt
  have e1 : (col (ph t) (y 2)).val / 128 = (ph t).val := by show (128 * (ph t).val + (y 2).val) / 128 = _; omega
  have e2 : Fin.ofNat 128 (col (ph t) (y 2)).val = (y 2 : Fin 128) := Fin.ext (by
    show (128 * (ph t).val + (y 2).val) % 128 = _; omega)
  show _ = normRow (fun l => (mixSpec lam (arr (kArg4 m c)) (arr (kArg5 m c)) (arr (kArg6 m c)) (pb t) ((col (ph t) (y 2)).val / 128) (y 1).val
    (128 * ((col (ph t) (y 2)).val / 128) + l.val) : EReal)) (kArg8 m c (ix1 (Fin.ofNat 128 (col (ph t) (y 2)).val))) (Fin.ofNat 128 (col (ph t) (y 2)).val)
  rw [e1, e2]

end

end Cert.Attn
-- ==== Proof.Ref.lean ====
/- The reference's results, read at an index. -/
module

public import proofs.«01_k».proof.Proof.Cumsum
public import proofs.«01_k».proof.Proof.Gen.ReferenceIdeal.Run
public import Idealize.ShloMosaic.Lib.StableHlo.ReadAt
public import Idealize.ShloMosaic.Lib.WordCmp

@[expose] public section

set_option maxRecDepth 16384

noncomputable section

namespace Cert.Attn

open Idealize.ShloMosaic Idealize.ShloMosaic.TcCoe Idealize.ShloMosaic.Tactic Idealize.ShloMosaic.Pointwise Idealize.SL.Sem
open Cert.ReferenceIdeal Cert.ReferenceIdeal.Gen Cert.ReferenceIdeal.Facts Cert.ReferenceIdeal.Value

variable (W : Valuation τ sig (Elt Ideal))

/-- The argument arrays. -/
abbrev rArg0 : Vec Ideal S8x2048x512 .f32 := W (Proc.devRef .tc main_arg0)
abbrev rArg1 : Vec Ideal S8x2048x512 .f32 := W (Proc.devRef .tc main_arg1)
abbrev rArg2 : Vec Ideal S8x2048x512 .f32 := W (Proc.devRef .tc main_arg2)
abbrev rArg3 : Vec Ideal S8x8x2048 .f32 := W (Proc.devRef .tc main_arg3)
abbrev rArg4 : Vec Ideal S8x2048x512 .f32 := W (Proc.devRef .tc main_arg4)
abbrev rArg5 : Vec Ideal S8x2048x512 .f32 := W (Proc.devRef .tc main_arg5)
abbrev rArg6 : Vec Ideal S8x2048x512 .f32 := W (Proc.devRef .tc main_arg6)
abbrev rArg7 : Vec Ideal S4x64 .f32 := W (Proc.devRef .tc main_arg7)
abbrev rArg8 : Vec Ideal S128 .f32 := W (Proc.devRef .tc main_arg8)

theorem v6_apply (h : Real3 (rArg3 W)) (b e : Fin 8) (k : Fin 2048) :
    (res_main_v6 W : Vec Ideal S8x8x2048 .f32) (ix3 b e k) = (cum (arr (rArg3 W)) b e.val k.val : EReal) :=
  cumsum_apply (rArg3 W) _ (fun _ => (by simp [Ideal.ofBits, Ideal.ieee] : Ideal.ofBits .f32 0x00000000#32 = 0)) _ _ h b e k

theorem sitofp_sub (R k : Fin 2048) : (FloatOps.sitofp (F := Ideal) FTy.f32 (IntOp.subi (BitVec.ofNat 32 R.val) (BitVec.ofNat 32 k.val)) : EReal)
    = (((R.val : ℝ) - (k.val : ℝ) : ℝ) : EReal) := by
  have e : (IntOp.subi (BitVec.ofNat 32 R.val) (BitVec.ofNat 32 k.val)).toInt = (R.val : ℤ) - k.val := by
    show (BitVec.ofNat 32 R.val - BitVec.ofNat 32 k.val).toInt = _
    rw [BitVec.toInt_sub, BitVec.toInt_ofNat', BitVec.toInt_ofNat']
    simp only [Int.bmod_def]; omega
  show (((IntOp.subi (BitVec.ofNat 32 R.val) (BitVec.ofNat 32 k.val)).toInt : ℝ) : EReal) = _
  rw [e]; push_cast; rfl

theorem eighth : Ideal.ofBits .f32 0x3E000000#32 = ((1 / 8 : ℝ) : EReal) := by
  simp [Ideal.ofBits, Ideal.ieee, ← EReal.coe_mul]; norm_num

theorem alibi_word (e : Fin 4) : Ideal.pow (Ideal.ofBits FTy.f32 0x40000000#32)
    (Ideal.div (Ideal.ofBits FTy.f32 0xC1000000#32 * (1 + FloatOps.sitofp (F := Ideal) FTy.f32 (BitVec.ofNat 32 e.val)))
      (Ideal.ofBits FTy.f32 0x40800000#32)) = (alibi e.val : EReal) := by
  have h2 : Ideal.ofBits FTy.f32 0x40000000#32 = ((2 : ℝ) : EReal) := by
    simp [Ideal.ofBits, Ideal.ieee, ← EReal.coe_mul]; norm_num
  have h8 : Ideal.ofBits FTy.f32 0xC1000000#32 = ((-8 : ℝ) : EReal) := by
    simp [Ideal.ofBits, Ideal.ieee, ← EReal.coe_mul]; norm_num
  have h4 : Ideal.ofBits FTy.f32 0x40800000#32 = ((4 : ℝ) : EReal) := by
    simp [Ideal.ofBits, Ideal.ieee, ← EReal.coe_mul]; norm_num
  have hi : (FloatOps.sitofp (F := Ideal) FTy.f32 (BitVec.ofNat 32 e.val) : EReal) = ((e.val : ℝ) : EReal) := by
    show (((BitVec.ofNat 32 e.val).toInt : ℝ) : EReal) = _
    have : (BitVec.ofNat 32 e.val).toInt = (e.val : ℤ) := by
      rw [BitVec.toInt_ofNat']; simp only [Int.bmod_def]; omega
    rw [this]; push_cast; rfl
  have h1 : (1 : EReal) = ((1 : ℝ) : EReal) := rfl
  rw [h2, h8, h4, hi, h1, ← EReal.coe_add, ← EReal.coe_mul, Ideal.div_coe (by norm_num), ← EReal.coe_mul]
  show (((2 : ℝ) ^ (-8 * (1 + (e.val : ℝ)) * (1 / 4)) : ℝ) : EReal) = _
  rw [alibi]; congr 2; ring

/-- A product of two head rows, scaled. -/
theorem dot_real (A B : Vec Ideal S8x2048x512 .f32) (hA : Real3 A) (hB : Real3 B) (b : Fin 8) (R k : Fin 2048) (o : ℕ) (ho : o + 64 ≤ 512)
    (i : Fin 64 → Fin 512) (hi : ∀ x, (i x).val = o + x.val) :
    (∑ x : Fin 64, A (ix3 b R (i x)) * B (ix3 b k (i x))) * Ideal.ofBits FTy.f32 0x3E000000#32
      = (((∑ l : Fin 64, arr A b R.val (o + l.val) * arr B b k.val (o + l.val)) / 8 : ℝ) : EReal) := by
  have e : ∀ x : Fin 64, A (ix3 b R (i x)) * B (ix3 b k (i x))
      = ((arr A b R.val (o + x.val) * arr B b k.val (o + x.val) : ℝ) : EReal) := fun x => by
    rw [EReal.coe_mul]
    exact congrArg₂ _ (arr_eq hA b R (i x) R.val (o + x.val) rfl (hi x)) (arr_eq hB b k (i x) k.val (o + x.val) rfl (hi x))
  rw [Finset.sum_congr rfl fun x _ => e x, ← coe_sum, eighth, ← EReal.coe_mul]
  congr 1; ring

theorem v22_apply (h0 : Real3 (rArg0 W)) (h1 : Real3 (rArg1 W)) (h3 : Real3 (rArg3 W)) (b e : Fin 8) (R k : Fin 2048) :
    (res_main_v22 W : Vec Ideal S8x8x2048x2048 .f32) (ix4 b e R k)
      = if k.val ≤ R.val then (foxLogit (arr (rArg0 W)) (arr (rArg1 W)) (arr (rArg3 W)) b e.val R.val k.val : EReal) else ⊥ := by
  unfold res_main_v22 res_main_v7
  clean_types
  pointwise
  have c : IntOp.cmpi CmpIPredicate.sle (BitVec.ofNat 32 k.val) (BitVec.ofNat 32 R.val) = 1#1 ↔ k.val ≤ R.val := by
    rw [IntOp.cmpi_sle, BitVec.toInt_ofNat', BitVec.toInt_ofNat']; simp only [Int.bmod_def]; omega
  by_cases hk : k.val ≤ R.val
  · rw [if_pos hk]
    refine (if_pos (c.mpr hk)).trans ?_
    refine (congrArg₂ (fun (x y : EReal) => x - y) (congrArg₂ (fun (x y : EReal) => x + y) (dot_real (rArg0 W) (rArg1 W) h0 h1 b R k (64 * e.val) (by omega) _ fun x => by
      show e.val * 64 + x.val = _; omega) (v6_apply W h3 b e R)) (v6_apply W h3 b e k)).trans ?_
    rw [← EReal.coe_add, ← EReal.coe_sub]; rfl
  · rw [if_neg hk]
    refine (if_neg fun h => hk (c.mp h)).trans ?_
    show Ideal.ofBits .f32 0xFF800000#32 = ⊥
    simp [Ideal.ofBits, Ideal.ieee]

theorem v101_apply (h4 : Real3 (rArg4 W)) (h5 : Real3 (rArg5 W)) (b : Fin 8) (e : Fin 4) (R k : Fin 2048) :
    (res_main_v101 W : Vec Ideal S8x4x2048x2048 .f32) (ix4 b e R k)
      = if k.val ≤ R.val then (diffLogit (arr (rArg4 W)) (arr (rArg5 W)) b e.val 0 R.val k.val : EReal) else ⊥ := by
  unfold res_main_v101 res_main_v45 res_main_v47 res_main_v88 res_main_v86 res_main_v80 res_main_v74
  clean_types
  pointwise
  rw [sitofp_sub, alibi_word]
  have c : (0 : EReal) ≤ (((R.val : ℝ) - (k.val : ℝ) : ℝ) : EReal) ↔ k.val ≤ R.val := by
    rw [EReal.coe_nonneg, sub_nonneg, Nat.cast_le]
  by_cases hk : k.val ≤ R.val
  · rw [if_pos hk]
    refine (if_pos (c.mpr hk)).trans ?_
    refine (congrArg (fun z => z + _) (dot_real (rArg4 W) (rArg5 W) h4 h5 b R k (128 * e.val + 64 * 0) (by omega) _ fun x => by
      show e.val * 128 + x.val = _; omega)).trans ?_
    rw [← EReal.coe_neg, ← EReal.coe_mul, ← EReal.coe_add]; rfl
  · rw [if_neg hk]
    refine (if_neg fun h => hk (c.mp h)).trans ?_
    show Ideal.ofBits .f32 0xFF800000#32 = ⊥
    simp [Ideal.ofBits, Ideal.ieee]

theorem v113_apply (h4 : Real3 (rArg4 W)) (h5 : Real3 (rArg5 W)) (b : Fin 8) (e : Fin 4) (R k : Fin 2048) :
    (res_main_v113 W : Vec Ideal S8x4x2048x2048 .f32) (ix4 b e R k)
      = if k.val ≤ R.val then (diffLogit (arr (rArg4 W)) (arr (rArg5 W)) b e.val 1 R.val k.val : EReal) else ⊥ := by
  unfold res_main_v113 res_main_v45 res_main_v47 res_main_v88 res_main_v86 res_main_v80 res_main_v74
  clean_types
  pointwise
  rw [sitofp_sub, alibi_word]
  have c : (0 : EReal) ≤ (((R.val : ℝ) - (k.val : ℝ) : ℝ) : EReal) ↔ k.val ≤ R.val := by
    rw [EReal.coe_nonneg, sub_nonneg, Nat.cast_le]
  by_cases hk : k.val ≤ R.val
  · rw [if_pos hk]
    refine (if_pos (c.mpr hk)).trans ?_
    refine (congrArg (fun z => z + _) (dot_real (rArg4 W) (rArg5 W) h4 h5 b R k (128 * e.val + 64 * 1) (by omega) _ fun x => by
      simp only; omega)).trans ?_
    rw [← EReal.coe_neg, ← EReal.coe_mul, ← EReal.coe_add]; rfl
  · rw [if_neg hk]
    refine (if_neg fun h => hk (c.mp h)).trans ?_
    show Ideal.ofBits .f32 0xFF800000#32 = ⊥
    simp [Ideal.ofBits, Ideal.ieee]

end Cert.Attn
-- ==== Proof.RefSoft.lean ====
/- The reference's softmaxes. -/
module

public import proofs.«01_k».proof.Proof.Ref
public import proofs.«01_k».proof.Proof.Gen.ReferenceIdeal.Run
public import Idealize.ShloMosaic.Lib.StableHlo.ReadAt
public import Idealize.ShloMosaic.Lib.WordCmp

@[expose] public section

set_option maxRecDepth 16384

noncomputable section

namespace Cert.Attn

open Idealize.ShloMosaic Idealize.ShloMosaic.TcCoe Idealize.ShloMosaic.Tactic Idealize.ShloMosaic.Pointwise Idealize.SL.Sem
open Cert.ReferenceIdeal Cert.ReferenceIdeal.Gen Cert.ReferenceIdeal.Facts Cert.ReferenceIdeal.Value

theorem lit_bot : Ideal.ofBits FTy.f32 0xFF800000#32 = ⊥ := by simp [Ideal.ofBits, Ideal.ieee]

/-- A row's greatest entry. -/
theorem max8_apply (x : FVec Ideal S8x8x2048x2048 .f32) (b e : Fin 8) (R : Fin 2048) :
    (Host.reduce FloatOps.maximumf x (constant S_ .f32 0xFF800000#32) reducesTo_S8x8x2048x2048_S8x8x2048_d3 h_S_ : FVec Ideal S8x8x2048 .f32) (ix3 b e R)
      = Finset.univ.fold max ⊥ fun j => x (ix4 b e R j) := by
  rw [Host.reduce_eq_fold_single FloatOps.maximumf x _ _ (show S8x8x2048x2048.Reduces [3] S8x8x2048 by decide)]
  refine (congrArg (fun z => Finset.fold max z _ _) lit_bot).trans (Finset.fold_congr fun j _ => congrArg x (funext fun a => ?_))
  fin_cases a <;> rfl

/-- The exponentials of an array's rows less their greatest entries. -/
theorem exp8_apply (x : FVec Ideal S8x8x2048x2048 .f32) (m : FVec Ideal S8x8x2048 .f32) (b e : Fin 8) (R k : Fin 2048) :
    (Host.exp (subf x (broadcastInDim S8x8x2048x2048 ![0, 1, 2, 3] bcast_S8x8x2048x1_S8x8x2048x2048_0_1_2_3 (broadcastInDim S8x8x2048x1 ![0, 1, 2] bcast_S8x8x2048_S8x8x2048x1_0_1_2 (maximumf (broadcastInDim S8x8x2048 ![] bcast_S_S8x8x2048 (constant S_ .f32 0xFF800000#32)) m)))) : FVec Ideal S8x8x2048x2048 .f32) (ix4 b e R k)
      = Ideal.exp (x (ix4 b e R k) - m (ix3 b e R)) := by
  pointwise
  rw [lit_bot, max_eq_right bot_le]

/-- A row's greatest entry. -/
theorem max4_apply (x : FVec Ideal S8x4x2048x2048 .f32) (b : Fin 8) (e : Fin 4) (R : Fin 2048) :
    (Host.reduce FloatOps.maximumf x (constant S_ .f32 0xFF800000#32) reducesTo_S8x4x2048x2048_S8x4x2048_d3 h_S_ : FVec Ideal S8x4x2048 .f32) (ix3 b e R)
      = Finset.univ.fold max ⊥ fun j => x (ix4 b e R j) := by
  rw [Host.reduce_eq_fold_single FloatOps.maximumf x _ _ (show S8x4x2048x2048.Reduces [3] S8x4x2048 by decide)]
  refine (congrArg (fun z => Finset.fold max z _ _) lit_bot).trans (Finset.fold_congr fun j _ => congrArg x (funext fun a => ?_))
  fin_cases a <;> rfl

/-- The exponentials of an array's rows less their greatest entries. -/
theorem exp4_apply (x : FVec Ideal S8x4x2048x2048 .f32) (m : FVec Ideal S8x4x2048 .f32) (b : Fin 8) (e : Fin 4) (R k : Fin 2048) :
    (Host.exp (subf x (broadcastInDim S8x4x2048x2048 ![0, 1, 2, 3] bcast_S8x4x2048x1_S8x4x2048x2048_0_1_2_3 (broadcastInDim S8x4x2048x1 ![0, 1, 2] bcast_S8x4x2048_S8x4x2048x1_0_1_2 (maximumf (broadcastInDim S8x4x2048 ![] bcast_S_S8x4x2048 (constant S_ .f32 0xFF800000#32)) m)))) : FVec Ideal S8x4x2048x2048 .f32) (ix4 b e R k)
      = Ideal.exp (x (ix4 b e R k) - m (ix3 b e R)) := by
  pointwise
  rw [lit_bot, max_eq_right bot_le]

variable (W : Valuation τ sig (Elt Ideal))

/-- `main_v22`'s composed term. -/
abbrev a22 : FVec Ideal S8x8x2048x2048 .f32 := res_main_v22 W

/-- `main_v29`'s composed term. -/
abbrev a29 : FVec Ideal S8x8x2048x2048 .f32 := res_main_v29 W

/-- `main_v101`'s composed term. -/
abbrev a101 : FVec Ideal S8x4x2048x2048 .f32 := res_main_v101 W

/-- `main_v108`'s composed term. -/
abbrev a108 : FVec Ideal S8x4x2048x2048 .f32 := res_main_v108 W

/-- `main_v113`'s composed term. -/
abbrev a113 : FVec Ideal S8x4x2048x2048 .f32 := res_main_v113 W

/-- `main_v120`'s composed term. -/
abbrev a120 : FVec Ideal S8x4x2048x2048 .f32 := res_main_v120 W

/-- `main_v128`'s composed term. -/
abbrev a128 : FVec Ideal S8x4x2048x128 .f32 := res_main_v128 W

/-- The weight of the second softmax. -/
def lamRef (v : Vec Ideal S4x64 .f32) : EReal :=
  Ideal.exp (∑ l : Fin 64, v (ix2 0 l) * v (ix2 1 l)) - Ideal.exp (∑ l : Fin 64, v (ix2 2 l) * v (ix2 3 l)) + Ideal.ofBits .f32 0x3E4CCCCD#32

theorem v120_apply (b : Fin 8) (e : Fin 4) (R k : Fin 2048) :
    a120 W (ix4 b e R k)
      = Ideal.exp (a113 W (ix4 b e R k)
        - Finset.univ.fold max ⊥ fun x => a113 W (ix4 b e R x)) := by
  unfold a120 res_main_v120
  exact (exp4_apply (a113 W) (Host.reduce FloatOps.maximumf (a113 W) (constant S_ .f32 0xFF800000#32) reducesTo_S8x4x2048x2048_S8x4x2048_d3 h_S_) b e R k).trans (congrArg (fun z => Ideal.exp (a113 W (ix4 b e R k) - z)) (max4_apply (a113 W) b e R))

theorem v108_apply (b : Fin 8) (e : Fin 4) (R k : Fin 2048) :
    a108 W (ix4 b e R k)
      = Ideal.exp (a101 W (ix4 b e R k)
        - Finset.univ.fold max ⊥ fun x => a101 W (ix4 b e R x)) := by
  unfold a108 res_main_v108
  exact (exp4_apply (a101 W) (Host.reduce FloatOps.maximumf (a101 W) (constant S_ .f32 0xFF800000#32) reducesTo_S8x4x2048x2048_S8x4x2048_d3 h_S_) b e R k).trans (congrArg (fun z => Ideal.exp (a101 W (ix4 b e R k) - z)) (max4_apply (a101 W) b e R))

theorem v29_apply (b e : Fin 8) (R k : Fin 2048) :
    a29 W (ix4 b e R k)
      = Ideal.exp (a22 W (ix4 b e R k)
        - Finset.univ.fold max ⊥ fun x => a22 W (ix4 b e R x)) := by
  unfold a29 res_main_v29
  exact (exp8_apply (a22 W) (Host.reduce FloatOps.maximumf (a22 W) (constant S_ .f32 0xFF800000#32) reducesTo_S8x8x2048x2048_S8x8x2048_d3 h_S_) b e R k).trans (congrArg (fun z => Ideal.exp (a22 W (ix4 b e R k) - z)) (max8_apply (a22 W) b e R))

/-- The forgetting heads' softmax, as weights. -/
theorem fox_weight (h0 : Real3 (rArg0 W)) (h1 : Real3 (rArg1 W)) (h3 : Real3 (rArg3 W)) (b e : Fin 8) (R k : Fin 2048) :
    Ideal.div (a29 W (ix4 b e R k))
      (∑ x : Fin 2048, a29 W (ix4 b e R x))
      = (weight (foxLogit (arr (rArg0 W)) (arr (rArg1 W)) (arr (rArg3 W)) b e.val R.val) (R.val + 1) k.val : EReal) := by
  simp only [v29_apply]
  exact softmax_row _ _ R (v22_apply W h0 h1 h3 b e R) _ rfl k

theorem diff_weight0 (h4 : Real3 (rArg4 W)) (h5 : Real3 (rArg5 W)) (b : Fin 8) (e : Fin 4) (R k : Fin 2048) :
    Ideal.div (a108 W (ix4 b e R k))
      (∑ x : Fin 2048, a108 W (ix4 b e R x))
      = (weight (diffLogit (arr (rArg4 W)) (arr (rArg5 W)) b e.val 0 R.val) (R.val + 1) k.val : EReal) := by
  simp only [v108_apply]
  exact softmax_row _ _ R (v101_apply W h4 h5 b e R) _ rfl k

theorem diff_weight1 (h4 : Real3 (rArg4 W)) (h5 : Real3 (rArg5 W)) (b : Fin 8) (e : Fin 4) (R k : Fin 2048) :
    Ideal.div (a120 W (ix4 b e R k))
      (∑ x : Fin 2048, a120 W (ix4 b e R x))
      = (weight (diffLogit (arr (rArg4 W)) (arr (rArg5 W)) b e.val 1 R.val) (R.val + 1) k.val : EReal) := by
  simp only [v120_apply]
  exact softmax_row _ _ R (v113_apply W h4 h5 b e R) _ rfl k

end Cert.Attn
-- ==== Proof.RefOut.lean ====
/- The reference's results. -/
module

public import proofs.«01_k».proof.Proof.RefSoft
public import proofs.«01_k».proof.Proof.Gen.ReferenceIdeal.Run
public import Idealize.ShloMosaic.Lib.StableHlo.ReadAt
public import Idealize.ShloMosaic.Lib.WordCmp

@[expose] public section

set_option maxRecDepth 16384

noncomputable section

namespace Cert.Attn

open Idealize.ShloMosaic Idealize.ShloMosaic.TcCoe Idealize.ShloMosaic.Tactic Idealize.ShloMosaic.Pointwise Idealize.SL.Sem
open Cert.ReferenceIdeal Cert.ReferenceIdeal.Gen Cert.ReferenceIdeal.Facts Cert.ReferenceIdeal.Value

variable (W : Valuation τ sig (Elt Ideal))

theorem v128_apply (h4 : Real3 (rArg4 W)) (h5 : Real3 (rArg5 W)) (h6 : Real3 (rArg6 W)) (lam : ℝ) (hl : lamRef (rArg7 W) = lam)
    (b : Fin 8) (e : Fin 4) (R : Fin 2048) (l : Fin 128) :
    a128 W (ix4 b e R l)
      = (mixSpec lam (arr (rArg4 W)) (arr (rArg5 W)) (arr (rArg6 W)) b e.val R.val (128 * e.val + l.val) : EReal) := by
  unfold a128 res_main_v128
  clean_types
  pointwise
  have t : ∀ x : Fin 2048, (Ideal.div (a108 W (ix4 b e R x))
        (∑ x : Fin 2048, a108 W (ix4 b e R x))
        - lamRef (rArg7 W) * Ideal.div (a120 W (ix4 b e R x))
        (∑ x : Fin 2048, a120 W (ix4 b e R x)))
        * rArg6 W (ix3 b x ⟨e.val * 128 + l.val, by omega⟩)
      = ((weight (diffLogit (arr (rArg4 W)) (arr (rArg5 W)) b e.val 0 R.val) (R.val + 1) x.val * arr (rArg6 W) b x.val (128 * e.val + l.val)
        - lam * (weight (diffLogit (arr (rArg4 W)) (arr (rArg5 W)) b e.val 1 R.val) (R.val + 1) x.val
          * arr (rArg6 W) b x.val (128 * e.val + l.val)) : ℝ) : EReal) := fun x => by
    rw [diff_weight0 W h4 h5, diff_weight1 W h4 h5, hl, ← EReal.coe_mul, ← EReal.coe_sub,
      arr_eq h6 b x ⟨e.val * 128 + l.val, by omega⟩ x.val (128 * e.val + l.val) rfl (by simp only; omega), ← EReal.coe_mul]
    congr 1; ring
  refine (Finset.sum_congr rfl fun x _ => t x).trans ?_
  rw [← coe_sum, Finset.sum_sub_distrib, ← Finset.mul_sum,
    sum_weight _ (fun k => arr (rArg6 W) b k (128 * e.val + l.val)) _ (by omega),
    sum_weight _ (fun k => arr (rArg6 W) b k (128 * e.val + l.val)) _ (by omega)]
  rfl

/-- The forgetting heads' composed term. -/
def foxTerm : FVec Ideal S8x2048x512 .bf16 :=
  truncf .bf16 (shapeCast S8x2048x512 (transpose S8x2048x8x64 [0, 2, 1, 3] (Host.dotGeneral (F := Ideal) (φ₂ := .f32) dot_S8x8x2048x2048_S8x8x2048x64_S8x8x2048x64_3_2_2_3_01_01 none (Host.divf (a29 W) (broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduceAdd (a29 W) (constant S_ .f32 0x00000000#32) reducesTo_S8x8x2048x2048_S8x8x2048_d3 h_S_)))) (transpose S8x8x2048x64 [0, 2, 1, 3] (shapeCast S8x2048x8x64 (rArg2 W : FVec Ideal S8x2048x512 .f32) shapeCasts_S8x2048x512_S8x2048x8x64) transposes_S8x2048x8x64_S8x8x2048x64_0_2_1_3)) transposes_S8x8x2048x64_S8x2048x8x64_0_2_1_3) shapeCasts_S8x2048x8x64_S8x2048x512) bitsLt_bf16_f32

/-- The differential heads' composed term. -/
def diffTerm : FVec Ideal S8x2048x512 .bf16 :=
  truncf .bf16 (shapeCast S8x2048x512 (transpose S8x2048x4x128 [0, 2, 1, 3] (mulf (mulf (mulf (a128 W) (broadcastInDim S8x4x2048x128 ![0, 1, 2, 3] bcast_S8x4x2048x1_S8x4x2048x128_0_1_2_3 (Host.rsqrt (addf (Host.divf (broadcastInDim S8x4x2048x1 ![0, 1, 2] bcast_S8x4x2048_S8x4x2048x1_0_1_2 (Host.reduceAdd (mulf (a128 W) (a128 W)) (constant S_ .f32 0x00000000#32) reducesTo_S8x4x2048x128_S8x4x2048_d3 h_S_)) (broadcastInDim S8x4x2048x1 ![] bcast_S_S8x4x2048x1 (constant S_ .f32 0x43000000#32))) (broadcastInDim S8x4x2048x1 ![] bcast_S_S8x4x2048x1 (constant S_ .f32 0x358637BD#32)))))) (broadcastInDim S8x4x2048x128 ![0, 1, 2, 3] bcast_S1x1x1x128_S8x4x2048x128_0_1_2_3 (broadcastInDim S1x1x1x128 ![3] bcast_S128_S1x1x1x128_3 (rArg8 W)))) (broadcastInDim S8x4x2048x128 ![] bcast_S_S8x4x2048x128 (constant S_ .f32 0x3F4CCCCD#32))) transposes_S8x4x2048x128_S8x2048x4x128_0_2_1_3) shapeCasts_S8x2048x4x128_S8x2048x512) bitsLt_bf16_f32

/-- The forgetting heads' result, read at an index. -/
theorem v146_apply (h0 : Real3 (rArg0 W)) (h1 : Real3 (rArg1 W)) (h2 : Real3 (rArg2 W)) (h3 : Real3 (rArg3 W))
    (b : Fin 8) (R : Fin 2048) (c : Fin 512) :
    foxTerm W (ix3 b R c)
      = (foxSpec (arr (rArg0 W)) (arr (rArg1 W)) (arr (rArg2 W)) (arr (rArg3 W)) b R.val c.val : EReal) := by
  unfold foxTerm
  pointwise
  have t : ∀ x : Fin 2048, Ideal.div (a29 W (ix4 b ⟨c.val / 64, by omega⟩ R x)) (∑ y : Fin 2048, a29 W (ix4 b ⟨c.val / 64, by omega⟩ R y)) * rArg2 W (ix3 b x c)
      = ((weight (foxLogit (arr (rArg0 W)) (arr (rArg1 W)) (arr (rArg3 W)) b (c.val / 64) R.val) (R.val + 1) x.val * arr (rArg2 W) b x.val c.val : ℝ) : EReal) := fun x => by
    rw [fox_weight W h0 h1 h3, arr_eq h2 b x c x.val c.val rfl rfl, ← EReal.coe_mul]
  refine (Finset.sum_congr rfl fun x _ => t x).trans ?_
  rw [← coe_sum, sum_weight _ (fun k => arr (rArg2 W) b k c.val) _ (by omega)]
  rfl

/-- The differential heads' result, read at an index. -/
theorem v149_apply (h4 : Real3 (rArg4 W)) (h5 : Real3 (rArg5 W)) (h6 : Real3 (rArg6 W)) (lam : ℝ) (hl : lamRef (rArg7 W) = lam)
    (b : Fin 8) (R : Fin 2048) (c : Fin 512) :
    diffTerm W (ix3 b R c)
      = normRow (fun l => (mixSpec lam (arr (rArg4 W)) (arr (rArg5 W)) (arr (rArg6 W)) b (c.val / 128) R.val (128 * (c.val / 128) + l.val) : EReal))
        (rArg8 W (ix1 (Fin.ofNat 128 c.val))) (Fin.ofNat 128 c.val) := by
  unfold diffTerm
  pointwise
  simp only [v128_apply W h4 h5 h6 lam hl]
  rfl

end Cert.Attn
-- ==== Proof.Finite.lean ====
/- What the precondition says of the arguments: every entry is a real number. -/
module

public import proofs.«01_k».proof.Defs
public import proofs.«01_k».proof.Proof.Spec
public import Idealize.ShloMosaic.Lib.ReduceAll
public import Idealize.ShloMosaic.Lib.Affine

@[expose] public section

set_option maxRecDepth 16384

noncomputable section

namespace Cert.Attn

open Idealize.ShloMosaic Idealize.ShloMosaic.TcCoe Idealize.ShloMosaic.Tactic Idealize.ShloMosaic.Pointwise

theorem real_of_abs (x : EReal) (h : FloatOps.cmpf (F := Ideal) (φ := .f32) .olt (Host.absf (s := ⟨0, ![]⟩) (fun _ => x) ix0) (Ideal.ofBits .f32 0x7F800000#32) = 1#1) :
    x ≠ ⊤ ∧ x ≠ ⊥ := by
  have e : Ideal.ofBits .f32 0x7F800000#32 = ⊤ := by simp [Ideal.ofBits, Ideal.ieee]
  rw [e] at h
  have k : BitVec.ofBool (decide (max x (-x) < (⊤ : EReal))) = 1#1 := h
  constructor <;> rintro rfl <;> simp at k

/-- One of the precondition's conjuncts. -/
theorem real_of_all {s : Shape} {axes : List (Fin s.rank)} (A : FVec Ideal s .f32) (hb : (⟨0, ![]⟩ : Shape).BroadcastsInDim s ![])
    (hr : s.ReducesTo axes ⟨0, ![]⟩) (hu : 0 < (⟨0, ![]⟩ : Shape).numel)
    (h : Host.reduce IntOp.andi (cmpf .olt (Host.absf A) (broadcastInDim s ![] hb (constant ⟨0, ![]⟩ .f32 0x7F800000#32)))
      (constantI ⟨0, ![]⟩ 1 1#1) hr hu ix0 = 1#1) : Real3 A := fun i => by
  have k := Host.reduce_andi_all _ _ hr hu ix0 h i
  exact real_of_abs (A i) k

theorem finite_reads [Cert.Pre_finite.Facts] (A0 A1 A2 : FVec Ideal Cert.Pre_finite.S8x2048x512 .f32) (A3 : FVec Ideal Cert.Pre_finite.S8x8x2048 .f32)
    (A4 A5 A6 : FVec Ideal Cert.Pre_finite.S8x2048x512 .f32) (A7 : FVec Ideal Cert.Pre_finite.S4x64 .f32) (A8 : FVec Ideal Cert.Pre_finite.S128 .f32)
    (h : Cert.Pre_finite.fn (F := Ideal) A0 A1 A2 A3 A4 A5 A6 A7 A8 = fun _ => 1#1) :
    Real3 A0 ∧ Real3 A1 ∧ Real3 A2 ∧ Real3 A3 ∧ Real3 A4 ∧ Real3 A5 ∧ Real3 A6 ∧ Real3 A7 := by
  have e := congrFun h ix0
  dsimp only [Cert.Pre_finite.fn, Cert.Pre_finite.fn_part1, Cert.Pre_finite.fn_part2] at e
  simp only [andi, IntOp.andi_eq_one] at e
  obtain ⟨⟨⟨⟨⟨⟨⟨h0, h1⟩, h2⟩, h3⟩, h4⟩, h5⟩, h6⟩, h7⟩ := e
  exact ⟨real_of_all _ _ _ _ h0, real_of_all _ _ _ _ h1, real_of_all _ _ _ _ h2, real_of_all _ _ _ _ h3, real_of_all _ _ _ _ h4,
    real_of_all _ _ _ _ h5, real_of_all _ _ _ _ h6, real_of_all _ _ _ _ h7⟩

end Cert.Attn
-- ==== Proof.Attention.lean ====
/- The attention's claims: the kernel's and the reference's results are the same arrays. -/
module

public import proofs.«01_k».proof.Proof.Kernel
public import proofs.«01_k».proof.Proof.RefOut
public import proofs.«01_k».proof.Proof.Finite
public import proofs.«01_k».proof.Proof.Gen.Kernel
public import Idealize.ShloMosaic.Adequacy
public import Idealize.ShloMosaic.Init

@[expose] public section

set_option maxRecDepth 16384

noncomputable section

namespace Cert.Attn

open Idealize.ShloMosaic Idealize.ShloMosaic.TcCoe Idealize.ShloMosaic.Tactic Idealize.ShloMosaic.Pointwise Idealize.SL.Sem

/-- The precondition's side conditions. -/
theorem pre_facts : Cert.Pre_finite.Facts where
  bcast_S_S8x2048x512 := by decide
  reducesTo_S8x2048x512_S_d0_1_2 := by decide
  h_S_ := by decide
  bcast_S_S8x8x2048 := by decide
  reducesTo_S8x8x2048_S_d0_1_2 := by decide
  bcast_S_S4x64 := by decide
  reducesTo_S4x64_S_d0_1 := by decide

/-- The second softmax's weight is a real number. -/
theorem lam_real (v : Vec Ideal Cert.KernelIdeal.S4x64 .f32) (h : Real3 v) : ∃ lam : ℝ, lamE v = (lam : EReal) := by
  have e : ∀ i j : Fin 4, (∑ l : Fin 64, v (ix2 i l) * v (ix2 j l)) = ((∑ l : Fin 64, (v (ix2 i l)).toReal * (v (ix2 j l)).toReal : ℝ) : EReal) := fun i j => by
    rw [coe_sum]
    exact Finset.sum_congr rfl fun l _ => by
      rw [EReal.coe_mul, EReal.coe_toReal (h _).1 (h _).2, EReal.coe_toReal (h _).1 (h _).2]
  have k : Ideal.ofBits .f32 0x3E4CCCCD#32 = (((13421773 : ℝ) / 67108864 : ℝ) : EReal) := by
    simp [Ideal.ofBits, Ideal.ieee, ← EReal.coe_mul]; norm_num
  refine ⟨Real.exp (∑ l : Fin 64, (v (ix2 0 l)).toReal * (v (ix2 1 l)).toReal)
    - Real.exp (∑ l : Fin 64, (v (ix2 2 l)).toReal * (v (ix2 3 l)).toReal) + (13421773 : ℝ) / 67108864, ?_⟩
  rw [lamE, e, e, k, EReal.coe_add, EReal.coe_sub]
  rfl

theorem fox_term (W : Valuation Cert.ReferenceIdeal.τ Cert.ReferenceIdeal.sig (Elt Ideal)) (A0 A1 A2 : Vec Ideal Cert.KernelIdeal.S8x2048x512 .f32)
    (A3 : Vec Ideal Cert.KernelIdeal.S8x8x2048 .f32) (e0 : rArg0 W = A0) (e1 : rArg1 W = A1) (e2 : rArg2 W = A2) (e3 : rArg3 W = A3)
    (h0 : Real3 A0) (h1 : Real3 A1) (h2 : Real3 A2) (h3 : Real3 A3) : foxTerm W = foxArr A0 A1 A2 A3 := by
  subst e0 e1 e2 e3
  funext i
  idx_vars i
  exact v146_apply W h0 h1 h2 h3 _ _ _

theorem diff_term (W : Valuation Cert.ReferenceIdeal.τ Cert.ReferenceIdeal.sig (Elt Ideal)) (A4 A5 A6 : Vec Ideal Cert.KernelIdeal.S8x2048x512 .f32)
    (A7 : Vec Ideal Cert.KernelIdeal.S4x64 .f32) (A8 : Vec Ideal Cert.KernelIdeal.S128 .f32) (lam : ℝ) (e4 : rArg4 W = A4) (e5 : rArg5 W = A5)
    (e6 : rArg6 W = A6) (e7 : rArg7 W = A7) (e8 : rArg8 W = A8) (hl : lamE A7 = (lam : EReal))
    (h4 : Real3 A4) (h5 : Real3 A5) (h6 : Real3 A6) : diffTerm W = diffArr lam A4 A5 A6 A8 := by
  subst e4 e5 e6 e7 e8
  funext i
  idx_vars i
  exact v149_apply W h4 h5 h6 lam hl _ _ _

/-- The named constants. -/
theorem preserves : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

theorem algebraic : Cert.algebraic_KernelIdeal_ReferenceIdeal_pre_finite (hPre_finite := pre_facts) := by
  intro m ρ m' ρ' hpre hagree
  refine ⟨_, _, Cert.KernelIdeal.Value.run_blocks (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, -⟩ := @finite_reads pre_facts _ _ _ _ _ _ _ _ _ (hpre c)
    obtain ⟨e0, e1, e2, e3, -⟩ := hagree c
    refine Eq.trans ?_ (fox_arr (m := m) (c := c) h0 h1 h2 h3).symm
    exact fox_term (Idealize.ShloMosaic.StableHlo.launchContents m' c) _ _ _ _ e0 e1 e2 e3 h0 h1 h2 h3
  · obtain ⟨-, -, -, -, h4, h5, h6, h7⟩ := @finite_reads pre_facts _ _ _ _ _ _ _ _ _ (hpre c)
    obtain ⟨-, -, -, -, e4, e5, e6, e7, e8⟩ := hagree c
    obtain ⟨lam, hl⟩ := lam_real _ h7
    refine Eq.trans ?_ (diff_arr (m := m) (c := c) hl h4 h5 h6).symm
    exact diff_term (Idealize.ShloMosaic.StableHlo.launchContents m' c) _ _ _ _ _ lam e4 e5 e6 e7 e8 hl h4 h5 h6

end Cert.Attn
-- ==== Proof.MlpRows.lean ====
/- The output projection and the SwiGLU of one row, and the sums taken in pieces. -/
module

public import proofs.«01_k».proof.Proof.Spec

@[expose] public section

set_option maxRecDepth 16384

noncomputable section

namespace Cert.Mlp

open Idealize.ShloMosaic Cert.Attn

/-! ## Real values -/

/-- A value that is a real number. -/
def IsReal (x : EReal) : Prop := ∃ r : ℝ, x = (r : EReal)

theorem isReal_of {s : Shape} {A : s.Idx → EReal} (h : Real3 A) (i : s.Idx) : IsReal (A i) :=
  ⟨(A i).toReal, (EReal.coe_toReal (h i).1 (h i).2).symm⟩

theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.sum {ι : Type} [Fintype ι] {f : ι → EReal} (h : ∀ i, IsReal (f i)) : IsReal (∑ i, f i) := by
  choose r hr using h
  exact ⟨∑ i, r i, by rw [Finset.sum_congr rfl fun i _ => hr i, ← coe_sum]⟩

/-! ## The literals -/

/-- The length of a row. -/
def len : EReal := Ideal.ofBits .f32 0x44800000#32
/-- The norm's small term. -/
def eps : EReal := Ideal.ofBits .f32 0x358637BD#32
/-- One. -/
def one : EReal := Ideal.ofBits .f32 0x3F800000#32

theorem len_eq : len = ((1024 : ℝ) : EReal) := by
  unfold len; simp [Ideal.ofBits, Ideal.ieee, ← EReal.coe_mul]; norm_num
theorem one_eq : one = ((1 : ℝ) : EReal) := by
  unfold one; simp [Ideal.ofBits, Ideal.ieee, ← EReal.coe_mul, -EReal.coe_one]; norm_num
theorem eps_pos : ∃ e : ℝ, 0 < e ∧ eps = (e : EReal) := by
  refine ⟨8796093 / 2 ^ 43, by norm_num, ?_⟩
  unfold eps; simp [Ideal.ofBits, Ideal.ieee, ← EReal.coe_mul]; norm_num

/-! ## One row -/

/-- The modulated norm of a row. -/
def hidRow (u ln sc sh : Fin 1024 → EReal) (j : Fin 1024) : EReal :=
  u j * Ideal.rsqrt (Ideal.div (∑ k : Fin 1024, u k * u k) len + eps) * (ln j * (one + sc j)) + sh j

theorem hidRow_real {u ln sc sh : Fin 1024 → EReal} (hu : ∀ j, IsReal (u j)) (hl : ∀ j, IsReal (ln j)) (hc : ∀ j, IsReal (sc j))
    (hs : ∀ j, IsReal (sh j)) (j : Fin 1024) : IsReal (hidRow u ln sc sh j) := by
  choose r hr using hu
  obtain ⟨e, he, hE⟩ := eps_pos
  have hq : Ideal.div (∑ k : Fin 1024, u k * u k) len + eps = (((∑ k, r k * r k) * (1 / 1024) + e : ℝ) : EReal) := by
    rw [Finset.sum_congr rfl fun k _ => show u k * u k = ((r k * r k : ℝ) : EReal) by rw [hr k, EReal.coe_mul], ← coe_sum, len_eq,
      Ideal.div_coe (by norm_num), hE, ← EReal.coe_mul, ← EReal.coe_add]
  have hp : 0 < (∑ k, r k * r k) * (1 / 1024) + e :=
    add_pos_of_nonneg_of_pos (mul_nonneg (Finset.sum_nonneg fun k _ => mul_self_nonneg _) (by norm_num)) he
  have hR : IsReal (Ideal.rsqrt (Ideal.div (∑ k : Fin 1024, u k * u k) len + eps)) := by
    rw [hq, Ideal.rsqrt_coe, if_neg hp.not_gt, if_neg hp.ne']; exact ⟨_, rfl⟩
  have hj : IsReal (u j) := ⟨r j, hr j⟩
  exact ((hj.mul hR).mul ((hl j).mul (IsReal.add ⟨1, one_eq⟩ (hc j)))).add (hs j)

/-- The gate's silu times the other product. -/
def gated (p q : EReal) : EReal := Ideal.div p (one + Ideal.exp (0 - p)) * q

theorem gated_real {p q : EReal} : IsReal p → IsReal q → IsReal (gated p q) := by
  rintro ⟨a, rfl⟩ hq
  refine IsReal.mul ?_ hq
  rw [zero_sub, ← EReal.coe_neg, Ideal.exp_coe, one_eq, ← EReal.coe_add,
    Ideal.div_coe (add_pos one_pos (Real.exp_pos _)).ne']
  exact IsReal.mul ⟨a, rfl⟩ ⟨_, rfl⟩

/-- The silu as the gate times its logistic. -/
theorem gated_eq {p : EReal} (q : EReal) : IsReal p → p * Ideal.div one (one + Ideal.exp (-p)) * q = gated p q := by
  rintro ⟨a, rfl⟩
  unfold gated
  congr 1
  rw [zero_sub, ← EReal.coe_neg, Ideal.exp_coe, one_eq, ← EReal.coe_add,
    Ideal.div_coe (add_pos one_pos (Real.exp_pos _)).ne', Ideal.div_coe (add_pos one_pos (Real.exp_pos _)).ne',
    EReal.coe_one, one_mul]

/-- A hidden unit of a row. -/
def mid (h : Fin 1024 → EReal) (wg wu : Fin 1024 → Fin 2816 → EReal) (f : Fin 2816) : EReal :=
  gated (∑ k : Fin 1024, h k * wg k f) (∑ k : Fin 1024, h k * wu k f)

theorem mid_real {h : Fin 1024 → EReal} {wg wu : Fin 1024 → Fin 2816 → EReal} (hh : ∀ k, IsReal (h k)) (hg : ∀ k f, IsReal (wg k f))
    (hu : ∀ k f, IsReal (wu k f)) (f : Fin 2816) : IsReal (mid h wg wu f) :=
  gated_real (.sum fun k => (hh k).mul (hg k f)) (.sum fun k => (hh k).mul (hu k f))

/-- A row after the projection: the row, and the gate times the two halves' products. -/
def resRow (x g : Fin 1024 → EReal) (a b : Fin 512 → EReal) (w : Fin 1024 → Fin 1024 → EReal) (j : Fin 1024) : EReal :=
  x j + g j * ((∑ k : Fin 512, a k * w ⟨k.val, by omega⟩ j) + ∑ k : Fin 512, b k * w ⟨512 + k.val, by omega⟩ j)

theorem resRow_real {x g : Fin 1024 → EReal} {a b : Fin 512 → EReal} {w : Fin 1024 → Fin 1024 → EReal} (hx : ∀ j, IsReal (x j))
    (hg : ∀ j, IsReal (g j)) (ha : ∀ k, IsReal (a k)) (hb : ∀ k, IsReal (b k)) (hw : ∀ k j, IsReal (w k j)) (j : Fin 1024) :
    IsReal (resRow x g a b w j) :=
  (hx j).add ((hg j).mul (.add (.sum fun k => (ha k).mul (hw _ j)) (.sum fun k => (hb k).mul (hw _ j))))

/-- The two halves side by side, in one product. -/
theorem sum_halves (f : Fin 1024 → EReal) :
    ∑ k : Fin 1024, f k = (∑ k : Fin 512, f ⟨k.val, by omega⟩) + ∑ k : Fin 512, f ⟨512 + k.val, by omega⟩ :=
  Fin.sum_univ_add (a := 512) (b := 512) f

/-- The hidden units `o` to `o + n` of a row, projected back. -/
def part (t : Fin 2816 → EReal) (n o : ℕ) (h : o + n ≤ 2816) : EReal := ∑ f : Fin n, t ⟨o + f.val, by omega⟩

theorem sum_parts (t : Fin 2816 → EReal) :
    ∑ f : Fin 2816, t f = part t 512 0 (by omega) + part t 768 512 (by omega) + part t 768 1280 (by omega) + part t 768 2048 (by omega) := by
  rw [show (∑ f : Fin 2816, t f) = ∑ f : Fin (2048 + 768), t f from rfl, Fin.sum_univ_add,
    show (∑ f : Fin 2048, t (Fin.castAdd 768 f)) = ∑ f : Fin (1280 + 768), t (Fin.castAdd 768 f) from rfl, Fin.sum_univ_add,
    show (∑ f : Fin 1280, t (Fin.castAdd 768 (Fin.castAdd 768 f))) = ∑ f : Fin (512 + 768), t (Fin.castAdd 768 (Fin.castAdd 768 f)) from rfl,
    Fin.sum_univ_add]
  unfold part
  refine congrArg₂ (· + ·) (congrArg₂ (· + ·) (congrArg₂ (· + ·) ?_ rfl) rfl) rfl
  exact Finset.sum_congr rfl fun f _ => congrArg t (Fin.ext (Nat.zero_add _).symm)

/-- A row's result, as the kernel adds it up. -/
def outRow (u g : EReal) (t : Fin 2816 → EReal) : EReal :=
  u + g * part t 512 0 (by omega) + g * part t 768 512 (by omega) + g * part t 768 1280 (by omega) + g * part t 768 2048 (by omega)

/-- The pieces together are one product. -/
theorem outRow_eq {u g : EReal} {t : Fin 2816 → EReal} (hg : IsReal g) (ht : ∀ f, IsReal (t f)) :
    outRow u g t = u + g * ∑ f : Fin 2816, t f := by
  rw [sum_parts]
  unfold outRow
  obtain ⟨a, ha⟩ : IsReal (part t 512 0 (by omega)) := .sum fun _ => ht _
  obtain ⟨b, hb⟩ : IsReal (part t 768 512 (by omega)) := .sum fun _ => ht _
  obtain ⟨c, hc⟩ : IsReal (part t 768 1280 (by omega)) := .sum fun _ => ht _
  obtain ⟨d, hd⟩ : IsReal (part t 768 2048 (by omega)) := .sum fun _ => ht _
  obtain ⟨γ, rfl⟩ := hg
  rw [ha, hb, hc, hd]
  simp only [← EReal.coe_mul, ← EReal.coe_add, add_assoc]
  congr 2
  ring

end Cert.Mlp
-- ==== Proof.MlpPieces.lean ====
/- What the SwiGLU kernel leaves in its output block at a grid point: the four stores to the block, each adding to
   what the one before left, as one term over the block's loads. -/
module

public import proofs.«01_k».proof.Proof.Gen.Kernel2Ideal.Value
public import Idealize.ShloMosaic.Lib.Pipeline.ValueKit
public import proofs.«01_k».proof.Proof.Gen.Kernel2Ideal.Frame.RunA
import all proofs.«01_k».proof.Proof.Gen.Kernel2Ideal.Frame.RunA

@[expose] public section

set_option maxRecDepth 16384

noncomputable section

namespace Cert.Mlp

open Idealize.ShloMosaic Idealize.ShloMosaic.TcCoe Idealize.ShloMosaic.Tactic Idealize.SL.Sem Cert.Kernel2Ideal Cert.Kernel2Ideal.Gen Cert.Kernel2Ideal.Facts

variable {F : FTy → Type} [FloatOps F]

/-- The kernel's loads at a grid point. -/
structure Loads (F : FTy → Type) where
  a0 : Vec F S1x512x512 .bf16
  a1 : Vec F S1x512x512 .bf16
  b0 : Vec F S1x512x512 .bf16
  b1 : Vec F S1x512x512 .bf16
  x0 : Vec F S1x512x1024 .f32
  x1 : Vec F S1x512x1024 .f32
  w0 : Vec F S1x512x1024 .bf16
  w1 : Vec F S1x512x1024 .bf16
  g1 : Vec F S1x1x1x1x1024 .f32
  ln : Vec F S1x1x1024 .f32
  sh : Vec F S1x1x1x1x1024 .f32
  sc : Vec F S1x1x1x1x1024 .f32
  g2 : Vec F S1x1x1x1x1024 .f32
  wg0 : Vec F S1x1024x512 .bf16
  wu0 : Vec F S1x1024x512 .bf16
  wd0 : Vec F S1x512x1024 .bf16
  wg1 : Vec F S1x1024x768 .bf16
  wu1 : Vec F S1x1024x768 .bf16
  wd1 : Vec F S1x768x1024 .bf16
  wg2 : Vec F S1x1024x768 .bf16
  wu2 : Vec F S1x1024x768 .bf16
  wd2 : Vec F S1x768x1024 .bf16
  wg3 : Vec F S1x1024x768 .bf16
  wu3 : Vec F S1x1024x768 .bf16
  wd3 : Vec F S1x768x1024 .bf16

namespace Loads

variable (L : Loads F)

/-- The first half of the rows after the projection. -/
def top : FVec F S512x1024 .f32 := k0_pay2 L.a0 L.w0 L.b0 L.w1 L.x0 L.g1
/-- The products of the second half. -/
def prod : FVec F S512x1024 .f32 := k0_pay6 L.a1 L.w0 L.b1 L.w1
/-- The second half after the projection. -/
def bot : FVec F S512x1024 .f32 := k0_pay9 L.prod (k0_pay7 L.x1) (k0_pay8 L.g1)
/-- The modulated norm of the first half. -/
def topHid : FVec F S512x1024 .bf16 := k0_pay5 L.top (k0_pay3 L.ln) (k0_pay4 L.sh) L.sc
/-- The modulated norm of all rows. -/
def hid : FVec F S1024x1024 .bf16 := k0_pay10 L.topHid L.prod (k0_pay7 L.x1) (k0_pay8 L.g1) L.ln L.sh L.sc
/-- The gate's first product. -/
def gate0 : FVec F S1024x512 .f32 := k0_pay12 L.topHid L.prod (k0_pay7 L.x1) (k0_pay8 L.g1) L.ln L.sh L.sc L.wg0
/-- The block after the projection. -/
def acc0 : FVec F S1x1024x1024 .f32 := k0_pay11 L.top L.prod (k0_pay7 L.x1) (k0_pay8 L.g1)
/-- The block after the first hidden units. -/
def acc1 : FVec F S1x1024x1024 .f32 := k0_pay13 L.hid L.gate0 L.wu0 L.acc0 L.g2 L.wd0
/-- The block after the second hidden units. -/
def acc2 : FVec F S1x1024x1024 .f32 := k0_pay16 (k0_pay14 L.hid L.wg1) (k0_pay15 L.hid L.wu1) L.acc1 L.g2 L.wd1
/-- The block after the third hidden units. -/
def acc3 : FVec F S1x1024x1024 .f32 :=
  k0_pay20 (k0_pay17 L.hid L.wg2) (k0_pay18 L.hid L.wu2) (k0_pay19 L.hid L.wg2) L.acc2 L.g2 L.wd2
/-- The block at the end. -/
def acc4 : FVec F S1x1024x1024 .f32 := k0_pay1 (k0_pay21 L.hid L.wg3 L.wu3) L.acc3 L.g2 L.wd3

end Loads

/-- The loads of a point's blocks. -/
def loads (arg2 : Memref sig .tc .vmem S1x1024x512 .bf16) (harg2 : arg2.IsWhole) (arg3 : Memref sig .tc .vmem S1x1024x512 .bf16) (harg3 : arg3.IsWhole) (arg4 : Memref sig .tc .vmem S1x1024x1024 .f32) (harg4 : arg4.IsWhole) (arg5 : Memref sig .tc .vmem S1x1024x1024 .bf16) (harg5 : arg5.IsWhole) (arg6 : Memref sig .tc .vmem S1x1x1x1x1024 .f32) (harg6 : arg6.IsWhole) (arg7 : Memref sig .tc .vmem S1x1x1024 .f32) (harg7 : arg7.IsWhole) (arg8 : Memref sig .tc .vmem S1x1x1x1x1024 .f32) (harg8 : arg8.IsWhole) (arg9 : Memref sig .tc .vmem S1x1x1x1x1024 .f32) (harg9 : arg9.IsWhole) (arg10 : Memref sig .tc .vmem S1x1x1x1x1024 .f32) (harg10 : arg10.IsWhole) (arg11 : Memref sig .tc .vmem S1x1024x2816 .bf16) (harg11 : arg11.IsWhole) (arg12 : Memref sig .tc .vmem S1x1024x2816 .bf16) (harg12 : arg12.IsWhole) (arg13 : Memref sig .tc .vmem S1x2816x1024 .bf16) (harg13 : arg13.IsWhole) (arg14 : Memref sig .tc .vmem S1x1024x1024 .f32) (harg14 : arg14.IsWhole)
    (x0 : Vec F S1x1024x512 .bf16) (x1 : Vec F S1x1024x512 .bf16) (x2 : Vec F S1x1024x1024 .f32) (x3 : Vec F S1x1024x1024 .bf16) (x4 : Vec F S1x1x1x1x1024 .f32) (x5 : Vec F S1x1x1024 .f32) (x6 : Vec F S1x1x1x1x1024 .f32) (x7 : Vec F S1x1x1x1x1024 .f32) (x8 : Vec F S1x1x1x1x1024 .f32) (x9 : Vec F S1x1024x2816 .bf16) (x10 : Vec F S1x1024x2816 .bf16) (x11 : Vec F S1x2816x1024 .bf16) : Loads F :=
  {
    a0 := View.readAt (Elt F) arg2.view (Rect.unit (s := S1x1024x512) ![0, 0, 0] S1x512x512.size inb_S1x1024x512_S1x512x512_0_0_0).toLoadRect (harg2.unread x0),
    a1 := View.readAt (Elt F) arg2.view (Rect.unit (s := S1x1024x512) ![0, 512, 0] S1x512x512.size inb_S1x1024x512_S1x512x512_0_512_0).toLoadRect (harg2.unread x0),
    b0 := View.readAt (Elt F) arg3.view (Rect.unit (s := S1x1024x512) ![0, 0, 0] S1x512x512.size inb_S1x1024x512_S1x512x512_0_0_0).toLoadRect (harg3.unread x1),
    b1 := View.readAt (Elt F) arg3.view (Rect.unit (s := S1x1024x512) ![0, 512, 0] S1x512x512.size inb_S1x1024x512_S1x512x512_0_512_0).toLoadRect (harg3.unread x1),
    x0 := View.readAt (Elt F) arg4.view (Rect.unit (s := S1x1024x1024) ![0, 0, 0] S1x512x1024.size inb_S1x1024x1024_S1x512x1024_0_0_0).toLoadRect (harg4.unread x2),
    x1 := View.readAt (Elt F) arg4.view (Rect.unit (s := S1x1024x1024) ![0, 512, 0] S1x512x1024.size inb_S1x1024x1024_S1x512x1024_0_512_0).toLoadRect (harg4.unread x2),
    w0 := View.readAt (Elt F) arg5.view (Rect.unit (s := S1x1024x1024) ![0, 0, 0] S1x512x1024.size inb_S1x1024x1024_S1x512x1024_0_0_0).toLoadRect (harg5.unread x3),
    w1 := View.readAt (Elt F) arg5.view (Rect.unit (s := S1x1024x1024) ![0, 512, 0] S1x512x1024.size inb_S1x1024x1024_S1x512x1024_0_512_0).toLoadRect (harg5.unread x3),
    g1 := View.readAt (Elt F) arg6.view (Rect.unit (s := S1x1x1x1x1024) ![0, 0, 0, 0, 0] S1x1x1x1x1024.size inb_S1x1x1x1x1024_S1x1x1x1x1024_0_0_0_0_0).toLoadRect (harg6.unread x4),
    ln := View.readAt (Elt F) arg7.view (Rect.unit (s := S1x1x1024) ![0, 0, 0] S1x1x1024.size inb_S1x1x1024_S1x1x1024_0_0_0).toLoadRect (harg7.unread x5),
    sh := View.readAt (Elt F) arg8.view (Rect.unit (s := S1x1x1x1x1024) ![0, 0, 0, 0, 0] S1x1x1x1x1024.size inb_S1x1x1x1x1024_S1x1x1x1x1024_0_0_0_0_0).toLoadRect (harg8.unread x6),
    sc := View.readAt (Elt F) arg9.view (Rect.unit (s := S1x1x1x1x1024) ![0, 0, 0, 0, 0] S1x1x1x1x1024.size inb_S1x1x1x1x1024_S1x1x1x1x1024_0_0_0_0_0).toLoadRect (harg9.unread x7),
    g2 := View.readAt (Elt F) arg10.view (Rect.unit (s := S1x1x1x1x1024) ![0, 0, 0, 0, 0] S1x1x1x1x1024.size inb_S1x1x1x1x1024_S1x1x1x1x1024_0_0_0_0_0).toLoadRect (harg10.unread x8),
    wg0 := View.readAt (Elt F) arg11.view (Rect.unit (s := S1x1024x2816) ![0, 0, 0] S1x1024x512.size inb_S1x1024x2816_S1x1024x512_0_0_0).toLoadRect (harg11.unread x9),
    wu0 := View.readAt (Elt F) arg12.view (Rect.unit (s := S1x1024x2816) ![0, 0, 0] S1x1024x512.size inb_S1x1024x2816_S1x1024x512_0_0_0).toLoadRect (harg12.unread x10),
    wd0 := View.readAt (Elt F) arg13.view (Rect.unit (s := S1x2816x1024) ![0, 0, 0] S1x512x1024.size inb_S1x2816x1024_S1x512x1024_0_0_0).toLoadRect (harg13.unread x11),
    wg1 := View.readAt (Elt F) arg11.view (Rect.unit (s := S1x1024x2816) ![0, 0, 512] S1x1024x768.size inb_S1x1024x2816_S1x1024x768_0_0_512).toLoadRect (harg11.unread x9),
    wu1 := View.readAt (Elt F) arg12.view (Rect.unit (s := S1x1024x2816) ![0, 0, 512] S1x1024x768.size inb_S1x1024x2816_S1x1024x768_0_0_512).toLoadRect (harg12.unread x10),
    wd1 := View.readAt (Elt F) arg13.view (Rect.unit (s := S1x2816x1024) ![0, 512, 0] S1x768x1024.size inb_S1x2816x1024_S1x768x1024_0_512_0).toLoadRect (harg13.unread x11),
    wg2 := View.readAt (Elt F) arg11.view (Rect.unit (s := S1x1024x2816) ![0, 0, 1280] S1x1024x768.size inb_S1x1024x2816_S1x1024x768_0_0_1280).toLoadRect (harg11.unread x9),
    wu2 := View.readAt (Elt F) arg12.view (Rect.unit (s := S1x1024x2816) ![0, 0, 1280] S1x1024x768.size inb_S1x1024x2816_S1x1024x768_0_0_1280).toLoadRect (harg12.unread x10),
    wd2 := View.readAt (Elt F) arg13.view (Rect.unit (s := S1x2816x1024) ![0, 1280, 0] S1x768x1024.size inb_S1x2816x1024_S1x768x1024_0_1280_0).toLoadRect (harg13.unread x11),
    wg3 := View.readAt (Elt F) arg11.view (Rect.unit (s := S1x1024x2816) ![0, 0, 2048] S1x1024x768.size inb_S1x1024x2816_S1x1024x768_0_0_2048).toLoadRect (harg11.unread x9),
    wu3 := View.readAt (Elt F) arg12.view (Rect.unit (s := S1x1024x2816) ![0, 0, 2048] S1x1024x768.size inb_S1x1024x2816_S1x1024x768_0_0_2048).toLoadRect (harg12.unread x10),
    wd3 := View.readAt (Elt F) arg13.view (Rect.unit (s := S1x2816x1024) ![0, 2048, 0] S1x768x1024.size inb_S1x2816x1024_S1x768x1024_0_2048_0).toLoadRect (harg13.unread x11) }

set_option maxHeartbeats 4000000 in
theorem out_eq (c : Dev nD) (i : grid0.Coords) (arg2 : Memref sig .tc .vmem S1x1024x512 .bf16) (harg2 : arg2.IsWhole) (arg3 : Memref sig .tc .vmem S1x1024x512 .bf16) (harg3 : arg3.IsWhole) (arg4 : Memref sig .tc .vmem S1x1024x1024 .f32) (harg4 : arg4.IsWhole) (arg5 : Memref sig .tc .vmem S1x1024x1024 .bf16) (harg5 : arg5.IsWhole) (arg6 : Memref sig .tc .vmem S1x1x1x1x1024 .f32) (harg6 : arg6.IsWhole) (arg7 : Memref sig .tc .vmem S1x1x1024 .f32) (harg7 : arg7.IsWhole) (arg8 : Memref sig .tc .vmem S1x1x1x1x1024 .f32) (harg8 : arg8.IsWhole) (arg9 : Memref sig .tc .vmem S1x1x1x1x1024 .f32) (harg9 : arg9.IsWhole) (arg10 : Memref sig .tc .vmem S1x1x1x1x1024 .f32) (harg10 : arg10.IsWhole) (arg11 : Memref sig .tc .vmem S1x1024x2816 .bf16) (harg11 : arg11.IsWhole) (arg12 : Memref sig .tc .vmem S1x1024x2816 .bf16) (harg12 : arg12.IsWhole) (arg13 : Memref sig .tc .vmem S1x2816x1024 .bf16) (harg13 : arg13.IsWhole) (arg14 : Memref sig .tc .vmem S1x1024x1024 .f32) (harg14 : arg14.IsWhole)
    (x0 : Vec F S1x1024x512 .bf16) (x1 : Vec F S1x1024x512 .bf16) (x2 : Vec F S1x1024x1024 .f32) (x3 : Vec F S1x1024x1024 .bf16) (x4 : Vec F S1x1x1x1x1024 .f32) (x5 : Vec F S1x1x1024 .f32) (x6 : Vec F S1x1x1x1x1024 .f32) (x7 : Vec F S1x1x1x1x1024 .f32) (x8 : Vec F S1x1x1x1x1024 .f32) (x9 : Vec F S1x1024x2816 .bf16) (x10 : Vec F S1x1024x2816 .bf16) (x11 : Vec F S1x2816x1024 .bf16) :
    out0_A_12 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 = (loads arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).acc4 := by
  unfold out0_A_12
  rw [View.read_writes_junk_eq_canon]
  dsimp only [kernelRun0_A]
  unfold kernelRun0_A.sl.v184 kernelRun0_A.sl.H12_4 kernelRun0_A.sl.v157 kernelRun0_A.sl.H12_3 kernelRun0_A.sl.v130 kernelRun0_A.sl.H12_2 kernelRun0_A.sl.v103 kernelRun0_A.sl.H12_1
  refine (View.canon_cons_unit_lit _ _ _ (by decide)).trans ?_
  simp only [View.readCov_cons_toLoadRect]
  rfl

end Cert.Mlp
-- ==== Proof.MlpBlock.lean ====
/- The SwiGLU kernel's output block read at an index. -/
module

public import proofs.«01_k».proof.Proof.MlpRows
public import proofs.«01_k».proof.Proof.MlpPieces

@[expose] public section

set_option maxRecDepth 16384

noncomputable section

namespace Cert.Mlp

open Idealize.ShloMosaic Idealize.ShloMosaic.TcCoe Idealize.ShloMosaic.Tactic Idealize.ShloMosaic.Pointwise Idealize.SL.Sem
open Cert.Kernel2Ideal Cert.Kernel2Ideal.Gen Cert.Kernel2Ideal.Facts

/-! ## The stored values, read at an index -/

theorem pay2_apply (v0 : Vec Ideal S1x512x512 .bf16) (v2 : Vec Ideal S1x512x1024 .bf16) (v5 : Vec Ideal S1x512x512 .bf16)
    (v7 : Vec Ideal S1x512x1024 .bf16) (v11 : Vec Ideal S1x512x1024 .f32) (v13 : Vec Ideal S1x1x1x1x1024 .f32) (r : Fin 512) (j : Fin 1024) :
    k0_pay2 v0 v2 v5 v7 v11 v13 (ix2 r j)
      = v11 (ix3 0 r j) + v13 (ix5 0 0 0 0 j) * ((∑ k : Fin 512, v0 (ix3 0 r k) * v2 (ix3 0 k j)) + ∑ k : Fin 512, v5 (ix3 0 r k) * v7 (ix3 0 k j)) := by
  pointwise [k0_pay2]

theorem pay9_apply (v42 : Vec Ideal S1x512x512 .bf16) (v44 : Vec Ideal S1x512x1024 .bf16) (v47 : Vec Ideal S1x512x512 .bf16)
    (v49 : Vec Ideal S1x512x1024 .bf16) (v53 : Vec Ideal S1x512x1024 .f32) (v55 : Vec Ideal S1x1x1x1x1024 .f32) (r : Fin 512) (j : Fin 1024) :
    k0_pay9 (k0_pay6 v42 v44 v47 v49) (k0_pay7 v53) (k0_pay8 v55) (ix2 r j)
      = v53 (ix3 0 r j) + v55 (ix5 0 0 0 0 j) * ((∑ k : Fin 512, v42 (ix3 0 r k) * v44 (ix3 0 k j)) + ∑ k : Fin 512, v47 (ix3 0 r k) * v49 (ix3 0 k j)) := by
  pointwise [k0_pay9, k0_pay6, k0_pay7, k0_pay8]

theorem pay5_apply (v17 : FVec Ideal S512x1024 .f32) (v18 : Vec Ideal S1x1x1024 .f32) (v20 v22 : Vec Ideal S1x1x1x1x1024 .f32) (r : Fin 512) (j : Fin 1024) :
    k0_pay5 v17 (k0_pay3 v18) (k0_pay4 v20) v22 (ix2 r j)
      = hidRow (fun j => v17 (ix2 r j)) (fun j => v18 (ix3 0 0 j)) (fun j => v22 (ix5 0 0 0 0 j)) (fun j => v20 (ix5 0 0 0 0 j)) j := by
  pointwise [k0_pay5, k0_pay3, k0_pay4, hidRow, len, eps, one]

theorem pay10_top (v41 : FVec Ideal S512x1024 .bf16) (v52 v54 : FVec Ideal S512x1024 .f32) (v56 : FVec Ideal S1x1024 .f32) (v60 : Vec Ideal S1x1x1024 .f32)
    (v62 v64 : Vec Ideal S1x1x1x1x1024 .f32) (r : Fin 1024) (hr : r.val < 512) (j : Fin 1024) :
    k0_pay10 v41 v52 v54 v56 v60 v62 v64 (ix2 r j) = v41 (ix2 ⟨r.val, hr⟩ j) := by
  pointwise [k0_pay10]
  rw [dif_pos hr]

theorem pay10_bot (v41 : FVec Ideal S512x1024 .bf16) (v52 v54 : FVec Ideal S512x1024 .f32) (v56 : FVec Ideal S1x1024 .f32) (v60 : Vec Ideal S1x1x1024 .f32)
    (v62 v64 : Vec Ideal S1x1x1x1x1024 .f32) (r : Fin 512) (j : Fin 1024) :
    k0_pay10 v41 v52 v54 v56 v60 v62 v64 (ix2 ⟨512 + r.val, by omega⟩ j)
      = hidRow (fun j => k0_pay9 v52 v54 v56 (ix2 r j)) (fun j => v60 (ix3 0 0 j)) (fun j => v64 (ix5 0 0 0 0 j)) (fun j => v62 (ix5 0 0 0 0 j)) j := by
  pointwise [k0_pay10, hidRow, len, eps, one]

theorem pay11_top (v17 v52 v54 : FVec Ideal S512x1024 .f32) (v56 : FVec Ideal S1x1024 .f32) (r : Fin 1024) (hr : r.val < 512) (j : Fin 1024) :
    k0_pay11 v17 v52 v54 v56 (ix3 0 r j) = v17 (ix2 ⟨r.val, hr⟩ j) := by
  pointwise [k0_pay11]
  rw [dif_pos hr]

theorem pay11_bot (v17 v52 v54 : FVec Ideal S512x1024 .f32) (v56 : FVec Ideal S1x1024 .f32) (r : Fin 512) (j : Fin 1024) :
    k0_pay11 v17 v52 v54 v56 (ix3 0 ⟨512 + r.val, by omega⟩ j) = k0_pay9 v52 v54 v56 (ix2 r j) := by
  pointwise [k0_pay11]

theorem pay13_apply (v85 : FVec Ideal S1024x1024 .bf16) (v91 : FVec Ideal S1024x512 .f32) (v92 : Vec Ideal S1x1024x512 .bf16) (v103 : Vec Ideal S1x1024x1024 .f32)
    (v105 : Vec Ideal S1x1x1x1x1024 .f32) (v107 : Vec Ideal S1x512x1024 .bf16) (R j : Fin 1024) :
    k0_pay13 v85 v91 v92 v103 v105 v107 (ix3 0 R j)
      = v103 (ix3 0 R j) + v105 (ix5 0 0 0 0 j) * ∑ f : Fin 512, gated (v91 (ix2 R f)) (∑ k : Fin 1024, v85 (ix2 R k) * v92 (ix3 0 k f)) * v107 (ix3 0 f j) := by
  pointwise [k0_pay13, gated, one]

theorem pay12_apply (v41 : FVec Ideal S512x1024 .bf16) (v52 v54 : FVec Ideal S512x1024 .f32) (v56 : FVec Ideal S1x1024 .f32) (v60 : Vec Ideal S1x1x1024 .f32)
    (v62 v64 : Vec Ideal S1x1x1x1x1024 .f32) (v89 : Vec Ideal S1x1024x512 .bf16) (R : Fin 1024) (f : Fin 512) :
    k0_pay12 v41 v52 v54 v56 v60 v62 v64 v89 (ix2 R f) = ∑ k : Fin 1024, k0_pay10 v41 v52 v54 v56 v60 v62 v64 (ix2 R k) * v89 (ix3 0 k f) := by
  unfold k0_pay12
  generalize k0_pay10 v41 v52 v54 v56 v60 v62 v64 = w
  pointwise

theorem pay16_apply (v85 : FVec Ideal S1024x1024 .bf16) (v116 v119 : Vec Ideal S1x1024x768 .bf16) (v130 : Vec Ideal S1x1024x1024 .f32)
    (v132 : Vec Ideal S1x1x1x1x1024 .f32) (v134 : Vec Ideal S1x768x1024 .bf16) (R j : Fin 1024) :
    k0_pay16 (k0_pay14 v85 v116) (k0_pay15 v85 v119) v130 v132 v134 (ix3 0 R j)
      = v130 (ix3 0 R j) + v132 (ix5 0 0 0 0 j) * ∑ f : Fin 768, gated (∑ k : Fin 1024, v85 (ix2 R k) * v116 (ix3 0 k f))
          (∑ k : Fin 1024, v85 (ix2 R k) * v119 (ix3 0 k f)) * v134 (ix3 0 f j) := by
  pointwise [k0_pay16, k0_pay14, k0_pay15, gated, one]

theorem pay20_apply (v85 : FVec Ideal S1024x1024 .bf16) (v116 v119 : Vec Ideal S1x1024x768 .bf16) (v130 : Vec Ideal S1x1024x1024 .f32)
    (v132 : Vec Ideal S1x1x1x1x1024 .f32) (v134 : Vec Ideal S1x768x1024 .bf16) (R j : Fin 1024) :
    k0_pay20 (k0_pay17 v85 v116) (k0_pay18 v85 v119) (k0_pay19 v85 v116) v130 v132 v134 (ix3 0 R j)
      = v130 (ix3 0 R j) + v132 (ix5 0 0 0 0 j) * ∑ f : Fin 768, gated (∑ k : Fin 1024, v85 (ix2 R k) * v116 (ix3 0 k f))
          (∑ k : Fin 1024, v85 (ix2 R k) * v119 (ix3 0 k f)) * v134 (ix3 0 f j) := by
  pointwise [k0_pay20, k0_pay17, k0_pay18, k0_pay19, gated, one]

theorem pay1_apply (v85 : FVec Ideal S1024x1024 .bf16) (v116 v119 : Vec Ideal S1x1024x768 .bf16) (v130 : Vec Ideal S1x1024x1024 .f32)
    (v132 : Vec Ideal S1x1x1x1x1024 .f32) (v134 : Vec Ideal S1x768x1024 .bf16) (R j : Fin 1024) :
    k0_pay1 (k0_pay21 v85 v116 v119) v130 v132 v134 (ix3 0 R j)
      = v130 (ix3 0 R j) + v132 (ix5 0 0 0 0 j) * ∑ f : Fin 768, gated (∑ k : Fin 1024, v85 (ix2 R k) * v116 (ix3 0 k f))
          (∑ k : Fin 1024, v85 (ix2 R k) * v119 (ix3 0 k f)) * v134 (ix3 0 f j) := by
  pointwise [k0_pay1, k0_pay21, gated, one]

/-! ## The loads, read at an index -/

theorem ld3 {n m n' m' : ℕ} {e : EltTy} (a : Memref sig .tc .vmem ⟨3, ![1, n, m]⟩ e) (h : a.IsWhole) (x : Vec Ideal ⟨3, ![1, n, m]⟩ e) (o p : ℕ)
    (inb : ∀ d, (![0, o, p] : Fin 3 → ℕ) d + (⟨3, ![1, n', m']⟩ : Shape).size d ≤ (⟨3, ![1, n, m]⟩ : Shape).size d)
    (r : Fin n') (l : Fin m') (r' : Fin n) (l' : Fin m) (hr : r'.val = o + r.val) (hl : l'.val = p + l.val) :
    View.readAt (Elt Ideal) a.view (Rect.unit (s := ⟨3, ![1, n, m]⟩) ![0, o, p] (⟨3, ![1, n', m']⟩ : Shape).size inb).toLoadRect (h.unread x) (ix3 0 r l)
      = x (ix3 0 r' l') := by
  rw [View.readAt_eq_ld, Memref.IsWhole.read_unread]
  refine View.ld_unit_apply_of _ _ _ _ _ _ fun d => ?_
  fin_cases d <;> simp [ix3, hr, hl]

theorem ld5 (a : Memref sig .tc .vmem S1x1x1x1x1024 .f32) (h : a.IsWhole) (x : Vec Ideal S1x1x1x1x1024 .f32) (inb) (j : Fin 1024) :
    View.readAt (Elt Ideal) a.view (Rect.unit (s := S1x1x1x1x1024) ![0, 0, 0, 0, 0] S1x1x1x1x1024.size inb).toLoadRect (h.unread x) (ix5 0 0 0 0 j)
      = x (ix5 0 0 0 0 j) := by
  rw [View.readAt_eq_ld, Memref.IsWhole.read_unread]
  refine View.ld_unit_apply_of _ _ _ _ _ _ fun d => ?_
  fin_cases d <;> simp [ix5]

theorem gate0_apply (L : Loads Ideal) (R : Fin 1024) (f : Fin 512) : L.gate0 (ix2 R f) = ∑ k : Fin 1024, L.hid (ix2 R k) * L.wg0 (ix3 0 k f) :=
  pay12_apply _ _ _ _ _ _ _ _ _ _

/-- The contributions of `n` hidden units, from `o` on. -/
theorem chunk {n o : ℕ} (ho : o + n ≤ 2816) (hd : FVec Ideal S1024x1024 .bf16) (wg wu : Vec Ideal ⟨3, ![1, 1024, n]⟩ .bf16) (wd : Vec Ideal ⟨3, ![1, n, 1024]⟩ .bf16)
    {h : Fin 1024 → EReal} {x9 x10 : Vec Ideal S1x1024x2816 .bf16} {x11 : Vec Ideal S1x2816x1024 .bf16} (R : Fin 1024) {j : Fin 1024}
    (eh : ∀ k, hd (ix2 R k) = h k)
    (eg : ∀ (k : Fin 1024) (f : Fin n), wg (ix3 0 k f) = x9 (ix3 0 k ⟨o + f.val, by omega⟩))
    (eu : ∀ (k : Fin 1024) (f : Fin n), wu (ix3 0 k f) = x10 (ix3 0 k ⟨o + f.val, by omega⟩))
    (ed : ∀ f : Fin n, wd (ix3 0 f j) = x11 (ix3 0 ⟨o + f.val, by omega⟩ j)) :
    ∑ f : Fin n, gated (∑ k : Fin 1024, hd (ix2 R k) * wg (ix3 0 k f)) (∑ k : Fin 1024, hd (ix2 R k) * wu (ix3 0 k f)) * wd (ix3 0 f j)
      = part (fun f => mid h (fun k f => x9 (ix3 0 k f)) (fun k f => x10 (ix3 0 k f)) f * x11 (ix3 0 f j)) n o ho :=
  Finset.sum_congr rfl fun f _ => congrArg₂ (· * ·)
    (congrArg₂ gated (Finset.sum_congr rfl fun k _ => congrArg₂ (· * ·) (eh k) (eg k f)) (Finset.sum_congr rfl fun k _ => congrArg₂ (· * ·) (eh k) (eu k f)))
    (ed f)

/-! ## The block -/

section
variable (x0 : Vec Ideal S1x1024x512 .bf16) (x1 : Vec Ideal S1x1024x512 .bf16) (x2 : Vec Ideal S1x1024x1024 .f32) (x3 : Vec Ideal S1x1024x1024 .bf16) (x4 : Vec Ideal S1x1x1x1x1024 .f32) (x5 : Vec Ideal S1x1x1024 .f32) (x6 : Vec Ideal S1x1x1x1x1024 .f32) (x7 : Vec Ideal S1x1x1x1x1024 .f32) (x8 : Vec Ideal S1x1x1x1x1024 .f32) (x9 : Vec Ideal S1x1024x2816 .bf16) (x10 : Vec Ideal S1x1024x2816 .bf16) (x11 : Vec Ideal S1x2816x1024 .bf16)

/-- A row of a block after the projection. -/
def uB (R : Fin 1024) : Fin 1024 → EReal :=
  resRow (fun j => x2 (ix3 0 R j)) (fun j => x4 (ix5 0 0 0 0 j)) (fun k => x0 (ix3 0 R k)) (fun k => x1 (ix3 0 R k)) (fun k j => x3 (ix3 0 k j))
/-- Its modulated norm. -/
def hB (R : Fin 1024) : Fin 1024 → EReal :=
  hidRow (uB x0 x1 x2 x3 x4 R) (fun j => x5 (ix3 0 0 j)) (fun j => x7 (ix5 0 0 0 0 j)) (fun j => x6 (ix5 0 0 0 0 j))
/-- Its hidden units' contributions to an entry of the result. -/
def tB (R j : Fin 1024) (f : Fin 2816) : EReal :=
  mid (hB x0 x1 x2 x3 x4 x5 x6 x7 R) (fun k f => x9 (ix3 0 k f)) (fun k f => x10 (ix3 0 k f)) f * x11 (ix3 0 f j)

end

section
variable (arg2 : Memref sig .tc .vmem S1x1024x512 .bf16) (harg2 : arg2.IsWhole) (arg3 : Memref sig .tc .vmem S1x1024x512 .bf16) (harg3 : arg3.IsWhole) (arg4 : Memref sig .tc .vmem S1x1024x1024 .f32) (harg4 : arg4.IsWhole) (arg5 : Memref sig .tc .vmem S1x1024x1024 .bf16) (harg5 : arg5.IsWhole) (arg6 : Memref sig .tc .vmem S1x1x1x1x1024 .f32) (harg6 : arg6.IsWhole) (arg7 : Memref sig .tc .vmem S1x1x1024 .f32) (harg7 : arg7.IsWhole) (arg8 : Memref sig .tc .vmem S1x1x1x1x1024 .f32) (harg8 : arg8.IsWhole) (arg9 : Memref sig .tc .vmem S1x1x1x1x1024 .f32) (harg9 : arg9.IsWhole) (arg10 : Memref sig .tc .vmem S1x1x1x1x1024 .f32) (harg10 : arg10.IsWhole) (arg11 : Memref sig .tc .vmem S1x1024x2816 .bf16) (harg11 : arg11.IsWhole) (arg12 : Memref sig .tc .vmem S1x1024x2816 .bf16) (harg12 : arg12.IsWhole) (arg13 : Memref sig .tc .vmem S1x2816x1024 .bf16) (harg13 : arg13.IsWhole) (arg14 : Memref sig .tc .vmem S1x1024x1024 .f32) (harg14 : arg14.IsWhole)
    (x0 : Vec Ideal S1x1024x512 .bf16) (x1 : Vec Ideal S1x1024x512 .bf16) (x2 : Vec Ideal S1x1024x1024 .f32) (x3 : Vec Ideal S1x1024x1024 .bf16) (x4 : Vec Ideal S1x1x1x1x1024 .f32) (x5 : Vec Ideal S1x1x1024 .f32) (x6 : Vec Ideal S1x1x1x1x1024 .f32) (x7 : Vec Ideal S1x1x1x1x1024 .f32) (x8 : Vec Ideal S1x1x1x1x1024 .f32) (x9 : Vec Ideal S1x1024x2816 .bf16) (x10 : Vec Ideal S1x1024x2816 .bf16) (x11 : Vec Ideal S1x2816x1024 .bf16)

theorem top_apply (r : Fin 512) (j : Fin 1024) : (loads arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).top (ix2 r j) = uB x0 x1 x2 x3 x4 ⟨r.val, by omega⟩ j := by
  unfold Loads.top
  rw [pay2_apply]
  unfold uB resRow
  refine congrArg₂ (· + ·) (ld3 _ _ _ _ _ _ r j ⟨r.val, by omega⟩ j (Nat.zero_add _).symm (Nat.zero_add _).symm)
    (congrArg₂ (· * ·) (ld5 _ _ _ _ j) (congrArg₂ (· + ·) (Finset.sum_congr rfl fun k _ => ?_) (Finset.sum_congr rfl fun k _ => ?_)))
  · exact congrArg₂ (· * ·) (ld3 _ _ _ _ _ _ r k ⟨r.val, by omega⟩ k (Nat.zero_add _).symm (Nat.zero_add _).symm)
      (ld3 _ _ _ _ _ _ k j ⟨k.val, by omega⟩ j (Nat.zero_add _).symm (Nat.zero_add _).symm)
  · exact congrArg₂ (· * ·) (ld3 _ _ _ _ _ _ r k ⟨r.val, by omega⟩ k (Nat.zero_add _).symm (Nat.zero_add _).symm)
      (ld3 _ _ _ _ _ _ k j ⟨512 + k.val, by omega⟩ j rfl (Nat.zero_add _).symm)

theorem bot_apply (r : Fin 512) (j : Fin 1024) : (loads arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).bot (ix2 r j) = uB x0 x1 x2 x3 x4 ⟨512 + r.val, by omega⟩ j := by
  unfold Loads.bot Loads.prod
  rw [pay9_apply]
  unfold uB resRow
  refine congrArg₂ (· + ·) (ld3 _ _ _ _ _ _ r j ⟨512 + r.val, by omega⟩ j rfl (Nat.zero_add _).symm)
    (congrArg₂ (· * ·) (ld5 _ _ _ _ j) (congrArg₂ (· + ·) (Finset.sum_congr rfl fun k _ => ?_) (Finset.sum_congr rfl fun k _ => ?_)))
  · exact congrArg₂ (· * ·) (ld3 _ _ _ _ _ _ r k ⟨512 + r.val, by omega⟩ k rfl (Nat.zero_add _).symm)
      (ld3 _ _ _ _ _ _ k j ⟨k.val, by omega⟩ j (Nat.zero_add _).symm (Nat.zero_add _).symm)
  · exact congrArg₂ (· * ·) (ld3 _ _ _ _ _ _ r k ⟨512 + r.val, by omega⟩ k rfl (Nat.zero_add _).symm)
      (ld3 _ _ _ _ _ _ k j ⟨512 + k.val, by omega⟩ j rfl (Nat.zero_add _).symm)

/-- A row in the lower half. -/
theorem lower {R : Fin 1024} (h : ¬ R.val < 512) : ∃ r : Fin 512, R = ⟨512 + r.val, Nat.add_lt_add_left r.isLt 512⟩ :=
  ⟨⟨R.val - 512, by omega⟩, Fin.ext (by show R.val = 512 + (R.val - 512); omega)⟩

theorem acc0_apply (R j : Fin 1024) : (loads arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).acc0 (ix3 0 R j) = uB x0 x1 x2 x3 x4 R j := by
  unfold Loads.acc0
  by_cases h : R.val < 512
  · rw [pay11_top _ _ _ _ _ h]
    exact top_apply arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 ⟨R.val, h⟩ j
  · obtain ⟨r, rfl⟩ := lower h
    rw [pay11_bot]
    exact bot_apply arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 r j

theorem hid_apply (R j : Fin 1024) : (loads arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).hid (ix2 R j) = hB x0 x1 x2 x3 x4 x5 x6 x7 R j := by
  have eln : ∀ j : Fin 1024, (loads arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).ln (ix3 0 0 j) = x5 (ix3 0 0 j) := fun j =>
    ld3 _ _ _ _ _ _ 0 j 0 j rfl (Nat.zero_add _).symm
  have esh : ∀ j : Fin 1024, (loads arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).sh (ix5 0 0 0 0 j) = x6 (ix5 0 0 0 0 j) := fun j => ld5 _ _ _ _ j
  have esc : ∀ j : Fin 1024, (loads arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).sc (ix5 0 0 0 0 j) = x7 (ix5 0 0 0 0 j) := fun j => ld5 _ _ _ _ j
  unfold Loads.hid hB
  by_cases h : R.val < 512
  · rw [pay10_top _ _ _ _ _ _ _ _ h]
    unfold Loads.topHid
    rw [pay5_apply, funext eln, funext esh, funext esc]
    exact congrArg (fun u => hidRow u _ _ _ j) (funext fun j => top_apply arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 ⟨R.val, h⟩ j)
  · obtain ⟨r, rfl⟩ := lower h
    rw [pay10_bot, funext eln, funext esh, funext esc]
    exact congrArg (fun u => hidRow u _ _ _ j) (funext fun j => bot_apply arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 r j)

theorem block_apply (R j : Fin 1024) :
    (loads arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).acc4 (ix3 0 R j) = outRow (uB x0 x1 x2 x3 x4 R j) (x8 (ix5 0 0 0 0 j)) (tB x0 x1 x2 x3 x4 x5 x6 x7 x9 x10 x11 R j) := by
  have eg : (loads arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).g2 (ix5 0 0 0 0 j) = x8 (ix5 0 0 0 0 j) := ld5 _ _ _ _ j
  have eh := fun k => hid_apply arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 R k
  unfold Loads.acc4
  rw [pay1_apply]
  unfold Loads.acc3
  rw [pay20_apply]
  unfold Loads.acc2
  rw [pay16_apply]
  unfold Loads.acc1
  rw [pay13_apply, acc0_apply, eg]
  unfold outRow
  refine congrArg₂ (· + ·) (congrArg₂ (· + ·) (congrArg₂ (· + ·) (congrArg₂ (· + ·) rfl (congrArg _ ?_)) (congrArg _ ?_)) (congrArg _ ?_)) (congrArg _ ?_)
  · refine (Finset.sum_congr rfl fun f _ => congrArg (fun g => gated g _ * _) (gate0_apply (loads arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) R f)).trans ?_
    exact chunk _ _ _ _ _ _ eh (fun k f => ld3 _ _ _ _ _ _ k f k _ (Nat.zero_add _).symm rfl) (fun k f => ld3 _ _ _ _ _ _ k f k _ (Nat.zero_add _).symm rfl) fun f => ld3 _ _ _ _ _ _ f j _ j rfl (Nat.zero_add _).symm
  · exact chunk _ _ _ _ _ _ eh (fun k f => ld3 _ _ _ _ _ _ k f k _ (Nat.zero_add _).symm rfl) (fun k f => ld3 _ _ _ _ _ _ k f k _ (Nat.zero_add _).symm rfl) fun f => ld3 _ _ _ _ _ _ f j _ j rfl (Nat.zero_add _).symm
  · exact chunk _ _ _ _ _ _ eh (fun k f => ld3 _ _ _ _ _ _ k f k _ (Nat.zero_add _).symm rfl) (fun k f => ld3 _ _ _ _ _ _ k f k _ (Nat.zero_add _).symm rfl) fun f => ld3 _ _ _ _ _ _ f j _ j rfl (Nat.zero_add _).symm
  · exact chunk _ _ _ _ _ _ eh (fun k f => ld3 _ _ _ _ _ _ k f k _ (Nat.zero_add _).symm rfl) (fun k f => ld3 _ _ _ _ _ _ k f k _ (Nat.zero_add _).symm rfl) fun f => ld3 _ _ _ _ _ _ f j _ j rfl (Nat.zero_add _).symm

end

end Cert.Mlp
-- ==== Proof.MlpKernel.lean ====
/- The SwiGLU kernel's result array after the run. -/
module

public import proofs.«01_k».proof.Proof.MlpBlock
public import Idealize.ShloMosaic.Lib.StableHlo.ReadAt

@[expose] public section

set_option maxRecDepth 16384

noncomputable section

namespace Cert.Mlp

open Idealize.ShloMosaic Idealize.ShloMosaic.TcCoe Idealize.ShloMosaic.Tactic Idealize.ShloMosaic.Pointwise Idealize.SL.Sem
open Cert.Kernel2Ideal Cert.Kernel2Ideal.Gen Cert.Kernel2Ideal.Facts

/-! ## The result, from the argument arrays -/

/-- The arguments' arrays: the two mixers' outputs, the residual, the modulation, the norm's gain, the four weights. -/
structure Args where
  fox : Vec Ideal S8x2048x512 .bf16
  diff : Vec Ideal S8x2048x512 .bf16
  x : Vec Ideal S8x2048x1024 .f32
  mod : Vec Ideal S2x8x6144 .f32
  ln : Vec Ideal S2x1024 .f32
  wo : Vec Ideal S2x1024x1024 .f32
  wg : Vec Ideal S2x1024x2816 .f32
  wu : Vec Ideal S2x1024x2816 .f32
  wd : Vec Ideal S2x2816x1024 .f32

namespace Args

variable (A : Args) (b : Fin 8) (R : Fin 2048)

/-- One of the six pieces of the modulation. -/
def chunk (s : Fin 6) (j : Fin 1024) : EReal := A.mod (ix3 1 b ⟨s.val * 1024 + j.val, by omega⟩)
/-- A row after the projection. -/
def u : Fin 1024 → EReal :=
  resRow (fun j => A.x (ix3 b R j)) (A.chunk b 2) (fun k => A.fox (ix3 b R k)) (fun k => A.diff (ix3 b R k)) (fun k j => A.wo (ix3 1 k j))
/-- Its modulated norm. -/
def h : Fin 1024 → EReal := hidRow (A.u b R) (fun j => A.ln (ix2 1 j)) (A.chunk b 4) (A.chunk b 3)
/-- Its hidden units' contributions to an entry of the result. -/
def t (j : Fin 1024) (f : Fin 2816) : EReal := mid (A.h b R) (fun k f => A.wg (ix3 1 k f)) (fun k f => A.wu (ix3 1 k f)) f * A.wd (ix3 1 f j)
/-- An entry of the result. -/
def out (j : Fin 1024) : EReal := outRow (A.u b R j) (A.chunk b 5 j) (A.t b R j)

end Args

variable (m : (ℓ : Loc nD τ sig) → Buf (Elt Ideal) ℓ) (c : Dev nD)

/-- The launch's argument arrays. -/
def kArgs : Args where
  fox := m ((c : Thread nD τ).loc main_arg0)
  diff := m ((c : Thread nD τ).loc main_arg1)
  x := m ((c : Thread nD τ).loc main_arg2)
  mod := m ((c : Thread nD τ).loc main_arg3)
  ln := m ((c : Thread nD τ).loc main_arg4)
  wo := m ((c : Thread nD τ).loc main_arg5)
  wg := m ((c : Thread nD τ).loc main_arg6)
  wu := m ((c : Thread nD τ).loc main_arg7)
  wd := m ((c : Thread nD τ).loc main_arg8)

/-! ## The operands -/

theorem V0 (k : Fin 1024) (j : Fin 1024) : (V m c main_v0 : Vec Ideal S2x1024x1024 .bf16) (ix3 1 k j) = (kArgs m c).wo (ix3 1 k j) := by
  unfold V
  after_reads_at
  rfl
theorem V1 (k : Fin 1024) (j : Fin 2816) : (V m c main_v1 : Vec Ideal S2x1024x2816 .bf16) (ix3 1 k j) = (kArgs m c).wg (ix3 1 k j) := by
  unfold V
  after_reads_at
  rfl
theorem V2 (k : Fin 1024) (j : Fin 2816) : (V m c main_v2 : Vec Ideal S2x1024x2816 .bf16) (ix3 1 k j) = (kArgs m c).wu (ix3 1 k j) := by
  unfold V
  after_reads_at
  rfl
theorem V3 (k : Fin 2816) (j : Fin 1024) : (V m c main_v3 : Vec Ideal S2x2816x1024 .bf16) (ix3 1 k j) = (kArgs m c).wd (ix3 1 k j) := by
  unfold V
  after_reads_at
  rfl
theorem V4 (b : Fin 8) (s : Fin 6) (j : Fin 1024) : (V m c main_v4 : Vec Ideal S2x8x6x1x1024 .f32) (ix5 1 b s 0 j) = (kArgs m c).chunk b s j := by
  unfold V
  after_reads_at
  rfl
theorem V5 (j : Fin 1024) : (V m c main_v5 : Vec Ideal S2x1x1024 .f32) (ix3 1 0 j) = (kArgs m c).ln (ix2 1 j) := by
  unfold V
  after_reads_at
  rfl

/-! ## The blocks -/

/-- The batch element and the tile of rows of a grid point. -/
abbrev pb (t : Fin cfg0.N) : Fin 8 := grid0.coords t 0
abbrev pr (t : Fin cfg0.N) : Fin 2 := grid0.coords t 1

/-- A row of a tile. -/
def rowOf (p : Fin 2) (R : Fin 1024) : Fin 2048 := ⟨1024 * p.val + R.val, by omega⟩

theorem idx0 : ∀ t : Fin cfg0.N, win0_0.index t = ![(pb t).val, (pr t).val, 0] := by decide +kernel
theorem idx1 : ∀ t : Fin cfg0.N, win0_1.index t = ![(pb t).val, (pr t).val, 0] := by decide +kernel
theorem idx2 : ∀ t : Fin cfg0.N, win0_2.index t = ![(pb t).val, (pr t).val, 0] := by decide +kernel
theorem idx12 : ∀ t : Fin cfg0.N, win0_12.index t = ![(pb t).val, (pr t).val, 0] := by decide +kernel
theorem idx3 : ∀ t : Fin cfg0.N, win0_3.index t = ![1, 0, 0] := by decide +kernel
theorem idx5 : ∀ t : Fin cfg0.N, win0_5.index t = ![1, 0, 0] := by decide +kernel
theorem idx9 : ∀ t : Fin cfg0.N, win0_9.index t = ![1, 0, 0] := by decide +kernel
theorem idx10 : ∀ t : Fin cfg0.N, win0_10.index t = ![1, 0, 0] := by decide +kernel
theorem idx11 : ∀ t : Fin cfg0.N, win0_11.index t = ![1, 0, 0] := by decide +kernel
theorem idx4 : ∀ t : Fin cfg0.N, win0_4.index t = ![1, (pb t).val, 2, 0, 0] := by decide +kernel
theorem idx6 : ∀ t : Fin cfg0.N, win0_6.index t = ![1, (pb t).val, 3, 0, 0] := by decide +kernel
theorem idx7 : ∀ t : Fin cfg0.N, win0_7.index t = ![1, (pb t).val, 4, 0, 0] := by decide +kernel
theorem idx8 : ∀ t : Fin cfg0.N, win0_8.index t = ![1, (pb t).val, 5, 0, 0] := by decide +kernel

theorem blk0 (t : Fin cfg0.N) (R : Fin 1024) (k : Fin 512) :
    (iblk m c 0 t : Vec Ideal S1x1024x512 .bf16) (ix3 0 R k) = (kArgs m c).fox (ix3 (pb t) (rowOf (pr t) R) k) := by
  refine Eq.trans ?_ (congrFun (V_main_arg0 m c) (ix3 (pb t) (rowOf (pr t) R) k))
  blk_ext [iblk, rowOf, idx0 t]
theorem blk1 (t : Fin cfg0.N) (R : Fin 1024) (k : Fin 512) :
    (iblk m c 1 t : Vec Ideal S1x1024x512 .bf16) (ix3 0 R k) = (kArgs m c).diff (ix3 (pb t) (rowOf (pr t) R) k) := by
  refine Eq.trans ?_ (congrFun (V_main_arg1 m c) (ix3 (pb t) (rowOf (pr t) R) k))
  blk_ext [iblk, rowOf, idx1 t]
theorem blk2 (t : Fin cfg0.N) (R : Fin 1024) (k : Fin 1024) :
    (iblk m c 2 t : Vec Ideal S1x1024x1024 .f32) (ix3 0 R k) = (kArgs m c).x (ix3 (pb t) (rowOf (pr t) R) k) := by
  refine Eq.trans ?_ (congrFun (V_main_arg2 m c) (ix3 (pb t) (rowOf (pr t) R) k))
  blk_ext [iblk, rowOf, idx2 t]
theorem blk3 (t : Fin cfg0.N) (k : Fin 1024) (j : Fin 1024) :
    (iblk m c 3 t : Vec Ideal S1x1024x1024 .bf16) (ix3 0 k j) = (kArgs m c).wo (ix3 1 k j) := by
  refine Eq.trans ?_ (V0 m c k j)
  blk_ext [iblk, idx3 t]
theorem blk9 (t : Fin cfg0.N) (k : Fin 1024) (j : Fin 2816) :
    (iblk m c 9 t : Vec Ideal S1x1024x2816 .bf16) (ix3 0 k j) = (kArgs m c).wg (ix3 1 k j) := by
  refine Eq.trans ?_ (V1 m c k j)
  blk_ext [iblk, idx9 t]
theorem blk10 (t : Fin cfg0.N) (k : Fin 1024) (j : Fin 2816) :
    (iblk m c 10 t : Vec Ideal S1x1024x2816 .bf16) (ix3 0 k j) = (kArgs m c).wu (ix3 1 k j) := by
  refine Eq.trans ?_ (V2 m c k j)
  blk_ext [iblk, idx10 t]
theorem blk11 (t : Fin cfg0.N) (k : Fin 2816) (j : Fin 1024) :
    (iblk m c 11 t : Vec Ideal S1x2816x1024 .bf16) (ix3 0 k j) = (kArgs m c).wd (ix3 1 k j) := by
  refine Eq.trans ?_ (V3 m c k j)
  blk_ext [iblk, idx11 t]
theorem blk4 (t : Fin cfg0.N) (j : Fin 1024) :
    (iblk m c 4 t : Vec Ideal S1x1x1x1x1024 .f32) (ix5 0 0 0 0 j) = (kArgs m c).chunk (pb t) 2 j := by
  refine Eq.trans ?_ (V4 m c (pb t) 2 j)
  blk_ext [iblk, idx4 t]
theorem blk6 (t : Fin cfg0.N) (j : Fin 1024) :
    (iblk m c 6 t : Vec Ideal S1x1x1x1x1024 .f32) (ix5 0 0 0 0 j) = (kArgs m c).chunk (pb t) 3 j := by
  refine Eq.trans ?_ (V4 m c (pb t) 3 j)
  blk_ext [iblk, idx6 t]
theorem blk7 (t : Fin cfg0.N) (j : Fin 1024) :
    (iblk m c 7 t : Vec Ideal S1x1x1x1x1024 .f32) (ix5 0 0 0 0 j) = (kArgs m c).chunk (pb t) 4 j := by
  refine Eq.trans ?_ (V4 m c (pb t) 4 j)
  blk_ext [iblk, idx7 t]
theorem blk8 (t : Fin cfg0.N) (j : Fin 1024) :
    (iblk m c 8 t : Vec Ideal S1x1x1x1x1024 .f32) (ix5 0 0 0 0 j) = (kArgs m c).chunk (pb t) 5 j := by
  refine Eq.trans ?_ (V4 m c (pb t) 5 j)
  blk_ext [iblk, idx8 t]
theorem blk5 (t : Fin cfg0.N) (j : Fin 1024) : (iblk m c 5 t : Vec Ideal S1x1x1024 .f32) (ix3 0 0 j) = (kArgs m c).ln (ix2 1 j) := by
  refine Eq.trans ?_ (V5 m c j)
  blk_ext [iblk, idx5 t]

/-! ## The result array -/

theorem u_blk (t : Fin cfg0.N) (R : Fin 1024) :
    uB (iblk m c 0 t) (iblk m c 1 t) (iblk m c 2 t) (iblk m c 3 t) (iblk m c 4 t) R = (kArgs m c).u (pb t) (rowOf (pr t) R) := by
  unfold uB Args.u
  rw [funext (blk0 m c t R), funext (blk1 m c t R), funext (blk2 m c t R), funext fun k => funext (blk3 m c t k), funext (blk4 m c t)]

theorem h_blk (t : Fin cfg0.N) (R : Fin 1024) :
    hB (iblk m c 0 t) (iblk m c 1 t) (iblk m c 2 t) (iblk m c 3 t) (iblk m c 4 t) (iblk m c 5 t) (iblk m c 6 t) (iblk m c 7 t) R
      = (kArgs m c).h (pb t) (rowOf (pr t) R) := by
  unfold hB Args.h
  rw [u_blk, funext (blk5 m c t), funext (blk6 m c t), funext (blk7 m c t)]

theorem t_blk (t : Fin cfg0.N) (R j : Fin 1024) :
    tB (iblk m c 0 t) (iblk m c 1 t) (iblk m c 2 t) (iblk m c 3 t) (iblk m c 4 t) (iblk m c 5 t) (iblk m c 6 t) (iblk m c 7 t)
      (iblk m c 9 t) (iblk m c 10 t) (iblk m c 11 t) R j
      = (kArgs m c).t (pb t) (rowOf (pr t) R) j := by
  unfold tB Args.t
  rw [h_blk, funext fun k => funext (blk9 m c t k), funext fun k => funext (blk10 m c t k)]
  exact funext fun f => congrArg (_ * ·) (blk11 m c t f j)

/-- What a grid point leaves in its result block. -/
theorem outs_apply (t : Fin cfg0.N) (R j : Fin 1024) : outsAt0 m c t (ix3 0 R j) = (kArgs m c).out (pb t) (rowOf (pr t) R) j := by
  have e : outsAt0 m c t = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by simp only [outsAt0]
  rw [e, out_eq, block_apply, u_blk, t_blk, blk8]
  rfl

/-- The result array. -/
def outArr (A : Args) : Vec Ideal S8x2048x1024 .f32 := fun i => A.out (i 0) (i 1) (i 2)

theorem emb12 (t : Fin cfg0.N) (y : ((cfg0.win 12).xblock (cfg0.grid.coords t)).Idx) :
    ((cfg0.win 12).blk t).view.emb y = (ix3 (pb t) (rowOf (pr t) (y 1)) (y 2 : Fin 1024) : S8x2048x1024.Idx) := by
  blk_ext [rowOf, idx12 t]

theorem out_arr : (dats m 0 c).arrAt 12 cfg0.N = outArr (kArgs m c) := by
  refine (dats m 0 c).arrAt_eq_of_covers 12 _ (by decide +kernel) fun t hf y => ?_
  rw [emb12]
  refine (cast_eq _ _).trans ?_
  rw [after0_12]
  have e0 : y = (ix3 0 (y 1 : Fin 1024) (y 2 : Fin 1024) : S1x1024x1024.Idx) := by
    funext a
    fin_cases a
    · exact Subsingleton.elim (α := Fin 1) _ _
    · rfl
    · rfl
  exact (congrArg (outsAt0 m c t) e0).trans (outs_apply m c t (y 1) (y 2))

end Cert.Mlp
-- ==== Proof.MlpRef.lean ====
/- The SwiGLU reference's result, read at an index. -/
module

public import proofs.«01_k».proof.Proof.MlpKernel
public import proofs.«01_k».proof.Proof.Gen.Reference2Ideal.Run

@[expose] public section

set_option maxRecDepth 16384

noncomputable section

namespace Cert.Mlp

open Idealize.ShloMosaic Idealize.ShloMosaic.TcCoe Idealize.ShloMosaic.Tactic Idealize.ShloMosaic.Pointwise Idealize.SL.Sem
open Cert.Reference2Ideal Cert.Reference2Ideal.Gen Cert.Reference2Ideal.Facts

/-! ## The reference's values, one after another -/

/-- The modulation of the layer. -/
def rMod (A3 : Vec Ideal S2x8x6144 .f32) : FVec Ideal S8x6144 .f32 :=
  shapeCast S8x6144 (extractStridedSlice S1x8x6144 ![1, 0, 0] A3 slices_S2x8x6144_S1x8x6144_1_0_0) shapeCasts_S1x8x6144_S8x6144
/-- The rows after the projection. -/
def rX (A0 A1 : Vec Ideal S8x2048x512 .bf16) (A2 : Vec Ideal S8x2048x1024 .f32) (M : FVec Ideal S8x6144 .f32) (A5 : Vec Ideal S2x1024x1024 .f32) :
    FVec Ideal S8x2048x1024 .f32 :=
  addf A2 (mulf (broadcastInDim S8x2048x1024 ![0, 1, 2] bcast_S8x1x1024_S8x2048x1024_0_1_2 (broadcastInDim S8x1x1024 ![0, 2] bcast_S8x1024_S8x1x1024_0_2 (extractStridedSlice S8x1024 ![0, 2048] M slices_S8x6144_S8x1024_0_2048))) (Host.dotGeneral (φ₂ := .f32) dot_S8x2048x1024_S1024x1024_S8x2048x1024_2_0_01_1_n_n none (concatenate S8x2048x1024 2 [⟨S8x2048x512, (extf .f32 A0 bitsLt_bf16_f32)⟩, ⟨S8x2048x512, (extf .f32 A1 bitsLt_bf16_f32)⟩] concatenates_S8x2048x512_S8x2048x512_S8x2048x1024_d2) (shapeCast S1024x1024 (extractStridedSlice S1x1024x1024 ![1, 0, 0] A5 slices_S2x1024x1024_S1x1024x1024_1_0_0) shapeCasts_S1x1024x1024_S1024x1024)))
/-- The rows' sums of squares. -/
def rSq (X : FVec Ideal S8x2048x1024 .f32) : FVec Ideal S8x2048 .f32 := Host.reduceAdd (mulf X X) (constant S_ .f32 0x00000000#32) reducesTo_S8x2048x1024_S8x2048_d2 h_S_
/-- The modulated norm. -/
def rH (X : FVec Ideal S8x2048x1024 .f32) (Q : FVec Ideal S8x2048 .f32) (M : FVec Ideal S8x6144 .f32) (A4 : Vec Ideal S2x1024 .f32) : FVec Ideal S8x2048x1024 .f32 :=
  addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 Q) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast S1024 (extractStridedSlice S1x1024 ![1, 0] A4 slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 4096] M slices_S8x6144_S8x1024_0_4096))))) (broadcastInDim S8x2048x1024 ![0, 1, 2] bcast_S8x1x1024_S8x2048x1024_0_1_2 (broadcastInDim S8x1x1024 ![0, 2] bcast_S8x1024_S8x1x1024_0_2 (extractStridedSlice S8x1024 ![0, 3072] M slices_S8x6144_S8x1024_0_3072)))
/-- A product with the gate's or the other weights. -/
def rDot (H : FVec Ideal S8x2048x1024 .f32) (A6 : Vec Ideal S2x1024x2816 .f32) : FVec Ideal S8x2048x2816 .f32 :=
  Host.dotGeneral (φ₂ := .f32) dot_S8x2048x1024_S1024x2816_S8x2048x2816_2_0_01_1_n_n none H (shapeCast S1024x2816 (extractStridedSlice S1x1024x2816 ![1, 0, 0] A6 slices_S2x1024x2816_S1x1024x2816_1_0_0) shapeCasts_S1x1024x2816_S1024x2816)
/-- The hidden units. -/
def rMid (G U : FVec Ideal S8x2048x2816 .f32) : FVec Ideal S8x2048x2816 .f32 :=
  mulf (mulf G (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf G))))) U
/-- The result. -/
def rOut (X : FVec Ideal S8x2048x1024 .f32) (M : FVec Ideal S8x6144 .f32) (T : FVec Ideal S8x2048x2816 .f32) (A8 : Vec Ideal S2x2816x1024 .f32) :
    FVec Ideal S8x2048x1024 .f32 :=
  addf X (mulf (broadcastInDim S8x2048x1024 ![0, 1, 2] bcast_S8x1x1024_S8x2048x1024_0_1_2 (broadcastInDim S8x1x1024 ![0, 2] bcast_S8x1024_S8x1x1024_0_2 (extractStridedSlice S8x1024 ![0, 5120] M slices_S8x6144_S8x1024_0_5120))) (Host.dotGeneral (φ₂ := .f32) dot_S8x2048x2816_S2816x1024_S8x2048x1024_2_0_01_1_n_n none T (shapeCast S2816x1024 (extractStridedSlice S1x2816x1024 ![1, 0, 0] A8 slices_S2x2816x1024_S1x2816x1024_1_0_0) shapeCasts_S1x2816x1024_S2816x1024)))
/-- All of it. -/
def rAll (A : Args) : FVec Ideal S8x2048x1024 .f32 :=
  rOut (rX A.fox A.diff A.x (rMod A.mod) A.wo) (rMod A.mod)
    (rMid (rDot (rH (rX A.fox A.diff A.x (rMod A.mod) A.wo) (rSq (rX A.fox A.diff A.x (rMod A.mod) A.wo)) (rMod A.mod) A.ln) A.wg)
      (rDot (rH (rX A.fox A.diff A.x (rMod A.mod) A.wo) (rSq (rX A.fox A.diff A.x (rMod A.mod) A.wo)) (rMod A.mod) A.ln) A.wu)) A.wd

variable (m : (ℓ : Loc nD τ sig) → Buf (Elt Ideal) ℓ) (c : Dev nD)

/-- The launch's argument arrays. -/
def rArgs : Args where
  fox := m ((c : Thread nD τ).loc main_arg0)
  diff := m ((c : Thread nD τ).loc main_arg1)
  x := m ((c : Thread nD τ).loc main_arg2)
  mod := m ((c : Thread nD τ).loc main_arg3)
  ln := m ((c : Thread nD τ).loc main_arg4)
  wo := m ((c : Thread nD τ).loc main_arg5)
  wg := m ((c : Thread nD τ).loc main_arg6)
  wu := m ((c : Thread nD τ).loc main_arg7)
  wd := m ((c : Thread nD τ).loc main_arg8)

theorem res_eq : Value.res_main_v55 m c = rAll (rArgs m c) := by
  unfold Value.res_main_v55
  rfl

/-! ## Read at an index -/

theorem rMod_apply (A : Args) (b : Fin 8) (s : Fin 6) (j : Fin 1024) : rMod A.mod (ix2 b ⟨s.val * 1024 + j.val, by omega⟩) = A.chunk b s j := by
  pointwise [rMod, Args.chunk]

theorem rMod_chunk (A : Args) (b : Fin 8) (s : Fin 6) (o : ℕ) (h : ∀ j : Fin 1024, o + j.val < 6144) (ho : o = s.val * 1024) :
    (fun j : Fin 1024 => rMod A.mod (ix2 b ⟨o + j.val, h j⟩)) = A.chunk b s := by
  subst ho
  exact funext fun j => rMod_apply A b s j

theorem rX_apply (A0 A1 : Vec Ideal S8x2048x512 .bf16) (A2 : Vec Ideal S8x2048x1024 .f32) (M : FVec Ideal S8x6144 .f32) (A5 : Vec Ideal S2x1024x1024 .f32)
    (b : Fin 8) (R : Fin 2048) (j : Fin 1024) :
    rX A0 A1 A2 M A5 (ix3 b R j)
      = resRow (fun j => A2 (ix3 b R j)) (fun j => M (ix2 b ⟨2048 + j.val, by omega⟩)) (fun k => A0 (ix3 b R k)) (fun k => A1 (ix3 b R k)) (fun k j => A5 (ix3 1 k j)) j := by
  pointwise [rX, resRow]

theorem rSq_apply (X : FVec Ideal S8x2048x1024 .f32) (b : Fin 8) (R : Fin 2048) : rSq X (ix2 b R) = ∑ k : Fin 1024, X (ix3 b R k) * X (ix3 b R k) := by
  pointwise [rSq]

theorem rH_apply (X : FVec Ideal S8x2048x1024 .f32) (M : FVec Ideal S8x6144 .f32) (A4 : Vec Ideal S2x1024 .f32) (b : Fin 8) (R : Fin 2048) (j : Fin 1024) :
    rH X (rSq X) M A4 (ix3 b R j) = hidRow (fun j => X (ix3 b R j)) (fun j => A4 (ix2 1 j)) (fun j => M (ix2 b ⟨4096 + j.val, by omega⟩))
      (fun j => M (ix2 b ⟨3072 + j.val, by omega⟩)) j := by
  unfold hidRow
  rw [← rSq_apply, ← mul_assoc]
  generalize rSq X = Q
  pointwise [rH, len, eps, one]

theorem rDot_apply (H : FVec Ideal S8x2048x1024 .f32) (W : Vec Ideal S2x1024x2816 .f32) (b : Fin 8) (R : Fin 2048) (f : Fin 2816) :
    rDot H W (ix3 b R f) = ∑ k : Fin 1024, H (ix3 b R k) * W (ix3 1 k f) := by
  pointwise [rDot]

theorem rMid_apply (G U : FVec Ideal S8x2048x2816 .f32) (b : Fin 8) (R : Fin 2048) (f : Fin 2816) (h : IsReal (G (ix3 b R f))) :
    rMid G U (ix3 b R f) = gated (G (ix3 b R f)) (U (ix3 b R f)) := by
  rw [← gated_eq _ h]
  pointwise [rMid, one]

theorem rOut_apply (X : FVec Ideal S8x2048x1024 .f32) (M : FVec Ideal S8x6144 .f32) (T : FVec Ideal S8x2048x2816 .f32) (A8 : Vec Ideal S2x2816x1024 .f32)
    (b : Fin 8) (R : Fin 2048) (j : Fin 1024) :
    rOut X M T A8 (ix3 b R j) = X (ix3 b R j) + M (ix2 b ⟨5120 + j.val, by omega⟩) * ∑ f : Fin 2816, T (ix3 b R f) * A8 (ix3 1 f j) := by
  pointwise [rOut]

/-! ## The whole -/

/-- Every argument is an array of real numbers. -/
structure Args.Finite (A : Args) : Prop where
  fox : Attn.Real3 A.fox
  diff : Attn.Real3 A.diff
  x : Attn.Real3 A.x
  mod : Attn.Real3 A.mod
  ln : Attn.Real3 A.ln
  wo : Attn.Real3 A.wo
  wg : Attn.Real3 A.wg
  wu : Attn.Real3 A.wu
  wd : Attn.Real3 A.wd

section
variable {A : Args} (hA : A.Finite) (b : Fin 8) (R : Fin 2048)
include hA

theorem chunk_real (s : Fin 6) (j : Fin 1024) : IsReal (A.chunk b s j) := isReal_of hA.mod _
theorem u_real (j : Fin 1024) : IsReal (A.u b R j) :=
  resRow_real (fun _ => isReal_of hA.x _) (chunk_real hA b 2) (fun _ => isReal_of hA.fox _) (fun _ => isReal_of hA.diff _) (fun _ _ => isReal_of hA.wo _) j
theorem h_real (j : Fin 1024) : IsReal (A.h b R j) :=
  hidRow_real (u_real hA b R) (fun _ => isReal_of hA.ln _) (chunk_real hA b 4) (chunk_real hA b 3) j
theorem t_real (j : Fin 1024) (f : Fin 2816) : IsReal (A.t b R j f) :=
  (mid_real (h_real hA b R) (fun _ _ => isReal_of hA.wg _) (fun _ _ => isReal_of hA.wu _) f).mul (isReal_of hA.wd _)

omit hA in
theorem x_apply (j : Fin 1024) : rX A.fox A.diff A.x (rMod A.mod) A.wo (ix3 b R j) = A.u b R j := by
  rw [rX_apply, Args.u, rMod_chunk A b 2 2048 _ rfl]

omit hA in
theorem h_apply (j : Fin 1024) :
    rH (rX A.fox A.diff A.x (rMod A.mod) A.wo) (rSq (rX A.fox A.diff A.x (rMod A.mod) A.wo)) (rMod A.mod) A.ln (ix3 b R j) = A.h b R j := by
  rw [rH_apply, funext fun j => x_apply (A := A) b R j, Args.h, rMod_chunk A b 3 3072 _ rfl, rMod_chunk A b 4 4096 _ rfl]

theorem all_apply (j : Fin 1024) : rAll A (ix3 b R j) = A.out b R j := by
  unfold rAll Args.out
  rw [rOut_apply, x_apply, outRow_eq (chunk_real hA b 5 j) (t_real hA b R j), (congrFun (rMod_chunk A b 5 5120 (fun j => by omega) rfl) j :)]
  refine congrArg (fun s => _ + _ * s) (Finset.sum_congr rfl fun f _ => congrArg (· * _) ?_)
  have eg := fun W => rDot_apply (rH (rX A.fox A.diff A.x (rMod A.mod) A.wo) (rSq (rX A.fox A.diff A.x (rMod A.mod) A.wo)) (rMod A.mod) A.ln) W b R f
  simp only [h_apply] at eg
  rw [rMid_apply, eg, eg]
  · rfl
  · rw [eg]
    exact .sum fun k => (h_real hA b R k).mul (isReal_of hA.wg _)

end

end Cert.Mlp
-- ==== Proof.Mlp.lean ====
/- The SwiGLU's claims: the kernel's and the reference's results are the same array. -/
module

public import proofs.«01_k».proof.Defs
public import proofs.«01_k».proof.Proof.MlpRef
public import proofs.«01_k».proof.Proof.Finite
public import proofs.«01_k».proof.Proof.Gen.Kernel2
public import Idealize.ShloMosaic.Adequacy
public import Idealize.ShloMosaic.Init

@[expose] public section

set_option maxRecDepth 16384

noncomputable section

namespace Cert.Mlp

open Idealize.ShloMosaic Idealize.ShloMosaic.TcCoe Idealize.ShloMosaic.Tactic Idealize.ShloMosaic.Pointwise Idealize.SL.Sem Cert.Attn

/-- The precondition's side conditions. -/
theorem pre_facts : Cert.Pre_finite2.Facts where
  bitsLt_bf16_f32 := by decide
  bcast_S_S8x2048x512 := by decide
  reducesTo_S8x2048x512_S_d0_1_2 := by decide
  h_S_ := by decide
  bcast_S_S8x2048x1024 := by decide
  reducesTo_S8x2048x1024_S_d0_1_2 := by decide
  bcast_S_S2x8x6144 := by decide
  reducesTo_S2x8x6144_S_d0_1_2 := by decide
  bcast_S_S2x1024 := by decide
  reducesTo_S2x1024_S_d0_1 := by decide
  bcast_S_S2x1024x1024 := by decide
  reducesTo_S2x1024x1024_S_d0_1_2 := by decide
  bcast_S_S2x1024x2816 := by decide
  reducesTo_S2x1024x2816_S_d0_1_2 := by decide
  bcast_S_S2x2816x1024 := by decide
  reducesTo_S2x2816x1024_S_d0_1_2 := by decide

theorem finite_reads [Cert.Pre_finite2.Facts] (A : Args)
    (h : Cert.Pre_finite2.fn (F := Ideal) A.fox A.diff A.x A.mod A.ln A.wo A.wg A.wu A.wd = fun _ => 1#1) : A.Finite := by
  have e := congrFun h ix0
  dsimp only [Cert.Pre_finite2.fn, Cert.Pre_finite2.fn_part1, Cert.Pre_finite2.fn_part2] at e
  simp only [andi, IntOp.andi_eq_one] at e
  obtain ⟨⟨⟨⟨⟨⟨⟨⟨h0, h1⟩, h2⟩, h3⟩, h4⟩, h5⟩, h6⟩, h7⟩, h8⟩ := e
  exact ⟨real_of_all (extf .f32 A.fox Cert.Pre_finite2.Facts.bitsLt_bf16_f32) _ _ _ h0, real_of_all (extf .f32 A.diff Cert.Pre_finite2.Facts.bitsLt_bf16_f32) _ _ _ h1,
    real_of_all _ _ _ _ h2, real_of_all _ _ _ _ h3, real_of_all _ _ _ _ h4, real_of_all _ _ _ _ h5, real_of_all _ _ _ _ h6,
    real_of_all _ _ _ _ h7, real_of_all _ _ _ _ h8⟩

theorem all_eq {A : Args} (hA : A.Finite) : rAll A = outArr A := by
  funext i
  idx_vars i
  exact all_apply hA _ _ _

/-- The reference's run, with what it computes left out. -/
theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem algebraic : Cert.algebraic_Kernel2Ideal_Reference2Ideal_pre_finite2 (hPre_finite2 := pre_facts) := by
  intro m ρ m' ρ' hpre hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  have hA := @finite_reads pre_facts (kArgs m c) (hpre c)
  obtain ⟨e0, e1, e2, e3, e4, e5, e6, e7, e8⟩ := hagree c
  have eA : rArgs m' c = kArgs m c := by
    simp only [rArgs, kArgs, Args.mk.injEq]
    exact ⟨e0, e1, e2, e3, e4, e5, e6, e7, e8⟩
  refine (res_eq m' c).trans ?_
  rw [eA]
  exact (all_eq hA).trans (out_arr m c).symm

end Cert.Mlp
-- ==== Proof.InRows.lean ====
/- The normed heads and the forget gates' running sums of one row, and the sums taken in pieces. -/
module

public import proofs.«01_k».proof.Proof.MlpRows

@[expose] public section

set_option maxRecDepth 16384

noncomputable section

namespace Cert.Inp

open Idealize.ShloMosaic Cert.Mlp

/-! ## A normed head -/

/-- The width of a head. -/
def hlen : EReal := Ideal.ofBits .f32 0x42800000#32

/-- One over a head's root mean square. -/
def rms (u : Fin 64 → EReal) : EReal := Ideal.rsqrt (Ideal.div (∑ k : Fin 64, u k * u k) hlen + eps)

/-- The lanes of the head that a column lies in. -/
def headLane (j : Fin 512) (k : Fin 64) : Fin 512 := ⟨64 * (j.val / 64) + k.val, by omega⟩

/-- A column of the normed heads. -/
def normed (u g : Fin 512 → EReal) (j : Fin 512) : EReal := u j * rms (fun k => u (headLane j k)) * g j

/-- A sum over 128 lanes with the second half of lanes left out. -/
theorem sum_lo (f : Fin 128 → EReal) : (∑ l : Fin 128, if l.val < 64 then f l else 0) = ∑ k : Fin 64, f ⟨k.val, by omega⟩ := by
  rw [← Finset.sum_filter]
  refine Finset.sum_bij' (fun l hl => (⟨l.val, (Finset.mem_filter.1 hl).2⟩ : Fin 64)) (fun k _ => ⟨k.val, by omega⟩) ?_ ?_ ?_ ?_ ?_ <;> intros <;> simp

/-- A sum over 128 lanes with the first half of lanes left out. -/
theorem sum_hi (f : Fin 128 → EReal) : (∑ l : Fin 128, if l.val < 64 then 0 else f l) = ∑ k : Fin 64, f ⟨64 + k.val, by omega⟩ := by
  rw [Finset.sum_congr rfl fun (l : Fin 128) _ => show (if l.val < 64 then (0 : EReal) else f l) = if 64 ≤ l.val then f l else 0 by
    by_cases h : l.val < 64
    · rw [if_pos h, if_neg (by omega)]
    · rw [if_neg h, if_pos (by omega)], ← Finset.sum_filter]
  refine Finset.sum_bij' (fun l hl => (⟨l.val - 64, by have := (Finset.mem_filter.1 hl).2; omega⟩ : Fin 64)) (fun k _ => ⟨64 + k.val, by omega⟩) ?_ ?_ ?_ ?_ ?_
  · intros; simp
  · intros; simp
  · intro l hl
    have := (Finset.mem_filter.1 hl).2
    exact Fin.ext (show 64 + (l.val - 64) = l.val by omega)
  · intro k _
    exact Fin.ext (show 64 + k.val - 64 = k.val by omega)
  · intro l hl
    have := (Finset.mem_filter.1 hl).2
    exact congrArg f (Fin.ext (show l.val = 64 + (l.val - 64) by omega))

/-! ## A forget gate -/

/-- The logarithm of the logistic. -/
def lsig (z : EReal) : EReal := min z 0 - Ideal.log1p (Ideal.exp (0 - max z (-z)))

theorem log1p_real (r : ℝ) : ∃ l : ℝ, Ideal.log1p (Ideal.exp (0 - max (r : EReal) (-(r : EReal)))) = (l : EReal)
    ∧ Ideal.log1p (Ideal.exp (-(max (-(r : EReal)) (-(-(r : EReal)))))) = (l : EReal) := by
  have e : max (r : EReal) (-(r : EReal)) = ((max r (-r) : ℝ) : EReal) := by
    rw [← EReal.coe_neg]; exact (EReal.coe_strictMono.monotone.map_max).symm
  have hp : (0 : ℝ) < 1 + Real.exp (-(max r (-r))) := by positivity
  refine ⟨Real.log (1 + Real.exp (-(max r (-r)))), ?_, ?_⟩
  · rw [e, zero_sub, ← EReal.coe_neg, Ideal.exp_coe, Ideal.log1p, ← EReal.coe_one, ← EReal.coe_add, Ideal.log_coe, if_neg hp.not_ge]
  · rw [neg_neg, max_comm, e, ← EReal.coe_neg, Ideal.exp_coe, Ideal.log1p, ← EReal.coe_one, ← EReal.coe_add, Ideal.log_coe, if_neg hp.not_ge]

theorem log1p_zero : Ideal.log1p 0 = 0 := by
  rw [Ideal.log1p, add_zero, ← EReal.coe_one, Ideal.log_coe, if_neg (by norm_num), Real.log_one, EReal.coe_zero]

/-- The same logarithm as minus the softplus of minus the value. -/
theorem lsig_eq (z : EReal) : -(max (-z) 0 + Ideal.log1p (Ideal.exp (-(max (-z - 0) (-(-z - 0)))))) = lsig z := by
  rw [sub_zero]
  unfold lsig
  induction z with
  | bot => simp [log1p_zero]
  | top => simp [log1p_zero]
  | coe r =>
    obtain ⟨l, e1, e2⟩ := log1p_real r
    rw [e1, e2]
    have a : max (-(r : EReal)) 0 = ((max (-r) 0 : ℝ) : EReal) := by
      rw [← EReal.coe_neg, ← EReal.coe_zero]; exact (EReal.coe_strictMono.monotone.map_max).symm
    have b : min (r : EReal) 0 = ((min r 0 : ℝ) : EReal) := by
      rw [← EReal.coe_zero]; exact (EReal.coe_strictMono.monotone.map_min).symm
    rw [a, b, ← EReal.coe_add, ← EReal.coe_neg, ← EReal.coe_sub, EReal.coe_eq_coe_iff]
    have : max (-r) 0 = -min r 0 := by
      rcases le_total r 0 with h | h
      · rw [max_eq_left (by linarith), min_eq_left h]
      · rw [max_eq_right (by linarith), min_eq_right h, neg_zero]
    rw [this]
    ring

theorem lsig_ne_top (z : EReal) : lsig z ≠ ⊤ := by
  unfold lsig
  induction z with
  | bot => simp [log1p_zero]
  | top => simp [log1p_zero]
  | coe r =>
    obtain ⟨l, e1, -⟩ := log1p_real r
    have b : min (r : EReal) 0 = ((min r 0 : ℝ) : EReal) := by
      rw [← EReal.coe_zero]; exact (EReal.coe_strictMono.monotone.map_min).symm
    rw [e1, b, ← EReal.coe_sub]
    exact EReal.coe_ne_top _

/-- A value and what its roundings leave of it, taken together. -/
theorem three_parts {a : EReal} (h : a ≠ ⊤) : a + (a - a) + (a - a - (a - a)) = a := by
  induction a with
  | bot => rfl
  | top => exact absurd rfl h
  | coe r => rw [← EReal.coe_sub, sub_self, EReal.coe_zero, sub_zero, add_zero, add_zero]

/-- Three products with one weight of zero or one. -/
theorem three_mul {a : EReal} (h : a ≠ ⊤) (p : Prop) [Decidable p] :
    a * (if p then 1 else 0) + (a - a) * (if p then 1 else 0) + (a - a - (a - a)) * (if p then 1 else 0) = if p then a else 0 := by
  by_cases q : p
  · simp only [if_pos q, mul_one]; exact three_parts h
  · simp only [if_neg q, mul_zero, add_zero]

/-! ## Running sums -/

/-- The sum of the first `n` terms. -/
def pre (L : ℕ → EReal) (n : ℕ) : EReal := ∑ k ∈ Finset.range n, L k

theorem pre_zero (L : ℕ → EReal) : pre L 0 = 0 := rfl

theorem pre_add (L : ℕ → EReal) (n k : ℕ) : pre L (n + k) = pre L n + ∑ s ∈ Finset.range k, L (n + s) := by
  unfold pre
  exact Finset.sum_range_add _ _ _

/-- A chunk's terms up to one of them. -/
theorem chunk_upto (L : ℕ → EReal) (o : ℕ) (d : Fin 256) :
    (∑ s : Fin 256, if s ≤ d then L (o + s.val) else 0) = ∑ s ∈ Finset.range (d.val + 1), L (o + s) := by
  rw [Fin.sum_univ_eq_sum_range (fun s => if h : s < 256 then (if (⟨s, h⟩ : Fin 256) ≤ d then L (o + s) else 0) else 0) 256 |>.symm.trans
    (Finset.sum_congr rfl fun s _ => by rw [dif_pos s.isLt]) |>.symm]
  have hs : Finset.range (d.val + 1) ⊆ Finset.range 256 := Finset.range_subset_range.2 (by omega)
  rw [← Finset.sum_subset hs]
  · refine Finset.sum_congr rfl fun s h => ?_
    have h' := Finset.mem_range.1 h
    rw [dif_pos (by omega), if_pos (Fin.mk_le_of_le_val (by omega))]
  · intro s h h'
    have h1 := Finset.mem_range.1 h
    have h2 : ¬s < d.val + 1 := fun q => h' (Finset.mem_range.2 q)
    rw [dif_pos h1, if_neg]
    intro q
    have : s ≤ d.val := q
    omega

theorem chunk_all (L : ℕ → EReal) (o : ℕ) : (∑ s : Fin 256, L (o + s.val)) = ∑ s ∈ Finset.range 256, L (o + s) :=
  Fin.sum_univ_eq_sum_range (fun s => L (o + s)) 256

/-- The running sum at a position of the first chunk. -/
theorem pre_chunk (L : ℕ → EReal) (o : ℕ) (d : Fin 256) :
    pre L o + (∑ s : Fin 256, if s ≤ d then L (o + s.val) else 0) = pre L (o + d.val + 1) := by
  rw [chunk_upto, add_assoc o, pre_add]

theorem pre_next (L : ℕ → EReal) (o : ℕ) : pre L o + (∑ s : Fin 256, L (o + s.val)) = pre L (o + 256) := by
  rw [chunk_all, pre_add]

end Cert.Inp
-- ==== Proof.InHeads.lean ====
/- The input projection's stored blocks as terms over the loads, and the terms read at an index. -/
module

public import Idealize.ShloMosaic.Lib.WordCmp
public import proofs.«01_k».proof.Proof.InRows
public import proofs.«01_k».proof.Proof.Gen.Kernel3Ideal.Skeleton

@[expose] public section

set_option maxRecDepth 16384

noncomputable section

namespace Cert.Inp

open Idealize.ShloMosaic Idealize.ShloMosaic.TcCoe Idealize.ShloMosaic.Tactic Idealize.ShloMosaic.Pointwise Idealize.SL.Sem
open Cert.Kernel3Ideal Cert.Kernel3Ideal.Gen Cert.Kernel3Ideal.Facts

section
variable {F : FTy → Type} [FloatOps F] [Named F]

/-! ## The terms -/

/-- One over the root mean square of the lanes kept. -/
def laneRms (v : FVec F S1024x128 .f32) : FVec F S1024x128 .f32 :=
  broadcastTo S1024x128 (shapeCast S1024x1 (rsqrt (addf (divf (shapeCast S1024x1 (multiReduction .add [1] S1024 v 0x00000000#32 reduces_S1024x128_S1024 (.inl rfl) rfl) shapeCasts_S1024_S1024x1)
    (broadcast S1024x1 (Scalar.ofBits .f32 0x42800000#32))) (broadcast S1024x1 (Scalar.ofBits .f32 0x358637BD#32)))) shapeCasts_S1024x1_S1024x1) broadcasts_S1024x1_S1024x128

/-- Zeros over a group of lanes. -/
def zeroL : FVec F S1024x128 .f32 := broadcast S1024x128 (Scalar.ofBits .f32 0x00000000#32)

/-- Two heads normed, each half of the lanes by its own. -/
def pair (u : FVec F S1024x128 .f32) (g : FVec F S1x128 .f32) : FVec F S1024x128 .f32 :=
  mulf (mulf u (select k0_pay7 (laneRms (select k0_pay7 (mulf u u) zeroL)) (laneRms (select k0_pay7 zeroL (mulf u u)))))
    (broadcastTo S1024x128 g broadcasts_S1x128_S1024x128)

/-- Eight heads normed. -/
def heads (u : FVec F S1024x512 .f32) (g : FVec F S1x512 .f32) : FVec F S1x1024x512 .bf16 :=
  shapeCast S1x1024x512 (truncf .bf16 (concatenate S1024x512 1
    [⟨S1024x128, pair (extractStridedSlice S1024x128 ![0, 0] u slices_S1024x512_o0_0_S1024x128) (extractStridedSlice S1x128 ![0, 0] g slices_S1x512_o0_0_S1x128)⟩,
     ⟨S1024x128, pair (extractStridedSlice S1024x128 ![0, 128] u slices_S1024x512_o0_128_S1024x128) (extractStridedSlice S1x128 ![0, 128] g slices_S1x512_o0_128_S1x128)⟩,
     ⟨S1024x128, pair (extractStridedSlice S1024x128 ![0, 256] u slices_S1024x512_o0_256_S1024x128) (extractStridedSlice S1x128 ![0, 256] g slices_S1x512_o0_256_S1x128)⟩,
     ⟨S1024x128, pair (extractStridedSlice S1024x128 ![0, 384] u slices_S1024x512_o0_384_S1024x128) (extractStridedSlice S1x128 ![0, 384] g slices_S1x512_o0_384_S1x128)⟩]
    concatenates_S1024x128_S1024x128_S1024x128_S1024x128_S1024x512_d1) bitsLt_bf16_f32) shapeCasts_S1024x512_S1x1024x512

/-- The rows times a block of the weights. -/
abbrev prod (h : FVec F S1024x1024 .bf16) (w : Vec F S1x1024x512 .bf16) : FVec F S1024x512 .f32 := k0_pay16 h w

theorem fq_term (h : FVec F S1024x1024 .bf16) (w : Vec F S1x1024x512 .bf16) (g : Vec F S1x512 .f32) :
    k0_pay15 (k0_pay5 h (k0_pay4 w) (constant S1024x512 .f32 0x00000000#32)) (k0_pay6 g) k0_pay7 (k0_pay8 h (k0_pay4 w) (constant S1024x512 .f32 0x00000000#32) g)
      (k0_pay13 (k0_pay6 g) k0_pay7 (k0_pay9 h (k0_pay4 w) (constant S1024x512 .f32 0x00000000#32)) (k0_pay11 h (k0_pay4 w) (constant S1024x512 .f32 0x00000000#32)) (k0_pay12 h (k0_pay4 w) (constant S1024x512 .f32 0x00000000#32)))
      (k0_pay14 (k0_pay5 h (k0_pay4 w) (constant S1024x512 .f32 0x00000000#32)) k0_pay7)
      = heads (prod h w) (k0_pay6 g) := rfl

theorem fk_term (h : FVec F S1024x1024 .bf16) (w : Vec F S1x1024x512 .bf16) (g : Vec F S1x512 .f32) :
    k0_pay30 (k0_pay17 g) k0_pay18 (k0_pay19 (k0_pay16 h w) (k0_pay17 g))
      (k0_pay25 (k0_pay17 g) k0_pay18 (k0_pay20 (k0_pay16 h w)) (k0_pay22 (k0_pay16 h w)) (k0_pay23 (k0_pay16 h w)) k0_pay24)
      (k0_pay26 (k0_pay16 h w) (k0_pay17 g) k0_pay18) (k0_pay27 (k0_pay16 h w)) (k0_pay28 (k0_pay16 h w)) (k0_pay29 (k0_pay16 h w) k0_pay18)
      = heads (prod h w) (k0_pay17 g) := rfl

theorem dq_term (h : FVec F S1024x1024 .bf16) (w : Vec F S1x1024x512 .bf16) (g : Vec F S1x512 .f32) :
    k0_pay44 (k0_pay32 h w) (k0_pay33 g) k0_pay34 (k0_pay35 h w g)
      (k0_pay39 (k0_pay33 g) k0_pay34 (k0_pay36 h w) (k0_pay37 h w) (k0_pay38 h w) (Scalar.ofBits .f32 0x00000000#32))
      (k0_pay40 (k0_pay32 h w)) (k0_pay42 (k0_pay32 h w) k0_pay34) (k0_pay43 (k0_pay32 h w) k0_pay34)
      = heads (prod h w) (k0_pay6 g) := rfl

theorem dk_term (h : FVec F S1024x1024 .bf16) (w : Vec F S1x1024x512 .bf16) (g : Vec F S1x512 .f32) :
    k0_pay57 (k0_pay46 g) k0_pay47 (k0_pay48 (k0_pay45 h w) g)
      (k0_pay53 (k0_pay46 g) k0_pay47 (k0_pay49 (k0_pay45 h w)) (k0_pay51 (k0_pay45 h w)) (k0_pay52 (k0_pay45 h w)))
      (k0_pay54 (k0_pay45 h w) (k0_pay46 g) k0_pay47) (k0_pay55 (k0_pay45 h w)) (k0_pay56 (k0_pay45 h w)) (Scalar.ofBits .f32 0x00000000#32)
      = heads (prod h w) (k0_pay17 g) := rfl

end

/-! ## Read at an index -/

theorem hid_apply (x : Vec Ideal S1x1024x1024 .f32) (ln : Vec Ideal S1x1x1024 .f32) (sh sc : Vec Ideal S1x1x1x1x1024 .f32) (r j : Fin 1024) :
    k0_pay3 x ln sh sc (ix2 r j)
      = Mlp.hidRow (fun j => x (ix3 0 r j)) (fun j => ln (ix3 0 0 j)) (fun j => sc (ix5 0 0 0 0 j)) (fun j => sh (ix5 0 0 0 0 j)) j := by
  pointwise [k0_pay3, Mlp.hidRow, Mlp.len, Mlp.eps, Mlp.one]

theorem prod_apply (h : FVec Ideal S1024x1024 .bf16) (w : Vec Ideal S1x1024x512 .bf16) (r : Fin 1024) (j : Fin 512) :
    prod h w (ix2 r j) = ∑ k : Fin 1024, h (ix2 r k) * w (ix3 0 k j) := by
  pointwise [prod, k0_pay16]

theorem v_apply (h : FVec Ideal S1024x1024 .bf16) (w : Vec Ideal S1x1024x512 .bf16) (r : Fin 1024) (j : Fin 512) :
    k0_pay58 h w (ix3 0 r j) = ∑ k : Fin 1024, h (ix2 r k) * w (ix3 0 k j) := by
  pointwise [k0_pay58]

theorem fv_apply (h : FVec Ideal S1024x1024 .bf16) (w : Vec Ideal S1x1024x512 .bf16) (r : Fin 1024) (j : Fin 512) :
    k0_pay31 h w (ix3 0 r j) = ∑ k : Fin 1024, h (ix2 r k) * w (ix3 0 k j) := by
  pointwise [k0_pay31]

/-- The queries' scale. -/
def qks : EReal := (((8 * Real.log 2)⁻¹ : ℝ) : EReal)

theorem scaled_apply (g : Vec Ideal S1x512 .f32) (j : Fin 512) : k0_pay6 g (ix2 0 j) = g (ix2 0 j) * qks := by
  pointwise [k0_pay6]
  rfl

theorem plain_apply (g : Vec Ideal S1x512 .f32) (j : Fin 512) : k0_pay17 g (ix2 0 j) = g (ix2 0 j) := by
  pointwise [k0_pay17]

theorem mask_apply (r : Fin 1024) (l : Fin 128) : k0_pay7 (ix2 r l) = BitVec.ofBool (decide (l.val < 64)) := by
  pointwise [k0_pay7]
  exact WordCmp.cmpi_slt_ofNat (by omega) (by omega)

theorem laneRms_apply (v : FVec Ideal S1024x128 .f32) (r : Fin 1024) (l : Fin 128) :
    laneRms v (ix2 r l) = Ideal.rsqrt (Ideal.div (∑ k : Fin 128, v (ix2 r k)) hlen + Mlp.eps) := by
  pointwise [laneRms, hlen, Mlp.eps]

/-- Two heads' columns. -/
theorem pair_apply (u : FVec Ideal S1024x128 .f32) (g : FVec Ideal S1x128 .f32) (r : Fin 1024) (l : Fin 128) :
    pair u g (ix2 r l) = u (ix2 r l) * rms (fun k => u (ix2 r ⟨64 * (l.val / 64) + k.val, by omega⟩)) * g (ix2 0 l) := by
  have e1 : pair u g (ix2 r l) = u (ix2 r l) * (Scalar.select (k0_pay7 (ix2 r l)) (laneRms (select k0_pay7 (mulf u u) zeroL) (ix2 r l))
      (laneRms (select k0_pay7 zeroL (mulf u u)) (ix2 r l))) * g (ix2 0 l) := by
    unfold pair
    generalize laneRms (select k0_pay7 (mulf u u) zeroL) = a
    generalize laneRms (select k0_pay7 zeroL (mulf u u)) = b
    generalize k0_pay7 = m
    pointwise
  have a1 : ∀ k : Fin 128, select k0_pay7 (mulf u u) zeroL (ix2 r k) = if k.val < 64 then u (ix2 r k) * u (ix2 r k) else 0 := fun k => by
    pointwise [zeroL]
    rw [mask_apply, WordCmp.select_ofBool]
    simp
  have a2 : ∀ k : Fin 128, select k0_pay7 zeroL (mulf u u) (ix2 r k) = if k.val < 64 then 0 else u (ix2 r k) * u (ix2 r k) := fun k => by
    pointwise [zeroL]
    rw [mask_apply, WordCmp.select_ofBool]
    simp
  rw [e1, laneRms_apply, laneRms_apply, mask_apply, WordCmp.select_ofBool, Finset.sum_congr rfl fun k _ => a1 k, Finset.sum_congr rfl fun k _ => a2 k,
    sum_lo fun k => u (ix2 r k) * u (ix2 r k), sum_hi fun k => u (ix2 r k) * u (ix2 r k)]
  refine congrArg (fun s => u (ix2 r l) * s * g (ix2 0 l)) ?_
  unfold rms
  by_cases h : l.val < 64
  · have h0 : l.val / 64 = 0 := by omega
    simp only [h, decide_true, if_true, h0, mul_zero, zero_add]
  · have h0 : l.val / 64 = 1 := by omega
    simp only [h, decide_false, Bool.false_eq_true, if_false, h0, mul_one]

theorem heads_apply (u : FVec Ideal S1024x512 .f32) (g : FVec Ideal S1x512 .f32) (r : Fin 1024) (j : Fin 512) :
    heads u g (ix3 0 r j) = normed (fun j => u (ix2 r j)) (fun j => g (ix2 0 j)) j := by
  unfold heads
  generalize ea : pair (extractStridedSlice S1024x128 ![0, 0] u slices_S1024x512_o0_0_S1024x128) (extractStridedSlice S1x128 ![0, 0] g slices_S1x512_o0_0_S1x128) = a
  generalize eb : pair (extractStridedSlice S1024x128 ![0, 128] u slices_S1024x512_o0_128_S1024x128) (extractStridedSlice S1x128 ![0, 128] g slices_S1x512_o0_128_S1x128) = b
  generalize ec : pair (extractStridedSlice S1024x128 ![0, 256] u slices_S1024x512_o0_256_S1024x128) (extractStridedSlice S1x128 ![0, 256] g slices_S1x512_o0_256_S1x128) = c
  generalize ed : pair (extractStridedSlice S1024x128 ![0, 384] u slices_S1024x512_o0_384_S1024x128) (extractStridedSlice S1x128 ![0, 384] g slices_S1x512_o0_384_S1x128) = d
  pointwise
  have fin (o : ℕ) (ho : o % 64 = 0) (ho' : o ≤ 384) (l : Fin 128) (hj : j.val = o + l.val) (x : EReal) (y : Fin 64 → EReal) (z : EReal) (hx : x = u (ix2 r j))
      (hz : z = g (ix2 0 j)) (hy : y = fun k : Fin 64 => u (ix2 r ⟨o + (64 * (l.val / 64) + k.val), by omega⟩)) :
      x * rms y * z = normed (fun j => u (ix2 r j)) (fun j => g (ix2 0 j)) j := by
    unfold normed
    rw [hx, hz, hy]
    refine congrArg (fun q => u (ix2 r j) * rms q * g (ix2 0 j)) (funext fun k => congrArg (fun q => u (ix2 r q)) (Fin.ext ?_))
    show o + (64 * (l.val / 64) + k.val) = 64 * (j.val / 64) + k.val
    omega
  by_cases h1 : j.val < 128
  · rw [dif_pos h1]
    rw [← ea, pair_apply]
    refine fin 0 (by norm_num) (by norm_num) ⟨j.val, by omega⟩ (by dsimp only; omega) _ _ _ ?_ ?_ (funext fun k => ?_)
    · pointwise
      all_goals exact congrArg (fun q => u (ix2 r q)) (Fin.ext (by dsimp only; omega))
    · pointwise
      all_goals exact congrArg (fun q => g (ix2 0 q)) (Fin.ext (by dsimp only; omega))
    · pointwise
      all_goals exact congrArg (fun q => u (ix2 r q)) (Fin.ext (by dsimp only; omega))
  rw [dif_neg h1]
  by_cases h2 : j.val - 128 < 128
  · rw [dif_pos h2]
    rw [← eb, pair_apply]
    refine fin 128 (by norm_num) (by norm_num) ⟨j.val - 128, by omega⟩ (by dsimp only; omega) _ _ _ ?_ ?_ (funext fun k => ?_)
    · pointwise
      all_goals exact congrArg (fun q => u (ix2 r q)) (Fin.ext (by dsimp only; omega))
    · pointwise
      all_goals exact congrArg (fun q => g (ix2 0 q)) (Fin.ext (by dsimp only; omega))
    · pointwise
      all_goals exact congrArg (fun q => u (ix2 r q)) (Fin.ext (by dsimp only; omega))
  rw [dif_neg h2]
  by_cases h3 : j.val - 128 - 128 < 128
  · rw [dif_pos h3]
    rw [← ec, pair_apply]
    refine fin 256 (by norm_num) (by norm_num) ⟨j.val - 128 - 128, by omega⟩ (by dsimp only; omega) _ _ _ ?_ ?_ (funext fun k => ?_)
    · pointwise
      all_goals exact congrArg (fun q => u (ix2 r q)) (Fin.ext (by dsimp only; omega))
    · pointwise
      all_goals exact congrArg (fun q => g (ix2 0 q)) (Fin.ext (by dsimp only; omega))
    · pointwise
      all_goals exact congrArg (fun q => u (ix2 r q)) (Fin.ext (by dsimp only; omega))
  · rw [dif_neg h3]
    rw [← ed, pair_apply]
    refine fin 384 (by norm_num) (by norm_num) ⟨j.val - 128 - 128 - 128, by omega⟩ (by dsimp only; omega) _ _ _ ?_ ?_ (funext fun k => ?_)
    · pointwise
      all_goals exact congrArg (fun q => u (ix2 r q)) (Fin.ext (by dsimp only; omega))
    · pointwise
      all_goals exact congrArg (fun q => g (ix2 0 q)) (Fin.ext (by dsimp only; omega))
    · pointwise
      all_goals exact congrArg (fun q => u (ix2 r q)) (Fin.ext (by dsimp only; omega))

end Cert.Inp
-- ==== Proof.InGates.lean ====
/- The forget gates' payloads read at an index: the log gates, their sums inside a chunk and the sums carried from chunk to chunk. -/
module

public import proofs.«01_k».proof.Proof.InHeads

@[expose] public section

set_option maxRecDepth 16384

noncomputable section

namespace Cert.Inp

open Idealize.ShloMosaic Idealize.ShloMosaic.TcCoe Idealize.ShloMosaic.Tactic Idealize.ShloMosaic.Pointwise Idealize.SL.Sem
open Cert.Kernel3Ideal Cert.Kernel3Ideal.Gen Cert.Kernel3Ideal.Facts

section
variable (h : FVec Ideal S1024x1024 .bf16) (wg : Vec Ideal S1x16x1024 .bf16) (b : Vec Ideal S1x16x1 .f32)

/-- A gate before its logistic. -/
def gz (r : Fin 16) (R : Fin 1024) : EReal := (∑ k : Fin 1024, wg (ix3 0 r k) * h (ix2 R k)) + b (ix3 0 r 0)

theorem gates_apply (i : Fin 64) (s : Fin 256) :
    k0_pay59 h wg b (ix2 i s) = lsig (gz h wg b ⟨i.val % 16, by omega⟩ ⟨256 * (i.val / 16) + s.val, by omega⟩) := by
  have fin (r r' : Fin 16) (R R' : Fin 1024) (hr : r.val = r'.val) (hR : R.val = R'.val) : lsig (gz h wg b r R) = lsig (gz h wg b r' R') := by
    rw [Fin.ext hr, Fin.ext hR]
  pointwise [k0_pay59]
  by_cases h1 : i.val < 16
  · rw [dif_pos h1]
    exact fin ⟨i.val, h1⟩ _ ⟨s.val, by omega⟩ _ (by dsimp only; omega) (by dsimp only; omega)
  rw [dif_neg h1]
  by_cases h2 : i.val - 16 < 16
  · rw [dif_pos h2]
    exact fin ⟨i.val - 16, h2⟩ _ ⟨256 + s.val, by omega⟩ _ (by dsimp only; omega) (by dsimp only; omega)
  rw [dif_neg h2]
  by_cases h3 : i.val - 16 - 16 < 16
  · rw [dif_pos h3]
    exact fin ⟨i.val - 16 - 16, h3⟩ _ ⟨512 + s.val, by omega⟩ _ (by dsimp only; omega) (by dsimp only; omega)
  · rw [dif_neg h3]
    exact fin ⟨i.val - 16 - 16 - 16, by omega⟩ _ ⟨768 + s.val, by omega⟩ _ (by dsimp only; omega) (by dsimp only; omega)

theorem local_apply (i : Fin 64) (d : Fin 256) (hL : ∀ s, k0_pay59 h wg b (ix2 i s) ≠ ⊤) :
    k0_pay60 h wg b (ix2 i d) = ∑ s : Fin 256, if s ≤ d then k0_pay59 h wg b (ix2 i s) else 0 := by
  unfold k0_pay60
  generalize k0_pay59 h wg b = L at *
  pointwise
  rw [← Finset.sum_add_distrib, ← Finset.sum_add_distrib]
  refine Finset.sum_congr rfl fun s _ => ?_
  have e : (⟨128 + i.val - 64 - 64, by omega⟩ : Fin 64) = i := Fin.ext (by dsimp only; omega)
  rw [dif_neg (by omega), dif_neg (by omega), e, WordCmp.cmpi_sle_ofNat (by omega) (by omega), WordCmp.select_ofBool, WordCmp.select_ofBool, WordCmp.select_ofBool]
  by_cases q : s ≤ d
  · simp only [Fin.val_fin_le, q, decide_true, if_true]
    exact three_parts (hL s)
  · simp only [Fin.val_fin_le, q, decide_false, Bool.false_eq_true, if_false, add_zero]

theorem total_apply (i : Fin 64) : k0_pay61 h wg b (ix2 i 0) = ∑ s : Fin 256, k0_pay59 h wg b (ix2 i s) := by
  unfold k0_pay61
  generalize k0_pay59 h wg b = L at *
  pointwise
end

section
variable (lo : FVec Ideal S64x256 .f32) (tot : FVec Ideal S64x1 .f32) (cry : Vec Ideal S16x1 .f32) (r : Fin 8) (d : Fin 256) (i : Fin 16)

/-- Minus the logarithm of e to the base two. -/
def nl : EReal := ((-(Real.log 2)⁻¹ : ℝ) : EReal)

theorem k62_apply (h : FVec Ideal S1024x1024 .bf16) (wg : Vec Ideal S1x16x1024 .bf16) (b : Vec Ideal S1x16x1 .f32) :
    k0_pay62 h wg b cry (ix2 i d) = cry (ix2 i 0) + k0_pay60 h wg b (ix2 ⟨i.val, by omega⟩ d) := by
  unfold k0_pay62
  generalize k0_pay60 h wg b = L at *
  pointwise

theorem k63_apply (v : FVec Ideal S16x256 .f32) : k0_pay63 v (ix3 0 r d) = nl * v (ix2 ⟨r.val, by omega⟩ d) := by
  pointwise [k0_pay63]
  rfl

theorem k64_apply : k0_pay64 tot cry (ix2 i 0) = cry (ix2 i 0) + tot (ix2 ⟨i.val, by omega⟩ 0) := by
  pointwise [k0_pay64]

theorem k65_apply : k0_pay65 lo tot cry (ix3 0 r d) = nl * (k0_pay64 tot cry (ix2 ⟨r.val, by omega⟩ 0) + lo (ix2 ⟨16 + r.val, by omega⟩ d)) := by
  unfold k0_pay65
  generalize k0_pay64 tot cry = L
  pointwise
  rfl

theorem k66_apply : k0_pay66 tot cry (ix2 i 0) = k0_pay64 tot cry (ix2 i 0) + tot (ix2 ⟨16 + i.val, by omega⟩ 0) := by
  unfold k0_pay66
  generalize k0_pay64 tot cry = L
  pointwise

theorem k67_apply : k0_pay67 lo tot cry (ix3 0 r d) = nl * (k0_pay66 tot cry (ix2 ⟨r.val, by omega⟩ 0) + lo (ix2 ⟨32 + r.val, by omega⟩ d)) := by
  unfold k0_pay67
  generalize k0_pay66 tot cry = L
  pointwise
  rfl

theorem k68_apply : k0_pay68 tot cry (ix2 i 0) = k0_pay66 tot cry (ix2 i 0) + tot (ix2 ⟨32 + i.val, by omega⟩ 0) := by
  unfold k0_pay68
  generalize k0_pay66 tot cry = L
  pointwise

theorem k69_apply : k0_pay69 lo tot cry (ix3 0 r d) = nl * (k0_pay68 tot cry (ix2 ⟨r.val, by omega⟩ 0) + lo (ix2 ⟨48 + r.val, by omega⟩ d)) := by
  unfold k0_pay69
  generalize k0_pay68 tot cry = L
  pointwise
  rfl

theorem k70_apply : k0_pay70 tot (ix2 i 0) = tot (ix2 ⟨48 + i.val, by omega⟩ 0) := by
  pointwise [k0_pay70]

theorem k1_apply (x y : FVec Ideal S16x1 .f32) (l : Fin 128) : k0_pay1 x y (ix2 i l) = x (ix2 i 0) + y (ix2 i 0) := by
  pointwise [k0_pay1]

theorem k2_apply (l : Fin 128) : k0_pay2 (F := Ideal) (ix2 i l) = 0 := by
  pointwise [k0_pay2]
end

/-! ## The running sums of a tile -/

section
variable (h : FVec Ideal S1024x1024 .bf16) (wg : Vec Ideal S1x16x1024 .bf16) (b : Vec Ideal S1x16x1 .f32) (cry : Vec Ideal S16x1 .f32)
  {Lg : ℕ → EReal} {o : ℕ} {r : Fin 16} (hg : ∀ n : Fin 1024, lsig (gz h wg b r n) = Lg (o + n.val)) (hc : cry (ix2 r 0) = pre Lg o)
include hg

theorem seg_gate (c : ℕ) (hc4 : c < 4) (i : Fin 64) (hi : i.val = 16 * c + r.val) (s : Fin 256) : k0_pay59 h wg b (ix2 i s) = Lg (o + 256 * c + s.val) := by
  rw [gates_apply, add_assoc, ← hg ⟨256 * c + s.val, by omega⟩]
  refine congrArg₂ (fun r R => lsig (gz h wg b r R)) (Fin.ext ?_) (Fin.ext ?_)
  · show i.val % 16 = r.val
    omega
  · show 256 * (i.val / 16) + s.val = 256 * c + s.val
    omega

theorem seg_local (c : ℕ) (hc4 : c < 4) (i : Fin 64) (hi : i.val = 16 * c + r.val) (d : Fin 256) :
    pre Lg (o + 256 * c) + k0_pay60 h wg b (ix2 i d) = pre Lg (o + (256 * c + d.val) + 1) := by
  rw [local_apply, Finset.sum_congr rfl fun s _ => by rw [seg_gate h wg b hg c hc4 i hi s], pre_chunk, add_assoc o]
  intro s
  rw [gates_apply]
  exact lsig_ne_top _

theorem seg_total (c : ℕ) (hc4 : c < 4) (i : Fin 64) (hi : i.val = 16 * c + r.val) : pre Lg (o + 256 * c) + k0_pay61 h wg b (ix2 i 0) = pre Lg (o + 256 * (c + 1)) := by
  rw [total_apply, Finset.sum_congr rfl fun s _ => seg_gate h wg b hg c hc4 i hi s, pre_next]
  rfl

include hc

theorem carry1 : k0_pay64 (k0_pay61 h wg b) cry (ix2 r 0) = pre Lg (o + 256 * 1) := by
  rw [k64_apply, hc]
  exact seg_total h wg b hg 0 (by norm_num) _ (by dsimp only; omega)

theorem carry2 : k0_pay66 (k0_pay61 h wg b) cry (ix2 r 0) = pre Lg (o + 256 * 2) := by
  rw [k66_apply, carry1 h wg b cry hg hc]
  exact seg_total h wg b hg 1 (by norm_num) _ rfl

theorem carry3 : k0_pay68 (k0_pay61 h wg b) cry (ix2 r 0) = pre Lg (o + 256 * 3) := by
  rw [k68_apply, carry2 h wg b cry hg hc]
  exact seg_total h wg b hg 2 (by norm_num) _ rfl

/-- The sums handed to the next tile. -/
theorem carry4 (l : Fin 128) : k0_pay1 (k0_pay68 (k0_pay61 h wg b) cry) (k0_pay70 (k0_pay61 h wg b)) (ix2 r l) = pre Lg (o + 1024) := by
  rw [k1_apply, k70_apply, carry3 h wg b cry hg hc]
  exact seg_total h wg b hg 3 (by norm_num) _ rfl

end

section
variable (h : FVec Ideal S1024x1024 .bf16) (wg : Vec Ideal S1x16x1024 .bf16) (b : Vec Ideal S1x16x1 .f32) (cry : Vec Ideal S16x1 .f32)
  {Lg : ℕ → EReal} {o : ℕ} {r : Fin 8} (hg : ∀ n : Fin 1024, lsig (gz h wg b ⟨r.val, by omega⟩ n) = Lg (o + n.val)) (hc : cry (ix2 ⟨r.val, by omega⟩ 0) = pre Lg o)
include hg hc

theorem sums0 (d : Fin 256) : k0_pay63 (k0_pay62 h wg b cry) (ix3 0 r d) = nl * pre Lg (o + (256 * 0 + d.val) + 1) := by
  rw [k63_apply, k62_apply, hc]
  exact congrArg (nl * ·) (seg_local h wg b hg 0 (by norm_num) _ (by dsimp only; omega) d)

theorem sums1 (d : Fin 256) : k0_pay65 (k0_pay60 h wg b) (k0_pay61 h wg b) cry (ix3 0 r d) = nl * pre Lg (o + (256 * 1 + d.val) + 1) := by
  rw [k65_apply, carry1 h wg b cry hg hc]
  exact congrArg (nl * ·) (seg_local h wg b hg 1 (by norm_num) _ rfl d)

theorem sums2 (d : Fin 256) : k0_pay67 (k0_pay60 h wg b) (k0_pay61 h wg b) cry (ix3 0 r d) = nl * pre Lg (o + (256 * 2 + d.val) + 1) := by
  rw [k67_apply, carry2 h wg b cry hg hc]
  exact congrArg (nl * ·) (seg_local h wg b hg 2 (by norm_num) _ rfl d)

theorem sums3 (d : Fin 256) : k0_pay69 (k0_pay60 h wg b) (k0_pay61 h wg b) cry (ix3 0 r d) = nl * pre Lg (o + (256 * 3 + d.val) + 1) := by
  rw [k69_apply, carry3 h wg b cry hg hc]
  exact congrArg (nl * ·) (seg_local h wg b hg 3 (by norm_num) _ rfl d)

end

end Cert.Inp
-- ==== Proof.InPieces.lean ====
/- What the input projection's kernel leaves in its output blocks at a grid point, as terms over the block's loads. -/
module

public import proofs.«01_k».proof.Proof.InGates
public import proofs.«01_k».proof.Proof.Gen.Kernel3Ideal.Value
public import Idealize.ShloMosaic.Lib.Pipeline.ValueKit
public import proofs.«01_k».proof.Proof.Gen.Kernel3Ideal.Frame.RunA
public import proofs.«01_k».proof.Proof.Gen.Kernel3Ideal.Frame.RunB
import all proofs.«01_k».proof.Proof.Gen.Kernel3Ideal.Frame.RunA
import all proofs.«01_k».proof.Proof.Gen.Kernel3Ideal.Frame.RunB

@[expose] public section

set_option maxRecDepth 16384

noncomputable section

namespace Cert.Inp

open Idealize.ShloMosaic Idealize.ShloMosaic.TcCoe Idealize.ShloMosaic.Tactic Idealize.ShloMosaic.Pointwise Idealize.SL.Sem Cert.Kernel3Ideal Cert.Kernel3Ideal.Gen Cert.Kernel3Ideal.Facts

variable {F : FTy → Type} [FloatOps F] [Named F]

/-- The kernel's loads at a grid point. -/
structure Loads (F : FTy → Type) where
  x : Vec F S1x1024x1024 .f32
  ln : Vec F S1x1x1024 .f32
  sh : Vec F S1x1x1x1x1024 .f32
  sc : Vec F S1x1x1x1x1024 .f32
  wfq : Vec F S1x1024x512 .bf16
  wfk : Vec F S1x1024x512 .bf16
  wfv : Vec F S1x1024x512 .bf16
  wdq : Vec F S1x1024x512 .bf16
  wdk : Vec F S1x1024x512 .bf16
  wdv : Vec F S1x1024x512 .bf16
  wg : Vec F S1x16x1024 .bf16
  b : Vec F S1x16x1 .f32
  gfq : Vec F S1x512 .f32
  gfk : Vec F S1x512 .f32
  gdq : Vec F S1x512 .f32
  gdk : Vec F S1x512 .f32

namespace Loads

variable (L : Loads F)

/-- The modulated norm of the rows. -/
def hid : FVec F S1024x1024 .bf16 := k0_pay3 L.x L.ln L.sh L.sc
/-- The gates' sums inside a chunk. -/
def loc : FVec F S64x256 .f32 := k0_pay60 L.hid L.wg L.b
/-- The gates' sums over a chunk. -/
def tot : FVec F S64x1 .f32 := k0_pay61 L.hid L.wg L.b
/-- The sums handed to the next tile. -/
def carry (cry : Vec F S16x1 .f32) : FVec F S16x128 .f32 := k0_pay1 (k0_pay68 L.tot cry) (k0_pay70 L.tot)
/-- The four stores of the running sums, the last one first. -/
def sums (cry : Vec F S16x1 .f32) : List (View.Piece (Elt F) S1x8x1024 .f32) :=
  [⟨Rect.unit (s := S1x8x1024) ![0, 0, 768] S1x8x256.size inb_S1x8x1024_S1x8x256_0_0_768, k0_pay69 L.loc L.tot cry⟩,
   ⟨Rect.unit (s := S1x8x1024) ![0, 0, 512] S1x8x256.size inb_S1x8x1024_S1x8x256_0_0_512, k0_pay67 L.loc L.tot cry⟩,
   ⟨Rect.unit (s := S1x8x1024) ![0, 0, 256] S1x8x256.size inb_S1x8x1024_S1x8x256_0_0_256, k0_pay65 L.loc L.tot cry⟩,
   ⟨Rect.unit (s := S1x8x1024) ![0, 0, 0] S1x8x256.size inb_S1x8x1024_S1x8x256_0_0_0, k0_pay63 (k0_pay62 L.hid L.wg L.b cry)⟩]

end Loads

/-- The loads of a point's blocks. -/
def loads (arg2 : Memref sig .tc .vmem S1x1024x1024 .f32) (harg2 : arg2.IsWhole) (arg3 : Memref sig .tc .vmem S1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1024x1536 .bf16) (harg6 : arg6.IsWhole) (arg7 : Memref sig .tc .vmem S1x16x1024 .bf16) (harg7 : arg7.IsWhole) (arg8 : Memref sig .tc .vmem S1x1024x1536 .bf16) (harg8 : arg8.IsWhole) (arg9 : Memref sig .tc .vmem S1x16x1 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole)
    (x0 : Vec F S1x1024x1024 .f32) (x1 : Vec F S1x1x1024 .f32) (x2 : Vec F S1x1x1x1x1024 .f32) (x3 : Vec F S1x1x1x1x1024 .f32) (x4 : Vec F S1x1024x1536 .bf16) (x5 : Vec F S1x16x1024 .bf16) (x6 : Vec F S1x1024x1536 .bf16) (x7 : Vec F S1x16x1 .f32) (x8 : Vec F S1x512 .f32) (x9 : Vec F S1x512 .f32) (x10 : Vec F S1x512 .f32) (x11 : Vec F S1x512 .f32) : Loads F :=
  {
    x := View.readAt (Elt F) arg2.view (Rect.unit (s := S1x1024x1024) ![0, 0, 0] S1x1024x1024.size inb_S1x1024x1024_S1x1024x1024_0_0_0).toLoadRect (harg2.unread x0),
    ln := View.readAt (Elt F) arg3.view (Rect.unit (s := S1x1x1024) ![0, 0, 0] S1x1x1024.size inb_S1x1x1024_S1x1x1024_0_0_0).toLoadRect (harg3.unread x1),
    sh := View.readAt (Elt F) arg4.view (Rect.unit (s := S1x1x1x1x1024) ![0, 0, 0, 0, 0] S1x1x1x1x1024.size inb_S1x1x1x1x1024_S1x1x1x1x1024_0_0_0_0_0).toLoadRect (harg4.unread x2),
    sc := View.readAt (Elt F) arg5.view (Rect.unit (s := S1x1x1x1x1024) ![0, 0, 0, 0, 0] S1x1x1x1x1024.size inb_S1x1x1x1x1024_S1x1x1x1x1024_0_0_0_0_0).toLoadRect (harg5.unread x3),
    wfq := View.readAt (Elt F) arg6.view (Rect.unit (s := S1x1024x1536) ![0, 0, 0] S1x1024x512.size inb_S1x1024x1536_S1x1024x512_0_0_0).toLoadRect (harg6.unread x4),
    wfk := View.readAt (Elt F) arg6.view (Rect.unit (s := S1x1024x1536) ![0, 0, 512] S1x1024x512.size inb_S1x1024x1536_S1x1024x512_0_0_512).toLoadRect (harg6.unread x4),
    wfv := View.readAt (Elt F) arg6.view (Rect.unit (s := S1x1024x1536) ![0, 0, 1024] S1x1024x512.size inb_S1x1024x1536_S1x1024x512_0_0_1024).toLoadRect (harg6.unread x4),
    wdq := View.readAt (Elt F) arg8.view (Rect.unit (s := S1x1024x1536) ![0, 0, 0] S1x1024x512.size inb_S1x1024x1536_S1x1024x512_0_0_0).toLoadRect (harg8.unread x6),
    wdk := View.readAt (Elt F) arg8.view (Rect.unit (s := S1x1024x1536) ![0, 0, 512] S1x1024x512.size inb_S1x1024x1536_S1x1024x512_0_0_512).toLoadRect (harg8.unread x6),
    wdv := View.readAt (Elt F) arg8.view (Rect.unit (s := S1x1024x1536) ![0, 0, 1024] S1x1024x512.size inb_S1x1024x1536_S1x1024x512_0_0_1024).toLoadRect (harg8.unread x6),
    wg := View.readAt (Elt F) arg7.view (Rect.unit (s := S1x16x1024) ![0, 0, 0] S1x16x1024.size inb_S1x16x1024_S1x16x1024_0_0_0).toLoadRect (harg7.unread x5),
    b := View.readAt (Elt F) arg9.view (Rect.unit (s := S1x16x1) ![0, 0, 0] S1x16x1.size inb_S1x16x1_S1x16x1_0_0_0).toLoadRect (harg9.unread x7),
    gfq := View.readAt (Elt F) arg10.view (Rect.unit (s := S1x512) ![0, 0] S1x512.size inb_S1x512_S1x512_0_0).toLoadRect (harg10.unread x8),
    gfk := View.readAt (Elt F) arg11.view (Rect.unit (s := S1x512) ![0, 0] S1x512.size inb_S1x512_S1x512_0_0).toLoadRect (harg11.unread x9),
    gdq := View.readAt (Elt F) arg12.view (Rect.unit (s := S1x512) ![0, 0] S1x512.size inb_S1x512_S1x512_0_0).toLoadRect (harg12.unread x10),
    gdk := View.readAt (Elt F) arg13.view (Rect.unit (s := S1x512) ![0, 0] S1x512.size inb_S1x512_S1x512_0_0).toLoadRect (harg13.unread x11) }

/-- The sums carried, as loaded. -/
def carried (arg21 : Memref sig .tc .vmem S16x128 .f32) (harg21 : arg21.IsWhole) (xs0 : Vec F S16x128 .f32) : Vec F S16x1 .f32 :=
  View.readAt (Elt F) arg21.view (Rect.unit (s := S16x128) ![0, 0] S16x1.size inb_S16x128_S16x1_0_0).toLoadRect (harg21.unread xs0)

set_option maxHeartbeats 4000000 in
theorem outA_12 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1024x1536 .bf16) (harg6 : arg6.IsWhole) (arg7 : Memref sig .tc .vmem S1x16x1024 .bf16) (harg7 : arg7.IsWhole) (arg8 : Memref sig .tc .vmem S1x1024x1536 .bf16) (harg8 : arg8.IsWhole) (arg9 : Memref sig .tc .vmem S1x16x1 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1024x512 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x8x1024 .f32) (harg17 : arg17.IsWhole) (arg18 : Memref sig .tc .vmem S1x1024x512 .bf16) (harg18 : arg18.IsWhole) (arg19 : Memref sig .tc .vmem S1x1024x512 .bf16) (harg19 : arg19.IsWhole) (arg20 : Memref sig .tc .vmem S1x1024x512 .bf16) (harg20 : arg20.IsWhole) (arg21 : Memref sig .tc .vmem S16x128 .f32) (harg21 : arg21.IsWhole) (hc0 : cond0_0 i)
    (x0 : Vec F S1x1024x1024 .f32) (x1 : Vec F S1x1x1024 .f32) (x2 : Vec F S1x1x1x1x1024 .f32) (x3 : Vec F S1x1x1x1x1024 .f32) (x4 : Vec F S1x1024x1536 .bf16) (x5 : Vec F S1x16x1024 .bf16) (x6 : Vec F S1x1024x1536 .bf16) (x7 : Vec F S1x16x1 .f32) (x8 : Vec F S1x512 .f32) (x9 : Vec F S1x512 .f32) (x10 : Vec F S1x512 .f32) (x11 : Vec F S1x512 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = heads (prod (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).hid (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).wfq) (k0_pay6 (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).gfq) := by
  unfold out0_A_12
  rw [View.read_writes_junk_eq_canon]
  dsimp only [kernelRun0_A]
  refine (View.canon_cons_unit_lit _ _ _ (by decide)).trans ?_
  rfl

set_option maxHeartbeats 4000000 in
theorem outA_13 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1024x1536 .bf16) (harg6 : arg6.IsWhole) (arg7 : Memref sig .tc .vmem S1x16x1024 .bf16) (harg7 : arg7.IsWhole) (arg8 : Memref sig .tc .vmem S1x1024x1536 .bf16) (harg8 : arg8.IsWhole) (arg9 : Memref sig .tc .vmem S1x16x1 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1024x512 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x8x1024 .f32) (harg17 : arg17.IsWhole) (arg18 : Memref sig .tc .vmem S1x1024x512 .bf16) (harg18 : arg18.IsWhole) (arg19 : Memref sig .tc .vmem S1x1024x512 .bf16) (harg19 : arg19.IsWhole) (arg20 : Memref sig .tc .vmem S1x1024x512 .bf16) (harg20 : arg20.IsWhole) (arg21 : Memref sig .tc .vmem S16x128 .f32) (harg21 : arg21.IsWhole) (hc0 : cond0_0 i)
    (x0 : Vec F S1x1024x1024 .f32) (x1 : Vec F S1x1x1024 .f32) (x2 : Vec F S1x1x1x1x1024 .f32) (x3 : Vec F S1x1x1x1x1024 .f32) (x4 : Vec F S1x1024x1536 .bf16) (x5 : Vec F S1x16x1024 .bf16) (x6 : Vec F S1x1024x1536 .bf16) (x7 : Vec F S1x16x1 .f32) (x8 : Vec F S1x512 .f32) (x9 : Vec F S1x512 .f32) (x10 : Vec F S1x512 .f32) (x11 : Vec F S1x512 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = heads (prod (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).hid (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).wfk) (k0_pay17 (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).gfk) := by
  unfold out0_A_13
  rw [View.read_writes_junk_eq_canon]
  dsimp only [kernelRun0_A]
  refine (View.canon_cons_unit_lit _ _ _ (by decide)).trans ?_
  rfl

set_option maxHeartbeats 4000000 in
theorem outA_14 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1024x1536 .bf16) (harg6 : arg6.IsWhole) (arg7 : Memref sig .tc .vmem S1x16x1024 .bf16) (harg7 : arg7.IsWhole) (arg8 : Memref sig .tc .vmem S1x1024x1536 .bf16) (harg8 : arg8.IsWhole) (arg9 : Memref sig .tc .vmem S1x16x1 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1024x512 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x8x1024 .f32) (harg17 : arg17.IsWhole) (arg18 : Memref sig .tc .vmem S1x1024x512 .bf16) (harg18 : arg18.IsWhole) (arg19 : Memref sig .tc .vmem S1x1024x512 .bf16) (harg19 : arg19.IsWhole) (arg20 : Memref sig .tc .vmem S1x1024x512 .bf16) (harg20 : arg20.IsWhole) (arg21 : Memref sig .tc .vmem S16x128 .f32) (harg21 : arg21.IsWhole) (hc0 : cond0_0 i)
    (x0 : Vec F S1x1024x1024 .f32) (x1 : Vec F S1x1x1024 .f32) (x2 : Vec F S1x1x1x1x1024 .f32) (x3 : Vec F S1x1x1x1x1024 .f32) (x4 : Vec F S1x1024x1536 .bf16) (x5 : Vec F S1x16x1024 .bf16) (x6 : Vec F S1x1024x1536 .bf16) (x7 : Vec F S1x16x1 .f32) (x8 : Vec F S1x512 .f32) (x9 : Vec F S1x512 .f32) (x10 : Vec F S1x512 .f32) (x11 : Vec F S1x512 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = k0_pay31 (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).hid (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).wfv := by
  unfold out0_A_14
  rw [View.read_writes_junk_eq_canon]
  dsimp only [kernelRun0_A]
  refine (View.canon_cons_unit_lit _ _ _ (by decide)).trans ?_
  rfl

set_option maxHeartbeats 4000000 in
theorem outA_16 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1024x1536 .bf16) (harg6 : arg6.IsWhole) (arg7 : Memref sig .tc .vmem S1x16x1024 .bf16) (harg7 : arg7.IsWhole) (arg8 : Memref sig .tc .vmem S1x1024x1536 .bf16) (harg8 : arg8.IsWhole) (arg9 : Memref sig .tc .vmem S1x16x1 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1024x512 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x8x1024 .f32) (harg17 : arg17.IsWhole) (arg18 : Memref sig .tc .vmem S1x1024x512 .bf16) (harg18 : arg18.IsWhole) (arg19 : Memref sig .tc .vmem S1x1024x512 .bf16) (harg19 : arg19.IsWhole) (arg20 : Memref sig .tc .vmem S1x1024x512 .bf16) (harg20 : arg20.IsWhole) (arg21 : Memref sig .tc .vmem S16x128 .f32) (harg21 : arg21.IsWhole) (hc0 : cond0_0 i)
    (x0 : Vec F S1x1024x1024 .f32) (x1 : Vec F S1x1x1024 .f32) (x2 : Vec F S1x1x1x1x1024 .f32) (x3 : Vec F S1x1x1x1x1024 .f32) (x4 : Vec F S1x1024x1536 .bf16) (x5 : Vec F S1x16x1024 .bf16) (x6 : Vec F S1x1024x1536 .bf16) (x7 : Vec F S1x16x1 .f32) (x8 : Vec F S1x512 .f32) (x9 : Vec F S1x512 .f32) (x10 : Vec F S1x512 .f32) (x11 : Vec F S1x512 .f32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = heads (prod (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).hid (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).wdq) (k0_pay6 (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).gdq) := by
  unfold out0_A_16
  rw [View.read_writes_junk_eq_canon]
  dsimp only [kernelRun0_A]
  refine (View.canon_cons_unit_lit _ _ _ (by decide)).trans ?_
  rfl

set_option maxHeartbeats 4000000 in
theorem outA_17 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1024x1536 .bf16) (harg6 : arg6.IsWhole) (arg7 : Memref sig .tc .vmem S1x16x1024 .bf16) (harg7 : arg7.IsWhole) (arg8 : Memref sig .tc .vmem S1x1024x1536 .bf16) (harg8 : arg8.IsWhole) (arg9 : Memref sig .tc .vmem S1x16x1 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1024x512 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x8x1024 .f32) (harg17 : arg17.IsWhole) (arg18 : Memref sig .tc .vmem S1x1024x512 .bf16) (harg18 : arg18.IsWhole) (arg19 : Memref sig .tc .vmem S1x1024x512 .bf16) (harg19 : arg19.IsWhole) (arg20 : Memref sig .tc .vmem S1x1024x512 .bf16) (harg20 : arg20.IsWhole) (arg21 : Memref sig .tc .vmem S16x128 .f32) (harg21 : arg21.IsWhole) (hc0 : cond0_0 i)
    (x0 : Vec F S1x1024x1024 .f32) (x1 : Vec F S1x1x1024 .f32) (x2 : Vec F S1x1x1x1x1024 .f32) (x3 : Vec F S1x1x1x1x1024 .f32) (x4 : Vec F S1x1024x1536 .bf16) (x5 : Vec F S1x16x1024 .bf16) (x6 : Vec F S1x1024x1536 .bf16) (x7 : Vec F S1x16x1 .f32) (x8 : Vec F S1x512 .f32) (x9 : Vec F S1x512 .f32) (x10 : Vec F S1x512 .f32) (x11 : Vec F S1x512 .f32) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = heads (prod (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).hid (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).wdk) (k0_pay17 (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).gdk) := by
  unfold out0_A_17
  rw [View.read_writes_junk_eq_canon]
  dsimp only [kernelRun0_A]
  refine (View.canon_cons_unit_lit _ _ _ (by decide)).trans ?_
  rfl

set_option maxHeartbeats 4000000 in
theorem outA_18 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1024x1536 .bf16) (harg6 : arg6.IsWhole) (arg7 : Memref sig .tc .vmem S1x16x1024 .bf16) (harg7 : arg7.IsWhole) (arg8 : Memref sig .tc .vmem S1x1024x1536 .bf16) (harg8 : arg8.IsWhole) (arg9 : Memref sig .tc .vmem S1x16x1 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1024x512 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x8x1024 .f32) (harg17 : arg17.IsWhole) (arg18 : Memref sig .tc .vmem S1x1024x512 .bf16) (harg18 : arg18.IsWhole) (arg19 : Memref sig .tc .vmem S1x1024x512 .bf16) (harg19 : arg19.IsWhole) (arg20 : Memref sig .tc .vmem S1x1024x512 .bf16) (harg20 : arg20.IsWhole) (arg21 : Memref sig .tc .vmem S16x128 .f32) (harg21 : arg21.IsWhole) (hc0 : cond0_0 i)
    (x0 : Vec F S1x1024x1024 .f32) (x1 : Vec F S1x1x1024 .f32) (x2 : Vec F S1x1x1x1x1024 .f32) (x3 : Vec F S1x1x1x1x1024 .f32) (x4 : Vec F S1x1024x1536 .bf16) (x5 : Vec F S1x16x1024 .bf16) (x6 : Vec F S1x1024x1536 .bf16) (x7 : Vec F S1x16x1 .f32) (x8 : Vec F S1x512 .f32) (x9 : Vec F S1x512 .f32) (x10 : Vec F S1x512 .f32) (x11 : Vec F S1x512 .f32) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = k0_pay58 (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).hid (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).wdv := by
  unfold out0_A_18
  rw [View.read_writes_junk_eq_canon]
  dsimp only [kernelRun0_A]
  refine (View.canon_cons_unit_lit _ _ _ (by decide)).trans ?_
  rfl

set_option maxHeartbeats 4000000 in
theorem outB_12 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1024x1536 .bf16) (harg6 : arg6.IsWhole) (arg7 : Memref sig .tc .vmem S1x16x1024 .bf16) (harg7 : arg7.IsWhole) (arg8 : Memref sig .tc .vmem S1x1024x1536 .bf16) (harg8 : arg8.IsWhole) (arg9 : Memref sig .tc .vmem S1x16x1 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1024x512 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x8x1024 .f32) (harg17 : arg17.IsWhole) (arg18 : Memref sig .tc .vmem S1x1024x512 .bf16) (harg18 : arg18.IsWhole) (arg19 : Memref sig .tc .vmem S1x1024x512 .bf16) (harg19 : arg19.IsWhole) (arg20 : Memref sig .tc .vmem S1x1024x512 .bf16) (harg20 : arg20.IsWhole) (arg21 : Memref sig .tc .vmem S16x128 .f32) (harg21 : arg21.IsWhole) (hc0 : ¬cond0_0 i)
    (x0 : Vec F S1x1024x1024 .f32) (x1 : Vec F S1x1x1024 .f32) (x2 : Vec F S1x1x1x1x1024 .f32) (x3 : Vec F S1x1x1x1x1024 .f32) (x4 : Vec F S1x1024x1536 .bf16) (x5 : Vec F S1x16x1024 .bf16) (x6 : Vec F S1x1024x1536 .bf16) (x7 : Vec F S1x16x1 .f32) (x8 : Vec F S1x512 .f32) (x9 : Vec F S1x512 .f32) (x10 : Vec F S1x512 .f32) (x11 : Vec F S1x512 .f32) (xs0 : Vec F S16x128 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 = heads (prod (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).hid (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).wfq) (k0_pay6 (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).gfq) := by
  unfold out0_B_12
  rw [View.read_writes_junk_eq_canon]
  dsimp only [kernelRun0_B]
  refine (View.canon_cons_unit_lit _ _ _ (by decide)).trans ?_
  rfl

set_option maxHeartbeats 4000000 in
theorem outB_13 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1024x1536 .bf16) (harg6 : arg6.IsWhole) (arg7 : Memref sig .tc .vmem S1x16x1024 .bf16) (harg7 : arg7.IsWhole) (arg8 : Memref sig .tc .vmem S1x1024x1536 .bf16) (harg8 : arg8.IsWhole) (arg9 : Memref sig .tc .vmem S1x16x1 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1024x512 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x8x1024 .f32) (harg17 : arg17.IsWhole) (arg18 : Memref sig .tc .vmem S1x1024x512 .bf16) (harg18 : arg18.IsWhole) (arg19 : Memref sig .tc .vmem S1x1024x512 .bf16) (harg19 : arg19.IsWhole) (arg20 : Memref sig .tc .vmem S1x1024x512 .bf16) (harg20 : arg20.IsWhole) (arg21 : Memref sig .tc .vmem S16x128 .f32) (harg21 : arg21.IsWhole) (hc0 : ¬cond0_0 i)
    (x0 : Vec F S1x1024x1024 .f32) (x1 : Vec F S1x1x1024 .f32) (x2 : Vec F S1x1x1x1x1024 .f32) (x3 : Vec F S1x1x1x1x1024 .f32) (x4 : Vec F S1x1024x1536 .bf16) (x5 : Vec F S1x16x1024 .bf16) (x6 : Vec F S1x1024x1536 .bf16) (x7 : Vec F S1x16x1 .f32) (x8 : Vec F S1x512 .f32) (x9 : Vec F S1x512 .f32) (x10 : Vec F S1x512 .f32) (x11 : Vec F S1x512 .f32) (xs0 : Vec F S16x128 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 = heads (prod (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).hid (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).wfk) (k0_pay17 (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).gfk) := by
  unfold out0_B_13
  rw [View.read_writes_junk_eq_canon]
  dsimp only [kernelRun0_B]
  refine (View.canon_cons_unit_lit _ _ _ (by decide)).trans ?_
  rfl

set_option maxHeartbeats 4000000 in
theorem outB_14 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1024x1536 .bf16) (harg6 : arg6.IsWhole) (arg7 : Memref sig .tc .vmem S1x16x1024 .bf16) (harg7 : arg7.IsWhole) (arg8 : Memref sig .tc .vmem S1x1024x1536 .bf16) (harg8 : arg8.IsWhole) (arg9 : Memref sig .tc .vmem S1x16x1 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1024x512 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x8x1024 .f32) (harg17 : arg17.IsWhole) (arg18 : Memref sig .tc .vmem S1x1024x512 .bf16) (harg18 : arg18.IsWhole) (arg19 : Memref sig .tc .vmem S1x1024x512 .bf16) (harg19 : arg19.IsWhole) (arg20 : Memref sig .tc .vmem S1x1024x512 .bf16) (harg20 : arg20.IsWhole) (arg21 : Memref sig .tc .vmem S16x128 .f32) (harg21 : arg21.IsWhole) (hc0 : ¬cond0_0 i)
    (x0 : Vec F S1x1024x1024 .f32) (x1 : Vec F S1x1x1024 .f32) (x2 : Vec F S1x1x1x1x1024 .f32) (x3 : Vec F S1x1x1x1x1024 .f32) (x4 : Vec F S1x1024x1536 .bf16) (x5 : Vec F S1x16x1024 .bf16) (x6 : Vec F S1x1024x1536 .bf16) (x7 : Vec F S1x16x1 .f32) (x8 : Vec F S1x512 .f32) (x9 : Vec F S1x512 .f32) (x10 : Vec F S1x512 .f32) (x11 : Vec F S1x512 .f32) (xs0 : Vec F S16x128 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 = k0_pay31 (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).hid (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).wfv := by
  unfold out0_B_14
  rw [View.read_writes_junk_eq_canon]
  dsimp only [kernelRun0_B]
  refine (View.canon_cons_unit_lit _ _ _ (by decide)).trans ?_
  rfl

set_option maxHeartbeats 4000000 in
theorem outB_16 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1024x1536 .bf16) (harg6 : arg6.IsWhole) (arg7 : Memref sig .tc .vmem S1x16x1024 .bf16) (harg7 : arg7.IsWhole) (arg8 : Memref sig .tc .vmem S1x1024x1536 .bf16) (harg8 : arg8.IsWhole) (arg9 : Memref sig .tc .vmem S1x16x1 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1024x512 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x8x1024 .f32) (harg17 : arg17.IsWhole) (arg18 : Memref sig .tc .vmem S1x1024x512 .bf16) (harg18 : arg18.IsWhole) (arg19 : Memref sig .tc .vmem S1x1024x512 .bf16) (harg19 : arg19.IsWhole) (arg20 : Memref sig .tc .vmem S1x1024x512 .bf16) (harg20 : arg20.IsWhole) (arg21 : Memref sig .tc .vmem S16x128 .f32) (harg21 : arg21.IsWhole) (hc0 : ¬cond0_0 i)
    (x0 : Vec F S1x1024x1024 .f32) (x1 : Vec F S1x1x1024 .f32) (x2 : Vec F S1x1x1x1x1024 .f32) (x3 : Vec F S1x1x1x1x1024 .f32) (x4 : Vec F S1x1024x1536 .bf16) (x5 : Vec F S1x16x1024 .bf16) (x6 : Vec F S1x1024x1536 .bf16) (x7 : Vec F S1x16x1 .f32) (x8 : Vec F S1x512 .f32) (x9 : Vec F S1x512 .f32) (x10 : Vec F S1x512 .f32) (x11 : Vec F S1x512 .f32) (xs0 : Vec F S16x128 .f32) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 = heads (prod (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).hid (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).wdq) (k0_pay6 (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).gdq) := by
  unfold out0_B_16
  rw [View.read_writes_junk_eq_canon]
  dsimp only [kernelRun0_B]
  refine (View.canon_cons_unit_lit _ _ _ (by decide)).trans ?_
  rfl

set_option maxHeartbeats 4000000 in
theorem outB_17 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1024x1536 .bf16) (harg6 : arg6.IsWhole) (arg7 : Memref sig .tc .vmem S1x16x1024 .bf16) (harg7 : arg7.IsWhole) (arg8 : Memref sig .tc .vmem S1x1024x1536 .bf16) (harg8 : arg8.IsWhole) (arg9 : Memref sig .tc .vmem S1x16x1 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1024x512 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x8x1024 .f32) (harg17 : arg17.IsWhole) (arg18 : Memref sig .tc .vmem S1x1024x512 .bf16) (harg18 : arg18.IsWhole) (arg19 : Memref sig .tc .vmem S1x1024x512 .bf16) (harg19 : arg19.IsWhole) (arg20 : Memref sig .tc .vmem S1x1024x512 .bf16) (harg20 : arg20.IsWhole) (arg21 : Memref sig .tc .vmem S16x128 .f32) (harg21 : arg21.IsWhole) (hc0 : ¬cond0_0 i)
    (x0 : Vec F S1x1024x1024 .f32) (x1 : Vec F S1x1x1024 .f32) (x2 : Vec F S1x1x1x1x1024 .f32) (x3 : Vec F S1x1x1x1x1024 .f32) (x4 : Vec F S1x1024x1536 .bf16) (x5 : Vec F S1x16x1024 .bf16) (x6 : Vec F S1x1024x1536 .bf16) (x7 : Vec F S1x16x1 .f32) (x8 : Vec F S1x512 .f32) (x9 : Vec F S1x512 .f32) (x10 : Vec F S1x512 .f32) (x11 : Vec F S1x512 .f32) (xs0 : Vec F S16x128 .f32) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 = heads (prod (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).hid (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).wdk) (k0_pay17 (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).gdk) := by
  unfold out0_B_17
  rw [View.read_writes_junk_eq_canon]
  dsimp only [kernelRun0_B]
  refine (View.canon_cons_unit_lit _ _ _ (by decide)).trans ?_
  rfl

set_option maxHeartbeats 4000000 in
theorem outB_18 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1024x1536 .bf16) (harg6 : arg6.IsWhole) (arg7 : Memref sig .tc .vmem S1x16x1024 .bf16) (harg7 : arg7.IsWhole) (arg8 : Memref sig .tc .vmem S1x1024x1536 .bf16) (harg8 : arg8.IsWhole) (arg9 : Memref sig .tc .vmem S1x16x1 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1024x512 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x8x1024 .f32) (harg17 : arg17.IsWhole) (arg18 : Memref sig .tc .vmem S1x1024x512 .bf16) (harg18 : arg18.IsWhole) (arg19 : Memref sig .tc .vmem S1x1024x512 .bf16) (harg19 : arg19.IsWhole) (arg20 : Memref sig .tc .vmem S1x1024x512 .bf16) (harg20 : arg20.IsWhole) (arg21 : Memref sig .tc .vmem S16x128 .f32) (harg21 : arg21.IsWhole) (hc0 : ¬cond0_0 i)
    (x0 : Vec F S1x1024x1024 .f32) (x1 : Vec F S1x1x1024 .f32) (x2 : Vec F S1x1x1x1x1024 .f32) (x3 : Vec F S1x1x1x1x1024 .f32) (x4 : Vec F S1x1024x1536 .bf16) (x5 : Vec F S1x16x1024 .bf16) (x6 : Vec F S1x1024x1536 .bf16) (x7 : Vec F S1x16x1 .f32) (x8 : Vec F S1x512 .f32) (x9 : Vec F S1x512 .f32) (x10 : Vec F S1x512 .f32) (x11 : Vec F S1x512 .f32) (xs0 : Vec F S16x128 .f32) :
    out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 = k0_pay58 (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).hid (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).wdv := by
  unfold out0_B_18
  rw [View.read_writes_junk_eq_canon]
  dsimp only [kernelRun0_B]
  refine (View.canon_cons_unit_lit _ _ _ (by decide)).trans ?_
  rfl

set_option maxHeartbeats 4000000 in
theorem scr_B (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1024x1536 .bf16) (harg6 : arg6.IsWhole) (arg7 : Memref sig .tc .vmem S1x16x1024 .bf16) (harg7 : arg7.IsWhole) (arg8 : Memref sig .tc .vmem S1x1024x1536 .bf16) (harg8 : arg8.IsWhole) (arg9 : Memref sig .tc .vmem S1x16x1 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1024x512 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x8x1024 .f32) (harg17 : arg17.IsWhole) (arg18 : Memref sig .tc .vmem S1x1024x512 .bf16) (harg18 : arg18.IsWhole) (arg19 : Memref sig .tc .vmem S1x1024x512 .bf16) (harg19 : arg19.IsWhole) (arg20 : Memref sig .tc .vmem S1x1024x512 .bf16) (harg20 : arg20.IsWhole) (arg21 : Memref sig .tc .vmem S16x128 .f32) (harg21 : arg21.IsWhole) (hc0 : ¬cond0_0 i)
    (x0 : Vec F S1x1024x1024 .f32) (x1 : Vec F S1x1x1024 .f32) (x2 : Vec F S1x1x1x1x1024 .f32) (x3 : Vec F S1x1x1x1x1024 .f32) (x4 : Vec F S1x1024x1536 .bf16) (x5 : Vec F S1x16x1024 .bf16) (x6 : Vec F S1x1024x1536 .bf16) (x7 : Vec F S1x16x1 .f32) (x8 : Vec F S1x512 .f32) (x9 : Vec F S1x512 .f32) (x10 : Vec F S1x512 .f32) (x11 : Vec F S1x512 .f32) (xs0 : Vec F S16x128 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 = (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).carry (carried arg21 harg21 xs0) := by
  unfold sout0_B_0
  rw [View.read_writes_junk_eq_canon]
  dsimp only [kernelRun0_B]
  refine (View.canon_cons_unit_lit _ _ _ (by decide)).trans ?_
  rfl

set_option maxHeartbeats 4000000 in
theorem kb_B (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1024x1536 .bf16) (harg6 : arg6.IsWhole) (arg7 : Memref sig .tc .vmem S1x16x1024 .bf16) (harg7 : arg7.IsWhole) (arg8 : Memref sig .tc .vmem S1x1024x1536 .bf16) (harg8 : arg8.IsWhole) (arg9 : Memref sig .tc .vmem S1x16x1 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1024x512 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x8x1024 .f32) (harg17 : arg17.IsWhole) (arg18 : Memref sig .tc .vmem S1x1024x512 .bf16) (harg18 : arg18.IsWhole) (arg19 : Memref sig .tc .vmem S1x1024x512 .bf16) (harg19 : arg19.IsWhole) (arg20 : Memref sig .tc .vmem S1x1024x512 .bf16) (harg20 : arg20.IsWhole) (arg21 : Memref sig .tc .vmem S16x128 .f32) (harg21 : arg21.IsWhole) (hc0 : ¬cond0_0 i)
    (x0 : Vec F S1x1024x1024 .f32) (x1 : Vec F S1x1x1024 .f32) (x2 : Vec F S1x1x1x1x1024 .f32) (x3 : Vec F S1x1x1x1x1024 .f32) (x4 : Vec F S1x1024x1536 .bf16) (x5 : Vec F S1x16x1024 .bf16) (x6 : Vec F S1x1024x1536 .bf16) (x7 : Vec F S1x16x1 .f32) (x8 : Vec F S1x512 .f32) (x9 : Vec F S1x512 .f32) (x10 : Vec F S1x512 .f32) (x11 : Vec F S1x512 .f32) (xs0 : Vec F S16x128 .f32) (y : S1x8x1024.Idx) (v : Elt F .f32) (h : View.AllAt ((loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).sums (carried arg21 harg21 xs0)) y v) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 y = v := by
  unfold out0_B_15
  rw [View.read_writes_junk_eq_canon]
  exact View.canon_eq_of_allAt _ y _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 y) h

/-- The first tile's sums carried: the scratch as it was cleared. -/
def cleared (arg21 : Memref sig .tc .vmem S16x128 .f32) : Vec F S16x1 .f32 :=
  arg21.view.readCov [⟨Rect.unit (s := S16x128) ![0, 0] S16x128.size inb_S16x128_S16x128_0_0, k0_pay2⟩] (Rect.unit (s := S16x128) ![0, 0] S16x1.size inb_S16x128_S16x1_0_0).toLoadRect

set_option maxHeartbeats 4000000 in
theorem scr_A (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1024x1536 .bf16) (harg6 : arg6.IsWhole) (arg7 : Memref sig .tc .vmem S1x16x1024 .bf16) (harg7 : arg7.IsWhole) (arg8 : Memref sig .tc .vmem S1x1024x1536 .bf16) (harg8 : arg8.IsWhole) (arg9 : Memref sig .tc .vmem S1x16x1 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1024x512 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x8x1024 .f32) (harg17 : arg17.IsWhole) (arg18 : Memref sig .tc .vmem S1x1024x512 .bf16) (harg18 : arg18.IsWhole) (arg19 : Memref sig .tc .vmem S1x1024x512 .bf16) (harg19 : arg19.IsWhole) (arg20 : Memref sig .tc .vmem S1x1024x512 .bf16) (harg20 : arg20.IsWhole) (arg21 : Memref sig .tc .vmem S16x128 .f32) (harg21 : arg21.IsWhole) (hc0 : cond0_0 i)
    (x0 : Vec F S1x1024x1024 .f32) (x1 : Vec F S1x1x1024 .f32) (x2 : Vec F S1x1x1x1x1024 .f32) (x3 : Vec F S1x1x1x1x1024 .f32) (x4 : Vec F S1x1024x1536 .bf16) (x5 : Vec F S1x16x1024 .bf16) (x6 : Vec F S1x1024x1536 .bf16) (x7 : Vec F S1x16x1 .f32) (x8 : Vec F S1x512 .f32) (x9 : Vec F S1x512 .f32) (x10 : Vec F S1x512 .f32) (x11 : Vec F S1x512 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).carry (cleared arg21) := by
  unfold sout0_A_0
  rw [View.read_writes_junk_eq_canon]
  dsimp only [kernelRun0_A]
  exact (View.canon_cons_unit_lit _ _ _ (by decide)).trans rfl

set_option maxHeartbeats 4000000 in
theorem kb_A (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1024x1536 .bf16) (harg6 : arg6.IsWhole) (arg7 : Memref sig .tc .vmem S1x16x1024 .bf16) (harg7 : arg7.IsWhole) (arg8 : Memref sig .tc .vmem S1x1024x1536 .bf16) (harg8 : arg8.IsWhole) (arg9 : Memref sig .tc .vmem S1x16x1 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x1024x512 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x8x1024 .f32) (harg17 : arg17.IsWhole) (arg18 : Memref sig .tc .vmem S1x1024x512 .bf16) (harg18 : arg18.IsWhole) (arg19 : Memref sig .tc .vmem S1x1024x512 .bf16) (harg19 : arg19.IsWhole) (arg20 : Memref sig .tc .vmem S1x1024x512 .bf16) (harg20 : arg20.IsWhole) (arg21 : Memref sig .tc .vmem S16x128 .f32) (harg21 : arg21.IsWhole) (hc0 : cond0_0 i)
    (x0 : Vec F S1x1024x1024 .f32) (x1 : Vec F S1x1x1024 .f32) (x2 : Vec F S1x1x1x1x1024 .f32) (x3 : Vec F S1x1x1x1x1024 .f32) (x4 : Vec F S1x1024x1536 .bf16) (x5 : Vec F S1x16x1024 .bf16) (x6 : Vec F S1x1024x1536 .bf16) (x7 : Vec F S1x16x1 .f32) (x8 : Vec F S1x512 .f32) (x9 : Vec F S1x512 .f32) (x10 : Vec F S1x512 .f32) (x11 : Vec F S1x512 .f32) (y : S1x8x1024.Idx) (v : Elt F .f32) (h : View.AllAt ((loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).sums (cleared arg21)) y v) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 y = v := by
  unfold out0_A_15
  rw [View.read_writes_junk_eq_canon]
  exact View.canon_eq_of_allAt _ y _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 y) h

end Cert.Inp
-- ==== Proof.InSpec.lean ====
/- The input projection's results as functions of its arguments, and a grid point's loads as parts of the arguments. -/
module

public import proofs.«01_k».proof.Proof.InPieces

@[expose] public section

set_option maxRecDepth 16384

noncomputable section

namespace Cert.Inp

open Idealize.ShloMosaic Idealize.ShloMosaic.TcCoe Idealize.ShloMosaic.Tactic Idealize.ShloMosaic.Pointwise Idealize.SL.Sem
open Cert.Kernel3Ideal Cert.Kernel3Ideal.Gen Cert.Kernel3Ideal.Facts

/-! ## The results, from the argument arrays -/

/-- The arguments' arrays: the rows, the modulation, the norm's gain, the projection, the gates' bias, the two mixers' gains. -/
structure Args where
  x : Vec Ideal S8x2048x1024 .f32
  mod : Vec Ideal S2x8x6144 .f32
  ln : Vec Ideal S2x1024 .f32
  w : Vec Ideal S2x1024x3080 .f32
  bf : Vec Ideal S2x8 .f32
  fg : Vec Ideal S2x2x64 .f32
  dg : Vec Ideal S2x2x64 .f32

namespace Args

variable (A : Args) (b : Fin 8) (R : Fin 2048)

/-- One of the six pieces of the modulation. -/
def chunk (s : Fin 6) (j : Fin 1024) : EReal := A.mod (ix3 0 b ⟨s.val * 1024 + j.val, by omega⟩)
/-- A row's modulated norm. -/
def h : Fin 1024 → EReal := Mlp.hidRow (fun j => A.x (ix3 b R j)) (fun j => A.ln (ix2 0 j)) (A.chunk b 1) (A.chunk b 0)
/-- A column of the projection. -/
def u (n : Fin 3080) : EReal := ∑ k : Fin 1024, A.h b R k * A.w (ix3 0 k n)
/-- The 512 columns from `o` on. -/
def cols (o : ℕ) (ho : o + 512 ≤ 3080) (j : Fin 512) : EReal := A.u b R ⟨o + j.val, by omega⟩
/-- A gain repeated over the heads. -/
def gain (g : Vec Ideal S2x2x64 .f32) (s : Fin 2) (j : Fin 512) : EReal := g (ix3 0 s ⟨j.val % 64, Nat.mod_lt _ (by norm_num)⟩)
def fq (j : Fin 512) : EReal := normed (A.cols b R 0 (by norm_num)) (fun j => gain A.fg 0 j * qks) j
def fk (j : Fin 512) : EReal := normed (A.cols b R 512 (by norm_num)) (gain A.fg 1) j
def fv (j : Fin 512) : EReal := A.cols b R 1024 (by norm_num) j
def dq (j : Fin 512) : EReal := normed (A.cols b R 1544 (by norm_num)) (fun j => gain A.dg 0 j * qks) j
def dk (j : Fin 512) : EReal := normed (A.cols b R 2056 (by norm_num)) (gain A.dg 1) j
def dv (j : Fin 512) : EReal := A.cols b R 2568 (by norm_num) j
/-- A head's gates, row after row. -/
def gates (e : Fin 8) (n : ℕ) : EReal := if hn : n < 2048 then lsig (A.u b ⟨n, hn⟩ ⟨1536 + e.val, by omega⟩ + A.bf (ix2 0 e)) else 0
/-- The gates' running sums. -/
def kb (e : Fin 8) : EReal := nl * pre (A.gates b e) (R.val + 1)

end Args

/-- A row of a tile. -/
def rowOf (p : Fin 2) (R : Fin 1024) : Fin 2048 := ⟨1024 * p.val + R.val, by omega⟩

/-! ## A grid point's loads -/

/-- The loads of batch element `p`'s tile `q`. -/
structure Loads.At (L : Loads Ideal) (A : Args) (p : Fin 8) (q : Fin 2) : Prop where
  x : ∀ R j : Fin 1024, L.x (ix3 0 R j) = A.x (ix3 p (rowOf q R) j)
  ln : ∀ j : Fin 1024, L.ln (ix3 0 0 j) = A.ln (ix2 0 j)
  sh : ∀ j : Fin 1024, L.sh (ix5 0 0 0 0 j) = A.chunk p 0 j
  sc : ∀ j : Fin 1024, L.sc (ix5 0 0 0 0 j) = A.chunk p 1 j
  wfq : ∀ (k : Fin 1024) (j : Fin 512), L.wfq (ix3 0 k j) = A.w (ix3 0 k ⟨0 + j.val, by omega⟩)
  wfk : ∀ (k : Fin 1024) (j : Fin 512), L.wfk (ix3 0 k j) = A.w (ix3 0 k ⟨512 + j.val, by omega⟩)
  wfv : ∀ (k : Fin 1024) (j : Fin 512), L.wfv (ix3 0 k j) = A.w (ix3 0 k ⟨1024 + j.val, by omega⟩)
  wdq : ∀ (k : Fin 1024) (j : Fin 512), L.wdq (ix3 0 k j) = A.w (ix3 0 k ⟨1544 + j.val, by omega⟩)
  wdk : ∀ (k : Fin 1024) (j : Fin 512), L.wdk (ix3 0 k j) = A.w (ix3 0 k ⟨2056 + j.val, by omega⟩)
  wdv : ∀ (k : Fin 1024) (j : Fin 512), L.wdv (ix3 0 k j) = A.w (ix3 0 k ⟨2568 + j.val, by omega⟩)
  wg : ∀ (e : Fin 8) (k : Fin 1024), L.wg (ix3 0 ⟨e.val, by omega⟩ k) = A.w (ix3 0 k ⟨1536 + e.val, by omega⟩)
  b : ∀ e : Fin 8, L.b (ix3 0 ⟨e.val, by omega⟩ 0) = A.bf (ix2 0 e)
  gfq : ∀ j : Fin 512, L.gfq (ix2 0 j) = Args.gain A.fg 0 j
  gfk : ∀ j : Fin 512, L.gfk (ix2 0 j) = Args.gain A.fg 1 j
  gdq : ∀ j : Fin 512, L.gdq (ix2 0 j) = Args.gain A.dg 0 j
  gdk : ∀ j : Fin 512, L.gdk (ix2 0 j) = Args.gain A.dg 1 j

section
variable {L : Loads Ideal} {A : Args} {p : Fin 8} {q : Fin 2} (H : L.At A p q)
include H

theorem hid_at (R k : Fin 1024) : L.hid (ix2 R k) = A.h p (rowOf q R) k := by
  unfold Loads.hid Args.h
  rw [hid_apply, funext fun j => H.x R j, funext H.ln, funext H.sh, funext H.sc]

theorem dot_at (w : Vec Ideal S1x1024x512 .bf16) (o : ℕ) (ho : o + 512 ≤ 3080)
    (hw : ∀ (k : Fin 1024) (j : Fin 512), w (ix3 0 k j) = A.w (ix3 0 k ⟨o + j.val, by omega⟩)) (R : Fin 1024) (j : Fin 512) :
    (∑ k : Fin 1024, L.hid (ix2 R k) * w (ix3 0 k j)) = A.cols p (rowOf q R) o ho j :=
  Finset.sum_congr rfl fun k _ => congrArg₂ (· * ·) (hid_at H R k) (hw k j)

theorem heads_at (w : Vec Ideal S1x1024x512 .bf16) (o : ℕ) (ho : o + 512 ≤ 3080)
    (hw : ∀ (k : Fin 1024) (j : Fin 512), w (ix3 0 k j) = A.w (ix3 0 k ⟨o + j.val, by omega⟩))
    (g : FVec Ideal S1x512 .f32) (g' : Fin 512 → EReal) (hg : ∀ j, g (ix2 0 j) = g' j) (R : Fin 1024) (j : Fin 512) :
    heads (prod L.hid w) g (ix3 0 R j) = normed (A.cols p (rowOf q R) o ho) g' j := by
  rw [heads_apply, funext hg, funext fun j => (prod_apply L.hid w R j).trans (dot_at H w o ho hw R j)]

theorem fq_at (R : Fin 1024) (j : Fin 512) : heads (prod L.hid L.wfq) (k0_pay6 L.gfq) (ix3 0 R j) = A.fq p (rowOf q R) j :=
  heads_at H _ _ _ H.wfq _ _ (fun j => (scaled_apply _ j).trans (congrArg (· * qks) (H.gfq j))) R j
theorem fk_at (R : Fin 1024) (j : Fin 512) : heads (prod L.hid L.wfk) (k0_pay17 L.gfk) (ix3 0 R j) = A.fk p (rowOf q R) j :=
  heads_at H _ _ _ H.wfk _ _ (fun j => (plain_apply _ j).trans (H.gfk j)) R j
theorem fv_at (R : Fin 1024) (j : Fin 512) : k0_pay31 L.hid L.wfv (ix3 0 R j) = A.fv p (rowOf q R) j :=
  (fv_apply _ _ _ _).trans (dot_at H _ _ _ H.wfv R j)
theorem dq_at (R : Fin 1024) (j : Fin 512) : heads (prod L.hid L.wdq) (k0_pay6 L.gdq) (ix3 0 R j) = A.dq p (rowOf q R) j :=
  heads_at H _ _ _ H.wdq _ _ (fun j => (scaled_apply _ j).trans (congrArg (· * qks) (H.gdq j))) R j
theorem dk_at (R : Fin 1024) (j : Fin 512) : heads (prod L.hid L.wdk) (k0_pay17 L.gdk) (ix3 0 R j) = A.dk p (rowOf q R) j :=
  heads_at H _ _ _ H.wdk _ _ (fun j => (plain_apply _ j).trans (H.gdk j)) R j
theorem dv_at (R : Fin 1024) (j : Fin 512) : k0_pay58 L.hid L.wdv (ix3 0 R j) = A.dv p (rowOf q R) j :=
  (v_apply _ _ _ _).trans (dot_at H _ _ _ H.wdv R j)

theorem gate_at (e : Fin 8) (n : Fin 1024) : lsig (gz L.hid L.wg L.b ⟨e.val, by omega⟩ n) = A.gates p e (1024 * q.val + n.val) := by
  have hn : 1024 * q.val + n.val < 2048 := by omega
  unfold Args.gates gz
  rw [dif_pos hn, H.b]
  refine congrArg (fun s => lsig (s + _)) (Finset.sum_congr rfl fun k _ => ?_)
  rw [mul_comm, hid_at H, H.wg]
  rfl

theorem carry_at (cry : Vec Ideal S16x1 .f32) (e : Fin 8) (hc : cry (ix2 ⟨e.val, by omega⟩ 0) = pre (A.gates p e) (1024 * q.val)) (l : Fin 128) :
    L.carry cry (ix2 ⟨e.val, by omega⟩ l) = pre (A.gates p e) (1024 * q.val + 1024) :=
  carry4 L.hid L.wg L.b cry (gate_at H e) hc l

omit H in
/-- A tile of 256 columns, at offset `o`, of a block whose value at an index is known there. -/
theorem tileAt (o : ℕ) (y : S1x8x1024.Idx) (w : Vec Ideal S1x8x256 .f32) (v : EReal)
    (h : ∀ (r : Fin 8) (d : Fin 256), (y 1) = r → (y 2).val = o + d.val → w (ix3 0 r d) = v) :
    View.TileAt (Val := Elt Ideal) (S := S1x8x1024) (e := .f32) y ![0, 0, o] S1x8x256.size w v := by
  intro x hx
  have e0 : x = ix3 (x 0) (x 1) (x 2) := by funext a; fin_cases a <;> rfl
  have z : (x 0 : Fin 1) = (0 : Fin 1) := Subsingleton.elim (α := Fin 1) _ _
  rw [e0, z]
  refine h (x 1) (x 2) (Fin.ext ?_) (hx 2)
  simpa using hx 1

theorem sums_at (cry : Vec Ideal S16x1 .f32) (y : S1x8x1024.Idx)
    (hc : cry (ix2 ⟨(y 1).val, (y 1).isLt.trans (by norm_num)⟩ 0) = pre (A.gates p (y 1)) (1024 * q.val)) :
    View.AllAt (L.sums cry) y (A.kb p (rowOf q (y 2)) (y 1)) := by
  have key (n : ℕ) (d : Fin 256) (hd : (y 2).val = n + d.val) (v : EReal)
      (hv : v = nl * pre (A.gates p (y 1)) (1024 * q.val + (n + d.val) + 1)) : v = A.kb p (rowOf q (y 2)) (y 1) := by
    rw [hv, ← hd]; rfl
  refine View.allAt_cons_unit _ _ _ _ _ (tileAt 768 y _ _ fun r d h1 h2 => key 768 d h2 _ ?_) ?_
  · subst h1; exact sums3 L.hid L.wg L.b cry (gate_at H _) hc d
  refine View.allAt_cons_unit _ _ _ _ _ (tileAt 512 y _ _ fun r d h1 h2 => key 512 d h2 _ ?_) ?_
  · subst h1; exact sums2 L.hid L.wg L.b cry (gate_at H _) hc d
  refine View.allAt_cons_unit _ _ _ _ _ (tileAt 256 y _ _ fun r d h1 h2 => key 256 d h2 _ ?_) ?_
  · subst h1; exact sums1 L.hid L.wg L.b cry (gate_at H _) hc d
  refine View.allAt_cons_unit _ _ _ _ _ (tileAt 0 y _ _ fun r d h1 h2 => key 0 d h2 _ ?_) ?_
  · subst h1; exact sums0 L.hid L.wg L.b cry (gate_at H _) hc d
  exact View.allAt_nil _ _

end

/-- The first tile starts from zero. -/
theorem cleared_apply (arg21 : Memref sig .tc .vmem S16x128 .f32) (r : Fin 16) : cleared (F := Ideal) arg21 (ix2 r 0) = 0 := by
  unfold cleared
  rw [View.readCov_eq_canon']
  rw [View.canon_cons_unit_lit _ _ _ (by decide)]
  have k2 : ∀ i, k0_pay2 (F := Ideal) i = 0 := by
    intro i
    idx_vars i
    exact k2_apply _ _
  exact k2 _

end Cert.Inp
-- ==== Proof.InBlocks.lean ====
/- The input projection's kernel: the blocks that a grid point reads. -/
module

public import proofs.«01_k».proof.Proof.InSpec
public import Idealize.ShloMosaic.Lib.StableHlo.ReadAt
public import Idealize.ShloMosaic.Lib.Routing.OpsSet

@[expose] public section

set_option maxRecDepth 16384

noncomputable section

namespace Cert.Inp

open Idealize.ShloMosaic Idealize.ShloMosaic.TcCoe Idealize.ShloMosaic.Tactic Idealize.ShloMosaic.Pointwise Idealize.SL.Sem
open Cert.Kernel3Ideal Cert.Kernel3Ideal.Gen Cert.Kernel3Ideal.Facts

/-! ## The scatters -/

theorem start_zero {s si u : Shape} {w : Nat} (d : ScatterDims s si u) (k : u.Idx) (idx : IVec si w) (h : ∀ i, idx i = 0#w) (a : Fin s.rank) :
    d.start k idx a = 0 := by
  unfold ScatterDims.start
  split
  · rw [h]; exact BitVec.toInt_zero
  · rfl

theorem wg_scatter (x0 : S2x16x1024.Idx → EReal) (idx : IVec S1 32) (upd : S2x8x1024.Idx → EReal) (h : ∀ i, idx i = 0#32) (l : Fin 2) (e : Fin 8) (k : Fin 1024) :
    Host.scatter scatter_S2x16x1024_S1_S2x8x1024_012_n_1_0 (fun _ b => b) x0 idx upd (ix3 l ⟨e.val, by omega⟩ k) = upd (ix3 l e k) := by
  have win (j : S2x8x1024.Idx) : scatter_S2x16x1024_S1_S2x8x1024_012_n_1_0.resultIdx? j idx = some (ix3 l ⟨e.val, by omega⟩ k)
      ↔ ((j 0).val : Int) = l.val ∧ ((j 1).val : Int) = e.val ∧ ((j 2).val : Int) = k.val := by
    rw [Routing.resultIdx?_eq_some]
    constructor
    · intro H
      have h0 := H 0
      have h1 := H 1
      have h2 := H 2
      rw [start_zero _ _ _ h, zero_add] at h0 h1 h2
      exact ⟨h0, h1, h2⟩
    · rintro ⟨h0, h1, h2⟩ a
      rw [start_zero _ _ _ h, zero_add]
      match a with
      | ⟨0, _⟩ => exact h0
      | ⟨1, _⟩ => exact h1
      | ⟨2, _⟩ => exact h2
  refine Routing.scatter_set_hit _ _ _ _ _ _ (fun j hj => congrArg upd ?_) (ix3 l e k) ((win _).2 ⟨rfl, rfl, rfl⟩)
  obtain ⟨h0, h1, h2⟩ := (win j).1 hj
  funext a
  match a with
  | ⟨0, _⟩ => exact Fin.ext (Int.ofNat.inj h0)
  | ⟨1, _⟩ => exact Fin.ext (Int.ofNat.inj h1)
  | ⟨2, _⟩ => exact Fin.ext (Int.ofNat.inj h2)

theorem bf_scatter (x0 : S2x16x1.Idx → EReal) (idx : IVec S2 32) (upd : S2x8.Idx → EReal) (h : ∀ i, idx i = 0#32) (l : Fin 2) (e : Fin 8) :
    Host.scatter scatter_S2x16x1_S2_S2x8_01_2_12_0 (fun _ b => b) x0 idx upd (ix3 l ⟨e.val, by omega⟩ 0) = upd (ix2 l e) := by
  have win (j : S2x8.Idx) : scatter_S2x16x1_S2_S2x8_01_2_12_0.resultIdx? j idx = some (ix3 l ⟨e.val, by omega⟩ 0)
      ↔ ((j 0).val : Int) = l.val ∧ ((j 1).val : Int) = e.val := by
    rw [Routing.resultIdx?_eq_some]
    constructor
    · intro H
      have h0 := H 0
      have h1 := H 1
      rw [start_zero _ _ _ h, zero_add] at h0 h1
      exact ⟨h0, h1⟩
    · rintro ⟨h0, h1⟩ a
      rw [start_zero _ _ _ h, zero_add]
      match a with
      | ⟨0, _⟩ => exact h0
      | ⟨1, _⟩ => exact h1
      | ⟨2, _⟩ => rfl
  refine Routing.scatter_set_hit _ _ _ _ _ _ (fun j hj => congrArg upd ?_) (ix2 l e) ((win _).2 ⟨rfl, rfl⟩)
  obtain ⟨h0, h1⟩ := (win j).1 hj
  funext a
  match a with
  | ⟨0, _⟩ => exact Fin.ext (Int.ofNat.inj h0)
  | ⟨1, _⟩ => exact Fin.ext (Int.ofNat.inj h1)

/-! ## The operands -/

variable (m : (ℓ : Loc nD τ sig) → Buf (Elt Ideal) ℓ) (c : Dev nD)

/-- The launch's argument arrays. -/
def kArgs : Args where
  x := m ((c : Thread nD τ).loc main_arg0)
  mod := m ((c : Thread nD τ).loc main_arg1)
  ln := m ((c : Thread nD τ).loc main_arg2)
  w := m ((c : Thread nD τ).loc main_arg3)
  bf := m ((c : Thread nD τ).loc main_arg4)
  fg := m ((c : Thread nD τ).loc main_arg5)
  dg := m ((c : Thread nD τ).loc main_arg6)

theorem V1 (k : Fin 1024) (j : Fin 1536) : (V m c main_v1 : Vec Ideal S2x1024x1536 .bf16) (ix3 0 k j) = (kArgs m c).w (ix3 0 k ⟨0 + j.val, by omega⟩) := by
  unfold V
  after_reads_at
  rfl
theorem V3 (k : Fin 1024) (j : Fin 1536) : (V m c main_v3 : Vec Ideal S2x1024x1536 .bf16) (ix3 0 k j) = (kArgs m c).w (ix3 0 k ⟨1544 + j.val, by omega⟩) := by
  unfold V
  after_reads_at
  rfl
theorem V9 (e : Fin 8) (k : Fin 1024) : (V m c main_v9 : Vec Ideal S2x16x1024 .bf16) (ix3 0 ⟨e.val, by omega⟩ k) = (kArgs m c).w (ix3 0 k ⟨1536 + e.val, by omega⟩) := by
  unfold V
  after_reads_at
  refine (wg_scatter _ _ _ (fun i => rfl) 0 e k).trans ?_
  pointwise [kArgs]
theorem V14 (e : Fin 8) : (V m c main_v14 : Vec Ideal S2x16x1 .f32) (ix3 0 ⟨e.val, by omega⟩ 0) = (kArgs m c).bf (ix2 0 e) := by
  unfold V
  after_reads_at
  refine (bf_scatter _ _ _ (fun i => ?_) 0 e).trans ?_
  · idx_vars i
    pointwise
    after_reads_at
    split <;> rfl
  · rfl
theorem V15 (j : Fin 1024) : (V m c main_v15 : Vec Ideal S2x1x1024 .f32) (ix3 0 0 j) = (kArgs m c).ln (ix2 0 j) := by
  unfold V
  after_reads_at
  rfl
theorem V16 (b : Fin 8) (s : Fin 6) (j : Fin 1024) : (V m c main_v16 : Vec Ideal S2x8x6x1x1024 .f32) (ix5 0 b s 0 j) = (kArgs m c).chunk b s j := by
  unfold V
  after_reads_at
  rfl
theorem V22 (j : Fin 512) : (V m c main_v22 : Vec Ideal S1x512 .f32) (ix2 0 j) = Args.gain (kArgs m c).fg 0 j := by
  unfold V
  after_reads_at
  rfl
theorem V28 (j : Fin 512) : (V m c main_v28 : Vec Ideal S1x512 .f32) (ix2 0 j) = Args.gain (kArgs m c).fg 1 j := by
  unfold V
  after_reads_at
  rfl
theorem V34 (j : Fin 512) : (V m c main_v34 : Vec Ideal S1x512 .f32) (ix2 0 j) = Args.gain (kArgs m c).dg 0 j := by
  unfold V
  after_reads_at
  rfl
theorem V40 (j : Fin 512) : (V m c main_v40 : Vec Ideal S1x512 .f32) (ix2 0 j) = Args.gain (kArgs m c).dg 1 j := by
  unfold V
  after_reads_at
  rfl

/-! ## The blocks -/

/-- The batch element and the tile of rows of a grid point. -/
abbrev pb (t : Fin cfg0.N) : Fin 8 := grid0.coords t 0
abbrev pr (t : Fin cfg0.N) : Fin 2 := grid0.coords t 1

theorem idx0 : ∀ t : Fin cfg0.N, win0_0.index t = ![(pb t).val, (pr t).val, 0] := by decide +kernel
theorem idx1 : ∀ t : Fin cfg0.N, win0_1.index t = ![0, 0, 0] := by decide +kernel
theorem idx2 : ∀ t : Fin cfg0.N, win0_2.index t = ![0, (pb t).val, 0, 0, 0] := by decide +kernel
theorem idx3 : ∀ t : Fin cfg0.N, win0_3.index t = ![0, (pb t).val, 1, 0, 0] := by decide +kernel
theorem idx4 : ∀ t : Fin cfg0.N, win0_4.index t = ![0, 0, 0] := by decide +kernel
theorem idx5 : ∀ t : Fin cfg0.N, win0_5.index t = ![0, 0, 0] := by decide +kernel
theorem idx6 : ∀ t : Fin cfg0.N, win0_6.index t = ![0, 0, 0] := by decide +kernel
theorem idx7 : ∀ t : Fin cfg0.N, win0_7.index t = ![0, 0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem blk0 (t : Fin cfg0.N) (R j : Fin 1024) : (iblk m c 0 t : Vec Ideal S1x1024x1024 .f32) (ix3 0 R j) = (kArgs m c).x (ix3 (pb t) (rowOf (pr t) R) j) := by
  refine Eq.trans ?_ (congrFun (V_main_arg0 m c) (ix3 (pb t) (rowOf (pr t) R) j))
  blk_ext [iblk, rowOf, idx0 t]
theorem blk1 (t : Fin cfg0.N) (j : Fin 1024) : (iblk m c 1 t : Vec Ideal S1x1x1024 .f32) (ix3 0 0 j) = (kArgs m c).ln (ix2 0 j) := by
  refine Eq.trans ?_ (V15 m c j)
  blk_ext [iblk, idx1 t]
theorem blk2 (t : Fin cfg0.N) (j : Fin 1024) : (iblk m c 2 t : Vec Ideal S1x1x1x1x1024 .f32) (ix5 0 0 0 0 j) = (kArgs m c).chunk (pb t) 0 j := by
  refine Eq.trans ?_ (V16 m c (pb t) 0 j)
  blk_ext [iblk, idx2 t]
theorem blk3 (t : Fin cfg0.N) (j : Fin 1024) : (iblk m c 3 t : Vec Ideal S1x1x1x1x1024 .f32) (ix5 0 0 0 0 j) = (kArgs m c).chunk (pb t) 1 j := by
  refine Eq.trans ?_ (V16 m c (pb t) 1 j)
  blk_ext [iblk, idx3 t]
theorem blk4 (t : Fin cfg0.N) (k : Fin 1024) (j : Fin 1536) : (iblk m c 4 t : Vec Ideal S1x1024x1536 .bf16) (ix3 0 k j) = (kArgs m c).w (ix3 0 k ⟨0 + j.val, by omega⟩) := by
  refine Eq.trans ?_ (V1 m c k j)
  blk_ext [iblk, idx4 t]
theorem blk6 (t : Fin cfg0.N) (k : Fin 1024) (j : Fin 1536) : (iblk m c 6 t : Vec Ideal S1x1024x1536 .bf16) (ix3 0 k j) = (kArgs m c).w (ix3 0 k ⟨1544 + j.val, by omega⟩) := by
  refine Eq.trans ?_ (V3 m c k j)
  blk_ext [iblk, idx6 t]
theorem blk5' (t : Fin cfg0.N) (r : Fin 16) (k : Fin 1024) : (iblk m c 5 t : Vec Ideal S1x16x1024 .bf16) (ix3 0 r k) = (V m c main_v9 : Vec Ideal S2x16x1024 .bf16) (ix3 0 r k) := by
  have e : ((cfg0.win 5).blk t).view.emb (ix3 0 r k) = (ix3 0 r k : S2x16x1024.Idx) := by
    blk_ext [idx5 t]
  unfold iblk
  exact congrArg (V m c main_v9 : Vec Ideal S2x16x1024 .bf16) e
theorem blk5 (t : Fin cfg0.N) (e : Fin 8) (k : Fin 1024) : (iblk m c 5 t : Vec Ideal S1x16x1024 .bf16) (ix3 0 ⟨e.val, by omega⟩ k) = (kArgs m c).w (ix3 0 k ⟨1536 + e.val, by omega⟩) :=
  (blk5' m c t _ k).trans (V9 m c e k)
theorem blk7 (t : Fin cfg0.N) (e : Fin 8) : (iblk m c 7 t : Vec Ideal S1x16x1 .f32) (ix3 0 ⟨e.val, by omega⟩ 0) = (kArgs m c).bf (ix2 0 e) := by
  refine Eq.trans ?_ (V14 m c e)
  blk_ext [iblk, idx7 t]
theorem blk8 (t : Fin cfg0.N) (j : Fin 512) : (iblk m c 8 t : Vec Ideal S1x512 .f32) (ix2 0 j) = Args.gain (kArgs m c).fg 0 j := by
  refine Eq.trans ?_ (V22 m c j)
  blk_ext [iblk, idx8 t]
theorem blk9 (t : Fin cfg0.N) (j : Fin 512) : (iblk m c 9 t : Vec Ideal S1x512 .f32) (ix2 0 j) = Args.gain (kArgs m c).fg 1 j := by
  refine Eq.trans ?_ (V28 m c j)
  blk_ext [iblk, idx9 t]
theorem blk10 (t : Fin cfg0.N) (j : Fin 512) : (iblk m c 10 t : Vec Ideal S1x512 .f32) (ix2 0 j) = Args.gain (kArgs m c).dg 0 j := by
  refine Eq.trans ?_ (V34 m c j)
  blk_ext [iblk, idx10 t]
theorem blk11 (t : Fin cfg0.N) (j : Fin 512) : (iblk m c 11 t : Vec Ideal S1x512 .f32) (ix2 0 j) = Args.gain (kArgs m c).dg 1 j := by
  refine Eq.trans ?_ (V40 m c j)
  blk_ext [iblk, idx11 t]

/-! ## The loads -/

theorem ld2 {n m n' m' : ℕ} {e : EltTy} (a : Memref sig .tc .vmem ⟨2, ![n, m]⟩ e) (h : a.IsWhole) (x : Vec Ideal ⟨2, ![n, m]⟩ e)
    (inb : ∀ d, (![0, 0] : Fin 2 → ℕ) d + (⟨2, ![n', m']⟩ : Shape).size d ≤ (⟨2, ![n, m]⟩ : Shape).size d)
    (r : Fin n') (l : Fin m') (r' : Fin n) (l' : Fin m) (hr : r'.val = r.val) (hl : l'.val = l.val) :
    View.readAt (Elt Ideal) a.view (Rect.unit (s := ⟨2, ![n, m]⟩) ![0, 0] (⟨2, ![n', m']⟩ : Shape).size inb).toLoadRect (h.unread x) (ix2 r l)
      = x (ix2 r' l') := by
  rw [View.readAt_eq_ld, Memref.IsWhole.read_unread]
  refine View.ld_unit_apply_of _ _ _ _ _ _ fun d => ?_
  fin_cases d <;> simp [ix2, hr, hl]

theorem ld3 {n m n' m' : ℕ} {e : EltTy} (a : Memref sig .tc .vmem ⟨3, ![1, n, m]⟩ e) (h : a.IsWhole) (x : Vec Ideal ⟨3, ![1, n, m]⟩ e) (p : ℕ)
    (inb : ∀ d, (![0, 0, p] : Fin 3 → ℕ) d + (⟨3, ![1, n', m']⟩ : Shape).size d ≤ (⟨3, ![1, n, m]⟩ : Shape).size d)
    (r : Fin n') (l : Fin m') (r' : Fin n) (l' : Fin m) (hr : r'.val = r.val) (hl : l'.val = p + l.val) :
    View.readAt (Elt Ideal) a.view (Rect.unit (s := ⟨3, ![1, n, m]⟩) ![0, 0, p] (⟨3, ![1, n', m']⟩ : Shape).size inb).toLoadRect (h.unread x) (ix3 0 r l)
      = x (ix3 0 r' l') := by
  rw [View.readAt_eq_ld, Memref.IsWhole.read_unread]
  refine View.ld_unit_apply_of _ _ _ _ _ _ fun d => ?_
  fin_cases d <;> simp [ix3, hr, hl]

theorem ld5 (a : Memref sig .tc .vmem S1x1x1x1x1024 .f32) (h : a.IsWhole) (x : Vec Ideal S1x1x1x1x1024 .f32) (inb) (j : Fin 1024) :
    View.readAt (Elt Ideal) a.view (Rect.unit (s := S1x1x1x1x1024) ![0, 0, 0, 0, 0] S1x1x1x1x1024.size inb).toLoadRect (h.unread x) (ix5 0 0 0 0 j)
      = x (ix5 0 0 0 0 j) := by
  rw [View.readAt_eq_ld, Memref.IsWhole.read_unread]
  refine View.ld_unit_apply_of _ _ _ _ _ _ fun d => ?_
  fin_cases d <;> simp [ix5]

set_option maxHeartbeats 4000000 in
theorem loads_at (arg2 : Memref sig .tc .vmem S1x1024x1024 .f32) (harg2 : arg2.IsWhole) (arg3 : Memref sig .tc .vmem S1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1024x1536 .bf16) (harg6 : arg6.IsWhole) (arg7 : Memref sig .tc .vmem S1x16x1024 .bf16) (harg7 : arg7.IsWhole) (arg8 : Memref sig .tc .vmem S1x1024x1536 .bf16) (harg8 : arg8.IsWhole) (arg9 : Memref sig .tc .vmem S1x16x1 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole)
    (x0 : Vec Ideal S1x1024x1024 .f32) (x1 : Vec Ideal S1x1x1024 .f32) (x2 : Vec Ideal S1x1x1x1x1024 .f32) (x3 : Vec Ideal S1x1x1x1x1024 .f32) (x4 : Vec Ideal S1x1024x1536 .bf16) (x5 : Vec Ideal S1x16x1024 .bf16) (x6 : Vec Ideal S1x1024x1536 .bf16) (x7 : Vec Ideal S1x16x1 .f32) (x8 : Vec Ideal S1x512 .f32) (x9 : Vec Ideal S1x512 .f32) (x10 : Vec Ideal S1x512 .f32) (x11 : Vec Ideal S1x512 .f32)
    {A : Args} {p : Fin 8} {q : Fin 2}
    (h0 : ∀ R j : Fin 1024, x0 (ix3 0 R j) = A.x (ix3 p (rowOf q R) j)) (h1 : ∀ j : Fin 1024, x1 (ix3 0 0 j) = A.ln (ix2 0 j))
    (h2 : ∀ j : Fin 1024, x2 (ix5 0 0 0 0 j) = A.chunk p 0 j) (h3 : ∀ j : Fin 1024, x3 (ix5 0 0 0 0 j) = A.chunk p 1 j)
    (h4 : ∀ (k : Fin 1024) (j : Fin 1536), x4 (ix3 0 k j) = A.w (ix3 0 k ⟨0 + j.val, by omega⟩))
    (h5 : ∀ (e : Fin 8) (k : Fin 1024), x5 (ix3 0 ⟨e.val, by omega⟩ k) = A.w (ix3 0 k ⟨1536 + e.val, by omega⟩))
    (h6 : ∀ (k : Fin 1024) (j : Fin 1536), x6 (ix3 0 k j) = A.w (ix3 0 k ⟨1544 + j.val, by omega⟩))
    (h7 : ∀ e : Fin 8, x7 (ix3 0 ⟨e.val, by omega⟩ 0) = A.bf (ix2 0 e))
    (h8 : ∀ j : Fin 512, x8 (ix2 0 j) = Args.gain A.fg 0 j) (h9 : ∀ j : Fin 512, x9 (ix2 0 j) = Args.gain A.fg 1 j)
    (h10 : ∀ j : Fin 512, x10 (ix2 0 j) = Args.gain A.dg 0 j) (h11 : ∀ j : Fin 512, x11 (ix2 0 j) = Args.gain A.dg 1 j) :
    (loads arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).At A p q where
  x R j := (ld3 arg2 harg2 x0 0 _ R j R j rfl (by omega)).trans (h0 R j)
  ln j := (ld3 arg3 harg3 x1 0 _ 0 j 0 j rfl (by omega)).trans (h1 j)
  sh j := (ld5 arg4 harg4 x2 _ j).trans (h2 j)
  sc j := (ld5 arg5 harg5 x3 _ j).trans (h3 j)
  wfq k j := (ld3 arg6 harg6 x4 0 _ k j k ⟨0 + j.val, by omega⟩ rfl rfl).trans ((h4 k _).trans
    (congrArg (fun n => A.w (ix3 0 k n)) (Fin.ext (show 0 + (0 + j.val) = 0 + j.val by omega))))
  wfk k j := (ld3 arg6 harg6 x4 512 _ k j k ⟨512 + j.val, by omega⟩ rfl rfl).trans ((h4 k _).trans
    (congrArg (fun n => A.w (ix3 0 k n)) (Fin.ext (show 0 + (512 + j.val) = 512 + j.val by omega))))
  wfv k j := (ld3 arg6 harg6 x4 1024 _ k j k ⟨1024 + j.val, by omega⟩ rfl rfl).trans ((h4 k _).trans
    (congrArg (fun n => A.w (ix3 0 k n)) (Fin.ext (show 0 + (1024 + j.val) = 1024 + j.val by omega))))
  wdq k j := (ld3 arg8 harg8 x6 0 _ k j k ⟨0 + j.val, by omega⟩ rfl rfl).trans ((h6 k _).trans
    (congrArg (fun n => A.w (ix3 0 k n)) (Fin.ext (show 1544 + (0 + j.val) = 1544 + j.val by omega))))
  wdk k j := (ld3 arg8 harg8 x6 512 _ k j k ⟨512 + j.val, by omega⟩ rfl rfl).trans ((h6 k _).trans
    (congrArg (fun n => A.w (ix3 0 k n)) (Fin.ext (show 1544 + (512 + j.val) = 2056 + j.val by omega))))
  wdv k j := (ld3 arg8 harg8 x6 1024 _ k j k ⟨1024 + j.val, by omega⟩ rfl rfl).trans ((h6 k _).trans
    (congrArg (fun n => A.w (ix3 0 k n)) (Fin.ext (show 1544 + (1024 + j.val) = 2568 + j.val by omega))))
  wg e k := (ld3 arg7 harg7 x5 0 _ ⟨e.val, by omega⟩ k ⟨e.val, by omega⟩ k rfl (by omega)).trans (h5 e k)
  b e := (ld3 arg9 harg9 x7 0 _ ⟨e.val, by omega⟩ 0 ⟨e.val, by omega⟩ 0 rfl rfl).trans (h7 e)
  gfq j := (ld2 arg10 harg10 x8 _ 0 j 0 j rfl rfl).trans (h8 j)
  gfk j := (ld2 arg11 harg11 x9 _ 0 j 0 j rfl rfl).trans (h9 j)
  gdq j := (ld2 arg12 harg12 x10 _ 0 j 0 j rfl rfl).trans (h10 j)
  gdk j := (ld2 arg13 harg13 x11 _ 0 j 0 j rfl rfl).trans (h11 j)

/-- A grid point's loads. -/
def lds (t : Fin cfg0.N) : Loads Ideal :=
  loads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

theorem lds_at (t : Fin cfg0.N) : (lds m c t).At (kArgs m c) (pb t) (pr t) :=
  loads_at (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (blk0 m c t) (blk1 m c t) (blk2 m c t) (blk3 m c t) (blk4 m c t) (blk5 m c t) (blk6 m c t) (blk7 m c t) (blk8 m c t) (blk9 m c t) (blk10 m c t) (blk11 m c t)

end Cert.Inp
-- ==== Proof.InKernel.lean ====
/- The input projection's kernel: its result arrays after the run. -/
module

public import proofs.«01_k».proof.Proof.InBlocks

@[expose] public section

set_option maxRecDepth 16384

noncomputable section

namespace Cert.Inp

open Idealize.ShloMosaic Idealize.ShloMosaic.TcCoe Idealize.ShloMosaic.Tactic Idealize.ShloMosaic.Pointwise Idealize.SL.Sem
open Cert.Kernel3Ideal Cert.Kernel3Ideal.Gen Cert.Kernel3Ideal.Facts

variable (m : (ℓ : Loc nD τ sig) → Buf (Elt Ideal) ℓ) (c : Dev nD)

/-! ## The blocks of heads -/

theorem at12 (t : Fin cfg0.N) (R : Fin 1024) (j : Fin 512) :
    ((outsAt0 m c t.val t.isLt).1 : Vec Ideal S1x1024x512 .bf16) (ix3 0 R j) = (kArgs m c).fq (pb t) (rowOf (pr t) R) j := by
  by_cases h0 : t.val % 2 = 0
  · rw [outsAt0_A m c t h0]
    have e := fq_at (lds_at m c t) R j
    unfold lds at e
    dsimp only
    rw [outA_12]
    exact e
  · rw [outsAt0_B m c t h0]
    have e := fq_at (lds_at m c t) R j
    unfold lds at e
    dsimp only
    rw [outB_12]
    exact e

theorem at13 (t : Fin cfg0.N) (R : Fin 1024) (j : Fin 512) :
    ((outsAt0 m c t.val t.isLt).2.1 : Vec Ideal S1x1024x512 .bf16) (ix3 0 R j) = (kArgs m c).fk (pb t) (rowOf (pr t) R) j := by
  by_cases h0 : t.val % 2 = 0
  · rw [outsAt0_A m c t h0]
    have e := fk_at (lds_at m c t) R j
    unfold lds at e
    dsimp only
    rw [outA_13]
    exact e
  · rw [outsAt0_B m c t h0]
    have e := fk_at (lds_at m c t) R j
    unfold lds at e
    dsimp only
    rw [outB_13]
    exact e

theorem at14 (t : Fin cfg0.N) (R : Fin 1024) (j : Fin 512) :
    ((outsAt0 m c t.val t.isLt).2.2.1 : Vec Ideal S1x1024x512 .bf16) (ix3 0 R j) = (kArgs m c).fv (pb t) (rowOf (pr t) R) j := by
  by_cases h0 : t.val % 2 = 0
  · rw [outsAt0_A m c t h0]
    have e := fv_at (lds_at m c t) R j
    unfold lds at e
    dsimp only
    rw [outA_14]
    exact e
  · rw [outsAt0_B m c t h0]
    have e := fv_at (lds_at m c t) R j
    unfold lds at e
    dsimp only
    rw [outB_14]
    exact e

theorem at16 (t : Fin cfg0.N) (R : Fin 1024) (j : Fin 512) :
    ((outsAt0 m c t.val t.isLt).2.2.2.2.1 : Vec Ideal S1x1024x512 .bf16) (ix3 0 R j) = (kArgs m c).dq (pb t) (rowOf (pr t) R) j := by
  by_cases h0 : t.val % 2 = 0
  · rw [outsAt0_A m c t h0]
    have e := dq_at (lds_at m c t) R j
    unfold lds at e
    dsimp only
    rw [outA_16]
    exact e
  · rw [outsAt0_B m c t h0]
    have e := dq_at (lds_at m c t) R j
    unfold lds at e
    dsimp only
    rw [outB_16]
    exact e

theorem at17 (t : Fin cfg0.N) (R : Fin 1024) (j : Fin 512) :
    ((outsAt0 m c t.val t.isLt).2.2.2.2.2.1 : Vec Ideal S1x1024x512 .bf16) (ix3 0 R j) = (kArgs m c).dk (pb t) (rowOf (pr t) R) j := by
  by_cases h0 : t.val % 2 = 0
  · rw [outsAt0_A m c t h0]
    have e := dk_at (lds_at m c t) R j
    unfold lds at e
    dsimp only
    rw [outA_17]
    exact e
  · rw [outsAt0_B m c t h0]
    have e := dk_at (lds_at m c t) R j
    unfold lds at e
    dsimp only
    rw [outB_17]
    exact e

theorem at18 (t : Fin cfg0.N) (R : Fin 1024) (j : Fin 512) :
    ((outsAt0 m c t.val t.isLt).2.2.2.2.2.2.1 : Vec Ideal S1x1024x512 .bf16) (ix3 0 R j) = (kArgs m c).dv (pb t) (rowOf (pr t) R) j := by
  by_cases h0 : t.val % 2 = 0
  · rw [outsAt0_A m c t h0]
    have e := dv_at (lds_at m c t) R j
    unfold lds at e
    dsimp only
    rw [outA_18]
    exact e
  · rw [outsAt0_B m c t h0]
    have e := dv_at (lds_at m c t) R j
    unfold lds at e
    dsimp only
    rw [outB_18]
    exact e

/-! ## The gates' sums -/

theorem pr_even : ∀ t : Fin cfg0.N, t.val % 2 = 0 → (pr t).val = 0 := by decide +kernel
theorem pr_odd : ∀ t : Fin cfg0.N, ¬t.val % 2 = 0 → (pr t).val = 1 := by decide +kernel
theorem prev_even : ∀ t : Fin cfg0.N, ¬t.val % 2 = 0 → (t.val - 1) % 2 = 0 := by intro t h; omega
theorem prev_pb : ∀ t : Fin cfg0.N, ¬t.val % 2 = 0 → pb ⟨t.val - 1, Nat.lt_of_le_of_lt (Nat.sub_le _ _) t.isLt⟩ = pb t := by decide +kernel

/-- What a batch element's first tile leaves to the second. -/
theorem at_scr (t : Fin cfg0.N) (h0 : t.val % 2 = 0) (e : Fin 8) (l : Fin 128) :
    ((outsAt0 m c t.val t.isLt).2.2.2.2.2.2.2 : Vec Ideal S16x128 .f32) (ix2 ⟨e.val, by omega⟩ l) = pre ((kArgs m c).gates (pb t) e) 1024 := by
  rw [outsAt0_A m c t h0]
  refine (congrFun (scr_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 ⟨e.val, by omega⟩ l)).trans ?_
  refine (carry_at (lds_at m c t) (cleared scM0_0) e ?_ l).trans ?_
  · rw [pr_even t h0]
    exact cleared_apply _ _
  · rw [pr_even t h0]

theorem at15 (t : Fin cfg0.N) (e : Fin 8) (R : Fin 1024) :
    ((outsAt0 m c t.val t.isLt).2.2.2.1 : Vec Ideal S1x8x1024 .f32) (ix3 0 e R) = (kArgs m c).kb (pb t) (rowOf (pr t) R) e := by
  by_cases h0 : t.val % 2 = 0
  · rw [outsAt0_A m c t h0]
    have k := sums_at (lds_at m c t) (cleared scM0_0) (ix3 0 e R) (by rw [pr_even t h0]; exact cleared_apply _ _)
    unfold lds at k
    dsimp only
    exact kb_A _ _ _ _ _ _ _ _ _ _ _ _ _ _ _ _ _ _ _ _ _ _ _ _ _ _ _ _ _ _ _ _ _ _ _ _ _ _ _ _ _ _ _ _ _ _ _ _ _ _ _ _ _ _ _ _ _ k
  · rw [outsAt0_B m c t h0]
    have k := sums_at (lds_at m c t) (carried scM0_0 (Memref.isWhole_whole _) ((outsAt0 m c (t.val - 1) (Nat.lt_of_le_of_lt (Nat.sub_le _ _) t.isLt)).2.2.2.2.2.2.2)) (ix3 0 e R) ?_
    · unfold lds at k
      dsimp only
      exact kb_B _ _ _ _ _ _ _ _ _ _ _ _ _ _ _ _ _ _ _ _ _ _ _ _ _ _ _ _ _ _ _ _ _ _ _ _ _ _ _ _ _ _ _ _ _ _ _ _ _ _ _ _ _ _ _ _ _ _ k
    rw [pr_odd t h0]
    refine (ld2 (n' := 16) (m' := 1) scM0_0 (Memref.isWhole_whole _) ((outsAt0 m c (t.val - 1) (Nat.lt_of_le_of_lt (Nat.sub_le _ _) t.isLt)).2.2.2.2.2.2.2) _ ⟨e.val, by omega⟩ 0 ⟨e.val, by omega⟩ 0 rfl rfl).trans ?_
    refine (at_scr m c ⟨t.val - 1, Nat.lt_of_le_of_lt (Nat.sub_le _ _) t.isLt⟩ (prev_even t h0) e 0).trans ?_
    rw [prev_pb t h0]
    rfl

/-! ## The result arrays -/

def fqArr (A : Args) : Vec Ideal S8x2048x512 .bf16 := fun i => A.fq (i 0) (i 1) (i 2)
theorem idx12 : ∀ t : Fin cfg0.N, win0_12.index t = ![(pb t).val, (pr t).val, 0] := by decide +kernel
theorem emb12 (t : Fin cfg0.N) (y : ((cfg0.win 12).xblock (cfg0.grid.coords t)).Idx) :
    ((cfg0.win 12).blk t).view.emb y = (ix3 (pb t) (rowOf (pr t) (y 1)) (y 2 : Fin 512) : S8x2048x512.Idx) := by
  blk_ext [rowOf, idx12 t]
theorem fq_arr : (dats m 0 c).arrAt 12 cfg0.N = fqArr (kArgs m c) := by
  refine (dats m 0 c).arrAt_eq_of_covers 12 _ (by decide +kernel) fun t hf y => ?_
  rw [emb12]
  refine (cast_eq _ _).trans ?_
  rw [after0_12]
  have e0 : y = (ix3 0 (y 1 : Fin 1024) (y 2 : Fin 512) : S1x1024x512.Idx) := by
    funext a
    fin_cases a
    · exact Subsingleton.elim (α := Fin 1) _ _
    · rfl
    · rfl
  exact (congrArg (outsAt0 m c t.val t.isLt).1 e0).trans (at12 m c t (y 1) (y 2))

def fkArr (A : Args) : Vec Ideal S8x2048x512 .bf16 := fun i => A.fk (i 0) (i 1) (i 2)
theorem idx13 : ∀ t : Fin cfg0.N, win0_13.index t = ![(pb t).val, (pr t).val, 0] := by decide +kernel
theorem emb13 (t : Fin cfg0.N) (y : ((cfg0.win 13).xblock (cfg0.grid.coords t)).Idx) :
    ((cfg0.win 13).blk t).view.emb y = (ix3 (pb t) (rowOf (pr t) (y 1)) (y 2 : Fin 512) : S8x2048x512.Idx) := by
  blk_ext [rowOf, idx13 t]
theorem fk_arr : (dats m 0 c).arrAt 13 cfg0.N = fkArr (kArgs m c) := by
  refine (dats m 0 c).arrAt_eq_of_covers 13 _ (by decide +kernel) fun t hf y => ?_
  rw [emb13]
  refine (cast_eq _ _).trans ?_
  rw [after0_13]
  have e0 : y = (ix3 0 (y 1 : Fin 1024) (y 2 : Fin 512) : S1x1024x512.Idx) := by
    funext a
    fin_cases a
    · exact Subsingleton.elim (α := Fin 1) _ _
    · rfl
    · rfl
  exact (congrArg (outsAt0 m c t.val t.isLt).2.1 e0).trans (at13 m c t (y 1) (y 2))

def fvArr (A : Args) : Vec Ideal S8x2048x512 .bf16 := fun i => A.fv (i 0) (i 1) (i 2)
theorem idx14 : ∀ t : Fin cfg0.N, win0_14.index t = ![(pb t).val, (pr t).val, 0] := by decide +kernel
theorem emb14 (t : Fin cfg0.N) (y : ((cfg0.win 14).xblock (cfg0.grid.coords t)).Idx) :
    ((cfg0.win 14).blk t).view.emb y = (ix3 (pb t) (rowOf (pr t) (y 1)) (y 2 : Fin 512) : S8x2048x512.Idx) := by
  blk_ext [rowOf, idx14 t]
theorem fv_arr : (dats m 0 c).arrAt 14 cfg0.N = fvArr (kArgs m c) := by
  refine (dats m 0 c).arrAt_eq_of_covers 14 _ (by decide +kernel) fun t hf y => ?_
  rw [emb14]
  refine (cast_eq _ _).trans ?_
  rw [after0_14]
  have e0 : y = (ix3 0 (y 1 : Fin 1024) (y 2 : Fin 512) : S1x1024x512.Idx) := by
    funext a
    fin_cases a
    · exact Subsingleton.elim (α := Fin 1) _ _
    · rfl
    · rfl
  exact (congrArg (outsAt0 m c t.val t.isLt).2.2.1 e0).trans (at14 m c t (y 1) (y 2))

def dqArr (A : Args) : Vec Ideal S8x2048x512 .bf16 := fun i => A.dq (i 0) (i 1) (i 2)
theorem idx16 : ∀ t : Fin cfg0.N, win0_16.index t = ![(pb t).val, (pr t).val, 0] := by decide +kernel
theorem emb16 (t : Fin cfg0.N) (y : ((cfg0.win 16).xblock (cfg0.grid.coords t)).Idx) :
    ((cfg0.win 16).blk t).view.emb y = (ix3 (pb t) (rowOf (pr t) (y 1)) (y 2 : Fin 512) : S8x2048x512.Idx) := by
  blk_ext [rowOf, idx16 t]
theorem dq_arr : (dats m 0 c).arrAt 16 cfg0.N = dqArr (kArgs m c) := by
  refine (dats m 0 c).arrAt_eq_of_covers 16 _ (by decide +kernel) fun t hf y => ?_
  rw [emb16]
  refine (cast_eq _ _).trans ?_
  rw [after0_16]
  have e0 : y = (ix3 0 (y 1 : Fin 1024) (y 2 : Fin 512) : S1x1024x512.Idx) := by
    funext a
    fin_cases a
    · exact Subsingleton.elim (α := Fin 1) _ _
    · rfl
    · rfl
  exact (congrArg (outsAt0 m c t.val t.isLt).2.2.2.2.1 e0).trans (at16 m c t (y 1) (y 2))

def dkArr (A : Args) : Vec Ideal S8x2048x512 .bf16 := fun i => A.dk (i 0) (i 1) (i 2)
theorem idx17 : ∀ t : Fin cfg0.N, win0_17.index t = ![(pb t).val, (pr t).val, 0] := by decide +kernel
theorem emb17 (t : Fin cfg0.N) (y : ((cfg0.win 17).xblock (cfg0.grid.coords t)).Idx) :
    ((cfg0.win 17).blk t).view.emb y = (ix3 (pb t) (rowOf (pr t) (y 1)) (y 2 : Fin 512) : S8x2048x512.Idx) := by
  blk_ext [rowOf, idx17 t]
theorem dk_arr : (dats m 0 c).arrAt 17 cfg0.N = dkArr (kArgs m c) := by
  refine (dats m 0 c).arrAt_eq_of_covers 17 _ (by decide +kernel) fun t hf y => ?_
  rw [emb17]
  refine (cast_eq _ _).trans ?_
  rw [after0_17]
  have e0 : y = (ix3 0 (y 1 : Fin 1024) (y 2 : Fin 512) : S1x1024x512.Idx) := by
    funext a
    fin_cases a
    · exact Subsingleton.elim (α := Fin 1) _ _
    · rfl
    · rfl
  exact (congrArg (outsAt0 m c t.val t.isLt).2.2.2.2.2.1 e0).trans (at17 m c t (y 1) (y 2))

def dvArr (A : Args) : Vec Ideal S8x2048x512 .bf16 := fun i => A.dv (i 0) (i 1) (i 2)
theorem idx18 : ∀ t : Fin cfg0.N, win0_18.index t = ![(pb t).val, (pr t).val, 0] := by decide +kernel
theorem emb18 (t : Fin cfg0.N) (y : ((cfg0.win 18).xblock (cfg0.grid.coords t)).Idx) :
    ((cfg0.win 18).blk t).view.emb y = (ix3 (pb t) (rowOf (pr t) (y 1)) (y 2 : Fin 512) : S8x2048x512.Idx) := by
  blk_ext [rowOf, idx18 t]
theorem dv_arr : (dats m 0 c).arrAt 18 cfg0.N = dvArr (kArgs m c) := by
  refine (dats m 0 c).arrAt_eq_of_covers 18 _ (by decide +kernel) fun t hf y => ?_
  rw [emb18]
  refine (cast_eq _ _).trans ?_
  rw [after0_18]
  have e0 : y = (ix3 0 (y 1 : Fin 1024) (y 2 : Fin 512) : S1x1024x512.Idx) := by
    funext a
    fin_cases a
    · exact Subsingleton.elim (α := Fin 1) _ _
    · rfl
    · rfl
  exact (congrArg (outsAt0 m c t.val t.isLt).2.2.2.2.2.2.1 e0).trans (at18 m c t (y 1) (y 2))

def kbArr (A : Args) : Vec Ideal S8x8x2048 .f32 := fun i => A.kb (i 0) (i 2) (i 1)
theorem idx15 : ∀ t : Fin cfg0.N, win0_15.index t = ![(pb t).val, 0, (pr t).val] := by decide +kernel
theorem emb15 (t : Fin cfg0.N) (y : ((cfg0.win 15).xblock (cfg0.grid.coords t)).Idx) :
    ((cfg0.win 15).blk t).view.emb y = (ix3 (pb t) (y 1 : Fin 8) (rowOf (pr t) (y 2)) : S8x8x2048.Idx) := by
  blk_ext [rowOf, idx15 t]
theorem kb_arr : (dats m 0 c).arrAt 15 cfg0.N = kbArr (kArgs m c) := by
  refine (dats m 0 c).arrAt_eq_of_covers 15 _ (by decide +kernel) fun t hf y => ?_
  rw [emb15]
  refine (cast_eq _ _).trans ?_
  rw [after0_15]
  have e0 : y = (ix3 0 (y 1 : Fin 8) (y 2 : Fin 1024) : S1x8x1024.Idx) := by
    funext a
    fin_cases a
    · exact Subsingleton.elim (α := Fin 1) _ _
    · rfl
    · rfl
  exact (congrArg (outsAt0 m c t.val t.isLt).2.2.2.1 e0).trans (at15 m c t (y 1) (y 2))

end Cert.Inp
-- ==== Proof.InRef.lean ====
/- The input projection's reference: its results, read at an index. -/
module

public import proofs.«01_k».proof.Proof.InKernel
public import proofs.«01_k».proof.Proof.Cumsum
public import proofs.«01_k».proof.Proof.Kernel
public import proofs.«01_k».proof.Proof.Gen.Reference3Ideal.Run

@[expose] public section

set_option maxRecDepth 16384

noncomputable section

namespace Cert.Inp

open Idealize.ShloMosaic Idealize.ShloMosaic.TcCoe Idealize.ShloMosaic.Tactic Idealize.ShloMosaic.Pointwise Idealize.SL.Sem
open Cert.Reference3Ideal Cert.Reference3Ideal.Gen Cert.Reference3Ideal.Facts
open Cert.Mlp (len eps one hidRow)

/-! ## The reference's values, one after another -/

/-- The modulation of the layer. -/
def rMod (A1 : Vec Ideal S2x8x6144 .f32) : FVec Ideal S8x6144 .f32 := shapeCast S8x6144 (extractStridedSlice S1x8x6144 ![0, 0, 0] A1 slices_S2x8x6144_S1x8x6144_0_0_0) shapeCasts_S1x8x6144_S8x6144
/-- The rows' sums of squares. -/
def rSq (A0 : FVec Ideal S8x2048x1024 .f32) : FVec Ideal S8x2048 .f32 := Host.reduceAdd (mulf A0 A0) (constant S_ .f32 0x00000000#32) reducesTo_S8x2048x1024_S8x2048_d2 h_S_
/-- The modulated norm. -/
def rH (A0 : FVec Ideal S8x2048x1024 .f32) (Q : FVec Ideal S8x2048 .f32) (M : FVec Ideal S8x6144 .f32) (A2 : Vec Ideal S2x1024 .f32) : FVec Ideal S8x2048x1024 .f32 :=
  addf (mulf (mulf (mulf A0 (broadcastInDim S8x2048x1024 ![0, 1, 2] bcast_S8x2048x1_S8x2048x1024_0_1_2 (Host.rsqrt (addf (Host.divf (broadcastInDim S8x2048x1 ![0, 1] bcast_S8x2048_S8x2048x1_0_1 Q) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast S1024 (extractStridedSlice S1x1024 ![0, 0] A2 slices_S2x1024_S1x1024_0_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] M slices_S8x6144_S8x1024_0_1024))))) (broadcastInDim S8x2048x1024 ![0, 1, 2] bcast_S8x1x1024_S8x2048x1024_0_1_2 (broadcastInDim S8x1x1024 ![0, 2] bcast_S8x1024_S8x1x1024_0_2 (extractStridedSlice S8x1024 ![0, 0] M slices_S8x6144_S8x1024_0_0)))
/-- The projection. -/
def rD (H : FVec Ideal S8x2048x1024 .f32) (A3 : Vec Ideal S2x1024x3080 .f32) : FVec Ideal S8x2048x3080 .f32 :=
  Host.dotGeneral (φ₂ := .f32) dot_S8x2048x1024_S1024x3080_S8x2048x3080_2_0_01_1_n_n none H (shapeCast S1024x3080 (extractStridedSlice S1x1024x3080 ![0, 0, 0] A3 slices_S2x1024x3080_S1x1024x3080_0_0_0) shapeCasts_S1x1024x3080_S1024x3080)
/-- The 512 columns from 0 on. -/
def rP0 (D : FVec Ideal S8x2048x3080 .f32) : FVec Ideal S8x2048x512 .f32 :=
  extractStridedSlice S8x2048x512 ![0, 0, 0] D slices_S8x2048x3080_S8x2048x512_0_0_0
/-- The 512 columns from 512 on. -/
def rP512 (D : FVec Ideal S8x2048x3080 .f32) : FVec Ideal S8x2048x512 .f32 :=
  extractStridedSlice S8x2048x512 ![0, 0, 512] D slices_S8x2048x3080_S8x2048x512_0_0_512
/-- The 512 columns from 1024 on. -/
def rP1024 (D : FVec Ideal S8x2048x3080 .f32) : FVec Ideal S8x2048x512 .f32 :=
  extractStridedSlice S8x2048x512 ![0, 0, 1024] D slices_S8x2048x3080_S8x2048x512_0_0_1024
/-- The 512 columns from 1544 on. -/
def rP1544 (D : FVec Ideal S8x2048x3080 .f32) : FVec Ideal S8x2048x512 .f32 :=
  extractStridedSlice S8x2048x512 ![0, 0, 1544] D slices_S8x2048x3080_S8x2048x512_0_0_1544
/-- The 512 columns from 2056 on. -/
def rP2056 (D : FVec Ideal S8x2048x3080 .f32) : FVec Ideal S8x2048x512 .f32 :=
  extractStridedSlice S8x2048x512 ![0, 0, 2056] D slices_S8x2048x3080_S8x2048x512_0_0_2056
/-- The 512 columns from 2568 on. -/
def rP2568 (D : FVec Ideal S8x2048x3080 .f32) : FVec Ideal S8x2048x512 .f32 :=
  extractStridedSlice S8x2048x512 ![0, 0, 2568] D slices_S8x2048x3080_S8x2048x512_0_0_2568
/-- Columns as heads. -/
def rT (P : FVec Ideal S8x2048x512 .f32) : FVec Ideal S8x2048x8x64 .f32 := shapeCast S8x2048x8x64 P shapeCasts_S8x2048x512_S8x2048x8x64
/-- The heads' sums of squares. -/
def rS (T : FVec Ideal S8x2048x8x64 .f32) : FVec Ideal S8x2048x8 .f32 := Host.reduceAdd (mulf T T) (constant S_ .f32 0x00000000#32) reducesTo_S8x2048x8x64_S8x2048x8_d3 h_S_
/-- The queries' gain. -/
def rG0 (A5 : Vec Ideal S2x2x64 .f32) : FVec Ideal S64 .f32 := shapeCast S64 (extractStridedSlice S1x1x64 ![0, 0, 0] A5 slices_S2x2x64_S1x1x64_0_0_0) shapeCasts_S1x1x64_S64
/-- The keys' gain. -/
def rG1 (A5 : Vec Ideal S2x2x64 .f32) : FVec Ideal S64 .f32 := shapeCast S64 (extractStridedSlice S1x1x64 ![0, 1, 0] A5 slices_S2x2x64_S1x1x64_0_1_0) shapeCasts_S1x1x64_S64
/-- The normed heads. -/
def rN (T : FVec Ideal S8x2048x8x64 .f32) (S : FVec Ideal S8x2048x8 .f32) (G : FVec Ideal S64 .f32) : FVec Ideal S8x2048x512 .f32 :=
  shapeCast S8x2048x512 (mulf (mulf T (broadcastInDim S8x2048x8x64 ![0, 1, 2, 3] bcast_S8x2048x8x1_S8x2048x8x64_0_1_2_3 (Host.rsqrt (addf (Host.divf (broadcastInDim S8x2048x8x1 ![0, 1, 2] bcast_S8x2048x8_S8x2048x8x1_0_1_2 S) (broadcastInDim S8x2048x8x1 ![] bcast_S_S8x2048x8x1 (constant S_ .f32 0x42800000#32))) (broadcastInDim S8x2048x8x1 ![] bcast_S_S8x2048x8x1 (constant S_ .f32 0x358637BD#32)))))) (broadcastInDim S8x2048x8x64 ![0, 1, 2, 3] bcast_S1x1x1x64_S8x2048x8x64_0_1_2_3 (broadcastInDim S1x1x1x64 ![3] bcast_S64_S1x1x1x64_3 G))) shapeCasts_S8x2048x8x64_S8x2048x512
/-- What the queries are divided by. -/
def rQ : FVec Ideal S8x2048x512 .f32 := broadcastInDim S8x2048x512 ![] bcast_S_S8x2048x512 (id (mulf (constant S_ .f32 0x41000000#32) (Host.log (constant S_ .f32 0x40000000#32))))
/-- A block's queries. -/
def rQuery (P : FVec Ideal S8x2048x512 .f32) (A5 : Vec Ideal S2x2x64 .f32) : FVec Ideal S8x2048x512 .bf16 :=
  truncf .bf16 (Host.divf (rN (rT P) (rS (rT P)) (rG0 A5)) rQ) bitsLt_bf16_f32
/-- A block's keys. -/
def rKey (P : FVec Ideal S8x2048x512 .f32) (A5 : Vec Ideal S2x2x64 .f32) : FVec Ideal S8x2048x512 .bf16 :=
  truncf .bf16 (rN (rT P) (rS (rT P)) (rG1 A5)) bitsLt_bf16_f32
/-- A block's values. -/
def rValue (P : FVec Ideal S8x2048x512 .f32) : FVec Ideal S8x2048x512 .bf16 := truncf .bf16 P bitsLt_bf16_f32
/-- The gates' logits. -/
def rZ (D : FVec Ideal S8x2048x3080 .f32) (A4 : Vec Ideal S2x8 .f32) : FVec Ideal S8x2048x8 .f32 :=
  addf (extractStridedSlice S8x2048x8 ![0, 0, 1536] D slices_S8x2048x3080_S8x2048x8_0_0_1536) (broadcastInDim S8x2048x8 ![0, 1, 2] bcast_S1x1x8_S8x2048x8_0_1_2 (broadcastInDim S1x1x8 ![2] bcast_S8_S1x1x8_2 (shapeCast S8 (extractStridedSlice S1x8 ![0, 0] A4 slices_S2x8_S1x8_0_0) shapeCasts_S1x8_S8)))
/-- The gates' logarithms. -/
def rL (Z : FVec Ideal S8x2048x8 .f32) : FVec Ideal S8x2048x8 .f32 :=
  Host.negf (select (cmpf .une (subf (Host.negf Z) (broadcastInDim S8x2048x8 ![] bcast_S_S8x2048x8 (constant S_ .f32 0x00000000#32))) (subf (Host.negf Z) (broadcastInDim S8x2048x8 ![] bcast_S_S8x2048x8 (constant S_ .f32 0x00000000#32)))) (addf (Host.negf Z) (broadcastInDim S8x2048x8 ![] bcast_S_S8x2048x8 (constant S_ .f32 0x00000000#32))) (addf (maximumf (Host.negf Z) (broadcastInDim S8x2048x8 ![] bcast_S_S8x2048x8 (constant S_ .f32 0x00000000#32))) (Host.log1p (Host.exp (Host.negf (Host.absf (subf (Host.negf Z) (broadcastInDim S8x2048x8 ![] bcast_S_S8x2048x8 (constant S_ .f32 0x00000000#32)))))))))
/-- The gates' running sums. -/
def rKb (L : FVec Ideal S8x2048x8 .f32) : FVec Ideal S8x8x2048 .f32 :=
  Host.divf (Host.negf (Host.reduceWindowAdd ![1, 1, 2048] ![1, 1, 1] ![0, 0, 2047] ![0, 0, 0] (transpose S8x8x2048 [0, 2, 1] L transposes_S8x2048x8_S8x8x2048_0_2_1) (broadcastInDim S_ ![] bcast_S_S_ (constant S_ .f32 0x00000000#32)) reduceWindows_S8x8x2048_S8x8x2048_w1s1p0_0_w1s1p0_0_w2048s1p2047_0 h_S_)) (broadcastInDim S8x8x2048 ![] bcast_S_S8x8x2048 (id (Host.log (constant S_ .f32 0x40000000#32))))

/-- The projection, from the arguments. -/
def rAll (A : Args) : FVec Ideal S8x2048x3080 .f32 := rD (rH A.x (rSq A.x) (rMod A.mod) A.ln) A.w

variable (m : (ℓ : Loc nD τ sig) → Buf (Elt Ideal) ℓ) (c : Dev nD)

/-- The launch's argument arrays. -/
def rArgs : Args where
  x := m ((c : Thread nD τ).loc main_arg0)
  mod := m ((c : Thread nD τ).loc main_arg1)
  ln := m ((c : Thread nD τ).loc main_arg2)
  w := m ((c : Thread nD τ).loc main_arg3)
  bf := m ((c : Thread nD τ).loc main_arg4)
  fg := m ((c : Thread nD τ).loc main_arg5)
  dg := m ((c : Thread nD τ).loc main_arg6)

theorem fq_eq : Value.res_main_v70 m c = rQuery (rP0 (rAll (rArgs m c))) (rArgs m c).fg := by
  unfold Value.res_main_v70
  rfl
theorem fk_eq : Value.res_main_v88 m c = rKey (rP512 (rAll (rArgs m c))) (rArgs m c).fg := by
  unfold Value.res_main_v88
  rfl
theorem kb_eq : Value.res_main_v94 m c = rKb (rL (rZ (rAll (rArgs m c)) (rArgs m c).bf)) := by
  unfold Value.res_main_v94
  rfl
theorem dq_eq : Value.res_main_v116 m c = rQuery (rP1544 (rAll (rArgs m c))) (rArgs m c).dg := by
  unfold Value.res_main_v116
  rfl
theorem dk_eq : Value.res_main_v134 m c = rKey (rP2056 (rAll (rArgs m c))) (rArgs m c).dg := by
  unfold Value.res_main_v134
  rfl

/-! ## The projection at an index -/

theorem rMod_apply (A : Args) (b : Fin 8) (s : Fin 6) (j : Fin 1024) : rMod A.mod (ix2 b ⟨s.val * 1024 + j.val, by omega⟩) = A.chunk b s j := by
  pointwise [rMod, Args.chunk]

theorem rMod_chunk (A : Args) (b : Fin 8) (s : Fin 6) (o : ℕ) (h : ∀ j : Fin 1024, o + j.val < 6144) (ho : o = s.val * 1024) :
    (fun j : Fin 1024 => rMod A.mod (ix2 b ⟨o + j.val, h j⟩)) = A.chunk b s := by
  subst ho
  exact funext fun j => rMod_apply A b s j

theorem rSq_apply (X : FVec Ideal S8x2048x1024 .f32) (b : Fin 8) (R : Fin 2048) : rSq X (ix2 b R) = ∑ k : Fin 1024, X (ix3 b R k) * X (ix3 b R k) := by
  pointwise [rSq]

theorem rH_apply (X : FVec Ideal S8x2048x1024 .f32) (M : FVec Ideal S8x6144 .f32) (A2 : Vec Ideal S2x1024 .f32) (b : Fin 8) (R : Fin 2048) (j : Fin 1024) :
    rH X (rSq X) M A2 (ix3 b R j) = hidRow (fun j => X (ix3 b R j)) (fun j => A2 (ix2 0 j)) (fun j => M (ix2 b ⟨1024 + j.val, by omega⟩))
      (fun j => M (ix2 b ⟨0 + j.val, by omega⟩)) j := by
  unfold hidRow
  rw [← rSq_apply, ← mul_assoc]
  generalize rSq X = Q
  pointwise [rH, len, eps, one]

theorem rD_apply (H : FVec Ideal S8x2048x1024 .f32) (W : Vec Ideal S2x1024x3080 .f32) (b : Fin 8) (R : Fin 2048) (f : Fin 3080) :
    rD H W (ix3 b R f) = ∑ k : Fin 1024, H (ix3 b R k) * W (ix3 0 k f) := by
  pointwise [rD]

theorem all_apply (A : Args) (b : Fin 8) (R : Fin 2048) (n : Fin 3080) : rAll A (ix3 b R n) = A.u b R n := by
  unfold rAll Args.u Args.h
  rw [rD_apply]
  refine Finset.sum_congr rfl fun k _ => congrArg (· * _) ?_
  rw [rH_apply, rMod_chunk A b 0 0 _ rfl, rMod_chunk A b 1 1024 _ rfl]

/-! ## The heads at an index -/

theorem rT_apply (P : FVec Ideal S8x2048x512 .f32) (b : Fin 8) (R : Fin 2048) (e : Fin 8) (k : Fin 64) :
    rT P (ix4 b R e k) = P (ix3 b R ⟨64 * e.val + k.val, by omega⟩) := by
  pointwise [rT]
  exact congrArg P (congrArg (ix3 b R) (Fin.ext (by dsimp only; omega)))

theorem rS_apply (T : FVec Ideal S8x2048x8x64 .f32) (b : Fin 8) (R : Fin 2048) (e : Fin 8) :
    rS T (ix3 b R e) = ∑ k : Fin 64, T (ix4 b R e k) * T (ix4 b R e k) := by
  pointwise [rS]

theorem rG0_apply (g : Vec Ideal S2x2x64 .f32) (k : Fin 64) : rG0 g (ix1 k) = g (ix3 0 0 k) := by
  pointwise [rG0]
theorem rG1_apply (g : Vec Ideal S2x2x64 .f32) (k : Fin 64) : rG1 g (ix1 k) = g (ix3 0 1 k) := by
  pointwise [rG1]

theorem rN_apply (T : FVec Ideal S8x2048x8x64 .f32) (S : FVec Ideal S8x2048x8 .f32) (G : FVec Ideal S64 .f32) (b : Fin 8) (R : Fin 2048) (j : Fin 512) :
    rN T S G (ix3 b R j) = T (ix4 b R ⟨j.val / 64, by omega⟩ ⟨j.val % 64, Nat.mod_lt _ (by norm_num)⟩)
      * Ideal.rsqrt (Ideal.div (S (ix3 b R ⟨j.val / 64, by omega⟩)) hlen + eps) * G (ix1 ⟨j.val % 64, Nat.mod_lt _ (by norm_num)⟩) := by
  pointwise [rN, hlen, eps]

theorem heads_eq (P : FVec Ideal S8x2048x512 .f32) (G : FVec Ideal S64 .f32) (u : Fin 512 → EReal) (b : Fin 8) (R : Fin 2048) (hu : ∀ j, P (ix3 b R j) = u j) (j : Fin 512) :
    rN (rT P) (rS (rT P)) G (ix3 b R j) = normed u (fun j => G (ix1 ⟨j.val % 64, Nat.mod_lt _ (by norm_num)⟩)) j := by
  unfold normed rms
  rw [rN_apply, rS_apply]
  simp only [rT_apply, hu]
  have e : (⟨64 * (j.val / 64) + j.val % 64, by omega⟩ : Fin 512) = j := Fin.ext (Nat.div_add_mod _ _)
  rw [e]
  rfl

theorem rQ_apply (i : S8x2048x512.Idx) : rQ i = ((8 * Real.log 2 : ℝ) : EReal) := by
  have h8 : Ideal.ofBits .f32 0x41000000#32 = ((8 : ℝ) : EReal) := by
    simp [Ideal.ofBits, Ideal.ieee, ← EReal.coe_mul]; norm_num
  rw [EReal.coe_mul, ← h8, ← Attn.log_two]
  idx_vars i
  pointwise [rQ]
  rfl

theorem query_apply (P : FVec Ideal S8x2048x512 .f32) (g : Vec Ideal S2x2x64 .f32) (u : Fin 512 → EReal) (b : Fin 8) (R : Fin 2048) (hu : ∀ j, P (ix3 b R j) = u j) (j : Fin 512) :
    rQuery P g (ix3 b R j) = normed u (fun j => Args.gain g 0 j * qks) j := by
  refine (show rQuery P g (ix3 b R j) = Ideal.div (rN (rT P) (rS (rT P)) (rG0 g) (ix3 b R j)) (rQ (ix3 b R j)) from rfl).trans ?_
  rw [rQ_apply, Ideal.div_coe (mul_pos (by norm_num) Attn.log_two_pos).ne', heads_eq P _ u b R hu, one_div]
  unfold normed
  dsimp only
  rw [rG0_apply, mul_assoc]
  rfl

theorem key_apply (P : FVec Ideal S8x2048x512 .f32) (g : Vec Ideal S2x2x64 .f32) (u : Fin 512 → EReal) (b : Fin 8) (R : Fin 2048) (hu : ∀ j, P (ix3 b R j) = u j) (j : Fin 512) :
    rKey P g (ix3 b R j) = normed u (Args.gain g 1) j := by
  refine (show rKey P g (ix3 b R j) = rN (rT P) (rS (rT P)) (rG1 g) (ix3 b R j) from rfl).trans ?_
  rw [heads_eq P _ u b R hu]
  unfold normed
  dsimp only
  rw [rG1_apply]
  rfl

theorem rP0_apply (A : Args) (b : Fin 8) (R : Fin 2048) (j : Fin 512) : rP0 (rAll A) (ix3 b R j) = A.cols b R 0 (by norm_num) j := by
  unfold Args.cols
  rw [← all_apply]
  generalize rAll A = D
  pointwise [rP0]
theorem rP512_apply (A : Args) (b : Fin 8) (R : Fin 2048) (j : Fin 512) : rP512 (rAll A) (ix3 b R j) = A.cols b R 512 (by norm_num) j := by
  unfold Args.cols
  rw [← all_apply]
  generalize rAll A = D
  pointwise [rP512]
theorem rP1024_apply (A : Args) (b : Fin 8) (R : Fin 2048) (j : Fin 512) : rP1024 (rAll A) (ix3 b R j) = A.cols b R 1024 (by norm_num) j := by
  unfold Args.cols
  rw [← all_apply]
  generalize rAll A = D
  pointwise [rP1024]
theorem rP1544_apply (A : Args) (b : Fin 8) (R : Fin 2048) (j : Fin 512) : rP1544 (rAll A) (ix3 b R j) = A.cols b R 1544 (by norm_num) j := by
  unfold Args.cols
  rw [← all_apply]
  generalize rAll A = D
  pointwise [rP1544]
theorem rP2056_apply (A : Args) (b : Fin 8) (R : Fin 2048) (j : Fin 512) : rP2056 (rAll A) (ix3 b R j) = A.cols b R 2056 (by norm_num) j := by
  unfold Args.cols
  rw [← all_apply]
  generalize rAll A = D
  pointwise [rP2056]
theorem rP2568_apply (A : Args) (b : Fin 8) (R : Fin 2048) (j : Fin 512) : rP2568 (rAll A) (ix3 b R j) = A.cols b R 2568 (by norm_num) j := by
  unfold Args.cols
  rw [← all_apply]
  generalize rAll A = D
  pointwise [rP2568]

/-! ## The gates at an index -/

theorem rZ_apply (D : FVec Ideal S8x2048x3080 .f32) (bf : Vec Ideal S2x8 .f32) (b : Fin 8) (R : Fin 2048) (e : Fin 8) :
    rZ D bf (ix3 b R e) = D (ix3 b R ⟨1536 + e.val, by omega⟩) + bf (ix2 0 e) := by
  pointwise [rZ]

theorem rL_apply (Z : FVec Ideal S8x2048x8 .f32) (b : Fin 8) (R : Fin 2048) (e : Fin 8) : rL Z (ix3 b R e) = lsig (Z (ix3 b R e)) := by
  rw [← lsig_eq]
  pointwise [rL]
  rw [if_neg (not_not.2 rfl)]
  rfl

theorem cumsum_apply (x : (⟨3, ![8, 8, 2048]⟩ : Shape).Idx → EReal) (init : FVec Ideal ⟨0, ![]⟩ .f32) (hi : ∀ i, init i = (0 : EReal))
    (h : (⟨3, ![8, 8, 2048]⟩ : Shape).ReduceWindows (![1, 1, 2048] : Fin 3 → ℕ) ![1, 1, 1] ![0, 0, 2047] ![0, 0, 0] ⟨3, ![8, 8, 2048]⟩)
    (hu : 0 < (⟨0, ![]⟩ : Shape).numel) (X : ℕ → EReal) (b e : Fin 8) (hX : ∀ j : Fin 2048, x (ix3 b e j) = X j.val) (k : Fin 2048) :
    Host.reduceWindowAdd (F := Ideal) (φ := .f32) ![1, 1, 2048] ![1, 1, 1] ![0, 0, 2047] ![0, 0, 0] x init h hu (ix3 b e k)
      = pre X (k.val + 1) := by
  rw [Host.reduceWindowAdd, Ideal.hostReduceWindowAdd_def, hi, Ideal.hostReduceWindowAdd, Host.reduceWindow]
  dsimp only
  rw [Attn.foldl_add, zero_add, ← Fin.sum_univ_def]
  have e1 : ∀ (w' : (⟨3, ![1, 1, 2048]⟩ : Shape).Idx) (w : Fin 2048), w' = Attn.lastAxis.symm w → (if hin : ∀ a : Fin 3, (![0, 0, 2047] : Fin 3 → ℕ) a ≤ (ix3 b e k (a.cast h.1.symm)).val * (![1, 1, 1] : Fin 3 → ℕ) a + (w' a).val
      ∧ (ix3 b e k (a.cast h.1.symm)).val * (![1, 1, 1] : Fin 3 → ℕ) a + (w' a).val - (![0, 0, 2047] : Fin 3 → ℕ) a < (⟨3, ![8, 8, 2048]⟩ : Shape).size a
    then x (fun a => ⟨_, (hin a).2⟩) else (0 : EReal)) = if 2047 ≤ k.val + w.val then X (k.val + w.val - 2047) else 0 := by
    rintro w' w rfl
    by_cases hw : 2047 ≤ k.val + w.val
    · rw [if_pos hw, dif_pos]
      · rw [← hX ⟨k.val + w.val - 2047, by omega⟩]
        refine congrArg x (funext fun a => Fin.ext ?_)
        match a with
        | ⟨0, _⟩ => show b.val * 1 + 0 - 0 = b.val; omega
        | ⟨1, _⟩ => show e.val * 1 + 0 - 0 = e.val; omega
        | ⟨2, _⟩ => show k.val * 1 + w.val - 2047 = k.val + w.val - 2047; omega
      · intro a
        match a with
        | ⟨0, _⟩ => show 0 ≤ b.val * 1 + 0 ∧ b.val * 1 + 0 - 0 < 8; omega
        | ⟨1, _⟩ => show 0 ≤ e.val * 1 + 0 ∧ e.val * 1 + 0 - 0 < 8; omega
        | ⟨2, _⟩ => show 2047 ≤ k.val * 1 + w.val ∧ k.val * 1 + w.val - 2047 < 2048; omega
    · rw [if_neg hw, dif_neg]
      intro hin
      have h2 : 2047 ≤ k.val * 1 + w.val := (hin 2).1
      omega
  refine (Equiv.sum_comp (Attn.lastAxis.symm.trans ((⟨3, ![1, 1, 2048]⟩ : Shape).rowMajor)) _).symm.trans ?_
  refine (Finset.sum_congr rfl fun w _ => by convert e1 _ w (Equiv.symm_apply_apply (⟨3, ![1, 1, 2048]⟩ : Shape).rowMajor _); all_goals rfl).trans ?_
  rw [Fin.sum_univ_eq_sum_range (fun w => if 2047 ≤ k.val + w then X (k.val + w - 2047) else 0) 2048, pre, ← Finset.sum_filter]
  refine Finset.sum_nbij' (fun w => k.val + w - 2047) (fun j => j + 2047 - k.val) ?_ ?_ ?_ ?_ ?_ <;> intro j hj <;>
    simp only [Finset.mem_filter, Finset.mem_range] at hj ⊢ <;> first | omega | (congr 1; omega)

theorem rKb_apply (L : FVec Ideal S8x2048x8 .f32) (X : ℕ → EReal) (b e : Fin 8) (hX : ∀ j : Fin 2048, L (ix3 b j e) = X j.val) (k : Fin 2048) :
    rKb L (ix3 b e k) = nl * pre X (k.val + 1) := by
  have e1 : ∀ i : S8x8x2048.Idx, (broadcastInDim S8x8x2048 ![] bcast_S_S8x8x2048 (id (Host.log (constant S_ .f32 0x40000000#32))) : FVec Ideal S8x8x2048 .f32) i = ((Real.log 2 : ℝ) : EReal) := by
    intro i
    rw [← Attn.log_two]
    idx_vars i
    pointwise
    rfl
  have e2 := cumsum_apply (transpose S8x8x2048 [0, 2, 1] L transposes_S8x2048x8_S8x8x2048_0_2_1) (broadcastInDim S_ ![] bcast_S_S_ (constant S_ .f32 0x00000000#32))
    (fun i => by rw [show i = ix0 from funext fun a => a.elim0]; pointwise) reduceWindows_S8x8x2048_S8x8x2048_w1s1p0_0_w1s1p0_0_w2048s1p2047_0 h_S_ X b e
    (fun j => by rw [← hX]; pointwise) k
  unfold rKb
  refine (congrArg₂ (fun a l => Ideal.div (-a) l) e2 (e1 (ix3 b e k))).trans ?_
  rw [Ideal.div_coe Attn.log_two_pos.ne', neg_mul, nl, EReal.coe_neg, neg_mul, mul_comm, one_div]

theorem kb_apply (A : Args) (b e : Fin 8) (R : Fin 2048) : rKb (rL (rZ (rAll A) A.bf)) (ix3 b e R) = A.kb b R e :=
  rKb_apply _ _ b e (fun j => by rw [rL_apply, rZ_apply, all_apply, Args.gates, dif_pos j.isLt]) R

/-! ## The result arrays -/

theorem fq_ref (A : Args) : rQuery (rP0 (rAll A)) A.fg = fqArr A := by
  funext i
  idx_vars i
  exact query_apply _ _ _ _ _ (rP0_apply A _ _) _
theorem fk_ref (A : Args) : rKey (rP512 (rAll A)) A.fg = fkArr A := by
  funext i
  idx_vars i
  exact key_apply _ _ _ _ _ (rP512_apply A _ _) _
theorem fv_ref (A : Args) : rValue (rP1024 (rAll A)) = fvArr A := by
  funext i
  idx_vars i
  exact rP1024_apply A _ _ _
theorem kb_ref (A : Args) : rKb (rL (rZ (rAll A) A.bf)) = kbArr A := by
  funext i
  idx_vars i
  exact kb_apply A _ _ _
theorem dq_ref (A : Args) : rQuery (rP1544 (rAll A)) A.dg = dqArr A := by
  funext i
  idx_vars i
  exact query_apply _ _ _ _ _ (rP1544_apply A _ _) _
theorem dk_ref (A : Args) : rKey (rP2056 (rAll A)) A.dg = dkArr A := by
  funext i
  idx_vars i
  exact key_apply _ _ _ _ _ (rP2056_apply A _ _) _
theorem dv_ref (A : Args) : rValue (rP2568 (rAll A)) = dvArr A := by
  funext i
  idx_vars i
  exact rP2568_apply A _ _ _

end Cert.Inp
-- ==== Proof.In.lean ====
/- The input projection's claims: the kernel's and the reference's results are the same arrays. -/
module

public import proofs.«01_k».proof.Defs
public import proofs.«01_k».proof.Proof.InRef
public import proofs.«01_k».proof.Proof.Gen.Kernel3
public import Idealize.ShloMosaic.Adequacy
public import Idealize.ShloMosaic.Init

@[expose] public section

set_option maxRecDepth 16384

noncomputable section

namespace Cert.Inp

open Idealize.ShloMosaic Idealize.ShloMosaic.TcCoe Idealize.ShloMosaic.Tactic Idealize.ShloMosaic.Pointwise Idealize.SL.Sem

/-- The reference's run, with what it computes left out. -/
theorem frame_reference : Cert.quiescent_Reference3Ideal := fun m ρ _ =>
  (θ_run Cert.Reference3Ideal.defs _ _).mono (fun r h => ⟨fun c => (h c).2.2.2.2.2.2.2,
      Idealize.ShloMosaic.sem_eq_zero_of_no_sems (by decide) r.2⟩)
    (Cert.Reference3Ideal.Value.run (F := Ideal) m ρ)

/-- The two constants named in the idealized kernel. -/
theorem preserves : Cert.preserves_Kernel3_Kernel3Ideal :=
  ⟨IdealRules.named_const.statement Cert.Kernel3Ideal.κ "qk_scale" .f32 0x3E38AA3B#32 (((8 * Real.log 2)⁻¹ : ℝ) : EReal) rfl,
    IdealRules.named_const.statement Cert.Kernel3Ideal.κ "neg_log2e" .f32 0xBFB8AA3B#32 ((-(Real.log 2)⁻¹ : ℝ) : EReal) rfl⟩

theorem algebraic : Cert.algebraic_Kernel3Ideal_Reference3Ideal := by
  intro m ρ m' ρ' _ hagree
  refine ⟨_, _, _, _, _, _, _, Cert.Kernel3Ideal.Value.run_blocks (F := Ideal) m ρ, ?_⟩
  have eA : ∀ c, rArgs m' c = kArgs m c := fun c => by
    obtain ⟨e0, e1, e2, e3, e4, e5, e6⟩ := hagree c
    simp only [rArgs, kArgs, Args.mk.injEq]
    exact ⟨e0, e1, e2, e3, e4, e5, e6⟩
  refine (θ_run Cert.Reference3Ideal.defs _ _).mono (fun _ h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2.1.trans ?_, (h c).2.2.2.2.2.2.2⟩)
    (Cert.Reference3Ideal.Value.run (F := Ideal) m' ρ')
  · exact (fq_eq m' c).trans ((fq_ref _).trans ((congrArg fqArr (eA c)).trans (fq_arr m c).symm))
  · exact (fk_eq m' c).trans ((fk_ref _).trans ((congrArg fkArr (eA c)).trans (fk_arr m c).symm))
  · exact (fv_ref (rArgs m' c)).trans ((congrArg fvArr (eA c)).trans (fv_arr m c).symm)
  · exact (kb_eq m' c).trans ((kb_ref _).trans ((congrArg kbArr (eA c)).trans (kb_arr m c).symm))
  · exact (dq_eq m' c).trans ((dq_ref _).trans ((congrArg dqArr (eA c)).trans (dq_arr m c).symm))
  · exact (dk_eq m' c).trans ((dk_ref _).trans ((congrArg dkArr (eA c)).trans (dk_arr m c).symm))
  · exact (dv_ref (rArgs m' c)).trans ((congrArg dvArr (eA c)).trans (dv_arr m c).symm)

end Cert.Inp
-- ==== Proof.AdaKernel.lean ====
/- The modulation kernel's result array after the run. -/
module

public import proofs.«01_k».proof.Proof.Gen.Kernel4Ideal.Value
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Ada

open Idealize.ShloMosaic Idealize.ShloMosaic.TcCoe Idealize.ShloMosaic.Tactic Idealize.ShloMosaic.Pointwise Idealize.SL.Sem
open Cert.Kernel4Ideal Cert.Kernel4Ideal.Gen Cert.Kernel4Ideal.Facts

/-- One. -/
def one : EReal := Ideal.ofBits .f32 0x3F800000#32

/-- `x / (1 + exp (-x))`. -/
def silu (x : EReal) : EReal := Ideal.div x (one + Ideal.exp (0 - x))

/-! ## The block a grid point leaves -/

theorem pay_apply (v0 : Vec Ideal S8x1024 .f32) (v8 : Vec Ideal S1x1024x1024 .f32) (v12 : Vec Ideal S1x1x1024 .f32) (R : Fin 8) (j : Fin 1024) :
    k0_pay1 v0 v8 v12 (ix3 0 R j) = (∑ k : Fin 1024, silu (v0 (ix2 R k)) * v8 (ix3 0 k j)) + v12 (ix3 0 0 j) := by
  pointwise [k0_pay1, silu, one]

theorem out_apply (x0 : Vec Ideal S8x1024 .f32) (x1 : Vec Ideal S1x1024x1024 .f32) (x2 : Vec Ideal S1x1x1024 .f32) (R : Fin 8) (j : Fin 1024) :
    out0_3 x0 x1 x2 (ix3 0 R j) = (∑ k : Fin 1024, silu (x0 (ix2 R k)) * x1 (ix3 0 k j)) + x2 (ix3 0 0 j) := by
  have e : out0_3 x0 x1 x2 = k0_pay1 x0 x1 x2 := by
    refine (View.canon_cons_unit_lit _ _ _ (by decide)).trans ?_
    rw [show View.ld x0 r0_0 = x0 from View.ld_unit_lit _ _ (by decide), show View.ld x1 r0_1 = x1 from View.ld_unit_lit _ _ (by decide),
      show View.ld x2 r0_2 = x2 from View.ld_unit_lit _ _ (by decide)]
  rw [e, pay_apply]

/-! ## The result, from the argument arrays -/

/-- The arguments' arrays: the condition, the two layers' weights and biases. -/
structure Args where
  cond : Vec Ideal S8x1024 .f32
  w : Vec Ideal S2x1024x6144 .f32
  b : Vec Ideal S2x6144 .f32

/-- The result array. -/
def outArr (A : Args) : Vec Ideal S2x8x6144 .f32 := fun i =>
  (∑ k : Fin 1024, silu (A.cond (ix2 (i 1) k)) * A.w (ix3 (i 0) k (i 2))) + A.b (ix2 (i 0) (i 2))

variable (m : (ℓ : Loc nD τ sig) → Buf (Elt Ideal) ℓ) (c : Dev nD)

/-- The launch's argument arrays. -/
def kArgs : Args where
  cond := m ((c : Thread nD τ).loc main_arg0)
  w := m ((c : Thread nD τ).loc main_arg1)
  b := m ((c : Thread nD τ).loc main_arg2)

theorem V0 (l : Fin 2) (j : Fin 6144) : (V m c main_v0 : Vec Ideal S2x1x6144 .f32) (ix3 l 0 j) = (kArgs m c).b (ix2 l j) := by
  unfold V
  after_reads_at
  rfl

/-- The layer and the piece of a grid point. -/
abbrev pl (t : Fin cfg0.N) : Fin 2 := grid0.coords t 0
abbrev pj (t : Fin cfg0.N) : Fin 6 := grid0.coords t 1

/-- A column of a piece. -/
def colOf (p : Fin 6) (j : Fin 1024) : Fin 6144 := ⟨1024 * p.val + j.val, by omega⟩

theorem idx0 : ∀ t : Fin cfg0.N, win0_0.index t = ![0, 0] := by decide +kernel
theorem idx1 : ∀ t : Fin cfg0.N, win0_1.index t = ![(pl t).val, 0, (pj t).val] := by decide +kernel
theorem idx2 : ∀ t : Fin cfg0.N, win0_2.index t = ![(pl t).val, 0, (pj t).val] := by decide +kernel
theorem idx3 : ∀ t : Fin cfg0.N, win0_3.index t = ![(pl t).val, 0, (pj t).val] := by decide +kernel

theorem blk0 (t : Fin cfg0.N) (R : Fin 8) (k : Fin 1024) : (iblk m c 0 t : Vec Ideal S8x1024 .f32) (ix2 R k) = (kArgs m c).cond (ix2 R k) := by
  refine Eq.trans ?_ (congrFun (V_main_arg0 m c) (ix2 R k))
  blk_ext [iblk, idx0 t]
theorem blk1 (t : Fin cfg0.N) (k j : Fin 1024) :
    (iblk m c 1 t : Vec Ideal S1x1024x1024 .f32) (ix3 0 k j) = (kArgs m c).w (ix3 (pl t) k (colOf (pj t) j)) := by
  refine Eq.trans ?_ (congrFun (V_main_arg1 m c) (ix3 (pl t) k (colOf (pj t) j)))
  blk_ext [iblk, colOf, idx1 t]
theorem blk2 (t : Fin cfg0.N) (j : Fin 1024) :
    (iblk m c 2 t : Vec Ideal S1x1x1024 .f32) (ix3 0 0 j) = (kArgs m c).b (ix2 (pl t) (colOf (pj t) j)) := by
  refine Eq.trans ?_ (V0 m c (pl t) (colOf (pj t) j))
  blk_ext [iblk, colOf, idx2 t]

theorem emb3 (t : Fin cfg0.N) (y : ((cfg0.win 3).xblock (cfg0.grid.coords t)).Idx) :
    ((cfg0.win 3).blk t).view.emb y = (ix3 (pl t) (y 1 : Fin 8) (colOf (pj t) (y 2)) : S2x8x6144.Idx) := by
  blk_ext [colOf, idx3 t]

theorem block_apply (t : Fin cfg0.N) (R : Fin 8) (j : Fin 1024) :
    out0_3 (iblk m c 0 t) (iblk m c 1 t) (iblk m c 2 t) (ix3 0 R j) = outArr (kArgs m c) (ix3 (pl t) R (colOf (pj t) j)) := by
  refine (out_apply _ _ _ R j).trans ?_
  exact congrArg₂ (· + ·) (Finset.sum_congr rfl fun k _ => congrArg₂ (fun a b => silu a * b) (blk0 m c t R k) (blk1 m c t k j)) (blk2 m c t j)

theorem out_arr : (dats m 0 c).arrAt 3 cfg0.N = outArr (kArgs m c) := by
  refine (dats m 0 c).arrAt_eq_of_covers 3 _ (by decide +kernel) fun t hf y => ?_
  rw [emb3]
  refine (cast_eq _ _).trans ?_
  rw [after0_3]
  have e0 : y = (ix3 0 (y 1 : Fin 8) (y 2 : Fin 1024) : S1x8x1024.Idx) := by
    funext a
    fin_cases a
    · exact Subsingleton.elim (α := Fin 1) _ _
    · rfl
    · rfl
  exact (congrArg (out0_3 (iblk m c 0 t) (iblk m c 1 t) (iblk m c 2 t)) e0).trans (block_apply m c t (y 1) (y 2))

end Cert.Ada
-- ==== Proof.Ada.lean ====
/- The modulation's reference, read at an index, and the claims: the kernel's result and the reference's are the same array. -/
module

public import proofs.«01_k».proof.Defs
public import proofs.«01_k».proof.Proof.AdaKernel
public import proofs.«01_k».proof.Proof.Gen.Kernel4
public import proofs.«01_k».proof.Proof.Gen.Reference4Ideal.Run
public import Idealize.ShloMosaic.Adequacy
public import Idealize.ShloMosaic.Init

@[expose] public section

set_option maxRecDepth 16384

noncomputable section

namespace Cert.Ada

open Idealize.ShloMosaic Idealize.ShloMosaic.TcCoe Idealize.ShloMosaic.Tactic Idealize.ShloMosaic.Pointwise Idealize.SL.Sem
open Cert.Reference4Ideal Cert.Reference4Ideal.Gen Cert.Reference4Ideal.Facts

theorem one_eq : one = ((1 : ℝ) : EReal) := by
  unfold one; simp [Ideal.ofBits, Ideal.ieee, ← EReal.coe_mul, -EReal.coe_one]; norm_num

theorem exp_nonneg (x : EReal) : 0 ≤ Ideal.exp x := by
  induction x with
  | bot => exact le_refl _
  | top => exact le_top
  | coe a => rw [Ideal.exp_coe]; exact EReal.coe_nonneg.2 (Real.exp_pos a).le

/-- The quotient is the product by the reciprocal: the divisor is never zero. -/
theorem silu_eq (x : EReal) : x * Ideal.div one (one + Ideal.exp (-x)) = silu x := by
  have h : one + Ideal.exp (-x) ≠ 0 := by
    rw [one_eq, EReal.coe_one]
    exact (lt_of_lt_of_le zero_lt_one (le_add_of_nonneg_right (exp_nonneg _))).ne'
  unfold silu
  rw [zero_sub]
  unfold Ideal.div
  rw [if_neg h, if_neg h, one_eq, EReal.coe_one, one_mul]

/-! ## The reference's values -/

/-- The activated condition. -/
def rCond (A0 : FVec Ideal S8x1024 .f32) : FVec Ideal S8x1024 .f32 :=
  mulf A0 (Host.divf (broadcastInDim S8x1024 ![] bcast_S_S8x1024 (constant S_ .f32 0x3F800000#32)) (addf (broadcastInDim S8x1024 ![] bcast_S_S8x1024 (constant S_ .f32 0x3F800000#32)) (Host.exp (Host.negf A0))))
/-- The first layer's modulation. -/
def rL0 (C : FVec Ideal S8x1024 .f32) (A1 : FVec Ideal S2x1024x6144 .f32) (A2 : FVec Ideal S2x6144 .f32) : FVec Ideal S1x8x6144 .f32 :=
  broadcastInDim S1x8x6144 ![1, 2] bcast_S8x6144_S1x8x6144_1_2 (addf (Host.dotGeneral (φ₂ := .f32) dot_S8x1024_S1024x6144_S8x6144_1_0_0_1_n_n none C (shapeCast S1024x6144 (extractStridedSlice S1x1024x6144 ![0, 0, 0] A1 slices_S2x1024x6144_S1x1024x6144_0_0_0) shapeCasts_S1x1024x6144_S1024x6144)) (broadcastInDim S8x6144 ![0, 1] bcast_S1x6144_S8x6144_0_1 (broadcastInDim S1x6144 ![1] bcast_S6144_S1x6144_1 (shapeCast S6144 (extractStridedSlice S1x6144 ![0, 0] A2 slices_S2x6144_S1x6144_0_0) shapeCasts_S1x6144_S6144))))
/-- The second layer's. -/
def rL1 (C : FVec Ideal S8x1024 .f32) (A1 : FVec Ideal S2x1024x6144 .f32) (A2 : FVec Ideal S2x6144 .f32) : FVec Ideal S1x8x6144 .f32 :=
  broadcastInDim S1x8x6144 ![1, 2] bcast_S8x6144_S1x8x6144_1_2 (addf (Host.dotGeneral (φ₂ := .f32) dot_S8x1024_S1024x6144_S8x6144_1_0_0_1_n_n none C (shapeCast S1024x6144 (extractStridedSlice S1x1024x6144 ![1, 0, 0] A1 slices_S2x1024x6144_S1x1024x6144_1_0_0) shapeCasts_S1x1024x6144_S1024x6144)) (broadcastInDim S8x6144 ![0, 1] bcast_S1x6144_S8x6144_0_1 (broadcastInDim S1x6144 ![1] bcast_S6144_S1x6144_1 (shapeCast S6144 (extractStridedSlice S1x6144 ![1, 0] A2 slices_S2x6144_S1x6144_1_0) shapeCasts_S1x6144_S6144))))
/-- Both. -/
def rAll (A : Args) : FVec Ideal S2x8x6144 .f32 :=
  concatenate S2x8x6144 0 [⟨S1x8x6144, rL0 (rCond A.cond) A.w A.b⟩, ⟨S1x8x6144, rL1 (rCond A.cond) A.w A.b⟩] concatenates_S1x8x6144_S1x8x6144_S2x8x6144_d0

theorem cond_apply (A0 : FVec Ideal S8x1024 .f32) (R : Fin 8) (k : Fin 1024) : rCond A0 (ix2 R k) = silu (A0 (ix2 R k)) := by
  refine Eq.trans ?_ (silu_eq _)
  pointwise [rCond, one]

theorem l0_apply (C : FVec Ideal S8x1024 .f32) (A1 : FVec Ideal S2x1024x6144 .f32) (A2 : FVec Ideal S2x6144 .f32) (R : Fin 8) (j : Fin 6144) :
    rL0 C A1 A2 (ix3 0 R j) = (∑ k : Fin 1024, C (ix2 R k) * A1 (ix3 0 k j)) + A2 (ix2 0 j) := by
  pointwise [rL0]
theorem l1_apply (C : FVec Ideal S8x1024 .f32) (A1 : FVec Ideal S2x1024x6144 .f32) (A2 : FVec Ideal S2x6144 .f32) (R : Fin 8) (j : Fin 6144) :
    rL1 C A1 A2 (ix3 0 R j) = (∑ k : Fin 1024, C (ix2 R k) * A1 (ix3 1 k j)) + A2 (ix2 1 j) := by
  pointwise [rL1]

/-- The first layer of a stack of two. -/
theorem stack0 (a b : FVec Ideal S1x8x6144 .f32) (R : Fin 8) (j : Fin 6144) :
    concatenate S2x8x6144 0 [⟨S1x8x6144, a⟩, ⟨S1x8x6144, b⟩] concatenates_S1x8x6144_S1x8x6144_S2x8x6144_d0 (ix3 0 R j) = a (ix3 0 R j) :=
  concatenate_pair_apply_left (t := S2x8x6144) 0 a b _ (ix3 0 R j) rfl (ix3 0 R j) fun d => by fin_cases d <;> rfl

/-- The second. -/
theorem stack1 (a b : FVec Ideal S1x8x6144 .f32) (R : Fin 8) (j : Fin 6144) :
    concatenate S2x8x6144 0 [⟨S1x8x6144, a⟩, ⟨S1x8x6144, b⟩] concatenates_S1x8x6144_S1x8x6144_S2x8x6144_d0 (ix3 1 R j) = b (ix3 0 R j) :=
  concatenate_pair_apply_right (t := S2x8x6144) 0 a b _ (ix3 1 R j) rfl rfl (ix3 0 R j)
    (fun d hd => by
      fin_cases d
      · exact absurd rfl hd
      · rfl
      · rfl) rfl

theorem all_apply (A : Args) (l : Fin 2) (R : Fin 8) (j : Fin 6144) : rAll A (ix3 l R j) = outArr A (ix3 l R j) := by
  unfold rAll
  obtain rfl | rfl : l = 0 ∨ l = 1 := by omega
  · rw [stack0, l0_apply]
    exact congrArg (· + _) (Finset.sum_congr rfl fun k _ => congrArg (· * _) (cond_apply A.cond R k))
  · rw [stack1, l1_apply]
    exact congrArg (· + _) (Finset.sum_congr rfl fun k _ => congrArg (· * _) (cond_apply A.cond R k))

theorem all_eq (A : Args) : rAll A = outArr A := by
  funext i
  idx_vars i
  exact all_apply A _ _ _

/-! ## The claims -/

/-- The launch's argument arrays. -/
def rArgs (m : (ℓ : Loc nD τ sig) → Buf (Elt Ideal) ℓ) (c : Dev nD) : Args where
  cond := m ((c : Thread nD τ).loc main_arg0)
  w := m ((c : Thread nD τ).loc main_arg1)
  b := m ((c : Thread nD τ).loc main_arg2)

/-- The reference's run, with what it computes left out. -/
theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem algebraic : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  have eA : rArgs m' c = kArgs m c := by
    obtain ⟨e0, e1, e2⟩ := hagree c
    simp only [rArgs, kArgs, Args.mk.injEq]
    exact ⟨e0, e1, e2⟩
  exact (all_eq (rArgs m' c)).trans ((congrArg outArr eA).trans (out_arr m c).symm)

end Cert.Ada
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Attention
public import proofs.«01_k».proof.Proof.Mlp
public import proofs.«01_k».proof.Proof.In
public import proofs.«01_k».proof.Proof.Ada
public import Idealize.ShloMosaic.Adequacy
public import Idealize.ShloMosaic.Init

@[expose] public section

noncomputable section

namespace Cert.Proof

open Idealize.ShloMosaic Idealize.SL.Sem Cert.Kernel

/-- The reference's run, with what it computes left out. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Attn.pre_facts, Cert.Mlp.pre_facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ,
  Cert.Mlp.frame_reference, fun m ρ _ => Cert.Mlp.frame_reference m ρ trivial,
  fun m ρ _ => Cert.Kernel3.Gen.frame m ρ, fun m ρ _ => Cert.Kernel3Ideal.Gen.frame m ρ, Cert.Inp.frame_reference,
  fun m ρ _ => Cert.Kernel4.Gen.frame m ρ, fun m ρ _ => Cert.Kernel4Ideal.Gen.frame m ρ, Cert.Ada.frame_reference,
  Cert.Attn.preserves, Cert.Attn.algebraic, trivial, Cert.Mlp.algebraic, Cert.Inp.preserves, Cert.Inp.algebraic, trivial, Cert.Ada.algebraic⟩

end Cert.Proof

end
